-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OddGate (m : (ℓ : Loc Cert.OddGate.nD Cert.OddGate.τ Cert.OddGate.sig) → Buf (Elt Bits) ℓ) : Prop :=
  True

def Pre_OddGateIdeal (m : (ℓ : Loc Cert.OddGateIdeal.nD Cert.OddGateIdeal.τ Cert.OddGateIdeal.sig) → Buf (Elt Ideal) ℓ) : Prop :=
  True

def Pre_OddGateRefIdeal (m : (ℓ : Loc Cert.OddGateRefIdeal.nD Cert.OddGateRefIdeal.τ Cert.OddGateRefIdeal.sig) → Buf (Elt Ideal) ℓ) : Prop :=
  True

def Pre_OddLatent (m : (ℓ : Loc Cert.OddLatent.nD Cert.OddLatent.τ Cert.OddLatent.sig) → Buf (Elt Bits) ℓ) : Prop :=
  True

def Pre_OddLatentIdeal (m : (ℓ : Loc Cert.OddLatentIdeal.nD Cert.OddLatentIdeal.τ Cert.OddLatentIdeal.sig) → Buf (Elt Ideal) ℓ) : Prop :=
  True

def Pre_OddLatentRefIdeal (m : (ℓ : Loc Cert.OddLatentRefIdeal.nD Cert.OddLatentRefIdeal.τ Cert.OddLatentRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).1 = (fun _ => 1#1)
    ∧ (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.1 = (fun _ => 1#1)
    ∧ (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.2.1 = (fun _ => 1#1)
    ∧ (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.2.1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.2.2 = (fun _ => 1#1)

def Pre_EvenGate (m : (ℓ : Loc Cert.EvenGate.nD Cert.EvenGate.τ Cert.EvenGate.sig) → Buf (Elt Bits) ℓ) : Prop :=
  True

def Pre_EvenGateIdeal (m : (ℓ : Loc Cert.EvenGateIdeal.nD Cert.EvenGateIdeal.τ Cert.EvenGateIdeal.sig) → Buf (Elt Ideal) ℓ) : Prop :=
  True

def Pre_EvenGateRefIdeal (m : (ℓ : Loc Cert.EvenGateRefIdeal.nD Cert.EvenGateRefIdeal.τ Cert.EvenGateRefIdeal.sig) → Buf (Elt Ideal) ℓ) : Prop :=
  True

def Pre_OddIndex (m : (ℓ : Loc Cert.OddIndex.nD Cert.OddIndex.τ Cert.OddIndex.sig) → Buf (Elt Bits) ℓ) : Prop :=
  True

def Pre_OddIndexIdeal (m : (ℓ : Loc Cert.OddIndexIdeal.nD Cert.OddIndexIdeal.τ Cert.OddIndexIdeal.sig) → Buf (Elt Ideal) ℓ) : Prop :=
  True

def Pre_OddIndexRefIdeal (m : (ℓ : Loc Cert.OddIndexRefIdeal.nD Cert.OddIndexRefIdeal.τ Cert.OddIndexRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_QIdxUp (m : (ℓ : Loc Cert.QIdxUp.nD Cert.QIdxUp.τ Cert.QIdxUp.sig) → Buf (Elt Bits) ℓ) : Prop :=
  True

def Pre_QIdxUpIdeal (m : (ℓ : Loc Cert.QIdxUpIdeal.nD Cert.QIdxUpIdeal.τ Cert.QIdxUpIdeal.sig) → Buf (Elt Ideal) ℓ) : Prop :=
  True

def Pre_QIdxUpRefIdeal (m : (ℓ : Loc Cert.QIdxUpRefIdeal.nD Cert.QIdxUpRefIdeal.τ Cert.QIdxUpRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_LatentNorms (m : (ℓ : Loc Cert.LatentNorms.nD Cert.LatentNorms.τ Cert.LatentNorms.sig) → Buf (Elt Bits) ℓ) : Prop :=
  True

def Pre_LatentNormsIdeal (m : (ℓ : Loc Cert.LatentNormsIdeal.nD Cert.LatentNormsIdeal.τ Cert.LatentNormsIdeal.sig) → Buf (Elt Ideal) ℓ) : Prop :=
  True

def Pre_LatentNormsRefIdeal (m : (ℓ : Loc Cert.LatentNormsRefIdeal.nD Cert.LatentNormsRefIdeal.τ Cert.LatentNormsRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandRefIdeal (m : (ℓ : Loc Cert.BandRefIdeal.nD Cert.BandRefIdeal.τ Cert.BandRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_OddGate [hOddGate : Cert.OddGate.Facts] : Prop :=
  ∀ (m : (ℓ : Loc Cert.OddGate.nD Cert.OddGate.τ Cert.OddGate.sig) → Buf (Elt Bits) ℓ) (g : Dev Cert.OddGate.nD → PrngReg), Pre_OddGate m →
    θ_run (Cert.OddGate.defs (F := Bits)) (onTc (τ := Cert.OddGate.τ) (Cert.OddGate.main (F := Bits))) ⟨m, fun _ => 0, g⟩ (fun r => (∀ c : Dev Cert.OddGate.nD,
      r.2.mem ((c.tc : Thread Cert.OddGate.nD Cert.OddGate.τ).loc Cert.OddGate.main_arg0) = m ((c.tc : Thread Cert.OddGate.nD Cert.OddGate.τ).loc Cert.OddGate.main_arg0)
      ∧ r.2.mem ((c.tc : Thread Cert.OddGate.nD Cert.OddGate.τ).loc Cert.OddGate.main_arg1) = m ((c.tc : Thread Cert.OddGate.nD Cert.OddGate.τ).loc Cert.OddGate.main_arg1))
      ∧ r.2.sem = fun _ => 0)

def quiescent_OddGateIdeal [hOddGateIdeal : Cert.OddGateIdeal.Facts] : Prop :=
  ∀ (m : (ℓ : Loc Cert.OddGateIdeal.nD Cert.OddGateIdeal.τ Cert.OddGateIdeal.sig) → Buf (Elt Ideal) ℓ) (g : Dev Cert.OddGateIdeal.nD → PrngReg), Pre_OddGateIdeal m →
    θ_run (Cert.OddGateIdeal.defs (F := Ideal)) (onTc (τ := Cert.OddGateIdeal.τ) (Cert.OddGateIdeal.main (F := Ideal))) ⟨m, fun _ => 0, g⟩ (fun r => (∀ c : Dev Cert.OddGateIdeal.nD,
      r.2.mem ((c.tc : Thread Cert.OddGateIdeal.nD Cert.OddGateIdeal.τ).loc Cert.OddGateIdeal.main_arg0) = m ((c.tc : Thread Cert.OddGateIdeal.nD Cert.OddGateIdeal.τ).loc Cert.OddGateIdeal.main_arg0)
      ∧ r.2.mem ((c.tc : Thread Cert.OddGateIdeal.nD Cert.OddGateIdeal.τ).loc Cert.OddGateIdeal.main_arg1) = m ((c.tc : Thread Cert.OddGateIdeal.nD Cert.OddGateIdeal.τ).loc Cert.OddGateIdeal.main_arg1))
      ∧ r.2.sem = fun _ => 0)

def quiescent_OddGateRefIdeal [hOddGateRefIdeal : Cert.OddGateRefIdeal.Facts] : Prop :=
  ∀ (m : (ℓ : Loc Cert.OddGateRefIdeal.nD Cert.OddGateRefIdeal.τ Cert.OddGateRefIdeal.sig) → Buf (Elt Ideal) ℓ) (g : Dev Cert.OddGateRefIdeal.nD → PrngReg), Pre_OddGateRefIdeal m →
    θ_run (Cert.OddGateRefIdeal.defs (F := Ideal)) (onTc (τ := Cert.OddGateRefIdeal.τ) (Cert.OddGateRefIdeal.main (F := Ideal))) ⟨m, fun _ => 0, g⟩ (fun r => (∀ c : Dev Cert.OddGateRefIdeal.nD,
      r.2.mem ((c.tc : Thread Cert.OddGateRefIdeal.nD Cert.OddGateRefIdeal.τ).loc Cert.OddGateRefIdeal.main_arg0) = m ((c.tc : Thread Cert.OddGateRefIdeal.nD Cert.OddGateRefIdeal.τ).loc Cert.OddGateRefIdeal.main_arg0)
      ∧ r.2.mem ((c.tc : Thread Cert.OddGateRefIdeal.nD Cert.OddGateRefIdeal.τ).loc Cert.OddGateRefIdeal.main_arg1) = m ((c.tc : Thread Cert.OddGateRefIdeal.nD Cert.OddGateRefIdeal.τ).loc Cert.OddGateRefIdeal.main_arg1))
      ∧ r.2.sem = fun _ => 0)

def quiescent_OddLatent [hOddLatent : Cert.OddLatent.Facts] : Prop :=
  ∀ (m : (ℓ : Loc Cert.OddLatent.nD Cert.OddLatent.τ Cert.OddLatent.sig) → Buf (Elt Bits) ℓ) (g : Dev Cert.OddLatent.nD → PrngReg), Pre_OddLatent m →
    θ_run (Cert.OddLatent.defs (F := Bits)) (onTc (τ := Cert.OddLatent.τ) (Cert.OddLatent.main (F := Bits))) ⟨m, fun _ => 0, g⟩ (fun r => (∀ c : Dev Cert.OddLatent.nD,
      r.2.mem ((c.tc : Thread Cert.OddLatent.nD Cert.OddLatent.τ).loc Cert.OddLatent.main_arg0) = m ((c.tc : Thread Cert.OddLatent.nD Cert.OddLatent.τ).loc Cert.OddLatent.main_arg0)
      ∧ r.2.mem ((c.tc : Thread Cert.OddLatent.nD Cert.OddLatent.τ).loc Cert.OddLatent.main_arg1) = m ((c.tc : Thread Cert.OddLatent.nD Cert.OddLatent.τ).loc Cert.OddLatent.main_arg1))
      ∧ r.2.sem = fun _ => 0)

def quiescent_OddLatentIdeal [hOddLatentIdeal : Cert.OddLatentIdeal.Facts] : Prop :=
  ∀ (m : (ℓ : Loc Cert.OddLatentIdeal.nD Cert.OddLatentIdeal.τ Cert.OddLatentIdeal.sig) → Buf (Elt Ideal) ℓ) (g : Dev Cert.OddLatentIdeal.nD → PrngReg), Pre_OddLatentIdeal m →
    θ_run (Cert.OddLatentIdeal.defs (F := Ideal)) (onTc (τ := Cert.OddLatentIdeal.τ) (Cert.OddLatentIdeal.main (F := Ideal))) ⟨m, fun _ => 0, g⟩ (fun r => (∀ c : Dev Cert.OddLatentIdeal.nD,
      r.2.mem ((c.tc : Thread Cert.OddLatentIdeal.nD Cert.OddLatentIdeal.τ).loc Cert.OddLatentIdeal.main_arg0) = m ((c.tc : Thread Cert.OddLatentIdeal.nD Cert.OddLatentIdeal.τ).loc Cert.OddLatentIdeal.main_arg0)
      ∧ r.2.mem ((c.tc : Thread Cert.OddLatentIdeal.nD Cert.OddLatentIdeal.τ).loc Cert.OddLatentIdeal.main_arg1) = m ((c.tc : Thread Cert.OddLatentIdeal.nD Cert.OddLatentIdeal.τ).loc Cert.OddLatentIdeal.main_arg1))
      ∧ r.2.sem = fun _ => 0)

def quiescent_OddLatentRefIdeal [hOddLatentRefIdeal : Cert.OddLatentRefIdeal.Facts] : Prop :=
  ∀ (m : (ℓ : Loc Cert.OddLatentRefIdeal.nD Cert.OddLatentRefIdeal.τ Cert.OddLatentRefIdeal.sig) → Buf (Elt Ideal) ℓ) (g : Dev Cert.OddLatentRefIdeal.nD → PrngReg), Pre_OddLatentRefIdeal m →
    θ_run (Cert.OddLatentRefIdeal.defs (F := Ideal)) (onTc (τ := Cert.OddLatentRefIdeal.τ) (Cert.OddLatentRefIdeal.main (F := Ideal))) ⟨m, fun _ => 0, g⟩ (fun r => (∀ c : Dev Cert.OddLatentRefIdeal.nD,
      r.2.mem ((c.tc : Thread Cert.OddLatentRefIdeal.nD Cert.OddLatentRefIdeal.τ).loc Cert.OddLatentRefIdeal.main_arg0) = m ((c.tc : Thread Cert.OddLatentRefIdeal.nD Cert.OddLatentRefIdeal.τ).loc Cert.OddLatentRefIdeal.main_arg0)
      ∧ r.2.mem ((c.tc : Thread Cert.OddLatentRefIdeal.nD Cert.OddLatentRefIdeal.τ).loc Cert.OddLatentRefIdeal.main_arg1) = m ((c.tc : Thread Cert.OddLatentRefIdeal.nD Cert.OddLatentRefIdeal.τ).loc Cert.OddLatentRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_EvenGate [hEvenGate : Cert.EvenGate.Facts] : Prop :=
  ∀ (m : (ℓ : Loc Cert.EvenGate.nD Cert.EvenGate.τ Cert.EvenGate.sig) → Buf (Elt Bits) ℓ) (g : Dev Cert.EvenGate.nD → PrngReg), Pre_EvenGate m →
    θ_run (Cert.EvenGate.defs (F := Bits)) (onTc (τ := Cert.EvenGate.τ) (Cert.EvenGate.main (F := Bits))) ⟨m, fun _ => 0, g⟩ (fun r => (∀ c : Dev Cert.EvenGate.nD,
      r.2.mem ((c.tc : Thread Cert.EvenGate.nD Cert.EvenGate.τ).loc Cert.EvenGate.main_arg0) = m ((c.tc : Thread Cert.EvenGate.nD Cert.EvenGate.τ).loc Cert.EvenGate.main_arg0)
      ∧ r.2.mem ((c.tc : Thread Cert.EvenGate.nD Cert.EvenGate.τ).loc Cert.EvenGate.main_arg1) = m ((c.tc : Thread Cert.EvenGate.nD Cert.EvenGate.τ).loc Cert.EvenGate.main_arg1))
      ∧ r.2.sem = fun _ => 0)

def quiescent_EvenGateIdeal [hEvenGateIdeal : Cert.EvenGateIdeal.Facts] : Prop :=
  ∀ (m : (ℓ : Loc Cert.EvenGateIdeal.nD Cert.EvenGateIdeal.τ Cert.EvenGateIdeal.sig) → Buf (Elt Ideal) ℓ) (g : Dev Cert.EvenGateIdeal.nD → PrngReg), Pre_EvenGateIdeal m →
    θ_run (Cert.EvenGateIdeal.defs (F := Ideal)) (onTc (τ := Cert.EvenGateIdeal.τ) (Cert.EvenGateIdeal.main (F := Ideal))) ⟨m, fun _ => 0, g⟩ (fun r => (∀ c : Dev Cert.EvenGateIdeal.nD,
      r.2.mem ((c.tc : Thread Cert.EvenGateIdeal.nD Cert.EvenGateIdeal.τ).loc Cert.EvenGateIdeal.main_arg0) = m ((c.tc : Thread Cert.EvenGateIdeal.nD Cert.EvenGateIdeal.τ).loc Cert.EvenGateIdeal.main_arg0)
      ∧ r.2.mem ((c.tc : Thread Cert.EvenGateIdeal.nD Cert.EvenGateIdeal.τ).loc Cert.EvenGateIdeal.main_arg1) = m ((c.tc : Thread Cert.EvenGateIdeal.nD Cert.EvenGateIdeal.τ).loc Cert.EvenGateIdeal.main_arg1))
      ∧ r.2.sem = fun _ => 0)

def quiescent_EvenGateRefIdeal [hEvenGateRefIdeal : Cert.EvenGateRefIdeal.Facts] : Prop :=
  ∀ (m : (ℓ : Loc Cert.EvenGateRefIdeal.nD Cert.EvenGateRefIdeal.τ Cert.EvenGateRefIdeal.sig) → Buf (Elt Ideal) ℓ) (g : Dev Cert.EvenGateRefIdeal.nD → PrngReg), Pre_EvenGateRefIdeal m →
    θ_run (Cert.EvenGateRefIdeal.defs (F := Ideal)) (onTc (τ := Cert.EvenGateRefIdeal.τ) (Cert.EvenGateRefIdeal.main (F := Ideal))) ⟨m, fun _ => 0, g⟩ (fun r => (∀ c : Dev Cert.EvenGateRefIdeal.nD,
      r.2.mem ((c.tc : Thread Cert.EvenGateRefIdeal.nD Cert.EvenGateRefIdeal.τ).loc Cert.EvenGateRefIdeal.main_arg0) = m ((c.tc : Thread Cert.EvenGateRefIdeal.nD Cert.EvenGateRefIdeal.τ).loc Cert.EvenGateRefIdeal.main_arg0)
      ∧ r.2.mem ((c.tc : Thread Cert.EvenGateRefIdeal.nD Cert.EvenGateRefIdeal.τ).loc Cert.EvenGateRefIdeal.main_arg1) = m ((c.tc : Thread Cert.EvenGateRefIdeal.nD Cert.EvenGateRefIdeal.τ).loc Cert.EvenGateRefIdeal.main_arg1))
      ∧ r.2.sem = fun _ => 0)

def quiescent_OddIndex [hOddIndex : Cert.OddIndex.Facts] : Prop :=
  ∀ (m : (ℓ : Loc Cert.OddIndex.nD Cert.OddIndex.τ Cert.OddIndex.sig) → Buf (Elt Bits) ℓ) (g : Dev Cert.OddIndex.nD → PrngReg), Pre_OddIndex m →
    θ_run (Cert.OddIndex.defs (F := Bits)) (onTc (τ := Cert.OddIndex.τ) (Cert.OddIndex.main (F := Bits))) ⟨m, fun _ => 0, g⟩ (fun r => (∀ c : Dev Cert.OddIndex.nD,
      r.2.mem ((c.tc : Thread Cert.OddIndex.nD Cert.OddIndex.τ).loc Cert.OddIndex.main_arg0) = m ((c.tc : Thread Cert.OddIndex.nD Cert.OddIndex.τ).loc Cert.OddIndex.main_arg0)
      ∧ r.2.mem ((c.tc : Thread Cert.OddIndex.nD Cert.OddIndex.τ).loc Cert.OddIndex.main_arg1) = m ((c.tc : Thread Cert.OddIndex.nD Cert.OddIndex.τ).loc Cert.OddIndex.main_arg1))
      ∧ r.2.sem = fun _ => 0)

def quiescent_OddIndexIdeal [hOddIndexIdeal : Cert.OddIndexIdeal.Facts] : Prop :=
  ∀ (m : (ℓ : Loc Cert.OddIndexIdeal.nD Cert.OddIndexIdeal.τ Cert.OddIndexIdeal.sig) → Buf (Elt Ideal) ℓ) (g : Dev Cert.OddIndexIdeal.nD → PrngReg), Pre_OddIndexIdeal m →
    θ_run (Cert.OddIndexIdeal.defs (F := Ideal)) (onTc (τ := Cert.OddIndexIdeal.τ) (Cert.OddIndexIdeal.main (F := Ideal))) ⟨m, fun _ => 0, g⟩ (fun r => (∀ c : Dev Cert.OddIndexIdeal.nD,
      r.2.mem ((c.tc : Thread Cert.OddIndexIdeal.nD Cert.OddIndexIdeal.τ).loc Cert.OddIndexIdeal.main_arg0) = m ((c.tc : Thread Cert.OddIndexIdeal.nD Cert.OddIndexIdeal.τ).loc Cert.OddIndexIdeal.main_arg0)
      ∧ r.2.mem ((c.tc : Thread Cert.OddIndexIdeal.nD Cert.OddIndexIdeal.τ).loc Cert.OddIndexIdeal.main_arg1) = m ((c.tc : Thread Cert.OddIndexIdeal.nD Cert.OddIndexIdeal.τ).loc Cert.OddIndexIdeal.main_arg1))
      ∧ r.2.sem = fun _ => 0)

def quiescent_OddIndexRefIdeal [hOddIndexRefIdeal : Cert.OddIndexRefIdeal.Facts] : Prop :=
  ∀ (m : (ℓ : Loc Cert.OddIndexRefIdeal.nD Cert.OddIndexRefIdeal.τ Cert.OddIndexRefIdeal.sig) → Buf (Elt Ideal) ℓ) (g : Dev Cert.OddIndexRefIdeal.nD → PrngReg), Pre_OddIndexRefIdeal m →
    θ_run (Cert.OddIndexRefIdeal.defs (F := Ideal)) (onTc (τ := Cert.OddIndexRefIdeal.τ) (Cert.OddIndexRefIdeal.main (F := Ideal))) ⟨m, fun _ => 0, g⟩ (fun r => (∀ c : Dev Cert.OddIndexRefIdeal.nD,
      r.2.mem ((c.tc : Thread Cert.OddIndexRefIdeal.nD Cert.OddIndexRefIdeal.τ).loc Cert.OddIndexRefIdeal.main_arg0) = m ((c.tc : Thread Cert.OddIndexRefIdeal.nD Cert.OddIndexRefIdeal.τ).loc Cert.OddIndexRefIdeal.main_arg0)
      ∧ r.2.mem ((c.tc : Thread Cert.OddIndexRefIdeal.nD Cert.OddIndexRefIdeal.τ).loc Cert.OddIndexRefIdeal.main_arg1) = m ((c.tc : Thread Cert.OddIndexRefIdeal.nD Cert.OddIndexRefIdeal.τ).loc Cert.OddIndexRefIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1))
      ∧ r.2.sem = fun _ => 0)

def quiescent_QIdxUp [hQIdxUp : Cert.QIdxUp.Facts] : Prop :=
  ∀ (m : (ℓ : Loc Cert.QIdxUp.nD Cert.QIdxUp.τ Cert.QIdxUp.sig) → Buf (Elt Bits) ℓ) (g : Dev Cert.QIdxUp.nD → PrngReg), Pre_QIdxUp m →
    θ_run (Cert.QIdxUp.defs (F := Bits)) (onTc (τ := Cert.QIdxUp.τ) (Cert.QIdxUp.main (F := Bits))) ⟨m, fun _ => 0, g⟩ (fun r => (∀ c : Dev Cert.QIdxUp.nD,
      r.2.mem ((c.tc : Thread Cert.QIdxUp.nD Cert.QIdxUp.τ).loc Cert.QIdxUp.main_arg0) = m ((c.tc : Thread Cert.QIdxUp.nD Cert.QIdxUp.τ).loc Cert.QIdxUp.main_arg0)
      ∧ r.2.mem ((c.tc : Thread Cert.QIdxUp.nD Cert.QIdxUp.τ).loc Cert.QIdxUp.main_arg1) = m ((c.tc : Thread Cert.QIdxUp.nD Cert.QIdxUp.τ).loc Cert.QIdxUp.main_arg1))
      ∧ r.2.sem = fun _ => 0)

def quiescent_QIdxUpIdeal [hQIdxUpIdeal : Cert.QIdxUpIdeal.Facts] : Prop :=
  ∀ (m : (ℓ : Loc Cert.QIdxUpIdeal.nD Cert.QIdxUpIdeal.τ Cert.QIdxUpIdeal.sig) → Buf (Elt Ideal) ℓ) (g : Dev Cert.QIdxUpIdeal.nD → PrngReg), Pre_QIdxUpIdeal m →
    θ_run (Cert.QIdxUpIdeal.defs (F := Ideal)) (onTc (τ := Cert.QIdxUpIdeal.τ) (Cert.QIdxUpIdeal.main (F := Ideal))) ⟨m, fun _ => 0, g⟩ (fun r => (∀ c : Dev Cert.QIdxUpIdeal.nD,
      r.2.mem ((c.tc : Thread Cert.QIdxUpIdeal.nD Cert.QIdxUpIdeal.τ).loc Cert.QIdxUpIdeal.main_arg0) = m ((c.tc : Thread Cert.QIdxUpIdeal.nD Cert.QIdxUpIdeal.τ).loc Cert.QIdxUpIdeal.main_arg0)
      ∧ r.2.mem ((c.tc : Thread Cert.QIdxUpIdeal.nD Cert.QIdxUpIdeal.τ).loc Cert.QIdxUpIdeal.main_arg1) = m ((c.tc : Thread Cert.QIdxUpIdeal.nD Cert.QIdxUpIdeal.τ).loc Cert.QIdxUpIdeal.main_arg1))
      ∧ r.2.sem = fun _ => 0)

def quiescent_QIdxUpRefIdeal [hQIdxUpRefIdeal : Cert.QIdxUpRefIdeal.Facts] : Prop :=
  ∀ (m : (ℓ : Loc Cert.QIdxUpRefIdeal.nD Cert.QIdxUpRefIdeal.τ Cert.QIdxUpRefIdeal.sig) → Buf (Elt Ideal) ℓ) (g : Dev Cert.QIdxUpRefIdeal.nD → PrngReg), Pre_QIdxUpRefIdeal m →
    θ_run (Cert.QIdxUpRefIdeal.defs (F := Ideal)) (onTc (τ := Cert.QIdxUpRefIdeal.τ) (Cert.QIdxUpRefIdeal.main (F := Ideal))) ⟨m, fun _ => 0, g⟩ (fun r => (∀ c : Dev Cert.QIdxUpRefIdeal.nD,
      r.2.mem ((c.tc : Thread Cert.QIdxUpRefIdeal.nD Cert.QIdxUpRefIdeal.τ).loc Cert.QIdxUpRefIdeal.main_arg0) = m ((c.tc : Thread Cert.QIdxUpRefIdeal.nD Cert.QIdxUpRefIdeal.τ).loc Cert.QIdxUpRefIdeal.main_arg0)
      ∧ r.2.mem ((c.tc : Thread Cert.QIdxUpRefIdeal.nD Cert.QIdxUpRefIdeal.τ).loc Cert.QIdxUpRefIdeal.main_arg1) = m ((c.tc : Thread Cert.QIdxUpRefIdeal.nD Cert.QIdxUpRefIdeal.τ).loc Cert.QIdxUpRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_LatentNorms [hLatentNorms : Cert.LatentNorms.Facts] : Prop :=
  ∀ (m : (ℓ : Loc Cert.LatentNorms.nD Cert.LatentNorms.τ Cert.LatentNorms.sig) → Buf (Elt Bits) ℓ) (g : Dev Cert.LatentNorms.nD → PrngReg), Pre_LatentNorms m →
    θ_run (Cert.LatentNorms.defs (F := Bits)) (onTc (τ := Cert.LatentNorms.τ) (Cert.LatentNorms.main (F := Bits))) ⟨m, fun _ => 0, g⟩ (fun r => (∀ c : Dev Cert.LatentNorms.nD,
      r.2.mem ((c.tc : Thread Cert.LatentNorms.nD Cert.LatentNorms.τ).loc Cert.LatentNorms.main_arg0) = m ((c.tc : Thread Cert.LatentNorms.nD Cert.LatentNorms.τ).loc Cert.LatentNorms.main_arg0)
      ∧ r.2.mem ((c.tc : Thread Cert.LatentNorms.nD Cert.LatentNorms.τ).loc Cert.LatentNorms.main_arg1) = m ((c.tc : Thread Cert.LatentNorms.nD Cert.LatentNorms.τ).loc Cert.LatentNorms.main_arg1)
      ∧ r.2.mem ((c.tc : Thread Cert.LatentNorms.nD Cert.LatentNorms.τ).loc Cert.LatentNorms.main_arg2) = m ((c.tc : Thread Cert.LatentNorms.nD Cert.LatentNorms.τ).loc Cert.LatentNorms.main_arg2)
      ∧ r.2.mem ((c.tc : Thread Cert.LatentNorms.nD Cert.LatentNorms.τ).loc Cert.LatentNorms.main_arg3) = m ((c.tc : Thread Cert.LatentNorms.nD Cert.LatentNorms.τ).loc Cert.LatentNorms.main_arg3)
      ∧ r.2.mem ((c.tc : Thread Cert.LatentNorms.nD Cert.LatentNorms.τ).loc Cert.LatentNorms.main_arg4) = m ((c.tc : Thread Cert.LatentNorms.nD Cert.LatentNorms.τ).loc Cert.LatentNorms.main_arg4)
      ∧ r.2.mem ((c.tc : Thread Cert.LatentNorms.nD Cert.LatentNorms.τ).loc Cert.LatentNorms.main_arg5) = m ((c.tc : Thread Cert.LatentNorms.nD Cert.LatentNorms.τ).loc Cert.LatentNorms.main_arg5))
      ∧ r.2.sem = fun _ => 0)

def quiescent_LatentNormsIdeal [hLatentNormsIdeal : Cert.LatentNormsIdeal.Facts] : Prop :=
  ∀ (m : (ℓ : Loc Cert.LatentNormsIdeal.nD Cert.LatentNormsIdeal.τ Cert.LatentNormsIdeal.sig) → Buf (Elt Ideal) ℓ) (g : Dev Cert.LatentNormsIdeal.nD → PrngReg), Pre_LatentNormsIdeal m →
    θ_run (Cert.LatentNormsIdeal.defs (F := Ideal)) (onTc (τ := Cert.LatentNormsIdeal.τ) (Cert.LatentNormsIdeal.main (F := Ideal))) ⟨m, fun _ => 0, g⟩ (fun r => (∀ c : Dev Cert.LatentNormsIdeal.nD,
      r.2.mem ((c.tc : Thread Cert.LatentNormsIdeal.nD Cert.LatentNormsIdeal.τ).loc Cert.LatentNormsIdeal.main_arg0) = m ((c.tc : Thread Cert.LatentNormsIdeal.nD Cert.LatentNormsIdeal.τ).loc Cert.LatentNormsIdeal.main_arg0)
      ∧ r.2.mem ((c.tc : Thread Cert.LatentNormsIdeal.nD Cert.LatentNormsIdeal.τ).loc Cert.LatentNormsIdeal.main_arg1) = m ((c.tc : Thread Cert.LatentNormsIdeal.nD Cert.LatentNormsIdeal.τ).loc Cert.LatentNormsIdeal.main_arg1)
      ∧ r.2.mem ((c.tc : Thread Cert.LatentNormsIdeal.nD Cert.LatentNormsIdeal.τ).loc Cert.LatentNormsIdeal.main_arg2) = m ((c.tc : Thread Cert.LatentNormsIdeal.nD Cert.LatentNormsIdeal.τ).loc Cert.LatentNormsIdeal.main_arg2)
      ∧ r.2.mem ((c.tc : Thread Cert.LatentNormsIdeal.nD Cert.LatentNormsIdeal.τ).loc Cert.LatentNormsIdeal.main_arg3) = m ((c.tc : Thread Cert.LatentNormsIdeal.nD Cert.LatentNormsIdeal.τ).loc Cert.LatentNormsIdeal.main_arg3)
      ∧ r.2.mem ((c.tc : Thread Cert.LatentNormsIdeal.nD Cert.LatentNormsIdeal.τ).loc Cert.LatentNormsIdeal.main_arg4) = m ((c.tc : Thread Cert.LatentNormsIdeal.nD Cert.LatentNormsIdeal.τ).loc Cert.LatentNormsIdeal.main_arg4)
      ∧ r.2.mem ((c.tc : Thread Cert.LatentNormsIdeal.nD Cert.LatentNormsIdeal.τ).loc Cert.LatentNormsIdeal.main_arg5) = m ((c.tc : Thread Cert.LatentNormsIdeal.nD Cert.LatentNormsIdeal.τ).loc Cert.LatentNormsIdeal.main_arg5))
      ∧ r.2.sem = fun _ => 0)

def quiescent_LatentNormsRefIdeal [hLatentNormsRefIdeal : Cert.LatentNormsRefIdeal.Facts] : Prop :=
  ∀ (m : (ℓ : Loc Cert.LatentNormsRefIdeal.nD Cert.LatentNormsRefIdeal.τ Cert.LatentNormsRefIdeal.sig) → Buf (Elt Ideal) ℓ) (g : Dev Cert.LatentNormsRefIdeal.nD → PrngReg), Pre_LatentNormsRefIdeal m →
    θ_run (Cert.LatentNormsRefIdeal.defs (F := Ideal)) (onTc (τ := Cert.LatentNormsRefIdeal.τ) (Cert.LatentNormsRefIdeal.main (F := Ideal))) ⟨m, fun _ => 0, g⟩ (fun r => (∀ c : Dev Cert.LatentNormsRefIdeal.nD,
      r.2.mem ((c.tc : Thread Cert.LatentNormsRefIdeal.nD Cert.LatentNormsRefIdeal.τ).loc Cert.LatentNormsRefIdeal.main_arg0) = m ((c.tc : Thread Cert.LatentNormsRefIdeal.nD Cert.LatentNormsRefIdeal.τ).loc Cert.LatentNormsRefIdeal.main_arg0)
      ∧ r.2.mem ((c.tc : Thread Cert.LatentNormsRefIdeal.nD Cert.LatentNormsRefIdeal.τ).loc Cert.LatentNormsRefIdeal.main_arg1) = m ((c.tc : Thread Cert.LatentNormsRefIdeal.nD Cert.LatentNormsRefIdeal.τ).loc Cert.LatentNormsRefIdeal.main_arg1)
      ∧ r.2.mem ((c.tc : Thread Cert.LatentNormsRefIdeal.nD Cert.LatentNormsRefIdeal.τ).loc Cert.LatentNormsRefIdeal.main_arg2) = m ((c.tc : Thread Cert.LatentNormsRefIdeal.nD Cert.LatentNormsRefIdeal.τ).loc Cert.LatentNormsRefIdeal.main_arg2)
      ∧ r.2.mem ((c.tc : Thread Cert.LatentNormsRefIdeal.nD Cert.LatentNormsRefIdeal.τ).loc Cert.LatentNormsRefIdeal.main_arg3) = m ((c.tc : Thread Cert.LatentNormsRefIdeal.nD Cert.LatentNormsRefIdeal.τ).loc Cert.LatentNormsRefIdeal.main_arg3)
      ∧ r.2.mem ((c.tc : Thread Cert.LatentNormsRefIdeal.nD Cert.LatentNormsRefIdeal.τ).loc Cert.LatentNormsRefIdeal.main_arg4) = m ((c.tc : Thread Cert.LatentNormsRefIdeal.nD Cert.LatentNormsRefIdeal.τ).loc Cert.LatentNormsRefIdeal.main_arg4)
      ∧ r.2.mem ((c.tc : Thread Cert.LatentNormsRefIdeal.nD Cert.LatentNormsRefIdeal.τ).loc Cert.LatentNormsRefIdeal.main_arg5) = m ((c.tc : Thread Cert.LatentNormsRefIdeal.nD Cert.LatentNormsRefIdeal.τ).loc Cert.LatentNormsRefIdeal.main_arg5))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0))
      ∧ r.2.sem = fun _ => 0)

def preserves_Kernel_KernelIdeal : Prop :=
  IdealRules.named_const.Statement Cert.KernelIdeal.κ "fox_scale" .f32 0x3E0293EE#32 (((Real.sqrt 128)⁻¹ * (Real.log 2)⁻¹ : ℝ) : EReal)
  ∧ IdealRules.named_const.Statement Cert.KernelIdeal.κ "swa_scale" .f32 0x3E38AA3B#32 ((8⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_OddGate_OddGateIdeal : Prop :=
  True

def algebraic_OddGateIdeal_OddGateRefIdeal [hOddGateIdeal : Cert.OddGateIdeal.Facts] [hOddGateRefIdeal : Cert.OddGateRefIdeal.Facts] : Prop :=
  ∀ (m : (ℓ : Loc Cert.OddGateIdeal.nD Cert.OddGateIdeal.τ Cert.OddGateIdeal.sig) → Buf (Elt Ideal) ℓ) (g : Dev Cert.OddGateIdeal.nD → PrngReg)
    (m' : (ℓ : Loc Cert.OddGateRefIdeal.nD Cert.OddGateRefIdeal.τ Cert.OddGateRefIdeal.sig) → Buf (Elt Ideal) ℓ) (g' : Dev Cert.OddGateRefIdeal.nD → PrngReg), Pre_OddGateIdeal m →
    (∀ c : Dev Cert.OddGateIdeal.nD,
      m' ((c.tc : Thread Cert.OddGateRefIdeal.nD Cert.OddGateRefIdeal.τ).loc Cert.OddGateRefIdeal.main_arg0) = m ((c.tc : Thread Cert.OddGateIdeal.nD Cert.OddGateIdeal.τ).loc Cert.OddGateIdeal.main_arg0)
      ∧ m' ((c.tc : Thread Cert.OddGateRefIdeal.nD Cert.OddGateRefIdeal.τ).loc Cert.OddGateRefIdeal.main_arg1) = m ((c.tc : Thread Cert.OddGateIdeal.nD Cert.OddGateIdeal.τ).loc Cert.OddGateIdeal.main_arg1)) →
    ∃ (v0 : (c : Dev Cert.OddGateIdeal.nD) → Buf (Elt Ideal) ((c.tc : Thread Cert.OddGateIdeal.nD Cert.OddGateIdeal.τ).loc Cert.OddGateIdeal.main_v1)),
      θ_run (Cert.OddGateIdeal.defs (F := Ideal)) (onTc (τ := Cert.OddGateIdeal.τ) (Cert.OddGateIdeal.main (F := Ideal))) ⟨m, fun _ => 0, g⟩ (fun r => ∀ c : Dev Cert.OddGateIdeal.nD,
          r.2.mem ((c.tc : Thread Cert.OddGateIdeal.nD Cert.OddGateIdeal.τ).loc Cert.OddGateIdeal.main_v1) = v0 c
          ∧ r.2.mem ((c.tc : Thread Cert.OddGateIdeal.nD Cert.OddGateIdeal.τ).loc Cert.OddGateIdeal.main_arg0) = m ((c.tc : Thread Cert.OddGateIdeal.nD Cert.OddGateIdeal.τ).loc Cert.OddGateIdeal.main_arg0)
          ∧ r.2.mem ((c.tc : Thread Cert.OddGateIdeal.nD Cert.OddGateIdeal.τ).loc Cert.OddGateIdeal.main_arg1) = m ((c.tc : Thread Cert.OddGateIdeal.nD Cert.OddGateIdeal.τ).loc Cert.OddGateIdeal.main_arg1))
      ∧ θ_run (Cert.OddGateRefIdeal.defs (F := Ideal)) (onTc (τ := Cert.OddGateRefIdeal.τ) (Cert.OddGateRefIdeal.main (F := Ideal))) ⟨m', fun _ => 0, g'⟩ (fun r => ∀ c : Dev Cert.OddGateRefIdeal.nD,
          r.2.mem ((c.tc : Thread Cert.OddGateRefIdeal.nD Cert.OddGateRefIdeal.τ).loc Cert.OddGateRefIdeal.main_v9) = v0 c
          ∧ r.2.mem ((c.tc : Thread Cert.OddGateRefIdeal.nD Cert.OddGateRefIdeal.τ).loc Cert.OddGateRefIdeal.main_arg0) = m' ((c.tc : Thread Cert.OddGateRefIdeal.nD Cert.OddGateRefIdeal.τ).loc Cert.OddGateRefIdeal.main_arg0)
          ∧ r.2.mem ((c.tc : Thread Cert.OddGateRefIdeal.nD Cert.OddGateRefIdeal.τ).loc Cert.OddGateRefIdeal.main_arg1) = m' ((c.tc : Thread Cert.OddGateRefIdeal.nD Cert.OddGateRefIdeal.τ).loc Cert.OddGateRefIdeal.main_arg1))

def preserves_OddLatent_OddLatentIdeal : Prop :=
  True

def algebraic_OddLatentIdeal_OddLatentRefIdeal [hOddLatentIdeal : Cert.OddLatentIdeal.Facts] [hOddLatentRefIdeal : Cert.OddLatentRefIdeal.Facts] : Prop :=
  ∀ (m : (ℓ : Loc Cert.OddLatentIdeal.nD Cert.OddLatentIdeal.τ Cert.OddLatentIdeal.sig) → Buf (Elt Ideal) ℓ) (g : Dev Cert.OddLatentIdeal.nD → PrngReg)
    (m' : (ℓ : Loc Cert.OddLatentRefIdeal.nD Cert.OddLatentRefIdeal.τ Cert.OddLatentRefIdeal.sig) → Buf (Elt Ideal) ℓ) (g' : Dev Cert.OddLatentRefIdeal.nD → PrngReg), Pre_OddLatentIdeal m →
    (∀ c : Dev Cert.OddLatentIdeal.nD,
      m' ((c.tc : Thread Cert.OddLatentRefIdeal.nD Cert.OddLatentRefIdeal.τ).loc Cert.OddLatentRefIdeal.main_arg0) = m ((c.tc : Thread Cert.OddLatentIdeal.nD Cert.OddLatentIdeal.τ).loc Cert.OddLatentIdeal.main_arg0)
      ∧ m' ((c.tc : Thread Cert.OddLatentRefIdeal.nD Cert.OddLatentRefIdeal.τ).loc Cert.OddLatentRefIdeal.main_arg1) = m ((c.tc : Thread Cert.OddLatentIdeal.nD Cert.OddLatentIdeal.τ).loc Cert.OddLatentIdeal.main_arg1)) →
    ∃ (v0 : (c : Dev Cert.OddLatentIdeal.nD) → Buf (Elt Ideal) ((c.tc : Thread Cert.OddLatentIdeal.nD Cert.OddLatentIdeal.τ).loc Cert.OddLatentIdeal.main_v1)),
      θ_run (Cert.OddLatentIdeal.defs (F := Ideal)) (onTc (τ := Cert.OddLatentIdeal.τ) (Cert.OddLatentIdeal.main (F := Ideal))) ⟨m, fun _ => 0, g⟩ (fun r => ∀ c : Dev Cert.OddLatentIdeal.nD,
          r.2.mem ((c.tc : Thread Cert.OddLatentIdeal.nD Cert.OddLatentIdeal.τ).loc Cert.OddLatentIdeal.main_v1) = v0 c
          ∧ r.2.mem ((c.tc : Thread Cert.OddLatentIdeal.nD Cert.OddLatentIdeal.τ).loc Cert.OddLatentIdeal.main_arg0) = m ((c.tc : Thread Cert.OddLatentIdeal.nD Cert.OddLatentIdeal.τ).loc Cert.OddLatentIdeal.main_arg0)
          ∧ r.2.mem ((c.tc : Thread Cert.OddLatentIdeal.nD Cert.OddLatentIdeal.τ).loc Cert.OddLatentIdeal.main_arg1) = m ((c.tc : Thread Cert.OddLatentIdeal.nD Cert.OddLatentIdeal.τ).loc Cert.OddLatentIdeal.main_arg1))
      ∧ θ_run (Cert.OddLatentRefIdeal.defs (F := Ideal)) (onTc (τ := Cert.OddLatentRefIdeal.τ) (Cert.OddLatentRefIdeal.main (F := Ideal))) ⟨m', fun _ => 0, g'⟩ (fun r => ∀ c : Dev Cert.OddLatentRefIdeal.nD,
          r.2.mem ((c.tc : Thread Cert.OddLatentRefIdeal.nD Cert.OddLatentRefIdeal.τ).loc Cert.OddLatentRefIdeal.main_v9) = v0 c
          ∧ r.2.mem ((c.tc : Thread Cert.OddLatentRefIdeal.nD Cert.OddLatentRefIdeal.τ).loc Cert.OddLatentRefIdeal.main_arg0) = m' ((c.tc : Thread Cert.OddLatentRefIdeal.nD Cert.OddLatentRefIdeal.τ).loc Cert.OddLatentRefIdeal.main_arg0)
          ∧ r.2.mem ((c.tc : Thread Cert.OddLatentRefIdeal.nD Cert.OddLatentRefIdeal.τ).loc Cert.OddLatentRefIdeal.main_arg1) = m' ((c.tc : Thread Cert.OddLatentRefIdeal.nD Cert.OddLatentRefIdeal.τ).loc Cert.OddLatentRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v1) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v17) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v0)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v0) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v6) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v4) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Swa_SwaIdeal : Prop :=
  True

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v35)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v35) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v78) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_EvenGate_EvenGateIdeal : Prop :=
  True

def algebraic_EvenGateIdeal_EvenGateRefIdeal [hEvenGateIdeal : Cert.EvenGateIdeal.Facts] [hEvenGateRefIdeal : Cert.EvenGateRefIdeal.Facts] : Prop :=
  ∀ (m : (ℓ : Loc Cert.EvenGateIdeal.nD Cert.EvenGateIdeal.τ Cert.EvenGateIdeal.sig) → Buf (Elt Ideal) ℓ) (g : Dev Cert.EvenGateIdeal.nD → PrngReg)
    (m' : (ℓ : Loc Cert.EvenGateRefIdeal.nD Cert.EvenGateRefIdeal.τ Cert.EvenGateRefIdeal.sig) → Buf (Elt Ideal) ℓ) (g' : Dev Cert.EvenGateRefIdeal.nD → PrngReg), Pre_EvenGateIdeal m →
    (∀ c : Dev Cert.EvenGateIdeal.nD,
      m' ((c.tc : Thread Cert.EvenGateRefIdeal.nD Cert.EvenGateRefIdeal.τ).loc Cert.EvenGateRefIdeal.main_arg0) = m ((c.tc : Thread Cert.EvenGateIdeal.nD Cert.EvenGateIdeal.τ).loc Cert.EvenGateIdeal.main_arg0)
      ∧ m' ((c.tc : Thread Cert.EvenGateRefIdeal.nD Cert.EvenGateRefIdeal.τ).loc Cert.EvenGateRefIdeal.main_arg1) = m ((c.tc : Thread Cert.EvenGateIdeal.nD Cert.EvenGateIdeal.τ).loc Cert.EvenGateIdeal.main_arg1)) →
    ∃ (v0 : (c : Dev Cert.EvenGateIdeal.nD) → Buf (Elt Ideal) ((c.tc : Thread Cert.EvenGateIdeal.nD Cert.EvenGateIdeal.τ).loc Cert.EvenGateIdeal.main_v1)),
      θ_run (Cert.EvenGateIdeal.defs (F := Ideal)) (onTc (τ := Cert.EvenGateIdeal.τ) (Cert.EvenGateIdeal.main (F := Ideal))) ⟨m, fun _ => 0, g⟩ (fun r => ∀ c : Dev Cert.EvenGateIdeal.nD,
          r.2.mem ((c.tc : Thread Cert.EvenGateIdeal.nD Cert.EvenGateIdeal.τ).loc Cert.EvenGateIdeal.main_v1) = v0 c
          ∧ r.2.mem ((c.tc : Thread Cert.EvenGateIdeal.nD Cert.EvenGateIdeal.τ).loc Cert.EvenGateIdeal.main_arg0) = m ((c.tc : Thread Cert.EvenGateIdeal.nD Cert.EvenGateIdeal.τ).loc Cert.EvenGateIdeal.main_arg0)
          ∧ r.2.mem ((c.tc : Thread Cert.EvenGateIdeal.nD Cert.EvenGateIdeal.τ).loc Cert.EvenGateIdeal.main_arg1) = m ((c.tc : Thread Cert.EvenGateIdeal.nD Cert.EvenGateIdeal.τ).loc Cert.EvenGateIdeal.main_arg1))
      ∧ θ_run (Cert.EvenGateRefIdeal.defs (F := Ideal)) (onTc (τ := Cert.EvenGateRefIdeal.τ) (Cert.EvenGateRefIdeal.main (F := Ideal))) ⟨m', fun _ => 0, g'⟩ (fun r => ∀ c : Dev Cert.EvenGateRefIdeal.nD,
          r.2.mem ((c.tc : Thread Cert.EvenGateRefIdeal.nD Cert.EvenGateRefIdeal.τ).loc Cert.EvenGateRefIdeal.main_v14) = v0 c
          ∧ r.2.mem ((c.tc : Thread Cert.EvenGateRefIdeal.nD Cert.EvenGateRefIdeal.τ).loc Cert.EvenGateRefIdeal.main_arg0) = m' ((c.tc : Thread Cert.EvenGateRefIdeal.nD Cert.EvenGateRefIdeal.τ).loc Cert.EvenGateRefIdeal.main_arg0)
          ∧ r.2.mem ((c.tc : Thread Cert.EvenGateRefIdeal.nD Cert.EvenGateRefIdeal.τ).loc Cert.EvenGateRefIdeal.main_arg1) = m' ((c.tc : Thread Cert.EvenGateRefIdeal.nD Cert.EvenGateRefIdeal.τ).loc Cert.EvenGateRefIdeal.main_arg1))

def preserves_OddIndex_OddIndexIdeal : Prop :=
  True

def algebraic_OddIndexIdeal_OddIndexRefIdeal [hOddIndexIdeal : Cert.OddIndexIdeal.Facts] [hOddIndexRefIdeal : Cert.OddIndexRefIdeal.Facts] : Prop :=
  ∀ (m : (ℓ : Loc Cert.OddIndexIdeal.nD Cert.OddIndexIdeal.τ Cert.OddIndexIdeal.sig) → Buf (Elt Ideal) ℓ) (g : Dev Cert.OddIndexIdeal.nD → PrngReg)
    (m' : (ℓ : Loc Cert.OddIndexRefIdeal.nD Cert.OddIndexRefIdeal.τ Cert.OddIndexRefIdeal.sig) → Buf (Elt Ideal) ℓ) (g' : Dev Cert.OddIndexRefIdeal.nD → PrngReg), Pre_OddIndexIdeal m →
    (∀ c : Dev Cert.OddIndexIdeal.nD,
      m' ((c.tc : Thread Cert.OddIndexRefIdeal.nD Cert.OddIndexRefIdeal.τ).loc Cert.OddIndexRefIdeal.main_arg0) = m ((c.tc : Thread Cert.OddIndexIdeal.nD Cert.OddIndexIdeal.τ).loc Cert.OddIndexIdeal.main_arg0)
      ∧ m' ((c.tc : Thread Cert.OddIndexRefIdeal.nD Cert.OddIndexRefIdeal.τ).loc Cert.OddIndexRefIdeal.main_arg1) = m ((c.tc : Thread Cert.OddIndexIdeal.nD Cert.OddIndexIdeal.τ).loc Cert.OddIndexIdeal.main_arg1)) →
    ∃ (v0 : (c : Dev Cert.OddIndexIdeal.nD) → Buf (Elt Ideal) ((c.tc : Thread Cert.OddIndexIdeal.nD Cert.OddIndexIdeal.τ).loc Cert.OddIndexIdeal.main_v1)),
      θ_run (Cert.OddIndexIdeal.defs (F := Ideal)) (onTc (τ := Cert.OddIndexIdeal.τ) (Cert.OddIndexIdeal.main (F := Ideal))) ⟨m, fun _ => 0, g⟩ (fun r => ∀ c : Dev Cert.OddIndexIdeal.nD,
          r.2.mem ((c.tc : Thread Cert.OddIndexIdeal.nD Cert.OddIndexIdeal.τ).loc Cert.OddIndexIdeal.main_v1) = v0 c
          ∧ r.2.mem ((c.tc : Thread Cert.OddIndexIdeal.nD Cert.OddIndexIdeal.τ).loc Cert.OddIndexIdeal.main_arg0) = m ((c.tc : Thread Cert.OddIndexIdeal.nD Cert.OddIndexIdeal.τ).loc Cert.OddIndexIdeal.main_arg0)
          ∧ r.2.mem ((c.tc : Thread Cert.OddIndexIdeal.nD Cert.OddIndexIdeal.τ).loc Cert.OddIndexIdeal.main_arg1) = m ((c.tc : Thread Cert.OddIndexIdeal.nD Cert.OddIndexIdeal.τ).loc Cert.OddIndexIdeal.main_arg1))
      ∧ θ_run (Cert.OddIndexRefIdeal.defs (F := Ideal)) (onTc (τ := Cert.OddIndexRefIdeal.τ) (Cert.OddIndexRefIdeal.main (F := Ideal))) ⟨m', fun _ => 0, g'⟩ (fun r => ∀ c : Dev Cert.OddIndexRefIdeal.nD,
          r.2.mem ((c.tc : Thread Cert.OddIndexRefIdeal.nD Cert.OddIndexRefIdeal.τ).loc Cert.OddIndexRefIdeal.main_v10) = v0 c
          ∧ r.2.mem ((c.tc : Thread Cert.OddIndexRefIdeal.nD Cert.OddIndexRefIdeal.τ).loc Cert.OddIndexRefIdeal.main_arg0) = m' ((c.tc : Thread Cert.OddIndexRefIdeal.nD Cert.OddIndexRefIdeal.τ).loc Cert.OddIndexRefIdeal.main_arg0)
          ∧ r.2.mem ((c.tc : Thread Cert.OddIndexRefIdeal.nD Cert.OddIndexRefIdeal.τ).loc Cert.OddIndexRefIdeal.main_arg1) = m' ((c.tc : Thread Cert.OddIndexRefIdeal.nD Cert.OddIndexRefIdeal.τ).loc Cert.OddIndexRefIdeal.main_arg1))

def preserves_QUp_QUpIdeal : Prop :=
  IdealRules.named_const.Statement Cert.QUpIdeal.κ "dsa_scale" .f32 0x3E0293EE#32 (((Real.sqrt 128)⁻¹ * (Real.log 2)⁻¹ : ℝ) : EReal)

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v10) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1))

def preserves_QIdxUp_QIdxUpIdeal : Prop :=
  True

def algebraic_QIdxUpIdeal_QIdxUpRefIdeal [hQIdxUpIdeal : Cert.QIdxUpIdeal.Facts] [hQIdxUpRefIdeal : Cert.QIdxUpRefIdeal.Facts] : Prop :=
  ∀ (m : (ℓ : Loc Cert.QIdxUpIdeal.nD Cert.QIdxUpIdeal.τ Cert.QIdxUpIdeal.sig) → Buf (Elt Ideal) ℓ) (g : Dev Cert.QIdxUpIdeal.nD → PrngReg)
    (m' : (ℓ : Loc Cert.QIdxUpRefIdeal.nD Cert.QIdxUpRefIdeal.τ Cert.QIdxUpRefIdeal.sig) → Buf (Elt Ideal) ℓ) (g' : Dev Cert.QIdxUpRefIdeal.nD → PrngReg), Pre_QIdxUpIdeal m →
    (∀ c : Dev Cert.QIdxUpIdeal.nD,
      m' ((c.tc : Thread Cert.QIdxUpRefIdeal.nD Cert.QIdxUpRefIdeal.τ).loc Cert.QIdxUpRefIdeal.main_arg0) = m ((c.tc : Thread Cert.QIdxUpIdeal.nD Cert.QIdxUpIdeal.τ).loc Cert.QIdxUpIdeal.main_arg0)
      ∧ m' ((c.tc : Thread Cert.QIdxUpRefIdeal.nD Cert.QIdxUpRefIdeal.τ).loc Cert.QIdxUpRefIdeal.main_arg1) = m ((c.tc : Thread Cert.QIdxUpIdeal.nD Cert.QIdxUpIdeal.τ).loc Cert.QIdxUpIdeal.main_arg1)) →
    ∃ (v0 : (c : Dev Cert.QIdxUpIdeal.nD) → Buf (Elt Ideal) ((c.tc : Thread Cert.QIdxUpIdeal.nD Cert.QIdxUpIdeal.τ).loc Cert.QIdxUpIdeal.main_v0)),
      θ_run (Cert.QIdxUpIdeal.defs (F := Ideal)) (onTc (τ := Cert.QIdxUpIdeal.τ) (Cert.QIdxUpIdeal.main (F := Ideal))) ⟨m, fun _ => 0, g⟩ (fun r => ∀ c : Dev Cert.QIdxUpIdeal.nD,
          r.2.mem ((c.tc : Thread Cert.QIdxUpIdeal.nD Cert.QIdxUpIdeal.τ).loc Cert.QIdxUpIdeal.main_v0) = v0 c
          ∧ r.2.mem ((c.tc : Thread Cert.QIdxUpIdeal.nD Cert.QIdxUpIdeal.τ).loc Cert.QIdxUpIdeal.main_arg0) = m ((c.tc : Thread Cert.QIdxUpIdeal.nD Cert.QIdxUpIdeal.τ).loc Cert.QIdxUpIdeal.main_arg0)
          ∧ r.2.mem ((c.tc : Thread Cert.QIdxUpIdeal.nD Cert.QIdxUpIdeal.τ).loc Cert.QIdxUpIdeal.main_arg1) = m ((c.tc : Thread Cert.QIdxUpIdeal.nD Cert.QIdxUpIdeal.τ).loc Cert.QIdxUpIdeal.main_arg1))
      ∧ θ_run (Cert.QIdxUpRefIdeal.defs (F := Ideal)) (onTc (τ := Cert.QIdxUpRefIdeal.τ) (Cert.QIdxUpRefIdeal.main (F := Ideal))) ⟨m', fun _ => 0, g'⟩ (fun r => ∀ c : Dev Cert.QIdxUpRefIdeal.nD,
          r.2.mem ((c.tc : Thread Cert.QIdxUpRefIdeal.nD Cert.QIdxUpRefIdeal.τ).loc Cert.QIdxUpRefIdeal.main_v4) = v0 c
          ∧ r.2.mem ((c.tc : Thread Cert.QIdxUpRefIdeal.nD Cert.QIdxUpRefIdeal.τ).loc Cert.QIdxUpRefIdeal.main_arg0) = m' ((c.tc : Thread Cert.QIdxUpRefIdeal.nD Cert.QIdxUpRefIdeal.τ).loc Cert.QIdxUpRefIdeal.main_arg0)
          ∧ r.2.mem ((c.tc : Thread Cert.QIdxUpRefIdeal.nD Cert.QIdxUpRefIdeal.τ).loc Cert.QIdxUpRefIdeal.main_arg1) = m' ((c.tc : Thread Cert.QIdxUpRefIdeal.nD Cert.QIdxUpRefIdeal.τ).loc Cert.QIdxUpRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_LatentNorms_LatentNormsIdeal : Prop :=
  True

def algebraic_LatentNormsIdeal_LatentNormsRefIdeal [hLatentNormsIdeal : Cert.LatentNormsIdeal.Facts] [hLatentNormsRefIdeal : Cert.LatentNormsRefIdeal.Facts] : Prop :=
  ∀ (m : (ℓ : Loc Cert.LatentNormsIdeal.nD Cert.LatentNormsIdeal.τ Cert.LatentNormsIdeal.sig) → Buf (Elt Ideal) ℓ) (g : Dev Cert.LatentNormsIdeal.nD → PrngReg)
    (m' : (ℓ : Loc Cert.LatentNormsRefIdeal.nD Cert.LatentNormsRefIdeal.τ Cert.LatentNormsRefIdeal.sig) → Buf (Elt Ideal) ℓ) (g' : Dev Cert.LatentNormsRefIdeal.nD → PrngReg), Pre_LatentNormsIdeal m →
    (∀ c : Dev Cert.LatentNormsIdeal.nD,
      m' ((c.tc : Thread Cert.LatentNormsRefIdeal.nD Cert.LatentNormsRefIdeal.τ).loc Cert.LatentNormsRefIdeal.main_arg0) = m ((c.tc : Thread Cert.LatentNormsIdeal.nD Cert.LatentNormsIdeal.τ).loc Cert.LatentNormsIdeal.main_arg0)
      ∧ m' ((c.tc : Thread Cert.LatentNormsRefIdeal.nD Cert.LatentNormsRefIdeal.τ).loc Cert.LatentNormsRefIdeal.main_arg1) = m ((c.tc : Thread Cert.LatentNormsIdeal.nD Cert.LatentNormsIdeal.τ).loc Cert.LatentNormsIdeal.main_arg1)
      ∧ m' ((c.tc : Thread Cert.LatentNormsRefIdeal.nD Cert.LatentNormsRefIdeal.τ).loc Cert.LatentNormsRefIdeal.main_arg2) = m ((c.tc : Thread Cert.LatentNormsIdeal.nD Cert.LatentNormsIdeal.τ).loc Cert.LatentNormsIdeal.main_arg2)
      ∧ m' ((c.tc : Thread Cert.LatentNormsRefIdeal.nD Cert.LatentNormsRefIdeal.τ).loc Cert.LatentNormsRefIdeal.main_arg3) = m ((c.tc : Thread Cert.LatentNormsIdeal.nD Cert.LatentNormsIdeal.τ).loc Cert.LatentNormsIdeal.main_arg3)
      ∧ m' ((c.tc : Thread Cert.LatentNormsRefIdeal.nD Cert.LatentNormsRefIdeal.τ).loc Cert.LatentNormsRefIdeal.main_arg4) = m ((c.tc : Thread Cert.LatentNormsIdeal.nD Cert.LatentNormsIdeal.τ).loc Cert.LatentNormsIdeal.main_arg4)
      ∧ m' ((c.tc : Thread Cert.LatentNormsRefIdeal.nD Cert.LatentNormsRefIdeal.τ).loc Cert.LatentNormsRefIdeal.main_arg5) = m ((c.tc : Thread Cert.LatentNormsIdeal.nD Cert.LatentNormsIdeal.τ).loc Cert.LatentNormsIdeal.main_arg5)) →
    ∃ (v0 : (c : Dev Cert.LatentNormsIdeal.nD) → Buf (Elt Ideal) ((c.tc : Thread Cert.LatentNormsIdeal.nD Cert.LatentNormsIdeal.τ).loc Cert.LatentNormsIdeal.main_v12_0)) (v1 : (c : Dev Cert.LatentNormsIdeal.nD) → Buf (Elt Ideal) ((c.tc : Thread Cert.LatentNormsIdeal.nD Cert.LatentNormsIdeal.τ).loc Cert.LatentNormsIdeal.main_v12_1)) (v2 : (c : Dev Cert.LatentNormsIdeal.nD) → Buf (Elt Ideal) ((c.tc : Thread Cert.LatentNormsIdeal.nD Cert.LatentNormsIdeal.τ).loc Cert.LatentNormsIdeal.main_v12_2)) (v3 : (c : Dev Cert.LatentNormsIdeal.nD) → Buf (Elt Ideal) ((c.tc : Thread Cert.LatentNormsIdeal.nD Cert.LatentNormsIdeal.τ).loc Cert.LatentNormsIdeal.main_v12_3)),
      θ_run (Cert.LatentNormsIdeal.defs (F := Ideal)) (onTc (τ := Cert.LatentNormsIdeal.τ) (Cert.LatentNormsIdeal.main (F := Ideal))) ⟨m, fun _ => 0, g⟩ (fun r => ∀ c : Dev Cert.LatentNormsIdeal.nD,
          r.2.mem ((c.tc : Thread Cert.LatentNormsIdeal.nD Cert.LatentNormsIdeal.τ).loc Cert.LatentNormsIdeal.main_v12_0) = v0 c
          ∧ r.2.mem ((c.tc : Thread Cert.LatentNormsIdeal.nD Cert.LatentNormsIdeal.τ).loc Cert.LatentNormsIdeal.main_v12_1) = v1 c
          ∧ r.2.mem ((c.tc : Thread Cert.LatentNormsIdeal.nD Cert.LatentNormsIdeal.τ).loc Cert.LatentNormsIdeal.main_v12_2) = v2 c
          ∧ r.2.mem ((c.tc : Thread Cert.LatentNormsIdeal.nD Cert.LatentNormsIdeal.τ).loc Cert.LatentNormsIdeal.main_v12_3) = v3 c
          ∧ r.2.mem ((c.tc : Thread Cert.LatentNormsIdeal.nD Cert.LatentNormsIdeal.τ).loc Cert.LatentNormsIdeal.main_arg0) = m ((c.tc : Thread Cert.LatentNormsIdeal.nD Cert.LatentNormsIdeal.τ).loc Cert.LatentNormsIdeal.main_arg0)
          ∧ r.2.mem ((c.tc : Thread Cert.LatentNormsIdeal.nD Cert.LatentNormsIdeal.τ).loc Cert.LatentNormsIdeal.main_arg1) = m ((c.tc : Thread Cert.LatentNormsIdeal.nD Cert.LatentNormsIdeal.τ).loc Cert.LatentNormsIdeal.main_arg1)
          ∧ r.2.mem ((c.tc : Thread Cert.LatentNormsIdeal.nD Cert.LatentNormsIdeal.τ).loc Cert.LatentNormsIdeal.main_arg2) = m ((c.tc : Thread Cert.LatentNormsIdeal.nD Cert.LatentNormsIdeal.τ).loc Cert.LatentNormsIdeal.main_arg2)
          ∧ r.2.mem ((c.tc : Thread Cert.LatentNormsIdeal.nD Cert.LatentNormsIdeal.τ).loc Cert.LatentNormsIdeal.main_arg3) = m ((c.tc : Thread Cert.LatentNormsIdeal.nD Cert.LatentNormsIdeal.τ).loc Cert.LatentNormsIdeal.main_arg3)
          ∧ r.2.mem ((c.tc : Thread Cert.LatentNormsIdeal.nD Cert.LatentNormsIdeal.τ).loc Cert.LatentNormsIdeal.main_arg4) = m ((c.tc : Thread Cert.LatentNormsIdeal.nD Cert.LatentNormsIdeal.τ).loc Cert.LatentNormsIdeal.main_arg4)
          ∧ r.2.mem ((c.tc : Thread Cert.LatentNormsIdeal.nD Cert.LatentNormsIdeal.τ).loc Cert.LatentNormsIdeal.main_arg5) = m ((c.tc : Thread Cert.LatentNormsIdeal.nD Cert.LatentNormsIdeal.τ).loc Cert.LatentNormsIdeal.main_arg5))
      ∧ θ_run (Cert.LatentNormsRefIdeal.defs (F := Ideal)) (onTc (τ := Cert.LatentNormsRefIdeal.τ) (Cert.LatentNormsRefIdeal.main (F := Ideal))) ⟨m', fun _ => 0, g'⟩ (fun r => ∀ c : Dev Cert.LatentNormsRefIdeal.nD,
          r.2.mem ((c.tc : Thread Cert.LatentNormsRefIdeal.nD Cert.LatentNormsRefIdeal.τ).loc Cert.LatentNormsRefIdeal.main_v20) = v0 c
          ∧ r.2.mem ((c.tc : Thread Cert.LatentNormsRefIdeal.nD Cert.LatentNormsRefIdeal.τ).loc Cert.LatentNormsRefIdeal.main_v36) = v1 c
          ∧ r.2.mem ((c.tc : Thread Cert.LatentNormsRefIdeal.nD Cert.LatentNormsRefIdeal.τ).loc Cert.LatentNormsRefIdeal.main_v63) = v2 c
          ∧ r.2.mem ((c.tc : Thread Cert.LatentNormsRefIdeal.nD Cert.LatentNormsRefIdeal.τ).loc Cert.LatentNormsRefIdeal.main_v65) = v3 c
          ∧ r.2.mem ((c.tc : Thread Cert.LatentNormsRefIdeal.nD Cert.LatentNormsRefIdeal.τ).loc Cert.LatentNormsRefIdeal.main_arg0) = m' ((c.tc : Thread Cert.LatentNormsRefIdeal.nD Cert.LatentNormsRefIdeal.τ).loc Cert.LatentNormsRefIdeal.main_arg0)
          ∧ r.2.mem ((c.tc : Thread Cert.LatentNormsRefIdeal.nD Cert.LatentNormsRefIdeal.τ).loc Cert.LatentNormsRefIdeal.main_arg1) = m' ((c.tc : Thread Cert.LatentNormsRefIdeal.nD Cert.LatentNormsRefIdeal.τ).loc Cert.LatentNormsRefIdeal.main_arg1)
          ∧ r.2.mem ((c.tc : Thread Cert.LatentNormsRefIdeal.nD Cert.LatentNormsRefIdeal.τ).loc Cert.LatentNormsRefIdeal.main_arg2) = m' ((c.tc : Thread Cert.LatentNormsRefIdeal.nD Cert.LatentNormsRefIdeal.τ).loc Cert.LatentNormsRefIdeal.main_arg2)
          ∧ r.2.mem ((c.tc : Thread Cert.LatentNormsRefIdeal.nD Cert.LatentNormsRefIdeal.τ).loc Cert.LatentNormsRefIdeal.main_arg3) = m' ((c.tc : Thread Cert.LatentNormsRefIdeal.nD Cert.LatentNormsRefIdeal.τ).loc Cert.LatentNormsRefIdeal.main_arg3)
          ∧ r.2.mem ((c.tc : Thread Cert.LatentNormsRefIdeal.nD Cert.LatentNormsRefIdeal.τ).loc Cert.LatentNormsRefIdeal.main_arg4) = m' ((c.tc : Thread Cert.LatentNormsRefIdeal.nD Cert.LatentNormsRefIdeal.τ).loc Cert.LatentNormsRefIdeal.main_arg4)
          ∧ r.2.mem ((c.tc : Thread Cert.LatentNormsRefIdeal.nD Cert.LatentNormsRefIdeal.τ).loc Cert.LatentNormsRefIdeal.main_arg5) = m' ((c.tc : Thread Cert.LatentNormsRefIdeal.nD Cert.LatentNormsRefIdeal.τ).loc Cert.LatentNormsRefIdeal.main_arg5))

def preserves_Band_BandIdeal : Prop :=
  True

def algebraic_BandIdeal_BandRefIdeal [hBandIdeal : Cert.BandIdeal.Facts] [hBandRefIdeal : Cert.BandRefIdeal.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)) →
    ∃ (v0 : (c : Dev Cert.BandIdeal.nD) → Buf (Elt Ideal) ((c.tc : Thread Cert.BandIdeal.nD Cert.BandIdeal.τ).loc Cert.BandIdeal.main_v29)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v29) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v36) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0))

def Claim : Prop :=
  ∃ (hKernel : Cert.Kernel.Facts) (hKernelIdeal : Cert.KernelIdeal.Facts) (hReferenceIdeal : Cert.ReferenceIdeal.Facts) (hOddGate : Cert.OddGate.Facts) (hOddGateIdeal : Cert.OddGateIdeal.Facts) (hOddGateRefIdeal : Cert.OddGateRefIdeal.Facts) (hOddLatent : Cert.OddLatent.Facts) (hOddLatentIdeal : Cert.OddLatentIdeal.Facts) (hOddLatentRefIdeal : Cert.OddLatentRefIdeal.Facts) (hPle : Cert.Ple.Facts) (hPleIdeal : Cert.PleIdeal.Facts) (hPleRefIdeal : Cert.PleRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hFinal : Cert.Final.Facts) (hFinalIdeal : Cert.FinalIdeal.Facts) (hFinalRefIdeal : Cert.FinalRefIdeal.Facts) (hSwa : Cert.Swa.Facts) (hSwaIdeal : Cert.SwaIdeal.Facts) (hSwaRefIdeal : Cert.SwaRefIdeal.Facts) (hEvenGate : Cert.EvenGate.Facts) (hEvenGateIdeal : Cert.EvenGateIdeal.Facts) (hEvenGateRefIdeal : Cert.EvenGateRefIdeal.Facts) (hOddIndex : Cert.OddIndex.Facts) (hOddIndexIdeal : Cert.OddIndexIdeal.Facts) (hOddIndexRefIdeal : Cert.OddIndexRefIdeal.Facts) (hQUp : Cert.QUp.Facts) (hQUpIdeal : Cert.QUpIdeal.Facts) (hQUpRefIdeal : Cert.QUpRefIdeal.Facts) (hQIdxUp : Cert.QIdxUp.Facts) (hQIdxUpIdeal : Cert.QIdxUpIdeal.Facts) (hQIdxUpRefIdeal : Cert.QIdxUpRefIdeal.Facts) (hNorm : Cert.Norm.Facts) (hNormIdeal : Cert.NormIdeal.Facts) (hNormRefIdeal : Cert.NormRefIdeal.Facts) (hLatentNorms : Cert.LatentNorms.Facts) (hLatentNormsIdeal : Cert.LatentNormsIdeal.Facts) (hLatentNormsRefIdeal : Cert.LatentNormsRefIdeal.Facts) (hBand : Cert.Band.Facts) (hBandIdeal : Cert.BandIdeal.Facts) (hBandRefIdeal : Cert.BandRefIdeal.Facts) (hPre_swa_finite : Cert.Pre_swa_finite.Facts),
    quiescent_Kernel (hKernel := hKernel)
    ∧ quiescent_KernelIdeal (hKernelIdeal := hKernelIdeal)
    ∧ quiescent_ReferenceIdeal (hReferenceIdeal := hReferenceIdeal)
    ∧ quiescent_OddGate (hOddGate := hOddGate)
    ∧ quiescent_OddGateIdeal (hOddGateIdeal := hOddGateIdeal)
    ∧ quiescent_OddGateRefIdeal (hOddGateRefIdeal := hOddGateRefIdeal)
    ∧ quiescent_OddLatent (hOddLatent := hOddLatent)
    ∧ quiescent_OddLatentIdeal (hOddLatentIdeal := hOddLatentIdeal)
    ∧ quiescent_OddLatentRefIdeal (hOddLatentRefIdeal := hOddLatentRefIdeal)
    ∧ quiescent_Ple (hPle := hPle)
    ∧ quiescent_PleIdeal (hPleIdeal := hPleIdeal)
    ∧ quiescent_PleRefIdeal (hPleRefIdeal := hPleRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_Final (hFinal := hFinal)
    ∧ quiescent_FinalIdeal (hFinalIdeal := hFinalIdeal)
    ∧ quiescent_FinalRefIdeal (hFinalRefIdeal := hFinalRefIdeal)
    ∧ quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_EvenGate (hEvenGate := hEvenGate)
    ∧ quiescent_EvenGateIdeal (hEvenGateIdeal := hEvenGateIdeal)
    ∧ quiescent_EvenGateRefIdeal (hEvenGateRefIdeal := hEvenGateRefIdeal)
    ∧ quiescent_OddIndex (hOddIndex := hOddIndex)
    ∧ quiescent_OddIndexIdeal (hOddIndexIdeal := hOddIndexIdeal)
    ∧ quiescent_OddIndexRefIdeal (hOddIndexRefIdeal := hOddIndexRefIdeal)
    ∧ quiescent_QUp (hQUp := hQUp)
    ∧ quiescent_QUpIdeal (hQUpIdeal := hQUpIdeal)
    ∧ quiescent_QUpRefIdeal (hQUpRefIdeal := hQUpRefIdeal)
    ∧ quiescent_QIdxUp (hQIdxUp := hQIdxUp)
    ∧ quiescent_QIdxUpIdeal (hQIdxUpIdeal := hQIdxUpIdeal)
    ∧ quiescent_QIdxUpRefIdeal (hQIdxUpRefIdeal := hQIdxUpRefIdeal)
    ∧ quiescent_Norm (hNorm := hNorm)
    ∧ quiescent_NormIdeal (hNormIdeal := hNormIdeal)
    ∧ quiescent_NormRefIdeal (hNormRefIdeal := hNormRefIdeal)
    ∧ quiescent_LatentNorms (hLatentNorms := hLatentNorms)
    ∧ quiescent_LatentNormsIdeal (hLatentNormsIdeal := hLatentNormsIdeal)
    ∧ quiescent_LatentNormsRefIdeal (hLatentNormsRefIdeal := hLatentNormsRefIdeal)
    ∧ quiescent_Band (hBand := hBand)
    ∧ quiescent_BandIdeal (hBandIdeal := hBandIdeal)
    ∧ quiescent_BandRefIdeal (hBandRefIdeal := hBandRefIdeal)
    ∧ preserves_Kernel_KernelIdeal
    ∧ algebraic_KernelIdeal_ReferenceIdeal (hKernelIdeal := hKernelIdeal) (hReferenceIdeal := hReferenceIdeal)
    ∧ preserves_OddGate_OddGateIdeal
    ∧ algebraic_OddGateIdeal_OddGateRefIdeal (hOddGateIdeal := hOddGateIdeal) (hOddGateRefIdeal := hOddGateRefIdeal)
    ∧ preserves_OddLatent_OddLatentIdeal
    ∧ algebraic_OddLatentIdeal_OddLatentRefIdeal (hOddLatentIdeal := hOddLatentIdeal) (hOddLatentRefIdeal := hOddLatentRefIdeal)
    ∧ preserves_Ple_PleIdeal
    ∧ algebraic_PleIdeal_PleRefIdeal (hPleIdeal := hPleIdeal) (hPleRefIdeal := hPleRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_Final_FinalIdeal
    ∧ algebraic_FinalIdeal_FinalRefIdeal (hFinalIdeal := hFinalIdeal) (hFinalRefIdeal := hFinalRefIdeal)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_EvenGate_EvenGateIdeal
    ∧ algebraic_EvenGateIdeal_EvenGateRefIdeal (hEvenGateIdeal := hEvenGateIdeal) (hEvenGateRefIdeal := hEvenGateRefIdeal)
    ∧ preserves_OddIndex_OddIndexIdeal
    ∧ algebraic_OddIndexIdeal_OddIndexRefIdeal (hOddIndexIdeal := hOddIndexIdeal) (hOddIndexRefIdeal := hOddIndexRefIdeal)
    ∧ preserves_QUp_QUpIdeal
    ∧ algebraic_QUpIdeal_QUpRefIdeal (hQUpIdeal := hQUpIdeal) (hQUpRefIdeal := hQUpRefIdeal)
    ∧ preserves_QIdxUp_QIdxUpIdeal
    ∧ algebraic_QIdxUpIdeal_QIdxUpRefIdeal (hQIdxUpIdeal := hQIdxUpIdeal) (hQIdxUpRefIdeal := hQIdxUpRefIdeal)
    ∧ preserves_Norm_NormIdeal
    ∧ algebraic_NormIdeal_NormRefIdeal (hNormIdeal := hNormIdeal) (hNormRefIdeal := hNormRefIdeal)
    ∧ preserves_LatentNorms_LatentNormsIdeal
    ∧ algebraic_LatentNormsIdeal_LatentNormsRefIdeal (hLatentNormsIdeal := hLatentNormsIdeal) (hLatentNormsRefIdeal := hLatentNormsRefIdeal)
    ∧ preserves_Band_BandIdeal
    ∧ algebraic_BandIdeal_BandRefIdeal (hBandIdeal := hBandIdeal) (hBandRefIdeal := hBandRefIdeal)
-- ==== Pre_swa_finite.lean ====
abbrev S8192x12800 : Shape := ⟨2, ![8192, 12800]⟩
abbrev S32 : Shape := ⟨1, ![32]⟩
abbrev S32x128x256 : Shape := ⟨3, ![32, 128, 256]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S_ : Shape := ⟨0, ![]⟩
abbrev S8192x2048 : Shape := ⟨2, ![8192, 2048]⟩
abbrev S8192x256 : Shape := ⟨2, ![8192, 256]⟩

class Facts : Prop where
  bcast_S256_S1x256_1 : S256.BroadcastsInDim S1x256 (![1] : Fin 1 → Fin S1x256.rank)
  bcast_S128_S128x1_0 : S128.BroadcastsInDim S128x1 (![0] : Fin 1 → Fin S128x1.rank)
  bcast_S1x256_S128x256_0_1 : S1x256.BroadcastsInDim S128x256 (![0, 1] : Fin 2 → Fin S128x256.rank)
  bcast_S128x1_S128x256_0_1 : S128x1.BroadcastsInDim S128x256 (![0, 1] : Fin 2 → Fin S128x256.rank)
  bcast_S_S128x256 : S_.BroadcastsInDim S128x256 (![] : Fin 0 → Fin S128x256.rank)
  bcast_S128x256_S32x128x256_1_2 : S128x256.BroadcastsInDim S32x128x256 (![1, 2] : Fin 2 → Fin S32x128x256.rank)
  bcast_S_S32x128x256 : S_.BroadcastsInDim S32x128x256 (![] : Fin 0 → Fin S32x128x256.rank)
  slices_S8192x12800_S8192x2048_0_8192 : S8192x12800.Slices ![0, 8192] S8192x2048
  bitsLt_bf16_f32 : FTy.bits .bf16 < FTy.bits .f32
  slices_S8192x12800_S8192x256_0_12288 : S8192x12800.Slices ![0, 12288] S8192x256
  bcast_S_S8192x2048 : S_.BroadcastsInDim S8192x2048 (![] : Fin 0 → Fin S8192x2048.rank)
  bcast_S_S8192x256 : S_.BroadcastsInDim S8192x256 (![] : Fin 0 → Fin S8192x256.rank)
  bcast_S_S32 : S_.BroadcastsInDim S32 (![] : Fin 0 → Fin S32.rank)

variable [Facts]

def fn_where {F : FTy → Type} [FloatOps F] (arg0 : IVec S128x256 1) (arg1 : FVec F S32x128x256 .f32) (arg2 : FVec F S_ .f32) : FVec F S32x128x256 .f32 :=
  let v0 : FVec F S_ .f32 := id arg2
  let v1 : IVec S32x128x256 1 := broadcastInDim S32x128x256 ![1, 2] bcast_S128x256_S32x128x256_1_2 arg0
  let v2 : FVec F S32x128x256 .f32 := broadcastInDim S32x128x256 ![] bcast_S_S32x128x256 v0
  let v3 : FVec F S32x128x256 .f32 := select v1 arg1 v2
  v3

def fn_part1 {F : FTy → Type} [FloatOps F] (main_arg1 : FVec F S32 .f32) (main_v12 : FVec F S32x128x256 .f32) (main_v16 : FVec F S8192x256 .f32) (main_v19 : IVec S8192x2048 1) : IVec S8192x2048 1 × IVec S8192x256 1 × IVec S32 1 × IVec S32x128x256 1 :=
  let main_v20 : FVec F S8192x256 .f32 := Host.absf main_v16
  let main_cst_2 : FVec F S_ .f32 := constant S_ .f32 0x7F800000#32
  let main_v21 : FVec F S8192x256 .f32 := broadcastInDim S8192x256 ![] bcast_S_S8192x256 main_cst_2
  let main_v22 : IVec S8192x256 1 := cmpf .olt main_v20 main_v21
  let main_v23 : FVec F S32 .f32 := Host.absf main_arg1
  let main_cst_3 : FVec F S_ .f32 := constant S_ .f32 0x7F800000#32
  let main_v24 : FVec F S32 .f32 := broadcastInDim S32 ![] bcast_S_S32 main_cst_3
  let main_v25 : IVec S32 1 := cmpf .olt main_v23 main_v24
  let main_v26 : FVec F S32x128x256 .f32 := Host.absf main_v12
  let main_cst_4 : FVec F S_ .f32 := constant S_ .f32 0x7F800000#32
  let main_v27 : FVec F S32x128x256 .f32 := broadcastInDim S32x128x256 ![] bcast_S_S32x128x256 main_cst_4
  let main_v28 : IVec S32x128x256 1 := cmpf .olt main_v26 main_v27
  (main_v19, main_v22, main_v25, main_v28)

def fn {F : FTy → Type} [FloatOps F] (main_arg0 : FVec F S8192x12800 .bf16) (main_arg1 : FVec F S32 .f32) (main_arg2 : FVec F S32x128x256 .f32) : IVec S8192x2048 1 × IVec S8192x256 1 × IVec S32 1 × IVec S32x128x256 1 :=
  let main_v0 : IVec S256 32 := iotaInDim S256 32 0
  let main_v1 : IVec S1x256 32 := broadcastInDim S1x256 ![1] bcast_S256_S1x256_1 main_v0
  let main_v2 : IVec S128 32 := iotaInDim S128 32 0
  let main_v3 : IVec S128x1 32 := broadcastInDim S128x1 ![0] bcast_S128_S128x1_0 main_v2
  let main_v4 : IVec S128x256 32 := broadcastInDim S128x256 ![0, 1] bcast_S1x256_S128x256_0_1 main_v1
  let main_v5 : IVec S128x256 32 := broadcastInDim S128x256 ![0, 1] bcast_S128x1_S128x256_0_1 main_v3
  let main_v6 : IVec S128x256 32 := subi main_v4 main_v5
  let main_c : IVec S_ 32 := constantI S_ 32 1#32
  let main_v7 : IVec S128x256 32 := broadcastInDim S128x256 ![] bcast_S_S128x256 main_c
  let main_v8 : IVec S128x256 1 := cmpi .sge main_v6 main_v7
  let main_c_0 : IVec S_ 32 := constantI S_ 32 128#32
  let main_v9 : IVec S128x256 32 := broadcastInDim S128x256 ![] bcast_S_S128x256 main_c_0
  let main_v10 : IVec S128x256 1 := cmpi .sle main_v6 main_v9
  let main_v11 : IVec S128x256 1 := andi main_v8 main_v10
  let main_cst : FVec F S_ .f32 := constant S_ .f32 0x00000000#32
  let main_v12 : FVec F S32x128x256 .f32 := fn_where (F := F) main_v11 main_arg2 main_cst
  let main_v13 : FVec F S8192x2048 .bf16 := (extractStridedSlice S8192x2048 ![0, 8192] · slices_S8192x12800_S8192x2048_0_8192) main_arg0
  let main_v14 : FVec F S8192x2048 .f32 := (extf .f32 · bitsLt_bf16_f32) main_v13
  let main_v15 : FVec F S8192x256 .bf16 := (extractStridedSlice S8192x256 ![0, 12288] · slices_S8192x12800_S8192x256_0_12288) main_arg0
  let main_v16 : FVec F S8192x256 .f32 := (extf .f32 · bitsLt_bf16_f32) main_v15
  let main_v17 : FVec F S8192x2048 .f32 := Host.absf main_v14
  let main_cst_1 : FVec F S_ .f32 := constant S_ .f32 0x7F800000#32
  let main_v18 : FVec F S8192x2048 .f32 := broadcastInDim S8192x2048 ![] bcast_S_S8192x2048 main_cst_1
  let main_v19 : IVec S8192x2048 1 := cmpf .olt main_v17 main_v18
  fn_part1 (F := F) main_arg1 main_v12 main_v16 main_v19
-- ==== Kernel.lean ====
abbrev S8192x4096 : Shape := ⟨2, ![8192, 4096]⟩
abbrev S2x4096x12816 : Shape := ⟨3, ![2, 4096, 12816]⟩
abbrev S2x12816x4096 : Shape := ⟨3, ![2, 12816, 4096]⟩
abbrev S8192x12800 : Shape := ⟨2, ![8192, 12800]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x12816, .f32⟩
  | .hbm, ⟨2, _⟩ => ⟨S2x12816x4096, .f32⟩
  | .hbm, ⟨3, _⟩ => ⟨S8192x12800, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 8], ![false, false]⟩

def k0_mult1 (i : grid0.Coords) : BitVec 32 :=
  let c0_i32_0 : BitVec 32 := 0#32
  let arg0 : BitVec 32 := BitVec.ofNat 32 (i 0).val
  let c512_i32 : BitVec 32 := 512#32
  let v2 : BitVec 32 := Scalar.muli arg0 c512_i32
  let v3 : BitVec 32 := Scalar.addi c0_i32_0 v2
  let c12_i32 : BitVec 32 := 12#32
  let v0 : BitVec 1 := Scalar.cmpi .sge arg0 c12_i32
  let c16_i32 : BitVec 32 := 16#32
  let c0_i32 : BitVec 32 := 0#32
  let v1 : BitVec 32 := Scalar.select v0 c16_i32 c0_i32
  let v4 : BitVec 32 := Scalar.addi v3 v1
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 1 := Scalar.cmpi .sge arg0 c12_i32
  let c16_i32 : BitVec 32 := 16#32
  let c0_i32 : BitVec 32 := 0#32
  let v1 : BitVec 32 := Scalar.select v0 c16_i32 c0_i32
  let c512_i32 : BitVec 32 := 512#32
  let v2 : BitVec 32 := Scalar.muli arg0 c512_i32
  let c0_i32_0 : BitVec 32 := 0#32
  let v3 : BitVec 32 := Scalar.addi c0_i32_0 v2
  let v4 : BitVec 32 := Scalar.addi v3 v1
  let v5 : BitVec 32 := v4
  let c0_i32_1 : BitVec 32 := 0#32
  let c0_i32_2 : BitVec 32 := 0#32
  let c0_i32_3 : BitVec 32 := 0#32
  ![c0_i32_1.toNat, v5.toNat, c0_i32_2.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 1 := Scalar.cmpi .eq arg0 c20_i32
  let c20_i32_0 : BitVec 32 := 20#32
  let v1 : BitVec 1 := Scalar.cmpi .sgt arg0 c20_i32_0
  let c1_i32 : BitVec 32 := 1#32
  let v2 : BitVec 32 := Scalar.subi arg0 c1_i32
  let v3 : BitVec 32 := Scalar.select v1 v2 arg0
  let c24_i32 : BitVec 32 := 24#32
  let v4 : BitVec 32 := Scalar.select v0 c24_i32 v3
  let c0_i32 : BitVec 32 := 0#32
  ![arg1.toNat, v4.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "fox_scale" => some (((Real.sqrt 128)⁻¹ * (Real.log 2)⁻¹ : ℝ) : EReal)
  | "swa_scale" => some ((8⁻¹ * (Real.log 2)⁻¹ : ℝ) : EReal)
  | _ => none
-- ==== ReferenceIdeal.lean ====
abbrev S8192x4096 : Shape := ⟨2, ![8192, 4096]⟩
abbrev S2x4096x12816 : Shape := ⟨3, ![2, 4096, 12816]⟩
abbrev S1x4096x12816 : Shape := ⟨3, ![1, 4096, 12816]⟩
abbrev S4096x12816 : Shape := ⟨2, ![4096, 12816]⟩
abbrev S8192x12816 : Shape := ⟨2, ![8192, 12816]⟩
abbrev S8192x2048 : Shape := ⟨2, ![8192, 2048]⟩
abbrev S8192x16 : Shape := ⟨2, ![8192, 16]⟩
abbrev S8192x256 : Shape := ⟨2, ![8192, 256]⟩
abbrev S_ : Shape := ⟨0, ![]⟩
abbrev S8192x12800 : Shape := ⟨2, ![8192, 12800]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x12816, .f32⟩
  | .hbm, ⟨2, _⟩ => ⟨S8192x4096, .f32⟩
  | .hbm, ⟨3, _⟩ => ⟨S1x4096x12816, .f32⟩
  | .hbm, ⟨4, _⟩ => ⟨S4096x12816, .f32⟩
  | .hbm, ⟨5, _⟩ => ⟨S8192x12816, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x16, .f32⟩
  | .hbm, ⟨10, _⟩ => ⟨S8192x2048, .f32⟩
  | .hbm, ⟨11, _⟩ => ⟨S8192x2048, .f32⟩
  | .hbm, ⟨12, _⟩ => ⟨S8192x256, .f32⟩
  | .hbm, ⟨13, _⟩ => ⟨S8192x256, .f32⟩
  | .hbm, ⟨14, _⟩ => ⟨S8192x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x12800, .f32⟩
  | .hbm, ⟨29, _⟩ => ⟨S8192x12800, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== OddGate.lean ====
abbrev S8192x4096 : Shape := ⟨2, ![8192, 4096]⟩
abbrev S2x4096x5728 : Shape := ⟨3, ![2, 4096, 5728]⟩
abbrev S2x5728x4096 : Shape := ⟨3, ![2, 5728, 4096]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x5728, .f32⟩
  | .hbm, ⟨2, _⟩ => ⟨S2x5728x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c1632_i32 : BitVec 32 := 1632#32
  let arg0 : BitVec 32 := BitVec.ofNat 32 (i 0).val
  let c512_i32 : BitVec 32 := 512#32
  let v0 : BitVec 32 := Scalar.muli arg0 c512_i32
  let v1 : BitVec 32 := Scalar.addi c1632_i32 v0
  let c0_i32 : BitVec 32 := 0#32
  let v2 : BitVec 32 := Scalar.addi v1 c0_i32
  v2
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1632_i32 : BitVec 32 := 1632#32
  let v1 : BitVec 32 := Scalar.addi c1632_i32 v0
  let c0_i32 : BitVec 32 := 0#32
  let v2 : BitVec 32 := Scalar.addi v1 c0_i32
  let v3 : BitVec 32 := v2
  let c0_i32_0 : BitVec 32 := 0#32
  let c0_i32_1 : BitVec 32 := 0#32
  let c0_i32_2 : BitVec 32 := 0#32
  ![c0_i32_0.toNat, v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddGateRefIdeal.lean ====
abbrev S8192x4096 : Shape := ⟨2, ![8192, 4096]⟩
abbrev S2x4096x5728 : Shape := ⟨3, ![2, 4096, 5728]⟩
abbrev S1x4096x5728 : Shape := ⟨3, ![1, 4096, 5728]⟩
abbrev S4096x5728 : Shape := ⟨2, ![4096, 5728]⟩
abbrev S8192x5728 : Shape := ⟨2, ![8192, 5728]⟩
abbrev S8192x1024 : Shape := ⟨2, ![8192, 1024]⟩
abbrev S8192x512 : Shape := ⟨2, ![8192, 512]⟩
abbrev S8192x64 : Shape := ⟨2, ![8192, 64]⟩
abbrev S8192x32 : Shape := ⟨2, ![8192, 32]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x5728, .f32⟩
  | .hbm, ⟨2, _⟩ => ⟨S8192x4096, .f32⟩
  | .hbm, ⟨3, _⟩ => ⟨S1x4096x5728, .f32⟩
  | .hbm, ⟨4, _⟩ => ⟨S4096x5728, .f32⟩
  | .hbm, ⟨5, _⟩ => ⟨S8192x5728, .f32⟩
  | .hbm, ⟨6, _⟩ => ⟨S8192x1024, .f32⟩
  | .hbm, ⟨7, _⟩ => ⟨S8192x512, .f32⟩
  | .hbm, ⟨8, _⟩ => ⟨S8192x64, .f32⟩
  | .hbm, ⟨9, _⟩ => ⟨S8192x32, .f32⟩
  | .hbm, ⟨10, _⟩ => ⟨S8192x4096, .f32⟩
  | .hbm, ⟨11, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== OddLatent.lean ====
abbrev S8192x4096 : Shape := ⟨2, ![8192, 4096]⟩
abbrev S2x4096x5728 : Shape := ⟨3, ![2, 4096, 5728]⟩
abbrev S2x5728x4096 : Shape := ⟨3, ![2, 5728, 4096]⟩
abbrev S8192x1536 : Shape := ⟨2, ![8192, 1536]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x5728, .f32⟩
  | .hbm, ⟨2, _⟩ => ⟨S2x5728x4096, .f32⟩
  | .hbm, ⟨3, _⟩ => ⟨S8192x1536, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let c0_i32 : BitVec 32 := 0#32
  let arg0 : BitVec 32 := BitVec.ofNat 32 (i 0).val
  let c512_i32 : BitVec 32 := 512#32
  let v0 : BitVec 32 := Scalar.muli arg0 c512_i32
  let v1 : BitVec 32 := Scalar.addi c0_i32 v0
  let c0_i32_0 : BitVec 32 := 0#32
  let v2 : BitVec 32 := Scalar.addi v1 c0_i32_0
  v2
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c0_i32 : BitVec 32 := 0#32
  let v1 : BitVec 32 := Scalar.addi c0_i32 v0
  let c0_i32_0 : BitVec 32 := 0#32
  let v2 : BitVec 32 := Scalar.addi v1 c0_i32_0
  let v3 : BitVec 32 := v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddLatentRefIdeal.lean ====
abbrev S8192x4096 : Shape := ⟨2, ![8192, 4096]⟩
abbrev S2x4096x5728 : Shape := ⟨3, ![2, 4096, 5728]⟩
abbrev S1x4096x5728 : Shape := ⟨3, ![1, 4096, 5728]⟩
abbrev S4096x5728 : Shape := ⟨2, ![4096, 5728]⟩
abbrev S8192x5728 : Shape := ⟨2, ![8192, 5728]⟩
abbrev S8192x1024 : Shape := ⟨2, ![8192, 1024]⟩
abbrev S8192x512 : Shape := ⟨2, ![8192, 512]⟩
abbrev S8192x64 : Shape := ⟨2, ![8192, 64]⟩
abbrev S8192x32 : Shape := ⟨2, ![8192, 32]⟩
abbrev S8192x1536 : Shape := ⟨2, ![8192, 1536]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x5728, .f32⟩
  | .hbm, ⟨2, _⟩ => ⟨S8192x4096, .f32⟩
  | .hbm, ⟨3, _⟩ => ⟨S1x4096x5728, .f32⟩
  | .hbm, ⟨4, _⟩ => ⟨S4096x5728, .f32⟩
  | .hbm, ⟨5, _⟩ => ⟨S8192x5728, .f32⟩
  | .hbm, ⟨6, _⟩ => ⟨S8192x1024, .f32⟩
  | .hbm, ⟨7, _⟩ => ⟨S8192x512, .f32⟩
  | .hbm, ⟨8, _⟩ => ⟨S8192x64, .f32⟩
  | .hbm, ⟨9, _⟩ => ⟨S8192x32, .f32⟩
  | .hbm, ⟨10, _⟩ => ⟨S8192x4096, .f32⟩
  | .hbm, ⟨11, _⟩ => ⟨S8192x1536, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Ple.lean ====
abbrev S8192x4096 : Shape := ⟨2, ![8192, 4096]⟩
abbrev S4x4096x4096 : Shape := ⟨3, ![4, 4096, 4096]⟩
abbrev S4x2x4096x256 : Shape := ⟨4, ![4, 2, 4096, 256]⟩
abbrev S4x256x4096 : Shape := ⟨3, ![4, 256, 4096]⟩
abbrev S4x8192x256 : Shape := ⟨3, ![4, 8192, 256]⟩
abbrev S1024x4096 : Shape := ⟨2, ![1024, 4096]⟩
abbrev S1x4096x512 : Shape := ⟨3, ![1, 4096, 512]⟩
abbrev S1x1024x256 : Shape := ⟨3, ![1, 1024, 256]⟩
abbrev S1x256x512 : Shape := ⟨3, ![1, 256, 512]⟩
abbrev S1024x512 : Shape := ⟨2, ![1024, 512]⟩
abbrev S4096x512 : Shape := ⟨2, ![4096, 512]⟩
abbrev S256x512 : Shape := ⟨2, ![256, 512]⟩
abbrev S1024x256 : Shape := ⟨2, ![1024, 256]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S4x2x4096x256, .f32⟩
  | .hbm, ⟨3, _⟩ => ⟨S4x256x4096, .f32⟩
  | .hbm, ⟨4, _⟩ => ⟨S8192x4096, .f32⟩
  | .hbm, ⟨5, _⟩ => ⟨S4x8192x256, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x1024x256, .f32⟩
  | .local _ .vmem, ⟨5, _⟩ => ⟨S1x1024x256, .f32⟩
  | .local _ .vmem, ⟨6, _⟩ => ⟨S1x256x512, .f32⟩
  | .local _ .vmem, ⟨7, _⟩ => ⟨S1x256x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S4096x512, .bf16⟩
  | .local _ .vmem, ⟨13, _⟩ => ⟨S256x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S8192x4096 : Shape := ⟨2, ![8192, 4096]⟩
abbrev S4x4096x4096 : Shape := ⟨3, ![4, 4096, 4096]⟩
abbrev S4x2x4096x256 : Shape := ⟨4, ![4, 2, 4096, 256]⟩
abbrev S4x256x4096 : Shape := ⟨3, ![4, 256, 4096]⟩
abbrev S1x4096x4096 : Shape := ⟨3, ![1, 4096, 4096]⟩
abbrev S4096x4096 : Shape := ⟨2, ![4096, 4096]⟩
abbrev S_ : Shape := ⟨0, ![]⟩
abbrev S1x2x4096x256 : Shape := ⟨4, ![1, 2, 4096, 256]⟩
abbrev S2x4096x256 : Shape := ⟨3, ![2, 4096, 256]⟩
abbrev S8192x256 : Shape := ⟨2, ![8192, 256]⟩
abbrev S1x256x4096 : Shape := ⟨3, ![1, 256, 4096]⟩
abbrev S256x4096 : Shape := ⟨2, ![256, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S4x2x4096x256, .f32⟩
  | .hbm, ⟨3, _⟩ => ⟨S4x256x4096, .f32⟩
  | .hbm, ⟨4, _⟩ => ⟨S8192x4096, .f32⟩
  | .hbm, ⟨5, _⟩ => ⟨S8192x4096, .f32⟩
  | .hbm, ⟨6, _⟩ => ⟨S1x4096x4096, .f32⟩
  | .hbm, ⟨7, _⟩ => ⟨S4096x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S1x2x4096x256, .f32⟩
  | .hbm, ⟨18, _⟩ => ⟨S2x4096x256, .f32⟩
  | .hbm, ⟨19, _⟩ => ⟨S8192x256, .f32⟩
  | .hbm, ⟨20, _⟩ => ⟨S1x256x4096, .f32⟩
  | .hbm, ⟨21, _⟩ => ⟨S256x4096, .f32⟩
  | .hbm, ⟨22, _⟩ => ⟨S8192x4096, .f32⟩
  | .hbm, ⟨23, _⟩ => ⟨S8192x4096, .f32⟩
  | .hbm, ⟨24, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== EvenOut.lean ====
abbrev S8192x2048 : Shape := ⟨2, ![8192, 2048]⟩
abbrev S2x4096x4096 : Shape := ⟨3, ![2, 4096, 4096]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x4096x4096, .f32⟩
  | .hbm, ⟨3, _⟩ => ⟨S8192x4096, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S2048x512, .bf16⟩
  | .local _ .vmem, ⟨13, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c1_i32 : BitVec 32 := 1#32
  let c0_i32_1 : BitVec 32 := 0#32
  ![c0_i32_0.toNat, c1_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EvenOutRefIdeal.lean ====
abbrev S8192x2048 : Shape := ⟨2, ![8192, 2048]⟩
abbrev S2x4096x4096 : Shape := ⟨3, ![2, 4096, 4096]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x4096x4096, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x4096, .f32⟩
  | .hbm, ⟨7, _⟩ => ⟨S1x4096x4096, .f32⟩
  | .hbm, ⟨8, _⟩ => ⟨S4096x4096, .f32⟩
  | .hbm, ⟨9, _⟩ => ⟨S8192x4096, .f32⟩
  | .hbm, ⟨10, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OddOut.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddOutRefIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | .hbm, ⟨7, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Final.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Swa.lean ====
abbrev S8192x12800 : Shape := ⟨2, ![8192, 12800]⟩
abbrev S32 : Shape := ⟨1, ![32]⟩
abbrev S32x128x256 : Shape := ⟨3, ![32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S_ : Shape := ⟨0, ![]⟩
abbrev S1x128x256 : Shape := ⟨3, ![1, 128, 256]⟩
abbrev S2x128x256 : Shape := ⟨3, ![2, 128, 256]⟩
abbrev S2x1x128x256 : Shape := ⟨4, ![2, 1, 128, 256]⟩
abbrev S1x32x128x256 : Shape := ⟨4, ![1, 32, 128, 256]⟩
abbrev S2x32x128x256 : Shape := ⟨4, ![2, 32, 128, 256]⟩
abbrev S32x128 : Shape := ⟨2, ![32, 128]⟩
abbrev S4096 : Shape := ⟨1, ![4096]⟩
abbrev S4096x1 : Shape := ⟨2, ![4096, 1]⟩
abbrev S4096x128 : Shape := ⟨2, ![4096, 128]⟩
abbrev S8192x2048 : Shape := ⟨2, ![8192, 2048]⟩
abbrev S128x2048 : Shape := ⟨2, ![128, 2048]⟩
abbrev S128x64 : Shape := ⟨2, ![128, 64]⟩
abbrev S256x64 : Shape := ⟨2, ![256, 64]⟩
abbrev S1024x64 : Shape := ⟨2, ![1024, 64]⟩
abbrev S1024x256 : Shape := ⟨2, ![1024, 256]⟩
abbrev S1x8x128x256 : Shape := ⟨4, ![1, 8, 128, 256]⟩
abbrev S8x128x256 : Shape := ⟨3, ![8, 128, 256]⟩
abbrev S1024x128 : Shape := ⟨2, ![1024, 128]⟩
abbrev S1024 : Shape := ⟨1, ![1024]⟩
abbrev S1024x1 : Shape := ⟨2, ![1024, 1]⟩

abbrev nBuf : Space → Nat
  | .hbm => 49
  | .vmem => 17
  | .smem => 0
  | _ => 0

abbrev bufTy : (tb : Table) → Fin (tcTables nBuf tb) → BufTy
  | .hbm, ⟨0, _⟩ => ⟨S8192x12800, .bf16⟩
  | .hbm, ⟨1, _⟩ => ⟨S32, .f32⟩
  | .hbm, ⟨2, _⟩ => ⟨S32x128x256, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S128x256, .i32⟩
  | .hbm, ⟨8, _⟩ => ⟨S128x256, .i32⟩
  | .hbm, ⟨9, _⟩ => ⟨S128x256, .i32⟩
  | .hbm, ⟨10, _⟩ => ⟨S_, .i32⟩
  | .hbm, ⟨11, _⟩ => ⟨S128x256, .i32⟩
  | .hbm, ⟨12, _⟩ => ⟨S128x256, .i1⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S_, .i32⟩
  | .hbm, ⟨21, _⟩ => ⟨S1x256, .i32⟩
  | .hbm, ⟨22, _⟩ => ⟨S1x256, .i1⟩
  | .hbm, ⟨23, _⟩ => ⟨S128x256, .i1⟩
  | .hbm, ⟨24, _⟩ => ⟨S128x256, .i1⟩
  | .hbm, ⟨25, _⟩ => ⟨S1x128x256, .i1⟩
  | .hbm, ⟨26, _⟩ => ⟨S1x128x256, .i1⟩
  | .hbm, ⟨27, _⟩ => ⟨S2x128x256, .i1⟩
  | .hbm, ⟨28, _⟩ => ⟨S2x1x128x256, .i1⟩
  | .hbm, ⟨29, _⟩ => ⟨S1x32x128x256, .f32⟩
  | .hbm, ⟨30, _⟩ => ⟨S_, .f32⟩
  | .hbm, ⟨31, _⟩ => ⟨S_, .f32⟩
  | .hbm, ⟨32, _⟩ => ⟨S1x32x128x256, .f32⟩
  | .hbm, ⟨33, _⟩ => ⟨S1x32x128x256, .f32⟩
  | .hbm, ⟨34, _⟩ => ⟨S_, .f32⟩
  | .hbm, ⟨35, _⟩ => ⟨S_, .f32⟩
  | .hbm, ⟨36, _⟩ => ⟨S2x32x128x256, .i1⟩
  | .hbm, ⟨37, _⟩ => ⟨S2x32x128x256, .f32⟩
  | .hbm, ⟨38, _⟩ => ⟨S2x32x128x256, .f32⟩
  | .hbm, ⟨39, _⟩ => ⟨S2x32x128x256, .f32⟩
  | .hbm, ⟨40, _⟩ => ⟨S_, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S32x128, .f32⟩
  | .hbm, ⟨45, _⟩ => ⟨S4096, .f32⟩
  | .hbm, ⟨46, _⟩ => ⟨S4096x1, .f32⟩
  | .hbm, ⟨47, _⟩ => ⟨S4096x128, .f32⟩
  | .hbm, ⟨48, _⟩ => ⟨S8192x2048, .bf16⟩
  | .local _ .vmem, ⟨0, _⟩ => ⟨S4096x128, .f32⟩
  | .local _ .vmem, ⟨1, _⟩ => ⟨S128x2048, .bf16⟩
  | .local _ .vmem, ⟨2, _⟩ => ⟨S128x2048, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x2048, .bf16⟩
  | .local _ .vmem, ⟨12, _⟩ => ⟨S128x2048, .bf16⟩
  | .local _ .vmem, ⟨13, _⟩ => ⟨S1x32x128x256, .f32⟩
  | .local _ .vmem, ⟨14, _⟩ => ⟨S1x32x128x256, .f32⟩
  | .local _ .vmem, ⟨15, _⟩ => ⟨S128x2048, .bf16⟩
  | .local _ .vmem, ⟨16, _⟩ => ⟨S128x2048, .bf16⟩
  | _, _ => ⟨S8192x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c48_i32 : BitVec 32 := 48#32
  let c0_i32_0 : BitVec 32 := 0#32
  ![v3.toNat, c48_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c48_i32 : BitVec 32 := 48#32
  let c0_i32 : BitVec 32 := 0#32
  ![v1.toNat, c48_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c49_i32 : BitVec 32 := 49#32
  let c0_i32_0 : BitVec 32 := 0#32
  ![v3.toNat, c49_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c49_i32 : BitVec 32 := 49#32
  let c0_i32 : BitVec 32 := 0#32
  ![v1.toNat, c49_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SwaRefIdeal.lean ====
abbrev S8192x12800 : Shape := ⟨2, ![8192, 12800]⟩
abbrev S32 : Shape := ⟨1, ![32]⟩
abbrev S32x128x256 : Shape := ⟨3, ![32, 128, 256]⟩
abbrev S8192x4608 : Shape := ⟨2, ![8192, 4608]⟩
abbrev S8192x2048 : Shape := ⟨2, ![8192, 2048]⟩
abbrev S8192x256 : Shape := ⟨2, ![8192, 256]⟩
abbrev S_ : Shape := ⟨0, ![]⟩
abbrev S64x128x4x8x64 : Shape := ⟨5, ![64, 128, 4, 8, 64]⟩
abbrev S2x32x128x256 : Shape := ⟨4, ![2, 32, 128, 256]⟩
abbrev S2x33x128x256 : Shape := ⟨4, ![2, 33, 128, 256]⟩
abbrev S2x32x256x256 : Shape := ⟨4, ![2, 32, 256, 256]⟩
abbrev S64x256x4x64 : Shape := ⟨4, ![64, 256, 4, 64]⟩
abbrev S64x4x256x128x8 : Shape := ⟨5, ![64, 4, 256, 128, 8]⟩
abbrev S64x4x8x128x256 : Shape := ⟨5, ![64, 4, 8, 128, 256]⟩
abbrev S4x8x128x256 : Shape := ⟨4, ![4, 8, 128, 256]⟩
abbrev S1x4x8x128x256 : Shape := ⟨5, ![1, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S1x4x8x1x1 : Shape := ⟨5, ![1, 4, 8, 1, 1]⟩
abbrev S64x4x8x128x1 : Shape := ⟨5, ![64, 4, 8, 128, 1]⟩
abbrev S64x4x8x128x257 : Shape := ⟨5, ![64, 4, 8, 128, 257]⟩
abbrev S64x4x8x128 : Shape := ⟨4, ![64, 4, 8, 128]⟩
abbrev S64x4x64x8x128 : Shape := ⟨5, ![64, 4, 64, 8, 128]⟩

abbrev nBuf : Space → Nat
  | .hbm => 107
  | .vmem => 0
  | .smem => 0
  | _ => 0

abbrev bufTy : (tb : Table) → Fin (tcTables nBuf tb) → BufTy
  | .hbm, ⟨0, _⟩ => ⟨S8192x12800, .bf16⟩
  | .hbm, ⟨1, _⟩ => ⟨S32, .f32⟩
  | .hbm, ⟨2, _⟩ => ⟨S32x128x256, .f32⟩
  | .hbm, ⟨3, _⟩ => ⟨S8192x4608, .bf16⟩
  | .hbm, ⟨4, _⟩ => ⟨S8192x4608, .f32⟩
  | .hbm, ⟨5, _⟩ => ⟨S8192x2048, .f32⟩
  | .hbm, ⟨6, _⟩ => ⟨S8192x2048, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S64x128x4x8x64, .f32⟩
  | .hbm, ⟨14, _⟩ => ⟨S2x32x128x256, .f32⟩
  | .hbm, ⟨15, _⟩ => ⟨S_, .i32⟩
  | .hbm, ⟨16, _⟩ => ⟨S_, .f32⟩
  | .hbm, ⟨17, _⟩ => ⟨S2x33x128x256, .f32⟩
  | .hbm, ⟨18, _⟩ => ⟨S2x32x128x256, .f32⟩
  | .hbm, ⟨19, _⟩ => ⟨S2x32x256x256, .f32⟩
  | .hbm, ⟨20, _⟩ => ⟨S64x256x4x64, .f32⟩
  | .hbm, ⟨21, _⟩ => ⟨S2x32x128x256, .f32⟩
  | .hbm, ⟨22, _⟩ => ⟨S_, .i32⟩
  | .hbm, ⟨23, _⟩ => ⟨S_, .f32⟩
  | .hbm, ⟨24, _⟩ => ⟨S2x33x128x256, .f32⟩
  | .hbm, ⟨25, _⟩ => ⟨S2x32x128x256, .f32⟩
  | .hbm, ⟨26, _⟩ => ⟨S2x32x256x256, .f32⟩
  | .hbm, ⟨27, _⟩ => ⟨S64x256x4x64, .f32⟩
  | .hbm, ⟨28, _⟩ => ⟨S64x4x256x128x8, .f32⟩
  | .hbm, ⟨29, _⟩ => ⟨S64x4x8x128x256, .f32⟩
  | .hbm, ⟨30, _⟩ => ⟨S4x8x128x256, .f32⟩
  | .hbm, ⟨31, _⟩ => ⟨S1x4x8x128x256, .f32⟩
  | .hbm, ⟨32, _⟩ => ⟨S64x4x8x128x256, .f32⟩
  | .hbm, ⟨33, _⟩ => ⟨S64x4x8x128x256, .f32⟩
  | .hbm, ⟨34, _⟩ => ⟨S128, .i32⟩
  | .hbm, ⟨35, _⟩ => ⟨S128x1, .i32⟩
  | .hbm, ⟨36, _⟩ => ⟨S256, .i32⟩
  | .hbm, ⟨37, _⟩ => ⟨S1x256, .i32⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S128x256, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S128x256, .i1⟩
  | .hbm, ⟨51, _⟩ => ⟨S32, .i32⟩
  | .hbm, ⟨52, _⟩ => ⟨S32x1x1, .i32⟩
  | .hbm, ⟨53, _⟩ => ⟨S_, .i32⟩
  | .hbm, ⟨54, _⟩ => ⟨S32x1x1, .i32⟩
  | .hbm, ⟨55, _⟩ => ⟨S32x1x1, .i1⟩
  | .hbm, ⟨56, _⟩ => ⟨S1x1x256, .i32⟩
  | .hbm, ⟨57, _⟩ => ⟨S_, .i32⟩
  | .hbm, ⟨58, _⟩ => ⟨S1x1x256, .i32⟩
  | .hbm, ⟨59, _⟩ => ⟨S1x1x256, .i1⟩
  | .hbm, ⟨60, _⟩ => ⟨S32x1x256, .i1⟩
  | .hbm, ⟨61, _⟩ => ⟨S32x1x256, .i1⟩
  | .hbm, ⟨62, _⟩ => ⟨S32x1x256, .i1⟩
  | .hbm, ⟨63, _⟩ => ⟨S1x128x256, .i1⟩
  | .hbm, ⟨64, _⟩ => ⟨S32x128x256, .i1⟩
  | .hbm, ⟨65, _⟩ => ⟨S32x128x256, .i1⟩
  | .hbm, ⟨66, _⟩ => ⟨S32x128x256, .i1⟩
  | .hbm, ⟨67, _⟩ => ⟨S2x32x128x256, .i1⟩
  | .hbm, ⟨68, _⟩ => ⟨S64x128x256, .i1⟩
  | .hbm, ⟨69, _⟩ => ⟨S64x1x1x128x256, .i1⟩
  | .hbm, ⟨70, _⟩ => ⟨S_, .f32⟩
  | .hbm, ⟨71, _⟩ => ⟨S_, .f32⟩
  | .hbm, ⟨72, _⟩ => ⟨S64x4x8x128x256, .i1⟩
  | .hbm, ⟨73, _⟩ => ⟨S64x4x8x128x256, .f32⟩
  | .hbm, ⟨74, _⟩ => ⟨S64x4x8x128x256, .f32⟩
  | .hbm, ⟨75, _⟩ => ⟨S1x4x8x1x1, .f32⟩
  | .hbm, ⟨76, _⟩ => ⟨S64x4x8x128x1, .f32⟩
  | .hbm, ⟨77, _⟩ => ⟨S64x4x8x128x257, .f32⟩
  | .hbm, ⟨78, _⟩ => ⟨S_, .f32⟩
  | .hbm, ⟨79, _⟩ => ⟨S64x4x8x128, .f32⟩
  | .hbm, ⟨80, _⟩ => ⟨S_, .f32⟩
  | .hbm, ⟨81, _⟩ => ⟨S64x4x8x128, .f32⟩
  | .hbm, ⟨82, _⟩ => ⟨S64x4x8x128, .f32⟩
  | .hbm, ⟨83, _⟩ => ⟨S64x4x8x128x1, .f32⟩
  | .hbm, ⟨84, _⟩ => ⟨S64x4x8x128x257, .f32⟩
  | .hbm, ⟨85, _⟩ => ⟨S64x4x8x128x257, .f32⟩
  | .hbm, ⟨86, _⟩ => ⟨S64x4x8x128x257, .f32⟩
  | .hbm, ⟨87, _⟩ => ⟨S_, .f32⟩
  | .hbm, ⟨88, _⟩ => ⟨S64x4x8x128, .f32⟩
  | .hbm, ⟨89, _⟩ => ⟨S64x4x8x128x1, .f32⟩
  | .hbm, ⟨90, _⟩ => ⟨S64x4x8x128x257, .f32⟩
  | .hbm, ⟨91, _⟩ => ⟨S64x4x8x128x257, .f32⟩
  | .hbm, ⟨92, _⟩ => ⟨S64x4x8x128x256, .f32⟩
  | .hbm, ⟨93, _⟩ => ⟨S64x4x64x8x128, .f32⟩
  | .hbm, ⟨94, _⟩ => ⟨S64x128x4x8x64, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S_, .f32⟩
  | .hbm, ⟨99, _⟩ => ⟨S8192x2048, .f32⟩
  | .hbm, ⟨100, _⟩ => ⟨S8192x2048, .f32⟩
  | .hbm, ⟨101, _⟩ => ⟨S_, .f32⟩
  | .hbm, ⟨102, _⟩ => ⟨S8192x2048, .f32⟩
  | .hbm, ⟨103, _⟩ => ⟨S8192x2048, .f32⟩
  | .hbm, ⟨104, _⟩ => ⟨S8192x2048, .f32⟩
  | .hbm, ⟨105, _⟩ => ⟨S8192x2048, .f32⟩
  | .hbm, ⟨106, _⟩ => ⟨S8192x2048, .bf16⟩
  | _, _ => ⟨S8192x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_call1_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_2 : Ref sig .tc := ⟨.hbm, 44, rfl⟩
abbrev main_v35 : Ref sig .tc := ⟨.hbm, 45, rfl⟩
abbrev main_v36 : Ref sig .tc := ⟨.hbm, 46, rfl⟩
abbrev main_c_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call3_v0 : Ref sig .tc := ⟨.hbm, 96, rfl⟩
abbrev main_call3_v1 : Ref sig .tc := ⟨.hbm, 97, rfl⟩
abbrev main_call3_cst : Ref sig .tc := ⟨.hbm, 98, rfl⟩
abbrev main_call3_v2 : Ref sig .tc := ⟨.hbm, 99, rfl⟩
abbrev main_call3_v3 : Ref sig .tc := ⟨.hbm, 100, rfl⟩
abbrev main_call3_cst_0 : Ref sig .tc := ⟨.hbm, 101, rfl⟩
abbrev main_call3_v4 : Ref sig .tc := ⟨.hbm, 102, rfl⟩
abbrev main_call3_v5 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== EvenGate.lean ====
abbrev S8192x4096 : Shape := ⟨2, ![8192, 4096]⟩
abbrev S2x4096x12816 : Shape := ⟨3, ![2, 4096, 12816]⟩
abbrev S2x12816x4096 : Shape := ⟨3, ![2, 12816, 4096]⟩
abbrev S8192x128 : Shape := ⟨2, ![8192, 128]⟩
abbrev S1024x4096 : Shape := ⟨2, ![1024, 4096]⟩
abbrev S1x128x4096 : Shape := ⟨3, ![1, 128, 4096]⟩
abbrev S1024x128 : Shape := ⟨2, ![1024, 128]⟩
abbrev S128x4096 : Shape := ⟨2, ![128, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x12816, .f32⟩
  | .hbm, ⟨2, _⟩ => ⟨S2x12816x4096, .f32⟩
  | .hbm, ⟨3, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x128x4096, .f32⟩
  | .local _ .vmem, ⟨3, _⟩ => ⟨S1024x128, .f32⟩
  | .local _ .vmem, ⟨4, _⟩ => ⟨S1024x128, .f32⟩
  | .local _ .vmem, ⟨5, _⟩ => ⟨S128x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let c6144_i32 : BitVec 32 := 6144#32
  let arg0 : BitVec 32 := BitVec.ofNat 32 (i 0).val
  let c128_i32 : BitVec 32 := 128#32
  let v0 : BitVec 32 := Scalar.muli arg0 c128_i32
  let v1 : BitVec 32 := Scalar.addi c6144_i32 v0
  let c0_i32 : BitVec 32 := 0#32
  let v2 : BitVec 32 := Scalar.addi v1 c0_i32
  v2
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c6144_i32 : BitVec 32 := 6144#32
  let v1 : BitVec 32 := Scalar.addi c6144_i32 v0
  let c0_i32 : BitVec 32 := 0#32
  let v2 : BitVec 32 := Scalar.addi v1 c0_i32
  let v3 : BitVec 32 := v2
  let c0_i32_0 : BitVec 32 := 0#32
  let c0_i32_1 : BitVec 32 := 0#32
  let c0_i32_2 : BitVec 32 := 0#32
  ![c0_i32_0.toNat, v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenGateRefIdeal.lean ====
abbrev S8192x4096 : Shape := ⟨2, ![8192, 4096]⟩
abbrev S2x4096x12816 : Shape := ⟨3, ![2, 4096, 12816]⟩
abbrev S1x4096x12816 : Shape := ⟨3, ![1, 4096, 12816]⟩
abbrev S4096x12816 : Shape := ⟨2, ![4096, 12816]⟩
abbrev S8192x12816 : Shape := ⟨2, ![8192, 12816]⟩
abbrev S8192x2048 : Shape := ⟨2, ![8192, 2048]⟩
abbrev S8192x16 : Shape := ⟨2, ![8192, 16]⟩
abbrev S8192x256 : Shape := ⟨2, ![8192, 256]⟩
abbrev S8192x112 : Shape := ⟨2, ![8192, 112]⟩
abbrev S8192x128 : Shape := ⟨2, ![8192, 128]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x12816, .f32⟩
  | .hbm, ⟨2, _⟩ => ⟨S8192x4096, .f32⟩
  | .hbm, ⟨3, _⟩ => ⟨S1x4096x12816, .f32⟩
  | .hbm, ⟨4, _⟩ => ⟨S4096x12816, .f32⟩
  | .hbm, ⟨5, _⟩ => ⟨S8192x12816, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x16, .f32⟩
  | .hbm, ⟨10, _⟩ => ⟨S8192x2048, .f32⟩
  | .hbm, ⟨11, _⟩ => ⟨S8192x2048, .f32⟩
  | .hbm, ⟨12, _⟩ => ⟨S8192x256, .f32⟩
  | .hbm, ⟨13, _⟩ => ⟨S8192x256, .f32⟩
  | .hbm, ⟨14, _⟩ => ⟨S8192x2048, .f32⟩
  | .hbm, ⟨15, _⟩ => ⟨S8192x112, .f32⟩
  | .hbm, ⟨16, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== OddIndex.lean ====
abbrev S8192x4096 : Shape := ⟨2, ![8192, 4096]⟩
abbrev S2x4096x5728 : Shape := ⟨3, ![2, 4096, 5728]⟩
abbrev S2x5728x4096 : Shape := ⟨3, ![2, 5728, 4096]⟩
abbrev S8192x128 : Shape := ⟨2, ![8192, 128]⟩
abbrev S1024x4096 : Shape := ⟨2, ![1024, 4096]⟩
abbrev S1x128x4096 : Shape := ⟨3, ![1, 128, 4096]⟩
abbrev S1024x128 : Shape := ⟨2, ![1024, 128]⟩
abbrev S128x4096 : Shape := ⟨2, ![128, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x5728, .f32⟩
  | .hbm, ⟨2, _⟩ => ⟨S2x5728x4096, .f32⟩
  | .hbm, ⟨3, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x128x4096, .f32⟩
  | .local _ .vmem, ⟨3, _⟩ => ⟨S1024x128, .f32⟩
  | .local _ .vmem, ⟨4, _⟩ => ⟨S1024x128, .f32⟩
  | .local _ .vmem, ⟨5, _⟩ => ⟨S128x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let c1536_i32 : BitVec 32 := 1536#32
  let arg0 : BitVec 32 := BitVec.ofNat 32 (i 0).val
  let c128_i32 : BitVec 32 := 128#32
  let v0 : BitVec 32 := Scalar.muli arg0 c128_i32
  let v1 : BitVec 32 := Scalar.addi c1536_i32 v0
  let c0_i32 : BitVec 32 := 0#32
  let v2 : BitVec 32 := Scalar.addi v1 c0_i32
  v2
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1536_i32 : BitVec 32 := 1536#32
  let v1 : BitVec 32 := Scalar.addi c1536_i32 v0
  let c0_i32 : BitVec 32 := 0#32
  let v2 : BitVec 32 := Scalar.addi v1 c0_i32
  let v3 : BitVec 32 := v2
  let c0_i32_0 : BitVec 32 := 0#32
  let c0_i32_1 : BitVec 32 := 0#32
  let c0_i32_2 : BitVec 32 := 0#32
  ![c0_i32_0.toNat, v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddIndexRefIdeal.lean ====
abbrev S8192x4096 : Shape := ⟨2, ![8192, 4096]⟩
abbrev S2x4096x5728 : Shape := ⟨3, ![2, 4096, 5728]⟩
abbrev S1x4096x5728 : Shape := ⟨3, ![1, 4096, 5728]⟩
abbrev S4096x5728 : Shape := ⟨2, ![4096, 5728]⟩
abbrev S8192x5728 : Shape := ⟨2, ![8192, 5728]⟩
abbrev S8192x1024 : Shape := ⟨2, ![8192, 1024]⟩
abbrev S8192x512 : Shape := ⟨2, ![8192, 512]⟩
abbrev S8192x64 : Shape := ⟨2, ![8192, 64]⟩
abbrev S8192x32 : Shape := ⟨2, ![8192, 32]⟩
abbrev S8192x128 : Shape := ⟨2, ![8192, 128]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x5728, .f32⟩
  | .hbm, ⟨2, _⟩ => ⟨S8192x4096, .f32⟩
  | .hbm, ⟨3, _⟩ => ⟨S1x4096x5728, .f32⟩
  | .hbm, ⟨4, _⟩ => ⟨S4096x5728, .f32⟩
  | .hbm, ⟨5, _⟩ => ⟨S8192x5728, .f32⟩
  | .hbm, ⟨6, _⟩ => ⟨S8192x1024, .f32⟩
  | .hbm, ⟨7, _⟩ => ⟨S8192x512, .f32⟩
  | .hbm, ⟨8, _⟩ => ⟨S8192x64, .f32⟩
  | .hbm, ⟨9, _⟩ => ⟨S8192x32, .f32⟩
  | .hbm, ⟨10, _⟩ => ⟨S8192x4096, .f32⟩
  | .hbm, ⟨11, _⟩ => ⟨S8192x32, .f32⟩
  | .hbm, ⟨12, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== QUp.lean ====
abbrev S8192x1024 : Shape := ⟨2, ![8192, 1024]⟩
abbrev S2x1024x4096 : Shape := ⟨3, ![2, 1024, 4096]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x1024x4096, .f32⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QUpIdeal.lean ====
variable {F : FTy → Type} [FloatOps F] [Named F]
def κ : String → Option EReal := fun
  | "dsa_scale" => some (((Real.sqrt 128)⁻¹ * (Real.log 2)⁻¹ : ℝ) : EReal)
  | _ => none
-- ==== QUpRefIdeal.lean ====
abbrev S8192x1024 : Shape := ⟨2, ![8192, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x4096, .f32⟩
  | .hbm, ⟨2, _⟩ => ⟨S8192x1024, .f32⟩
  | .hbm, ⟨3, _⟩ => ⟨S1x1024x4096, .f32⟩
  | .hbm, ⟨4, _⟩ => ⟨S1024x4096, .f32⟩
  | .hbm, ⟨5, _⟩ => ⟨S8192x4096, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== QIdxUp.lean ====
abbrev S8192x1024 : Shape := ⟨2, ![8192, 1024]⟩
abbrev S2x1024x2048 : Shape := ⟨3, ![2, 1024, 2048]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x1024x2048, .f32⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QIdxUpRefIdeal.lean ====
abbrev S8192x1024 : Shape := ⟨2, ![8192, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x2048, .f32⟩
  | .hbm, ⟨2, _⟩ => ⟨S8192x1024, .f32⟩
  | .hbm, ⟨3, _⟩ => ⟨S1x1024x2048, .f32⟩
  | .hbm, ⟨4, _⟩ => ⟨S1024x2048, .f32⟩
  | .hbm, ⟨5, _⟩ => ⟨S8192x2048, .f32⟩
  | .hbm, ⟨6, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Norm.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S4x4096 : Shape := ⟨2, ![4, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096 : Shape := ⟨1, ![4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== LatentNorms.lean ====
abbrev S8192x1536 : Shape := ⟨2, ![8192, 1536]⟩
abbrev S8192x128 : Shape := ⟨2, ![8192, 128]⟩
abbrev S2x1024 : Shape := ⟨2, ![2, 1024]⟩
abbrev S2x512 : Shape := ⟨2, ![2, 512]⟩
abbrev S2x64 : Shape := ⟨2, ![2, 64]⟩
abbrev S1x1024 : Shape := ⟨2, ![1, 1024]⟩
abbrev S1024 : Shape := ⟨1, ![1024]⟩
abbrev S1x512 : Shape := ⟨2, ![1, 512]⟩
abbrev S512 : Shape := ⟨1, ![512]⟩
abbrev S1x64 : Shape := ⟨2, ![1, 64]⟩
abbrev S64 : Shape := ⟨1, ![64]⟩
abbrev S8192x1024 : Shape := ⟨2, ![8192, 1024]⟩
abbrev S8192x512 : Shape := ⟨2, ![8192, 512]⟩
abbrev S8192x64 : Shape := ⟨2, ![8192, 64]⟩
abbrev S8192x32 : Shape := ⟨2, ![8192, 32]⟩
abbrev S512x1536 : Shape := ⟨2, ![512, 1536]⟩
abbrev S512x128 : Shape := ⟨2, ![512, 128]⟩
abbrev S512x1024 : Shape := ⟨2, ![512, 1024]⟩
abbrev S512x512 : Shape := ⟨2, ![512, 512]⟩
abbrev S512x64 : Shape := ⟨2, ![512, 64]⟩
abbrev S512x32 : Shape := ⟨2, ![512, 32]⟩
abbrev S512x1 : Shape := ⟨2, ![512, 1]⟩

abbrev nBuf : Space → Nat
  | .hbm => 22
  | .vmem => 16
  | .smem => 0
  | _ => 0

abbrev bufTy : (tb : Table) → Fin (tcTables nBuf tb) → BufTy
  | .hbm, ⟨0, _⟩ => ⟨S8192x1536, .f32⟩
  | .hbm, ⟨1, _⟩ => ⟨S8192x128, .f32⟩
  | .hbm, ⟨2, _⟩ => ⟨S2x1024, .f32⟩
  | .hbm, ⟨3, _⟩ => ⟨S2x512, .f32⟩
  | .hbm, ⟨4, _⟩ => ⟨S2x64, .f32⟩
  | .hbm, ⟨5, _⟩ => ⟨S2x64, .f32⟩
  | .hbm, ⟨6, _⟩ => ⟨S1x1024, .f32⟩
  | .hbm, ⟨7, _⟩ => ⟨S1024, .f32⟩
  | .hbm, ⟨8, _⟩ => ⟨S1x512, .f32⟩
  | .hbm, ⟨9, _⟩ => ⟨S512, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S1x1024, .f32⟩
  | .hbm, ⟨15, _⟩ => ⟨S1x512, .f32⟩
  | .hbm, ⟨16, _⟩ => ⟨S1x64, .f32⟩
  | .hbm, ⟨17, _⟩ => ⟨S1x64, .f32⟩
  | .hbm, ⟨18, _⟩ => ⟨S8192x1024, .bf16⟩
  | .hbm, ⟨19, _⟩ => ⟨S8192x512, .bf16⟩
  | .hbm, ⟨20, _⟩ => ⟨S8192x64, .bf16⟩
  | .hbm, ⟨21, _⟩ => ⟨S8192x32, .f32⟩
  | .local _ .vmem, ⟨0, _⟩ => ⟨S512x1536, .f32⟩
  | .local _ .vmem, ⟨1, _⟩ => ⟨S512x1536, .f32⟩
  | .local _ .vmem, ⟨2, _⟩ => ⟨S512x128, .f32⟩
  | .local _ .vmem, ⟨3, _⟩ => ⟨S512x128, .f32⟩
  | .local _ .vmem, ⟨4, _⟩ => ⟨S1x1024, .f32⟩
  | .local _ .vmem, ⟨5, _⟩ => ⟨S1x512, .f32⟩
  | .local _ .vmem, ⟨6, _⟩ => ⟨S1x64, .f32⟩
  | .local _ .vmem, ⟨7, _⟩ => ⟨S1x64, .f32⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S512x64, .bf16⟩
  | .local _ .vmem, ⟨13, _⟩ => ⟨S512x64, .bf16⟩
  | .local _ .vmem, ⟨14, _⟩ => ⟨S512x32, .f32⟩
  | .local _ .vmem, ⟨15, _⟩ => ⟨S512x32, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LatentNormsRefIdeal.lean ====
abbrev S8192x1536 : Shape := ⟨2, ![8192, 1536]⟩
abbrev S8192x128 : Shape := ⟨2, ![8192, 128]⟩
abbrev S2x1024 : Shape := ⟨2, ![2, 1024]⟩
abbrev S2x512 : Shape := ⟨2, ![2, 512]⟩
abbrev S2x64 : Shape := ⟨2, ![2, 64]⟩
abbrev S8192x1024 : Shape := ⟨2, ![8192, 1024]⟩
abbrev S8192x512 : Shape := ⟨2, ![8192, 512]⟩
abbrev S8192x96 : Shape := ⟨2, ![8192, 96]⟩
abbrev S8192x64 : Shape := ⟨2, ![8192, 64]⟩
abbrev S8192x32 : Shape := ⟨2, ![8192, 32]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S512 : Shape := ⟨1, ![512]⟩
abbrev S1x64 : Shape := ⟨2, ![1, 64]⟩
abbrev S64 : Shape := ⟨1, ![64]⟩

abbrev nBuf : Space → Nat
  | .hbm => 84
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x128, .f32⟩
  | .hbm, ⟨2, _⟩ => ⟨S2x1024, .f32⟩
  | .hbm, ⟨3, _⟩ => ⟨S2x512, .f32⟩
  | .hbm, ⟨4, _⟩ => ⟨S2x64, .f32⟩
  | .hbm, ⟨5, _⟩ => ⟨S2x64, .f32⟩
  | .hbm, ⟨6, _⟩ => ⟨S8192x1024, .f32⟩
  | .hbm, ⟨7, _⟩ => ⟨S8192x512, .f32⟩
  | .hbm, ⟨8, _⟩ => ⟨S8192x96, .f32⟩
  | .hbm, ⟨9, _⟩ => ⟨S8192x64, .f32⟩
  | .hbm, ⟨10, _⟩ => ⟨S8192x32, .f32⟩
  | .hbm, ⟨11, _⟩ => ⟨S1x1024, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S1x512, .f32⟩
  | .hbm, ⟨31, _⟩ => ⟨S512, .f32⟩
  | .hbm, ⟨32, _⟩ => ⟨S8192x512, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x512, .f32⟩
  | .hbm, ⟨44, _⟩ => ⟨S8192x512, .f32⟩
  | .hbm, ⟨45, _⟩ => ⟨S1x512, .f32⟩
  | .hbm, ⟨46, _⟩ => ⟨S8192x512, .f32⟩
  | .hbm, ⟨47, _⟩ => ⟨S8192x512, .f32⟩
  | .hbm, ⟨48, _⟩ => ⟨S8192x512, .bf16⟩
  | .hbm, ⟨49, _⟩ => ⟨S1x64, .f32⟩
  | .hbm, ⟨50, _⟩ => ⟨S64, .f32⟩
  | .hbm, ⟨51, _⟩ => ⟨S1x64, .f32⟩
  | .hbm, ⟨52, _⟩ => ⟨S64, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x1, .f32⟩
  | .hbm, ⟨72, _⟩ => ⟨S8192x64, .f32⟩
  | .hbm, ⟨73, _⟩ => ⟨S8192x64, .f32⟩
  | .hbm, ⟨74, _⟩ => ⟨S1x64, .f32⟩
  | .hbm, ⟨75, _⟩ => ⟨S8192x64, .f32⟩
  | .hbm, ⟨76, _⟩ => ⟨S8192x64, .f32⟩
  | .hbm, ⟨77, _⟩ => ⟨S1x64, .f32⟩
  | .hbm, ⟨78, _⟩ => ⟨S8192x64, .f32⟩
  | .hbm, ⟨79, _⟩ => ⟨S8192x64, .f32⟩
  | .hbm, ⟨80, _⟩ => ⟨S8192x64, .bf16⟩
  | .hbm, ⟨81, _⟩ => ⟨S_, .f32⟩
  | .hbm, ⟨82, _⟩ => ⟨S8192x32, .f32⟩
  | .hbm, ⟨83, _⟩ => ⟨S8192x32, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Band.lean ====
abbrev S32x64 : Shape := ⟨2, ![32, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S64x128x256 : Shape := ⟨3, ![64, 128, 256]⟩
abbrev S8x128x256 : Shape := ⟨3, ![8, 128, 256]⟩
abbrev S1x1 : Shape := ⟨2, ![1, 1]⟩
abbrev S1x128x256 : Shape := ⟨3, ![1, 128, 256]⟩

abbrev nBuf : Space → Nat
  | .hbm => 40
  | .vmem => 3
  | .smem => 1
  | _ => 0

abbrev bufTy : (tb : Table) → Fin (tcTables nBuf tb) → BufTy
  | .hbm, ⟨0, _⟩ => ⟨S32x64, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i32⟩
  | .hbm, ⟨39, _⟩ => ⟨S64x128x256, .f32⟩
  | .local _ .vmem, ⟨0, _⟩ => ⟨S128x256, .i32⟩
  | .local _ .vmem, ⟨1, _⟩ => ⟨S8x128x256, .f32⟩
  | .local _ .vmem, ⟨2, _⟩ => ⟨S8x128x256, .f32⟩
  | .local _ .smem, ⟨0, _⟩ => ⟨S32x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) (c0_i32_1 : BitVec 32) : Fin 2 → Nat :=
  let c0_2 : Index := 0#32
  let arg0 : BitVec 32 := BitVec.ofNat 32 (i 0).val
  let c8_i32 : BitVec 32 := 8#32
  let v0 : BitVec 32 := Scalar.muli arg0 c8_i32
  let v6 : BitVec 32 := Scalar.addi v0 c0_i32_1
  let v7 : Index := Scalar.indexCast v6
  ![0, v7.toNat]
def k0_off2 (i : grid0.Coords) (c0_i32_3 : BitVec 32) : Fin 2 → Nat :=
  let c1 : Index := 1#32
  let arg0 : BitVec 32 := BitVec.ofNat 32 (i 0).val
  let c8_i32 : BitVec 32 := 8#32
  let v0 : BitVec 32 := Scalar.muli arg0 c8_i32
  let v13 : BitVec 32 := Scalar.addi v0 c0_i32_3
  let v14 : Index := Scalar.indexCast v13
  ![1, v14.toNat]
def k0_off3 (i : grid0.Coords) (c0_i32_4 : BitVec 32) : Fin 2 → Nat :=
  let c2 : Index := 2#32
  let arg0 : BitVec 32 := BitVec.ofNat 32 (i 0).val
  let c8_i32 : BitVec 32 := 8#32
  let v0 : BitVec 32 := Scalar.muli arg0 c8_i32
  let v20 : BitVec 32 := Scalar.addi v0 c0_i32_4
  let v21 : Index := Scalar.indexCast v20
  ![2, v21.toNat]
def k0_off4 (i : grid0.Coords) (c0_i32_5 : BitVec 32) : Fin 2 → Nat :=
  let c3 : Index := 3#32
  let arg0 : BitVec 32 := BitVec.ofNat 32 (i 0).val
  let c8_i32 : BitVec 32 := 8#32
  let v0 : BitVec 32 := Scalar.muli arg0 c8_i32
  let v27 : BitVec 32 := Scalar.addi v0 c0_i32_5
  let v28 : Index := Scalar.indexCast v27
  ![3, v28.toNat]
def k0_off5 (i : grid0.Coords) (c0_i32_6 : BitVec 32) : Fin 2 → Nat :=
  let c4 : Index := 4#32
  let arg0 : BitVec 32 := BitVec.ofNat 32 (i 0).val
  let c8_i32 : BitVec 32 := 8#32
  let v0 : BitVec 32 := Scalar.muli arg0 c8_i32
  let v34 : BitVec 32 := Scalar.addi v0 c0_i32_6
  let v35 : Index := Scalar.indexCast v34
  ![4, v35.toNat]
def k0_off6 (i : grid0.Coords) (c0_i32_7 : BitVec 32) : Fin 2 → Nat :=
  let c5 : Index := 5#32
  let arg0 : BitVec 32 := BitVec.ofNat 32 (i 0).val
  let c8_i32 : BitVec 32 := 8#32
  let v0 : BitVec 32 := Scalar.muli arg0 c8_i32
  let v41 : BitVec 32 := Scalar.addi v0 c0_i32_7
  let v42 : Index := Scalar.indexCast v41
  ![5, v42.toNat]
def k0_off7 (i : grid0.Coords) (c0_i32_8 : BitVec 32) : Fin 2 → Nat :=
  let c6 : Index := 6#32
  let arg0 : BitVec 32 := BitVec.ofNat 32 (i 0).val
  let c8_i32 : BitVec 32 := 8#32
  let v0 : BitVec 32 := Scalar.muli arg0 c8_i32
  let v48 : BitVec 32 := Scalar.addi v0 c0_i32_8
  let v49 : Index := Scalar.indexCast v48
  ![6, v49.toNat]
def k0_off8 (i : grid0.Coords) (c0_i32_9 : BitVec 32) : Fin 2 → Nat :=
  let c7 : Index := 7#32
  let arg0 : BitVec 32 := BitVec.ofNat 32 (i 0).val
  let c8_i32 : BitVec 32 := 8#32
  let v0 : BitVec 32 := Scalar.muli arg0 c8_i32
  let v55 : BitVec 32 := Scalar.addi v0 c0_i32_9
  let v56 : Index := Scalar.indexCast v55
  ![7, v56.toNat]
def k0_off9 (i : grid0.Coords) (c0_i32_11 : BitVec 32) : Fin 2 → Nat :=
  let c8 : Index := 8#32
  let arg0 : BitVec 32 := BitVec.ofNat 32 (i 0).val
  let c8_i32 : BitVec 32 := 8#32
  let v0 : BitVec 32 := Scalar.muli arg0 c8_i32
  let v62 : BitVec 32 := Scalar.addi v0 c0_i32_11
  let v63 : Index := Scalar.indexCast v62
  ![8, v63.toNat]
def k0_off10 (i : grid0.Coords) (c0_i32_12 : BitVec 32) : Fin 2 → Nat :=
  let c9 : Index := 9#32
  let arg0 : BitVec 32 := BitVec.ofNat 32 (i 0).val
  let c8_i32 : BitVec 32 := 8#32
  let v0 : BitVec 32 := Scalar.muli arg0 c8_i32
  let v69 : BitVec 32 := Scalar.addi v0 c0_i32_12
  let v70 : Index := Scalar.indexCast v69
  ![9, v70.toNat]
def k0_off11 (i : grid0.Coords) (c0_i32_13 : BitVec 32) : Fin 2 → Nat :=
  let c10 : Index := 10#32
  let arg0 : BitVec 32 := BitVec.ofNat 32 (i 0).val
  let c8_i32 : BitVec 32 := 8#32
  let v0 : BitVec 32 := Scalar.muli arg0 c8_i32
  let v76 : BitVec 32 := Scalar.addi v0 c0_i32_13
  let v77 : Index := Scalar.indexCast v76
  ![10, v77.toNat]
def k0_off12 (i : grid0.Coords) (c0_i32_14 : BitVec 32) : Fin 2 → Nat :=
  let c11 : Index := 11#32
  let arg0 : BitVec 32 := BitVec.ofNat 32 (i 0).val
  let c8_i32 : BitVec 32 := 8#32
  let v0 : BitVec 32 := Scalar.muli arg0 c8_i32
  let v83 : BitVec 32 := Scalar.addi v0 c0_i32_14
  let v84 : Index := Scalar.indexCast v83
  ![11, v84.toNat]
def k0_off13 (i : grid0.Coords) (c0_i32_15 : BitVec 32) : Fin 2 → Nat :=
  let c12 : Index := 12#32
  let arg0 : BitVec 32 := BitVec.ofNat 32 (i 0).val
  let c8_i32 : BitVec 32 := 8#32
  let v0 : BitVec 32 := Scalar.muli arg0 c8_i32
  let v90 : BitVec 32 := Scalar.addi v0 c0_i32_15
  let v91 : Index := Scalar.indexCast v90
  ![12, v91.toNat]
def k0_off14 (i : grid0.Coords) (c0_i32_16 : BitVec 32) : Fin 2 → Nat :=
  let c13 : Index := 13#32
  let arg0 : BitVec 32 := BitVec.ofNat 32 (i 0).val
  let c8_i32 : BitVec 32 := 8#32
  let v0 : BitVec 32 := Scalar.muli arg0 c8_i32
  let v97 : BitVec 32 := Scalar.addi v0 c0_i32_16
  let v98 : Index := Scalar.indexCast v97
  ![13, v98.toNat]
def k0_off15 (i : grid0.Coords) (c0_i32_17 : BitVec 32) : Fin 2 → Nat :=
  let c14 : Index := 14#32
  let arg0 : BitVec 32 := BitVec.ofNat 32 (i 0).val
  let c8_i32 : BitVec 32 := 8#32
  let v0 : BitVec 32 := Scalar.muli arg0 c8_i32
  let v104 : BitVec 32 := Scalar.addi v0 c0_i32_17
  let v105 : Index := Scalar.indexCast v104
  ![14, v105.toNat]
def k0_off16 (i : grid0.Coords) (c0_i32_18 : BitVec 32) : Fin 2 → Nat :=
  let c15 : Index := 15#32
  let arg0 : BitVec 32 := BitVec.ofNat 32 (i 0).val
  let c8_i32 : BitVec 32 := 8#32
  let v0 : BitVec 32 := Scalar.muli arg0 c8_i32
  let v111 : BitVec 32 := Scalar.addi v0 c0_i32_18
  let v112 : Index := Scalar.indexCast v111
  ![15, v112.toNat]
def k0_off17 (i : grid0.Coords) (c0_i32_19 : BitVec 32) : Fin 2 → Nat :=
  let c16 : Index := 16#32
  let arg0 : BitVec 32 := BitVec.ofNat 32 (i 0).val
  let c8_i32 : BitVec 32 := 8#32
  let v0 : BitVec 32 := Scalar.muli arg0 c8_i32
  let v118 : BitVec 32 := Scalar.addi v0 c0_i32_19
  let v119 : Index := Scalar.indexCast v118
  ![16, v119.toNat]
def k0_off18 (i : grid0.Coords) (c0_i32_20 : BitVec 32) : Fin 2 → Nat :=
  let c17 : Index := 17#32
  let arg0 : BitVec 32 := BitVec.ofNat 32 (i 0).val
  let c8_i32 : BitVec 32 := 8#32
  let v0 : BitVec 32 := Scalar.muli arg0 c8_i32
  let v125 : BitVec 32 := Scalar.addi v0 c0_i32_20
  let v126 : Index := Scalar.indexCast v125
  ![17, v126.toNat]
def k0_off19 (i : grid0.Coords) (c0_i32_21 : BitVec 32) : Fin 2 → Nat :=
  let c18 : Index := 18#32
  let arg0 : BitVec 32 := BitVec.ofNat 32 (i 0).val
  let c8_i32 : BitVec 32 := 8#32
  let v0 : BitVec 32 := Scalar.muli arg0 c8_i32
  let v132 : BitVec 32 := Scalar.addi v0 c0_i32_21
  let v133 : Index := Scalar.indexCast v132
  ![18, v133.toNat]
def k0_off20 (i : grid0.Coords) (c0_i32_22 : BitVec 32) : Fin 2 → Nat :=
  let c19 : Index := 19#32
  let arg0 : BitVec 32 := BitVec.ofNat 32 (i 0).val
  let c8_i32 : BitVec 32 := 8#32
  let v0 : BitVec 32 := Scalar.muli arg0 c8_i32
  let v139 : BitVec 32 := Scalar.addi v0 c0_i32_22
  let v140 : Index := Scalar.indexCast v139
  ![19, v140.toNat]
def k0_off21 (i : grid0.Coords) (c0_i32_23 : BitVec 32) : Fin 2 → Nat :=
  let c20 : Index := 20#32
  let arg0 : BitVec 32 := BitVec.ofNat 32 (i 0).val
  let c8_i32 : BitVec 32 := 8#32
  let v0 : BitVec 32 := Scalar.muli arg0 c8_i32
  let v146 : BitVec 32 := Scalar.addi v0 c0_i32_23
  let v147 : Index := Scalar.indexCast v146
  ![20, v147.toNat]
def k0_off22 (i : grid0.Coords) (c0_i32_24 : BitVec 32) : Fin 2 → Nat :=
  let c21 : Index := 21#32
  let arg0 : BitVec 32 := BitVec.ofNat 32 (i 0).val
  let c8_i32 : BitVec 32 := 8#32
  let v0 : BitVec 32 := Scalar.muli arg0 c8_i32
  let v153 : BitVec 32 := Scalar.addi v0 c0_i32_24
  let v154 : Index := Scalar.indexCast v153
  ![21, v154.toNat]
def k0_off23 (i : grid0.Coords) (c0_i32_25 : BitVec 32) : Fin 2 → Nat :=
  let c22 : Index := 22#32
  let arg0 : BitVec 32 := BitVec.ofNat 32 (i 0).val
  let c8_i32 : BitVec 32 := 8#32
  let v0 : BitVec 32 := Scalar.muli arg0 c8_i32
  let v160 : BitVec 32 := Scalar.addi v0 c0_i32_25
  let v161 : Index := Scalar.indexCast v160
  ![22, v161.toNat]
def k0_off24 (i : grid0.Coords) (c0_i32_26 : BitVec 32) : Fin 2 → Nat :=
  let c23 : Index := 23#32
  let arg0 : BitVec 32 := BitVec.ofNat 32 (i 0).val
  let c8_i32 : BitVec 32 := 8#32
  let v0 : BitVec 32 := Scalar.muli arg0 c8_i32
  let v167 : BitVec 32 := Scalar.addi v0 c0_i32_26
  let v168 : Index := Scalar.indexCast v167
  ![23, v168.toNat]
def k0_off25 (i : grid0.Coords) (c0_i32_27 : BitVec 32) : Fin 2 → Nat :=
  let c24 : Index := 24#32
  let arg0 : BitVec 32 := BitVec.ofNat 32 (i 0).val
  let c8_i32 : BitVec 32 := 8#32
  let v0 : BitVec 32 := Scalar.muli arg0 c8_i32
  let v174 : BitVec 32 := Scalar.addi v0 c0_i32_27
  let v175 : Index := Scalar.indexCast v174
  ![24, v175.toNat]
def k0_off26 (i : grid0.Coords) (c0_i32_28 : BitVec 32) : Fin 2 → Nat :=
  let c25 : Index := 25#32
  let arg0 : BitVec 32 := BitVec.ofNat 32 (i 0).val
  let c8_i32 : BitVec 32 := 8#32
  let v0 : BitVec 32 := Scalar.muli arg0 c8_i32
  let v181 : BitVec 32 := Scalar.addi v0 c0_i32_28
  let v182 : Index := Scalar.indexCast v181
  ![25, v182.toNat]
def k0_off27 (i : grid0.Coords) (c0_i32_29 : BitVec 32) : Fin 2 → Nat :=
  let c26 : Index := 26#32
  let arg0 : BitVec 32 := BitVec.ofNat 32 (i 0).val
  let c8_i32 : BitVec 32 := 8#32
  let v0 : BitVec 32 := Scalar.muli arg0 c8_i32
  let v188 : BitVec 32 := Scalar.addi v0 c0_i32_29
  let v189 : Index := Scalar.indexCast v188
  ![26, v189.toNat]
def k0_off28 (i : grid0.Coords) (c0_i32_30 : BitVec 32) : Fin 2 → Nat :=
  let c27 : Index := 27#32
  let arg0 : BitVec 32 := BitVec.ofNat 32 (i 0).val
  let c8_i32 : BitVec 32 := 8#32
  let v0 : BitVec 32 := Scalar.muli arg0 c8_i32
  let v195 : BitVec 32 := Scalar.addi v0 c0_i32_30
  let v196 : Index := Scalar.indexCast v195
  ![27, v196.toNat]
def k0_off29 (i : grid0.Coords) (c0_i32_31 : BitVec 32) : Fin 2 → Nat :=
  let c28 : Index := 28#32
  let arg0 : BitVec 32 := BitVec.ofNat 32 (i 0).val
  let c8_i32 : BitVec 32 := 8#32
  let v0 : BitVec 32 := Scalar.muli arg0 c8_i32
  let v202 : BitVec 32 := Scalar.addi v0 c0_i32_31
  let v203 : Index := Scalar.indexCast v202
  ![28, v203.toNat]
def k0_off30 (i : grid0.Coords) (c0_i32_32 : BitVec 32) : Fin 2 → Nat :=
  let c29 : Index := 29#32
  let arg0 : BitVec 32 := BitVec.ofNat 32 (i 0).val
  let c8_i32 : BitVec 32 := 8#32
  let v0 : BitVec 32 := Scalar.muli arg0 c8_i32
  let v209 : BitVec 32 := Scalar.addi v0 c0_i32_32
  let v210 : Index := Scalar.indexCast v209
  ![29, v210.toNat]
def k0_off31 (i : grid0.Coords) (c0_i32_33 : BitVec 32) : Fin 2 → Nat :=
  let c30 : Index := 30#32
  let arg0 : BitVec 32 := BitVec.ofNat 32 (i 0).val
  let c8_i32 : BitVec 32 := 8#32
  let v0 : BitVec 32 := Scalar.muli arg0 c8_i32
  let v216 : BitVec 32 := Scalar.addi v0 c0_i32_33
  let v217 : Index := Scalar.indexCast v216
  ![30, v217.toNat]
def k0_off32 (i : grid0.Coords) (c0_i32_34 : BitVec 32) : Fin 2 → Nat :=
  let c31 : Index := 31#32
  let arg0 : BitVec 32 := BitVec.ofNat 32 (i 0).val
  let c8_i32 : BitVec 32 := 8#32
  let v0 : BitVec 32 := Scalar.muli arg0 c8_i32
  let v223 : BitVec 32 := Scalar.addi v0 c0_i32_34
  let v224 : Index := Scalar.indexCast v223
  ![31, v224.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BandRefIdeal.lean ====
abbrev S32x64 : Shape := ⟨2, ![32, 64]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x64 : Shape := ⟨3, ![128, 256, 64]⟩
abbrev S64x128x256 : Shape := ⟨3, ![64, 128, 256]⟩

abbrev nBuf : Space → Nat
  | .hbm => 49
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S128, .i32⟩
  | .hbm, ⟨2, _⟩ => ⟨S128x1, .i32⟩
  | .hbm, ⟨3, _⟩ => ⟨S_, .i32⟩
  | .hbm, ⟨4, _⟩ => ⟨S128x1, .i32⟩
  | .hbm, ⟨5, _⟩ => ⟨S128x1, .i32⟩
  | .hbm, ⟨6, _⟩ => ⟨S256, .i32⟩
  | .hbm, ⟨7, _⟩ => ⟨S1x256, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S128x256x1, .i32⟩
  | .hbm, ⟨47, _⟩ => ⟨S128x256x64, .f32⟩
  | .hbm, ⟨48, _⟩ => ⟨S64x128x256, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Origin.lean ====
/-
  The corner at which the kernels' whole-block loads and stores begin, as the constant function zero.
-/
module

public import proofs.«01_k».proof.Defs

@[expose] public section

namespace Cert

theorem origin2 : (![0, 0] : Fin 2 → Nat) = fun _ => 0 := funext fun a => by fin_cases a <;> rfl

theorem origin3 : (![0, 0, 0] : Fin 3 → Nat) = fun _ => 0 := funext fun a => by fin_cases a <;> rfl

end Cert

end
-- ==== Proof.Consts.lean ====
/-
  The float constants of the programs as extended reals, and how a nonnegative real factor moves through a sum of products.
-/
module

public import proofs.«01_k».proof.Defs
public import Idealize.ShloMosaic.PureOps.Ideal
public import Idealize.ShloMosaic.Lib.IdealHost

@[expose] public section

noncomputable section

open Idealize.ShloMosaic

namespace Cert.Consts

theorem ofBits_two : Ideal.ofBits .f32 0x40000000#32 = ((2 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_eighth : Ideal.ofBits .f32 0x3E000000#32 = ((8⁻¹ : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem log_two : Ideal.log ((2 : ℝ) : EReal) = ((Real.log 2 : ℝ) : EReal) := by
  rw [Ideal.log_coe, if_neg (by norm_num)]

theorem sqrt_128 : Ideal.sqrt ((128 : ℝ) : EReal) = ((Real.sqrt 128 : ℝ) : EReal) := by
  rw [Ideal.sqrt_coe, if_neg (by norm_num)]

theorem log_two_pos : 0 < Real.log 2 := Real.log_pos (by norm_num)

theorem sqrt_128_pos : 0 < Real.sqrt 128 := Real.sqrt_pos.mpr (by norm_num)

/-- A quotient by a positive real is a product with its inverse. -/
theorem div_pos_real {y : ℝ} (h : 0 < y) (x : EReal) : Ideal.div x ((y : ℝ) : EReal) = x * ((y⁻¹ : ℝ) : EReal) := by
  rw [Ideal.div_coe h.ne', one_div]

/-- A nonnegative real factor of a sum's terms is a factor of the sum. -/
theorem sum_mul_real {ι : Type} (s : Finset ι) (f g : ι → EReal) (r : ℝ) (hr : 0 ≤ r) :
    ∑ k ∈ s, f k * (g k * ((r : ℝ) : EReal)) = (∑ k ∈ s, f k * g k) * ((r : ℝ) : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r), mul_assoc]

end Cert.Consts

end
-- ==== Proof.EvenInRef.lean ====
/-
  The reference of the even layer's input projection, entry by entry: which column of the weights a column of the result
  takes, and its scale.
-/
module

public import proofs.«01_k».proof.Defs
public import proofs.«01_k».proof.Proof.Consts
public import proofs.«01_k».proof.Proof.Gen.ReferenceIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx

namespace Cert.EvenIn

open Cert.ReferenceIdeal Cert.ReferenceIdeal.Read

/-- The scale of the forgetting attention's queries, and of the sliding window's, each over the logarithm of two. -/
abbrev fox : ℝ := (Real.sqrt 128)⁻¹ * (Real.log 2)⁻¹
abbrev swa : ℝ := 8⁻¹ * (Real.log 2)⁻¹

/-- The column of the weights that column `n` of the result takes. -/
abbrev col (n : ℕ) : ℕ := if n < 6144 then n else if n < 10240 then n + 16 else if n < 12288 then n + 528 else n - 2032

/-- The scale of column `n`. -/
abbrev scale (n : ℕ) : EReal := if n < 2048 then (fox : EReal) else if 8192 ≤ n ∧ n < 10240 then (swa : EReal) else 1

theorem col_lt (n : Fin 12800) : col n.val < 12816 := by
  have := n.isLt
  dsimp only [col]
  split_ifs <;> omega

/-- An entry of the result. -/
def entry (x : FVec Ideal S8192x4096 .bf16) (w : FVec Ideal S2x4096x12816 .f32) (r : Fin 8192) (n : Fin 12800) : EReal :=
  ∑ k : Fin 4096, x (ix2 r k) * (w (ix3 (0 : Fin 2) k (⟨col n.val, col_lt n⟩ : Fin 12816)) * scale n.val)

variable (x : FVec Ideal S8192x4096 .bf16) (w : FVec Ideal S2x4096x12816 .f32)

/-- A column of the whole product. -/
theorem product (r : Fin 8192) (n : Fin 12816) :
    val_main_v3 (F := Ideal) x w (ix2 r n) = ∑ k : Fin 4096, x (ix2 r k) * w (ix3 (0 : Fin 2) k n) := by
  rw [val_main_v3_apply]
  refine Finset.sum_congr rfl fun k _ => ?_
  rw [val_main_v0_apply, Ideal.extf_def, val_main_v2_apply, val_main_v1_apply]
  have hn := n.isLt
  have hk := k.isLt
  refine congrArg₂ (· * ·) (congrArg x (funext fun a => Fin.ext ?_)) (congrArg w (funext fun a => Fin.ext ?_))
  · match a with | ⟨0, _⟩ => rfl | ⟨1, _⟩ => rfl
  · match a with
    | ⟨0, _⟩ => rfl
    | ⟨1, _⟩ => show (k.val * 12816 + n.val) / 12816 % 4096 = k.val; omega
    | ⟨2, _⟩ => show (k.val * 12816 + n.val) % 12816 = n.val; omega

/-- A column without a scale. -/
theorem plain (r : Fin 8192) (n : Fin 12800) (c : Fin 12816) (hc : c.val = col n.val) (hs : scale n.val = 1) :
    val_main_v3 (F := Ideal) x w (ix2 r c) = entry x w r n := by
  obtain rfl : c = ⟨col n.val, col_lt n⟩ := Fin.ext hc
  rw [product]
  unfold entry
  rw [hs]
  simp only [mul_one]

/-- A column with one. -/
theorem scaled (r : Fin 8192) (n : Fin 12800) (c : Fin 12816) (hc : c.val = col n.val) (s : ℝ) (h0 : 0 ≤ s)
    (hs : scale n.val = (s : EReal)) :
    val_main_v3 (F := Ideal) x w (ix2 r c) * (s : EReal) = entry x w r n := by
  obtain rfl : c = ⟨col n.val, col_lt n⟩ := Fin.ext hc
  rw [product]
  unfold entry
  rw [hs, Cert.Consts.sum_mul_real _ _ _ s h0]

/-- The two quotients of the forgetting attention's queries are one scale. -/
theorem queries_fox (j : S8192x2048.Idx) : val_main_v18 (F := Ideal) x w j = val_main_v4 (F := Ideal) x w j * (fox : EReal) := by
  rw [val_main_v18_apply, val_main_v16_apply, val_main_v15_apply, val_main_v17_apply, val_main_v14_apply, val_main_v13_apply,
    val_main_cst_apply, val_main_cst_0_apply, Ideal.hostDivf_def, Ideal.hostDivf_def, Ideal.hostUnary_sqrt_def,
    Ideal.hostUnary_log_def, Ideal.ofBits_def, Ideal.ofBits_def, Cert.Consts.ofBits_two, Cert.Consts.ofBits_128,
    Cert.Consts.log_two, Cert.Consts.sqrt_128, Cert.Consts.div_pos_real Cert.Consts.log_two_pos,
    Cert.Consts.div_pos_real Cert.Consts.sqrt_128_pos, mul_assoc, ← EReal.coe_mul]

/-- The product and the quotient of the sliding window's queries are one scale. -/
theorem queries_swa (j : S8192x2048.Idx) : val_main_v22 (F := Ideal) x w j = val_main_v9 (F := Ideal) x w j * (swa : EReal) := by
  rw [val_main_v22_apply, val_main_v20_apply, val_main_v19_apply, val_main_v21_apply, val_main_v13_apply,
    val_main_cst_apply, val_main_cst_1_apply, Ideal.hostDivf_def, Ideal.mulf_def,
    Ideal.hostUnary_log_def, Ideal.ofBits_def, Ideal.ofBits_def, Cert.Consts.ofBits_two, Cert.Consts.ofBits_eighth,
    Cert.Consts.log_two, Cert.Consts.div_pos_real Cert.Consts.log_two_pos, mul_assoc, ← EReal.coe_mul]

theorem fox_nonneg : 0 ≤ fox := by have := Cert.Consts.log_two_pos; have := Cert.Consts.sqrt_128_pos; positivity
theorem swa_nonneg : 0 ≤ swa := by have := Cert.Consts.log_two_pos; positivity

/-- A joined array of matrices of 8192 rows, read in the piece `y` whose columns begin at `pre`. -/
theorem piece {xs : List ((s : Shape) × (s.Idx → EReal))} {h : Shape.Concatenates (xs.map (·.1)) S8192x12800 1}
    (i : S8192x12800.Idx) (k : ℕ) (hk : k < xs.length) {p : ℕ} (y : (⟨2, ![8192, p]⟩ : Shape).Idx → EReal)
    (hxk : xs[k] = ⟨⟨2, ![8192, p]⟩, y⟩) (pre : ℕ)
    (hpre : (((xs.take k).map (·.1)).map fun s => if h : s.rank = S8192x12800.rank then s.size (Fin.cast h.symm 1) else 0).sum = pre)
    (n : Fin p) (hn : pre + n.val = (i 1).val) :
    concatenate S8192x12800 1 xs h i = y (ix2 (⟨(i 0).val, idx2_lt0 i⟩ : Fin 8192) n) :=
  concatenate_apply_piece 1 xs h i k hk ⟨2, ![8192, p]⟩ y hxk rfl pre hpre _
    (fun b hb => by match b with | ⟨0, _⟩ => rfl | ⟨1, _⟩ => exact absurd rfl hb) hn

set_option maxRecDepth 30000 in
/-- The joined array: eight pieces, each a range of columns. -/
theorem joined (i : S8192x12800.Idx) :
    val_main_v23 (F := Ideal) x w i = entry x w ⟨(i 0).val, idx2_lt0 i⟩ ⟨(i 1).val, idx2_lt1 i⟩ := by
  have hi := idx2_lt1 i
  unfold val_main_v23
  by_cases h0 : (i 1).val < 2048
  · refine (piece i 0 (by simp) (val_main_v18 (F := Ideal) x w) rfl 0 rfl (⟨(i 1).val - 0, by omega⟩ : Fin 2048) (by show 0 + ((i 1).val - 0) = _; omega)).trans ?_
    rw [queries_fox, val_main_v4_apply]
    have e : idx_main_v4 (ix2 (⟨(i 0).val, idx2_lt0 i⟩ : Fin 8192) (⟨(i 1).val - 0, by omega⟩ : Fin 2048))
        = ix2 (⟨(i 0).val, idx2_lt0 i⟩ : Fin 8192) (⟨(i 1).val - 0, by omega⟩ : Fin 12816) :=
      funext fun a => Fin.ext (by match a with | ⟨0, _⟩ => rfl | ⟨1, _⟩ => rfl)
    rw [e]
    exact scaled x w _ ⟨(i 1).val, idx2_lt1 i⟩ _ (by show (i 1).val - 0 = col (i 1).val; dsimp only [col]; split_ifs <;> omega) fox fox_nonneg
      (by show scale (i 1).val = _; dsimp only [scale]; split_ifs <;> first | rfl | (exfalso; omega))
  by_cases h1 : (i 1).val < 4096
  · refine (piece i 1 (by simp) (val_main_v5 (F := Ideal) x w) rfl 2048 rfl (⟨(i 1).val - 2048, by omega⟩ : Fin 2048) (by show 2048 + ((i 1).val - 2048) = _; omega)).trans ?_
    rw [val_main_v5_apply]
    have e : idx_main_v5 (ix2 (⟨(i 0).val, idx2_lt0 i⟩ : Fin 8192) (⟨(i 1).val - 2048, by omega⟩ : Fin 2048))
        = ix2 (⟨(i 0).val, idx2_lt0 i⟩ : Fin 8192) (⟨2048 + ((i 1).val - 2048), by omega⟩ : Fin 12816) :=
      funext fun a => Fin.ext (by match a with | ⟨0, _⟩ => rfl | ⟨1, _⟩ => rfl)
    rw [e]
    exact plain x w _ ⟨(i 1).val, idx2_lt1 i⟩ _ (by show 2048 + ((i 1).val - 2048) = col (i 1).val; dsimp only [col]; split_ifs <;> omega)
      (by show scale (i 1).val = _; dsimp only [scale]; split_ifs <;> first | rfl | (exfalso; omega))
  by_cases h2 : (i 1).val < 6144
  · refine (piece i 2 (by simp) (val_main_v6 (F := Ideal) x w) rfl 4096 rfl (⟨(i 1).val - 4096, by omega⟩ : Fin 2048) (by show 4096 + ((i 1).val - 4096) = _; omega)).trans ?_
    rw [val_main_v6_apply]
    have e : idx_main_v6 (ix2 (⟨(i 0).val, idx2_lt0 i⟩ : Fin 8192) (⟨(i 1).val - 4096, by omega⟩ : Fin 2048))
        = ix2 (⟨(i 0).val, idx2_lt0 i⟩ : Fin 8192) (⟨4096 + ((i 1).val - 4096), by omega⟩ : Fin 12816) :=
      funext fun a => Fin.ext (by match a with | ⟨0, _⟩ => rfl | ⟨1, _⟩ => rfl)
    rw [e]
    exact plain x w _ ⟨(i 1).val, idx2_lt1 i⟩ _ (by show 4096 + ((i 1).val - 4096) = col (i 1).val; dsimp only [col]; split_ifs <;> omega)
      (by show scale (i 1).val = _; dsimp only [scale]; split_ifs <;> first | rfl | (exfalso; omega))
  by_cases h3 : (i 1).val < 8192
  · refine (piece i 3 (by simp) (val_main_v8 (F := Ideal) x w) rfl 6144 rfl (⟨(i 1).val - 6144, by omega⟩ : Fin 2048) (by show 6144 + ((i 1).val - 6144) = _; omega)).trans ?_
    rw [val_main_v8_apply]
    have e : idx_main_v8 (ix2 (⟨(i 0).val, idx2_lt0 i⟩ : Fin 8192) (⟨(i 1).val - 6144, by omega⟩ : Fin 2048))
        = ix2 (⟨(i 0).val, idx2_lt0 i⟩ : Fin 8192) (⟨6160 + ((i 1).val - 6144), by omega⟩ : Fin 12816) :=
      funext fun a => Fin.ext (by match a with | ⟨0, _⟩ => rfl | ⟨1, _⟩ => rfl)
    rw [e]
    exact plain x w _ ⟨(i 1).val, idx2_lt1 i⟩ _ (by show 6160 + ((i 1).val - 6144) = col (i 1).val; dsimp only [col]; split_ifs <;> omega)
      (by show scale (i 1).val = _; dsimp only [scale]; split_ifs <;> first | rfl | (exfalso; omega))
  by_cases h4 : (i 1).val < 10240
  · refine (piece i 4 (by simp) (val_main_v22 (F := Ideal) x w) rfl 8192 rfl (⟨(i 1).val - 8192, by omega⟩ : Fin 2048) (by show 8192 + ((i 1).val - 8192) = _; omega)).trans ?_
    rw [queries_swa, val_main_v9_apply]
    have e : idx_main_v9 (ix2 (⟨(i 0).val, idx2_lt0 i⟩ : Fin 8192) (⟨(i 1).val - 8192, by omega⟩ : Fin 2048))
        = ix2 (⟨(i 0).val, idx2_lt0 i⟩ : Fin 8192) (⟨8208 + ((i 1).val - 8192), by omega⟩ : Fin 12816) :=
      funext fun a => Fin.ext (by match a with | ⟨0, _⟩ => rfl | ⟨1, _⟩ => rfl)
    rw [e]
    exact scaled x w _ ⟨(i 1).val, idx2_lt1 i⟩ _ (by show 8208 + ((i 1).val - 8192) = col (i 1).val; dsimp only [col]; split_ifs <;> omega) swa swa_nonneg
      (by show scale (i 1).val = _; dsimp only [scale]; split_ifs <;> first | rfl | (exfalso; omega))
  by_cases h5 : (i 1).val < 12288
  · refine (piece i 5 (by simp) (val_main_v12 (F := Ideal) x w) rfl 10240 rfl (⟨(i 1).val - 10240, by omega⟩ : Fin 2048) (by show 10240 + ((i 1).val - 10240) = _; omega)).trans ?_
    rw [val_main_v12_apply]
    have e : idx_main_v12 (ix2 (⟨(i 0).val, idx2_lt0 i⟩ : Fin 8192) (⟨(i 1).val - 10240, by omega⟩ : Fin 2048))
        = ix2 (⟨(i 0).val, idx2_lt0 i⟩ : Fin 8192) (⟨10768 + ((i 1).val - 10240), by omega⟩ : Fin 12816) :=
      funext fun a => Fin.ext (by match a with | ⟨0, _⟩ => rfl | ⟨1, _⟩ => rfl)
    rw [e]
    exact plain x w _ ⟨(i 1).val, idx2_lt1 i⟩ _ (by show 10768 + ((i 1).val - 10240) = col (i 1).val; dsimp only [col]; split_ifs <;> omega)
      (by show scale (i 1).val = _; dsimp only [scale]; split_ifs <;> first | rfl | (exfalso; omega))
  by_cases h6 : (i 1).val < 12544
  · refine (piece i 6 (by simp) (val_main_v10 (F := Ideal) x w) rfl 12288 rfl (⟨(i 1).val - 12288, by omega⟩ : Fin 256) (by show 12288 + ((i 1).val - 12288) = _; omega)).trans ?_
    rw [val_main_v10_apply]
    have e : idx_main_v10 (ix2 (⟨(i 0).val, idx2_lt0 i⟩ : Fin 8192) (⟨(i 1).val - 12288, by omega⟩ : Fin 256))
        = ix2 (⟨(i 0).val, idx2_lt0 i⟩ : Fin 8192) (⟨10256 + ((i 1).val - 12288), by omega⟩ : Fin 12816) :=
      funext fun a => Fin.ext (by match a with | ⟨0, _⟩ => rfl | ⟨1, _⟩ => rfl)
    rw [e]
    exact plain x w _ ⟨(i 1).val, idx2_lt1 i⟩ _ (by show 10256 + ((i 1).val - 12288) = col (i 1).val; dsimp only [col]; split_ifs <;> omega)
      (by show scale (i 1).val = _; dsimp only [scale]; split_ifs <;> first | rfl | (exfalso; omega))
  · refine (piece i 7 (by simp) (val_main_v11 (F := Ideal) x w) rfl 12544 rfl (⟨(i 1).val - 12544, by omega⟩ : Fin 256) (by show 12544 + ((i 1).val - 12544) = _; omega)).trans ?_
    rw [val_main_v11_apply]
    have e : idx_main_v11 (ix2 (⟨(i 0).val, idx2_lt0 i⟩ : Fin 8192) (⟨(i 1).val - 12544, by omega⟩ : Fin 256))
        = ix2 (⟨(i 0).val, idx2_lt0 i⟩ : Fin 8192) (⟨10512 + ((i 1).val - 12544), by omega⟩ : Fin 12816) :=
      funext fun a => Fin.ext (by match a with | ⟨0, _⟩ => rfl | ⟨1, _⟩ => rfl)
    rw [e]
    exact plain x w _ ⟨(i 1).val, idx2_lt1 i⟩ _ (by show 10512 + ((i 1).val - 12544) = col (i 1).val; dsimp only [col]; split_ifs <;> omega)
      (by show scale (i 1).val = _; dsimp only [scale]; split_ifs <;> first | rfl | (exfalso; omega))

/-- The reference's result. -/
theorem reference (i : S8192x12800.Idx) :
    val_main_v24 (F := Ideal) x w i = entry x w ⟨(i 0).val, idx2_lt0 i⟩ ⟨(i 1).val, idx2_lt1 i⟩ := by
  rw [val_main_v24_apply, Ideal.truncf_def]
  exact joined x w i

end Cert.EvenIn

end
-- ==== Proof.EvenIn.lean ====
/-
  The input projection of an even layer: the result array of `KernelIdeal` is the product of the hidden states and the
  layer's input weights, entry by entry. The weights' columns are read in another order than the array's: a window whose
  index map gives elements skips the sixteen columns of the forget gate, and the last block of the array holds the
  columns of the sliding window's keys and values. The query columns come scaled for an exponential of base two: the
  scale stands in the weight tile, which a scratch keeps for the eight points of a column of points.
-/
module

public import proofs.«01_k».proof.Defs
public import proofs.«01_k».proof.Proof.Origin
public import proofs.«01_k».proof.Proof.EvenInRef
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.KernelIdeal.Product

open Cert.KernelIdeal Cert.KernelIdeal.Gen

section Body
variable (c : Dev nD) (i : grid0.Coords) (a2 : Memref sig .tc .vmem S1024x4096 .bf16) (h2 : a2.IsWhole)
  (a3 : Memref sig .tc .vmem S1x512x4096 .f32) (h3 : a3.IsWhole) (a4 : Memref sig .tc .vmem S1024x512 .bf16) (h4 : a4.IsWhole)
  (a5 : Memref sig .tc .vmem S512x4096 .bf16) (h5 : a5.IsWhole) (x : Vec Ideal S1024x4096 .bf16) (w : Vec Ideal S1x512x4096 .f32)

/-- At the first point of a column the scratch takes the weight tile, -/
theorem scratch_A (hc : cond0_0 i) : sout0_A_0 c i a2 h2 a3 h3 a4 h4 a5 h5 hc x w = k0_pay1 i w := by
  unfold sout0_A_0
  rw [View.read_writes_eq_canon _ _ _ (scover0_A_0 c i a2 h2 a3 h3 a4 h4 a5 h5 hc x w)]
  unfold kernelRun0_A
  dsimp only
  sl_unfold_words
  rw [View.canon_unit_zero Cert.origin2]
  simp only [View.readAt_eq_ld, h3.read_unread, View.ld_unit_zero (S := S1x512x4096) Cert.origin3]

/-- and the output block is the product with it; -/
theorem out_A (hc : cond0_0 i) : out0_A_2 c i a2 h2 a3 h3 a4 h4 a5 h5 hc x w = k0_pay2 x (k0_pay1 i w) := by
  unfold out0_A_2
  rw [View.read_writes_eq_canon _ _ _ (cover0_A_2 c i a2 h2 a3 h3 a4 h4 a5 h5 hc x w)]
  unfold kernelRun0_A
  dsimp only
  sl_unfold_words
  rw [View.canon_unit_zero Cert.origin2, View.readCov_unit_zero (S := S512x4096) _ Cert.origin2]
  simp only [View.readAt_eq_ld, h2.read_unread, h3.read_unread, View.ld_unit_zero (S := S1x512x4096) Cert.origin3,
    View.ld_unit_zero (S := S1024x4096) Cert.origin2]

/-- at the others it is the product with what the scratch holds. -/
theorem out_B (hc : ¬cond0_0 i) (s : Vec Ideal S512x4096 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero Cert.origin2]
  simp only [View.readAt_eq_ld, h2.read_unread, h5.read_unread, View.ld_unit_zero (S := S512x4096) Cert.origin2,
    View.ld_unit_zero (S := S1024x4096) Cert.origin2]

end Body

variable (m : (ℓ : Loc nD τ sig) → Buf (Elt Ideal) ℓ)

/-- The hidden states and the weights, as launched. -/
abbrev hid (c : Dev nD) : FVec Ideal S8192x4096 .bf16 := m ((c : Thread nD τ).loc main_arg0)
abbrev wts (c : Dev nD) : FVec Ideal S2x4096x12816 .f32 := m ((c : Thread nD τ).loc main_arg1)

/-- The result, entry by entry. -/
def G (c : Dev nD) : FVec Ideal S8192x12800 .bf16 := fun i => Cert.EvenIn.entry (hid m c) (wts m c) ⟨(i 0).val, idx2_lt0 i⟩ ⟨(i 1).val, idx2_lt1 i⟩

/-- The block of columns of the array that column `q` of points writes. -/
abbrev place (q : ℕ) : ℕ := if q = 20 then 24 else if 20 < q then q - 1 else q

/-- The first column of the weights that column `q` of points reads. -/
abbrev start (q : ℕ) : ℕ := 512 * q + if q < 12 then 0 else 16

/-- Where the windows begin at point `t`. -/
theorem at_point : ∀ t : Fin cfg0.N, win0_0.index t 0 = t.val % 8 ∧ win0_0.index t 1 = 0
    ∧ cc0_transform_1 (grid0.coords t) 0 = 0 ∧ cc0_transform_1 (grid0.coords t) 1 = start (t.val / 8)
    ∧ cc0_transform_1 (grid0.coords t) 2 = 0
    ∧ win0_2.index t 0 = t.val % 8 ∧ win0_2.index t 1 = place (t.val / 8) :=
  (by decide +kernel : ∀ t : Fin grid0.N, _)

/-- The block of hidden states at point `t`. -/
theorem hid_block (c : Dev nD) (t : Fin cfg0.N) (r : Fin 1024) (k : Fin 4096) :
    (iblk m c 0 t : Vec Ideal S1024x4096 .bf16) (ix2 r k)
      = hid m c (ix2 (⟨t.val % 8 * 1024 + r.val, by omega⟩ : Fin 8192) k) := by
  obtain ⟨e0, e1, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = t.val % 8 * 1024 + r.val; rw [e0]; omega
  | ⟨1, _⟩ => show win0_0.index t 1 * 4096 + 1 * k.val = k.val; rw [e1]; omega

/-- The host's transposed weights. -/
theorem V_weights (c : Dev nD) (l : Fin 2) (n : Fin 12816) (k : Fin 4096) :
    (V m c main_v0 : Vec Ideal S2x12816x4096 .f32) (ix3 l n k) = wts m c (ix3 l k n) := by
  have e : V m c main_v0 = transpose S2x12816x4096 [0, 2, 1] (m ((c : Thread nD τ).loc main_arg1)) Facts₀.transposes_S2x4096x12816_S2x12816x4096_0_2_1 := by
    unfold V hostOps0
    after_results
  rw [e]
  exact transpose_apply _ _ _ _ _ (fun b => by match b with | ⟨0, _⟩ => rfl | ⟨1, _⟩ => rfl | ⟨2, _⟩ => rfl)

/-- The scale of a column of points. -/
abbrev scale (q : ℕ) : EReal :=
  if 16 ≤ q ∧ q < 20 then (Cert.EvenIn.swa : EReal) else if q < 4 then (Cert.EvenIn.fox : EReal) else 1

/-- The kernel's tests of the column of points, decided. -/
theorem tests : ∀ t : Fin cfg0.N,
    (Scalar.andi (Scalar.cmpi .sge (BitVec.ofNat 32 (grid0.coords t 0).val) 0#32)
        (Scalar.cmpi .slt (BitVec.ofNat 32 (grid0.coords t 0).val) 4#32) = 1 ↔ t.val / 8 < 4)
    ∧ (Scalar.andi (Scalar.cmpi .sge (BitVec.ofNat 32 (grid0.coords t 0).val) 16#32)
        (Scalar.cmpi .slt (BitVec.ofNat 32 (grid0.coords t 0).val) 20#32) = 1 ↔ 16 ≤ t.val / 8 ∧ t.val / 8 < 20) :=
  (by decide +kernel : ∀ t : Fin grid0.N, _)

/-- A weight tile that the kernel scales. -/
theorem scaled (t : Fin cfg0.N) (w : Vec Ideal S1x512x4096 .f32) (n : Fin 512) (k : Fin 4096) :
    k0_pay1 (grid0.coords t) w (ix2 n k) = w (ix3 (0 : Fin 1) n k) * scale (t.val / 8) := by
  obtain ⟨h1, h2⟩ := tests t
  unfold k0_pay1
  rw [shapeCast_self, truncf_apply, mulf_apply, broadcast_apply]
  refine congrArg₂ (· * ·) ((shapeCast_dropUnit_apply _ _ _ _).trans (congrArg w (funext fun a => Fin.ext ?_))) ?_
  · match a with | ⟨0, _⟩ => rfl | ⟨1, _⟩ => rfl | ⟨2, _⟩ => rfl
  dsimp only [Scalar.select]
  rw [IdealRules.named_const.ideal_named_scalar _ _ _ _ rfl, IdealRules.named_const.ideal_named_scalar _ _ _ _ rfl]
  simp only [h1, h2, scale]
  rw [show (Scalar.ofBits .f32 0x3F800000#32 : Ideal .f32) = (1 : EReal) from Ideal.ofBits_one_f32]

/-- The weight tile at point `t`: it depends on the column of points alone. -/
theorem tile (c : Dev nD) (t : Fin cfg0.N) (n : Fin 512) (k : Fin 4096) :
    k0_pay1 (grid0.coords t) (iblk m c 1 t) (ix2 n k)
      = wts m c (ix3 (0 : Fin 2) k (⟨start (t.val / 8) + n.val, by
          have := t.isLt; have h : cfg0.N = 200 := N_0; dsimp only [start]; split <;> omega⟩ : Fin 12816)) * scale (t.val / 8) := by
  obtain ⟨-, -, e0, e1, e2, -⟩ := at_point t
  rw [scaled]
  refine congrArg (· * scale (t.val / 8)) ?_
  unfold iblk
  rw [View.read_apply]
  show V m c main_v0 _ = _
  rw [← V_weights]
  refine congrArg (V m c main_v0) (funext fun a => Fin.ext ?_)
  match a with
  | ⟨0, _⟩ => show cc0_transform_1 (grid0.coords t) 0 + 1 * 0 = 0; rw [e0]
  | ⟨1, _⟩ => show cc0_transform_1 (grid0.coords t) 1 + 1 * n.val = start (t.val / 8) + n.val; rw [e1]; omega
  | ⟨2, _⟩ => show cc0_transform_1 (grid0.coords t) 2 + 1 * k.val = k.val; rw [e2]; omega

/-- So two points of a column have the same tile. -/
theorem tile_eq (c : Dev nD) (t t' : Fin cfg0.N) (h : t.val / 8 = t'.val / 8) :
    (k0_pay1 (grid0.coords t) (iblk m c 1 t) : Vec Ideal S512x4096 .bf16) = k0_pay1 (grid0.coords t') (iblk m c 1 t') := by
  funext y
  rw [eq_ix2 y]
  refine (tile m c t _ _).trans (Eq.trans ?_ (tile m c t' _ _).symm)
  refine congrArg₂ (· * ·) (congrArg (wts m c) (funext fun a => Fin.ext ?_)) (congrArg scale h)
  match a with
  | ⟨0, _⟩ => rfl
  | ⟨1, _⟩ => rfl
  | ⟨2, _⟩ => exact congrArg (start · + _) h

/-- The scratch and the output block at a first point of a column. -/
theorem at_A (c : Dev nD) (t : Fin cfg0.N) (h0 : t.val % 8 = 0) :
    outsAt0 m c t.val t.isLt = (k0_pay2 (iblk m c 0 t) (k0_pay1 (grid0.coords t) (iblk m c 1 t)), k0_pay1 (grid0.coords t) (iblk m c 1 t)) := by
  rw [outsAt0_A m c t h0, out_A, scratch_A]

/-- The two at another point, over the scratch that the point before left. -/
theorem at_B (c : Dev nD) (t : Fin cfg0.N) (h0 : ¬t.val % 8 = 0) (s : Vec Ideal S512x4096 .bf16)
    (hs : (outsAt0 m c (t.val - 1) (Nat.lt_of_le_of_lt (Nat.sub_le _ _) t.isLt)).2 = s) :
    outsAt0 m c t.val t.isLt = (k0_pay2 (iblk m c 0 t) s, s) := by
  rw [outsAt0_B m c t h0, hs, out_B]
  unfold sout0_B_0
  rfl

/-- After every point the output block is the product of the two blocks, and the scratch holds the tile. -/
theorem block (c : Dev nD) : ∀ (n : ℕ) (h : n < cfg0.N),
    outsAt0 m c n h = (k0_pay2 (iblk m c 0 ⟨n, h⟩) (k0_pay1 (grid0.coords ⟨n, h⟩) (iblk m c 1 ⟨n, h⟩)), k0_pay1 (grid0.coords ⟨n, h⟩) (iblk m c 1 ⟨n, h⟩))
  | 0, h => at_A m c ⟨0, h⟩ rfl
  | n + 1, h => by
    by_cases h0 : (n + 1) % 8 = 0
    · exact at_A m c ⟨n + 1, h⟩ h0
    · refine at_B m c ⟨n + 1, h⟩ h0 _ ((congrArg Prod.snd (block c n (Nat.lt_of_succ_lt h))).trans ?_)
      exact tile_eq m c ⟨n, Nat.lt_of_succ_lt h⟩ ⟨n + 1, h⟩ (by show n / 8 = (n + 1) / 8; omega)

/-- That product, entry by entry. -/
theorem pay2_apply (x : Vec Ideal S1024x4096 .bf16) (w : Vec Ideal S512x4096 .bf16) (r : Fin 1024) (n : Fin 512) :
    k0_pay2 x w (ix2 r n) = ∑ k : Fin 4096, x (ix2 r k) * w (ix2 n k) := by
  unfold k0_pay2
  rw [truncf_apply]
  refine (Ideal.matmul_transposedRhs_apply (M := 1024) (K := 4096) (N := 512) none x w _ r n).trans ?_
  rw [constant_apply]
  simp only [Ideal.ofBits_def, Ideal.ofBits_zero_f32, zero_add]

/-- Column by column, what is read and its scale are the result's. -/
theorem col_of : ∀ q : Fin 25, ∀ n : Fin 512, Cert.EvenIn.col (place q.val * 512 + n.val) = start q.val + n.val := by
  intro q n
  have hq := q.isLt
  have hn := n.isLt
  dsimp only [Cert.EvenIn.col, place, start]
  split_ifs <;> omega

theorem scale_of (q : Fin 25) (n : Fin 512) : Cert.EvenIn.scale (place q.val * 512 + n.val) = scale q.val := by
  have hq := q.isLt
  have hn := n.isLt
  dsimp only [Cert.EvenIn.scale, place, scale]
  split_ifs <;> first | rfl | (exfalso; omega)

/-- An entry of the product at point `t` is the entry of `G` at its place in the array. -/
theorem entry (c : Dev nD) (t : Fin cfg0.N) (r : Fin 1024) (n : Fin 512) (h1 : t.val % 8 * 1024 + r.val < 8192)
    (h2 : place (t.val / 8) * 512 + n.val < 12800) :
    k0_pay2 (iblk m c 0 t) (k0_pay1 (grid0.coords t) (iblk m c 1 t)) (ix2 r n)
      = G m c (ix2 (⟨t.val % 8 * 1024 + r.val, h1⟩ : Fin 8192) (⟨place (t.val / 8) * 512 + n.val, h2⟩ : Fin 12800)) := by
  have hN : cfg0.N = 200 := N_0
  have hq : t.val / 8 < 25 := by have := t.isLt; omega
  refine (pay2_apply _ _ r n).trans ?_
  unfold G Cert.EvenIn.entry
  refine Finset.sum_congr rfl fun k _ => ?_
  rw [hid_block, tile]
  refine congrArg₂ (· * ·) rfl (congrArg₂ (· * ·) (congrArg (wts m c) (funext fun a => Fin.ext ?_)) (scale_of ⟨t.val / 8, hq⟩ n).symm)
  match a with
  | ⟨0, _⟩ => rfl
  | ⟨1, _⟩ => rfl
  | ⟨2, _⟩ => exact (col_of ⟨t.val / 8, hq⟩ n).symm

/-- A block with these entries is the window's block of `G`. -/
theorem read_block (c : Dev nD) (t : Fin cfg0.N) (g : FVec Ideal S8192x12800 .bf16) (x : Vec Ideal S1024x512 .bf16)
    (hx : ∀ (r : Fin 1024) (n : Fin 512) (h1 : t.val % 8 * 1024 + r.val < 8192) (h2 : place (t.val / 8) * 512 + n.val < 12800),
      x (ix2 r n) = g (ix2 (⟨t.val % 8 * 1024 + r.val, h1⟩ : Fin 8192) (⟨place (t.val / 8) * 512 + n.val, h2⟩ : Fin 12800))) :
    (cfg0.win 2).cut (grid0.coords t) x = ((cfg0.win 2).blk t).view.read (Elt Ideal) g := by
  obtain ⟨-, -, -, -, -, e0, e1⟩ := at_point t
  have ht := t.isLt
  have hN : cfg0.N = 200 := N_0
  funext y
  have hy0 : (y 0).val < 1024 := (y 0).isLt
  have hy1 : (y 1).val < 512 := (y 1).isLt
  have hp : place (t.val / 8) < 25 := by dsimp only [place]; split_ifs <;> omega
  have hx' := hx ⟨(y 0).val, hy0⟩ ⟨(y 1).val, hy1⟩ (by show t.val % 8 * 1024 + (y 0).val < 8192; omega)
    (by show place (t.val / 8) * 512 + (y 1).val < 12800; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val % 8 * 1024 + (y 0).val = win0_2.index t (0 : Fin 2) * 1024 + 1 * (y 0).val; rw [e0]; omega
    | ⟨1, _⟩ => show place (t.val / 8) * 512 + (y 1).val = win0_2.index t (1 : Fin 2) * 512 + 1 * (y 1).val; rw [e1]; omega

/-- Every block of the array is some column's. -/
theorem placed : ∀ b : Fin 25, ∃ q : Fin 25, place q.val = b.val := by decide

/-- The entries of the array in a point's block. -/
theorem mem_block (t : Fin cfg0.N) (i : S8192x12800.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v1).slice (win0_2.rect t)).set ↔ _
  rw [View.set_slice_whole, Rect.mem_set_unit]
  exact Iff.rfl

/-- Every entry of the array is in the block that some point writes back. -/
theorem covered (i : S8192x12800.Idx) :
    ∃ t : Fin cfg0.N, (cfg0.win 2).flush t = true ∧ i ∈ ((cfg0.win 2).blk t).view.set := by
  have hN : cfg0.N = 200 := N_0
  have h0 : (i 0).val < 8192 := (i 0).isLt
  have h1 : (i 1).val < 12800 := (i 1).isLt
  obtain ⟨q, hq⟩ := placed ⟨(i 1).val / 512, by omega⟩
  have hq25 := q.isLt
  refine ⟨⟨8 * q.val + (i 0).val / 1024, by omega⟩, flush0_2 _, ?_⟩
  obtain ⟨-, -, -, -, -, e0, e1⟩ := at_point ⟨8 * q.val + (i 0).val / 1024, by omega⟩
  have d0 : (8 * q.val + (i 0).val / 1024) % 8 = (i 0).val / 1024 := by omega
  have d1 : (8 * q.val + (i 0).val / 1024) / 8 = q.val := by omega
  dsimp only at e0 e1 hq
  rw [d0] at e0
  rw [d1, hq] at e1
  rw [mem_block]
  intro a
  match a with
  | ⟨0, _⟩ =>
    show win0_2.index _ (0 : Fin 2) * 1024 ≤ (i 0).val ∧ (i 0).val < win0_2.index _ (0 : Fin 2) * 1024 + 1024
    rw [e0]; omega
  | ⟨1, _⟩ =>
    show win0_2.index _ (1 : Fin 2) * 512 ≤ (i 1).val ∧ (i 1).val < win0_2.index _ (1 : Fin 2) * 512 + 512
    rw [e1]; omega

/-- What a point writes back is its block of `G`. -/
theorem flushed_eq (c : Dev nD) (t : Fin cfg0.N) :
    (dats m 0 c).flushed 2 t = ((cfg0.win 2).blk t).view.read (Elt Ideal) (G m c) := by
  rw [Value.flushed2, block]
  exact read_block c t (G m c) _ (entry m c t)

/-- The result array after the run. -/
theorem final (c : Dev nD) : (dats m 0 c).arrAt 2 cfg0.N = G m c :=
  (dats m 0 c).arrAt_eq_of_cover 2 (G m c) (fun t _ => flushed_eq m c t) covered

/-- Kernel and reference end with the same array. -/
theorem algebraic : Cert.algebraic_KernelIdeal_ReferenceIdeal := by
  intro m ρ m' ρ' _ hagree
  refine ⟨fun c => G m c, ?_, ?_⟩
  · exact (θ_run Cert.KernelIdeal.defs _ _).mono (fun _ h c => ⟨(h c).1.trans (final m c), (h c).2⟩)
      (Value.run_blocks (F := Ideal) m ρ)
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  exact funext fun i => Cert.EvenIn.reference _ _ i

end Cert.KernelIdeal.Product

end
-- ==== Proof.OddGate.lean ====
/-
  The gate projection of an odd layer: the result array of `OddGateIdeal` is the product of the hidden states and the
  columns 1632 … 5727 of the layer's input weights, entry by entry. The weight tile of a column of points is read by a
  window whose index map gives elements, and is kept in a scratch for the eight points of the column.
-/
module

public import proofs.«01_k».proof.Defs
public import proofs.«01_k».proof.Proof.Origin
public import proofs.«01_k».proof.Proof.Gen.OddGateIdeal.Value
public import proofs.«01_k».proof.Proof.Gen.OddGateRefIdeal.Run
public import proofs.«01_k».proof.Proof.Gen.OddGateRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.OddGateIdeal.Product

open Cert.OddGateIdeal Cert.OddGateIdeal.Gen

section Body
variable {F : FTy → Type} [FloatOps F]
variable (c : Dev nD) (i : grid0.Coords) (a2 : Memref sig .tc .vmem S1024x4096 .bf16) (h2 : a2.IsWhole)
  (a3 : Memref sig .tc .vmem S1x512x4096 .f32) (h3 : a3.IsWhole) (a4 : Memref sig .tc .vmem S1024x512 .bf16) (h4 : a4.IsWhole)
  (a5 : Memref sig .tc .vmem S512x4096 .bf16) (h5 : a5.IsWhole) (x : Vec F S1024x4096 .bf16) (w : Vec F S1x512x4096 .f32)

/-- At the first point of a column the scratch takes the weight tile, -/
theorem scratch_A (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero Cert.origin2]
  simp only [View.readAt_eq_ld, h3.read_unread, View.ld_unit_zero (S := S1x512x4096) Cert.origin3]

/-- and the output block is the product with it; -/
theorem out_A (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero Cert.origin2, View.readCov_unit_zero (S := S512x4096) _ Cert.origin2]
  simp only [View.readAt_eq_ld, h2.read_unread, h3.read_unread, View.ld_unit_zero (S := S1x512x4096) Cert.origin3,
    View.ld_unit_zero (S := S1024x4096) Cert.origin2]

/-- at the others it is the product with what the scratch holds. -/
theorem out_B (hc : ¬cond0_0 i) (s : Vec F S512x4096 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero Cert.origin2]
  simp only [View.readAt_eq_ld, h2.read_unread, h5.read_unread, View.ld_unit_zero (S := S512x4096) Cert.origin2,
    View.ld_unit_zero (S := S1024x4096) Cert.origin2]

end Body

variable (m : (ℓ : Loc nD τ sig) → Buf (Elt Ideal) ℓ)

/-- The hidden states and the weights, as launched. -/
abbrev hid (c : Dev nD) : FVec Ideal S8192x4096 .bf16 := m ((c : Thread nD τ).loc main_arg0)
abbrev wts (c : Dev nD) : FVec Ideal S2x4096x5728 .f32 := m ((c : Thread nD τ).loc main_arg1)

/-- The result, entry by entry: row `i 0` of the hidden states times column `1632 + i 1` of the weights. -/
def G (c : Dev nD) : FVec Ideal S8192x4096 .bf16 := fun i =>
  ∑ k : Fin 4096, hid m c (ix2 (⟨(i 0).val, idx2_lt0 i⟩ : Fin 8192) k)
    * wts m c (ix3 (0 : Fin 2) k (⟨1632 + (i 1).val, by have := idx2_lt1 i; omega⟩ : Fin 5728))

/-- Where the windows begin at point `t`. -/
theorem at_point : ∀ t : Fin cfg0.N, win0_0.index t 0 = t.val % 8 ∧ win0_0.index t 1 = 0
    ∧ cc0_transform_1 (grid0.coords t) 0 = 0 ∧ cc0_transform_1 (grid0.coords t) 1 = 1632 + 512 * (t.val / 8)
    ∧ cc0_transform_1 (grid0.coords t) 2 = 0
    ∧ win0_2.index t 0 = t.val % 8 ∧ win0_2.index t 1 = t.val / 8 :=
  (by decide +kernel : ∀ t : Fin grid0.N, _)

/-- The block of hidden states at point `t`. -/
theorem hid_block (c : Dev nD) (t : Fin cfg0.N) (r : Fin 1024) (k : Fin 4096) :
    (iblk m c 0 t : Vec Ideal S1024x4096 .bf16) (ix2 r k)
      = hid m c (ix2 (⟨t.val % 8 * 1024 + r.val, by omega⟩ : Fin 8192) k) := by
  obtain ⟨e0, e1, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = t.val % 8 * 1024 + r.val; rw [e0]; omega
  | ⟨1, _⟩ => show win0_0.index t 1 * 4096 + 1 * k.val = k.val; rw [e1]; omega

/-- The host's transposed weights. -/
theorem V_weights (c : Dev nD) (l : Fin 2) (n : Fin 5728) (k : Fin 4096) :
    (V m c main_v0 : Vec Ideal S2x5728x4096 .f32) (ix3 l n k) = wts m c (ix3 l k n) := by
  have e : V m c main_v0 = transpose S2x5728x4096 [0, 2, 1] (m ((c : Thread nD τ).loc main_arg1)) Facts₀.transposes_S2x4096x5728_S2x5728x4096_0_2_1 := by
    unfold V hostOps0
    after_results
  rw [e]
  exact transpose_apply _ _ _ _ _ (fun b => by match b with | ⟨0, _⟩ => rfl | ⟨1, _⟩ => rfl | ⟨2, _⟩ => rfl)

/-- The weight tile at point `t`: it depends on the column of points alone. -/
theorem tile (c : Dev nD) (t : Fin cfg0.N) (n : Fin 512) (k : Fin 4096) :
    k0_pay1 (iblk m c 1 t) (ix2 n k)
      = wts m c (ix3 (0 : Fin 2) k (⟨1632 + 512 * (t.val / 8) + n.val, by have := t.isLt; have h : cfg0.N = 64 := N_0; omega⟩ : Fin 5728)) := by
  obtain ⟨-, -, e0, e1, e2, -⟩ := at_point t
  unfold k0_pay1
  rw [shapeCast_self, truncf_apply]
  rw [shapeCast_dropUnit_apply]
  unfold iblk
  rw [View.read_apply]
  show V m c main_v0 _ = _
  rw [← V_weights]
  refine congrArg (V m c main_v0) (funext fun a => Fin.ext ?_)
  match a with
  | ⟨0, _⟩ => show cc0_transform_1 (grid0.coords t) 0 + 1 * 0 = 0; rw [e0]
  | ⟨1, _⟩ => show cc0_transform_1 (grid0.coords t) 1 + 1 * n.val = 1632 + 512 * (t.val / 8) + n.val; rw [e1]; omega
  | ⟨2, _⟩ => show cc0_transform_1 (grid0.coords t) 2 + 1 * k.val = k.val; rw [e2]; omega

/-- So two points of a column have the same tile. -/
theorem tile_eq (c : Dev nD) (t t' : Fin cfg0.N) (h : t.val / 8 = t'.val / 8) :
    (k0_pay1 (iblk m c 1 t) : Vec Ideal S512x4096 .bf16) = k0_pay1 (iblk m c 1 t') := by
  funext y
  rw [eq_ix2 y]
  refine (tile m c t _ _).trans (Eq.trans (congrArg (wts m c) (funext fun a => Fin.ext ?_)) (tile m c t' _ _).symm)
  match a with
  | ⟨0, _⟩ => rfl
  | ⟨1, _⟩ => rfl
  | ⟨2, _⟩ => show 1632 + 512 * (t.val / 8) + _ = 1632 + 512 * (t'.val / 8) + _; rw [h]

/-- The scratch and the output block at a first point of a column. -/
theorem at_A (c : Dev nD) (t : Fin cfg0.N) (h0 : t.val % 8 = 0) :
    outsAt0 m c t.val t.isLt = (k0_pay2 (iblk m c 0 t) (k0_pay1 (iblk m c 1 t)), k0_pay1 (iblk m c 1 t)) := by
  rw [outsAt0_A m c t h0, out_A, scratch_A]

/-- The two at another point, over the scratch that the point before left. -/
theorem at_B (c : Dev nD) (t : Fin cfg0.N) (h0 : ¬t.val % 8 = 0) (s : Vec Ideal S512x4096 .bf16)
    (hs : (outsAt0 m c (t.val - 1) (Nat.lt_of_le_of_lt (Nat.sub_le _ _) t.isLt)).2 = s) :
    outsAt0 m c t.val t.isLt = (k0_pay2 (iblk m c 0 t) s, s) := by
  rw [outsAt0_B m c t h0, hs, out_B]
  unfold sout0_B_0
  rfl

/-- After every point the output block is the product of the two blocks, and the scratch holds the tile. -/
theorem block (c : Dev nD) : ∀ (n : ℕ) (h : n < cfg0.N),
    outsAt0 m c n h = (k0_pay2 (iblk m c 0 ⟨n, h⟩) (k0_pay1 (iblk m c 1 ⟨n, h⟩)), k0_pay1 (iblk m c 1 ⟨n, h⟩))
  | 0, h => at_A m c ⟨0, h⟩ rfl
  | n + 1, h => by
    by_cases h0 : (n + 1) % 8 = 0
    · exact at_A m c ⟨n + 1, h⟩ h0
    · refine at_B m c ⟨n + 1, h⟩ h0 _ ((congrArg Prod.snd (block c n (Nat.lt_of_succ_lt h))).trans ?_)
      exact tile_eq m c ⟨n, Nat.lt_of_succ_lt h⟩ ⟨n + 1, h⟩ (by show n / 8 = (n + 1) / 8; omega)

/-- That product, entry by entry. -/
theorem pay2_apply (x : Vec Ideal S1024x4096 .bf16) (w : Vec Ideal S512x4096 .bf16) (r : Fin 1024) (n : Fin 512) :
    k0_pay2 x w (ix2 r n) = ∑ k : Fin 4096, x (ix2 r k) * w (ix2 n k) := by
  unfold k0_pay2
  rw [truncf_apply]
  refine (Ideal.matmul_transposedRhs_apply (M := 1024) (K := 4096) (N := 512) none x w _ r n).trans ?_
  rw [constant_apply]
  simp only [Ideal.ofBits_def, Ideal.ofBits_zero_f32, zero_add]

/-- An entry of the product at point `t` is the entry of `G` at its place in the array. -/
theorem entry (c : Dev nD) (t : Fin cfg0.N) (r : Fin 1024) (n : Fin 512) (h1 : t.val % 8 * 1024 + r.val < 8192)
    (h2 : t.val / 8 * 512 + n.val < 4096) :
    k0_pay2 (iblk m c 0 t) (k0_pay1 (iblk m c 1 t)) (ix2 r n)
      = G m c (ix2 (⟨t.val % 8 * 1024 + r.val, h1⟩ : Fin 8192) (⟨t.val / 8 * 512 + n.val, h2⟩ : Fin 4096)) := by
  refine (pay2_apply _ _ r n).trans (Finset.sum_congr rfl fun k _ => ?_)
  rw [hid_block, tile]
  refine congrArg₂ (· * ·) rfl (congrArg (wts m c) (funext fun a => Fin.ext ?_))
  match a with
  | ⟨0, _⟩ => rfl
  | ⟨1, _⟩ => rfl
  | ⟨2, _⟩ => show 1632 + 512 * (t.val / 8) + n.val = 1632 + (t.val / 8 * 512 + n.val); omega

/-- A block with these entries is the window's block of `G`. -/
theorem read_block (c : Dev nD) (t : Fin cfg0.N) (g : FVec Ideal S8192x4096 .bf16) (x : Vec Ideal S1024x512 .bf16)
    (hx : ∀ (r : Fin 1024) (n : Fin 512) (h1 : t.val % 8 * 1024 + r.val < 8192) (h2 : t.val / 8 * 512 + n.val < 4096),
      x (ix2 r n) = g (ix2 (⟨t.val % 8 * 1024 + r.val, h1⟩ : Fin 8192) (⟨t.val / 8 * 512 + n.val, h2⟩ : Fin 4096))) :
    (cfg0.win 2).cut (grid0.coords t) x = ((cfg0.win 2).blk t).view.read (Elt Ideal) g := by
  obtain ⟨-, -, -, -, -, e0, e1⟩ := at_point t
  have ht := t.isLt
  have hN : cfg0.N = 64 := N_0
  funext y
  have hy0 : (y 0).val < 1024 := (y 0).isLt
  have hy1 : (y 1).val < 512 := (y 1).isLt
  have hx' := hx ⟨(y 0).val, hy0⟩ ⟨(y 1).val, hy1⟩ (by show t.val % 8 * 1024 + (y 0).val < 8192; omega)
    (by show t.val / 8 * 512 + (y 1).val < 4096; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val % 8 * 1024 + (y 0).val = win0_2.index t (0 : Fin 2) * 1024 + 1 * (y 0).val; rw [e0]; omega
    | ⟨1, _⟩ => show t.val / 8 * 512 + (y 1).val = win0_2.index t (1 : Fin 2) * 512 + 1 * (y 1).val; rw [e1]; omega

/-- What a point writes back is its block of `G`. -/
theorem flushed_eq (c : Dev nD) (t : Fin cfg0.N) :
    (dats m 0 c).flushed 2 t = ((cfg0.win 2).blk t).view.read (Elt Ideal) (G m c) := by
  rw [Value.flushed2, block]
  exact read_block c t (G m c) _ (entry m c t)

/-- The result array after the run. -/
theorem final (c : Dev nD) : (dats m 0 c).arrAt 2 cfg0.N = G m c :=
  (dats m 0 c).arrAt_eq_of_cover 2 (G m c) (fun t _ => flushed_eq m c t) (fun i => (Value.covered_iff2 i).2 (by
    have h0 : (i 0).val < 8192 := (i 0).isLt; have h1 : (i 1).val < 4096 := (i 1).isLt; omega))

/-- The reference's result is the same function of the same arrays. -/
theorem reference (x0 : FVec Ideal S8192x4096 .bf16) (x1 : FVec Ideal S2x4096x5728 .f32) (i : S8192x4096.Idx) :
    Cert.OddGateRefIdeal.Read.val_main_v9 (F := Ideal) x0 x1 i
      = ∑ k : Fin 4096, x0 (ix2 (⟨(i 0).val, idx2_lt0 i⟩ : Fin 8192) k)
        * x1 (ix3 (0 : Fin 2) k (⟨1632 + (i 1).val, by have := idx2_lt1 i; omega⟩ : Fin 5728)) := by
  rw [Cert.OddGateRefIdeal.Read.val_main_v9_apply, Ideal.truncf_def, Cert.OddGateRefIdeal.Read.val_main_v8_apply,
    Cert.OddGateRefIdeal.Read.val_main_v3_apply]
  refine Finset.sum_congr rfl fun k _ => ?_
  rw [Cert.OddGateRefIdeal.Read.val_main_v0_apply, Ideal.extf_def, Cert.OddGateRefIdeal.Read.val_main_v2_apply,
    Cert.OddGateRefIdeal.Read.val_main_v1_apply]
  have hi := idx2_lt1 i
  have hk := k.isLt
  refine congrArg₂ (· * ·) (congrArg x0 (funext fun a => Fin.ext ?_)) (congrArg x1 (funext fun a => Fin.ext ?_))
  · match a with | ⟨0, _⟩ => rfl | ⟨1, _⟩ => rfl
  · match a with
    | ⟨0, _⟩ => rfl
    | ⟨1, _⟩ => show (k.val * 5728 + (1632 + (i 1).val)) / 5728 % 4096 = k.val; omega
    | ⟨2, _⟩ => show (k.val * 5728 + (1632 + (i 1).val)) % 5728 = 1632 + (i 1).val; omega

/-- Kernel and reference end with the same array. -/
theorem algebraic : Cert.algebraic_OddGateIdeal_OddGateRefIdeal := by
  intro m ρ m' ρ' _ hagree
  refine ⟨fun c => G m c, ?_, ?_⟩
  · exact (θ_run Cert.OddGateIdeal.defs _ _).mono (fun _ h c => ⟨(h c).1.trans (final m c), (h c).2⟩)
      (Value.run_blocks (F := Ideal) m ρ)
  refine (θ_run Cert.OddGateRefIdeal.defs _ _).mono (fun _ h c => ⟨(h c).1.trans ?_, (h c).2⟩)
    (Cert.OddGateRefIdeal.Value.run (F := Ideal) m' ρ')
  rw [(hagree c).1, (hagree c).2]
  exact funext fun i => reference _ _ i

end Cert.OddGateIdeal.Product

end
-- ==== Proof.OddLatent.lean ====
/-
  The latent projections of an odd layer: the result array of `OddLatentIdeal` is the product of the hidden states and the
  columns 0 … 1535 of the layer's input weights, entry by entry; the reference joins the query latent (1024 columns) and
  the key and value latent (512 columns). The weight tile of a column of points is read by a
  window whose index map gives elements, and is kept in a scratch for the eight points of the column.
-/
module

public import proofs.«01_k».proof.Defs
public import proofs.«01_k».proof.Proof.Origin
public import proofs.«01_k».proof.Proof.Gen.OddLatentIdeal.Value
public import proofs.«01_k».proof.Proof.Gen.OddLatentRefIdeal.Run
public import proofs.«01_k».proof.Proof.Gen.OddLatentRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.OddLatentIdeal.Product

open Cert.OddLatentIdeal Cert.OddLatentIdeal.Gen

section Body
variable {F : FTy → Type} [FloatOps F]
variable (c : Dev nD) (i : grid0.Coords) (a2 : Memref sig .tc .vmem S1024x4096 .bf16) (h2 : a2.IsWhole)
  (a3 : Memref sig .tc .vmem S1x512x4096 .f32) (h3 : a3.IsWhole) (a4 : Memref sig .tc .vmem S1024x512 .f32) (h4 : a4.IsWhole)
  (a5 : Memref sig .tc .vmem S512x4096 .bf16) (h5 : a5.IsWhole) (x : Vec F S1024x4096 .bf16) (w : Vec F S1x512x4096 .f32)

/-- At the first point of a column the scratch takes the weight tile, -/
theorem scratch_A (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero Cert.origin2]
  simp only [View.readAt_eq_ld, h3.read_unread, View.ld_unit_zero (S := S1x512x4096) Cert.origin3]

/-- and the output block is the product with it; -/
theorem out_A (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero Cert.origin2, View.readCov_unit_zero (S := S512x4096) _ Cert.origin2]
  simp only [View.readAt_eq_ld, h2.read_unread, h3.read_unread, View.ld_unit_zero (S := S1x512x4096) Cert.origin3,
    View.ld_unit_zero (S := S1024x4096) Cert.origin2]

/-- at the others it is the product with what the scratch holds. -/
theorem out_B (hc : ¬cond0_0 i) (s : Vec F S512x4096 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero Cert.origin2]
  simp only [View.readAt_eq_ld, h2.read_unread, h5.read_unread, View.ld_unit_zero (S := S512x4096) Cert.origin2,
    View.ld_unit_zero (S := S1024x4096) Cert.origin2]

end Body

variable (m : (ℓ : Loc nD τ sig) → Buf (Elt Ideal) ℓ)

/-- The hidden states and the weights, as launched. -/
abbrev hid (c : Dev nD) : FVec Ideal S8192x4096 .bf16 := m ((c : Thread nD τ).loc main_arg0)
abbrev wts (c : Dev nD) : FVec Ideal S2x4096x5728 .f32 := m ((c : Thread nD τ).loc main_arg1)

/-- The result, entry by entry: row `i 0` of the hidden states times column `i 1` of the weights. -/
def G (c : Dev nD) : FVec Ideal S8192x1536 .f32 := fun i =>
  ∑ k : Fin 4096, hid m c (ix2 (⟨(i 0).val, idx2_lt0 i⟩ : Fin 8192) k)
    * wts m c (ix3 (0 : Fin 2) k (⟨(i 1).val, by have := idx2_lt1 i; omega⟩ : Fin 5728))

/-- Where the windows begin at point `t`. -/
theorem at_point : ∀ t : Fin cfg0.N, win0_0.index t 0 = t.val % 8 ∧ win0_0.index t 1 = 0
    ∧ cc0_transform_1 (grid0.coords t) 0 = 0 ∧ cc0_transform_1 (grid0.coords t) 1 = 512 * (t.val / 8)
    ∧ cc0_transform_1 (grid0.coords t) 2 = 0
    ∧ win0_2.index t 0 = t.val % 8 ∧ win0_2.index t 1 = t.val / 8 :=
  (by decide +kernel : ∀ t : Fin grid0.N, _)

/-- The block of hidden states at point `t`. -/
theorem hid_block (c : Dev nD) (t : Fin cfg0.N) (r : Fin 1024) (k : Fin 4096) :
    (iblk m c 0 t : Vec Ideal S1024x4096 .bf16) (ix2 r k)
      = hid m c (ix2 (⟨t.val % 8 * 1024 + r.val, by omega⟩ : Fin 8192) k) := by
  obtain ⟨e0, e1, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = t.val % 8 * 1024 + r.val; rw [e0]; omega
  | ⟨1, _⟩ => show win0_0.index t 1 * 4096 + 1 * k.val = k.val; rw [e1]; omega

/-- The host's transposed weights. -/
theorem V_weights (c : Dev nD) (l : Fin 2) (n : Fin 5728) (k : Fin 4096) :
    (V m c main_v0 : Vec Ideal S2x5728x4096 .f32) (ix3 l n k) = wts m c (ix3 l k n) := by
  have e : V m c main_v0 = transpose S2x5728x4096 [0, 2, 1] (m ((c : Thread nD τ).loc main_arg1)) Facts₀.transposes_S2x4096x5728_S2x5728x4096_0_2_1 := by
    unfold V hostOps0
    after_results
  rw [e]
  exact transpose_apply _ _ _ _ _ (fun b => by match b with | ⟨0, _⟩ => rfl | ⟨1, _⟩ => rfl | ⟨2, _⟩ => rfl)

/-- The weight tile at point `t`: it depends on the column of points alone. -/
theorem tile (c : Dev nD) (t : Fin cfg0.N) (n : Fin 512) (k : Fin 4096) :
    k0_pay1 (iblk m c 1 t) (ix2 n k)
      = wts m c (ix3 (0 : Fin 2) k (⟨512 * (t.val / 8) + n.val, by have := t.isLt; have h : cfg0.N = 24 := N_0; omega⟩ : Fin 5728)) := by
  obtain ⟨-, -, e0, e1, e2, -⟩ := at_point t
  unfold k0_pay1
  rw [shapeCast_self, truncf_apply]
  rw [shapeCast_dropUnit_apply]
  unfold iblk
  rw [View.read_apply]
  show V m c main_v0 _ = _
  rw [← V_weights]
  refine congrArg (V m c main_v0) (funext fun a => Fin.ext ?_)
  match a with
  | ⟨0, _⟩ => show cc0_transform_1 (grid0.coords t) 0 + 1 * 0 = 0; rw [e0]
  | ⟨1, _⟩ => show cc0_transform_1 (grid0.coords t) 1 + 1 * n.val = 512 * (t.val / 8) + n.val; rw [e1]; omega
  | ⟨2, _⟩ => show cc0_transform_1 (grid0.coords t) 2 + 1 * k.val = k.val; rw [e2]; omega

/-- So two points of a column have the same tile. -/
theorem tile_eq (c : Dev nD) (t t' : Fin cfg0.N) (h : t.val / 8 = t'.val / 8) :
    (k0_pay1 (iblk m c 1 t) : Vec Ideal S512x4096 .bf16) = k0_pay1 (iblk m c 1 t') := by
  funext y
  rw [eq_ix2 y]
  refine (tile m c t _ _).trans (Eq.trans (congrArg (wts m c) (funext fun a => Fin.ext ?_)) (tile m c t' _ _).symm)
  match a with
  | ⟨0, _⟩ => rfl
  | ⟨1, _⟩ => rfl
  | ⟨2, _⟩ => show 512 * (t.val / 8) + _ = 512 * (t'.val / 8) + _; rw [h]

/-- The scratch and the output block at a first point of a column. -/
theorem at_A (c : Dev nD) (t : Fin cfg0.N) (h0 : t.val % 8 = 0) :
    outsAt0 m c t.val t.isLt = (k0_pay2 (iblk m c 0 t) (k0_pay1 (iblk m c 1 t)), k0_pay1 (iblk m c 1 t)) := by
  rw [outsAt0_A m c t h0, out_A, scratch_A]

/-- The two at another point, over the scratch that the point before left. -/
theorem at_B (c : Dev nD) (t : Fin cfg0.N) (h0 : ¬t.val % 8 = 0) (s : Vec Ideal S512x4096 .bf16)
    (hs : (outsAt0 m c (t.val - 1) (Nat.lt_of_le_of_lt (Nat.sub_le _ _) t.isLt)).2 = s) :
    outsAt0 m c t.val t.isLt = (k0_pay2 (iblk m c 0 t) s, s) := by
  rw [outsAt0_B m c t h0, hs, out_B]
  unfold sout0_B_0
  rfl

/-- After every point the output block is the product of the two blocks, and the scratch holds the tile. -/
theorem block (c : Dev nD) : ∀ (n : ℕ) (h : n < cfg0.N),
    outsAt0 m c n h = (k0_pay2 (iblk m c 0 ⟨n, h⟩) (k0_pay1 (iblk m c 1 ⟨n, h⟩)), k0_pay1 (iblk m c 1 ⟨n, h⟩))
  | 0, h => at_A m c ⟨0, h⟩ rfl
  | n + 1, h => by
    by_cases h0 : (n + 1) % 8 = 0
    · exact at_A m c ⟨n + 1, h⟩ h0
    · refine at_B m c ⟨n + 1, h⟩ h0 _ ((congrArg Prod.snd (block c n (Nat.lt_of_succ_lt h))).trans ?_)
      exact tile_eq m c ⟨n, Nat.lt_of_succ_lt h⟩ ⟨n + 1, h⟩ (by show n / 8 = (n + 1) / 8; omega)

/-- That product, entry by entry. -/
theorem pay2_apply (x : Vec Ideal S1024x4096 .bf16) (w : Vec Ideal S512x4096 .bf16) (r : Fin 1024) (n : Fin 512) :
    k0_pay2 x w (ix2 r n) = ∑ k : Fin 4096, x (ix2 r k) * w (ix2 n k) := by
  unfold k0_pay2
  refine (Ideal.matmul_transposedRhs_apply (M := 1024) (K := 4096) (N := 512) none x w _ r n).trans ?_
  rw [constant_apply]
  simp only [Ideal.ofBits_def, Ideal.ofBits_zero_f32, zero_add]

/-- An entry of the product at point `t` is the entry of `G` at its place in the array. -/
theorem entry (c : Dev nD) (t : Fin cfg0.N) (r : Fin 1024) (n : Fin 512) (h1 : t.val % 8 * 1024 + r.val < 8192)
    (h2 : t.val / 8 * 512 + n.val < 1536) :
    k0_pay2 (iblk m c 0 t) (k0_pay1 (iblk m c 1 t)) (ix2 r n)
      = G m c (ix2 (⟨t.val % 8 * 1024 + r.val, h1⟩ : Fin 8192) (⟨t.val / 8 * 512 + n.val, h2⟩ : Fin 1536)) := by
  refine (pay2_apply _ _ r n).trans (Finset.sum_congr rfl fun k _ => ?_)
  rw [hid_block, tile]
  refine congrArg₂ (· * ·) rfl (congrArg (wts m c) (funext fun a => Fin.ext ?_))
  match a with
  | ⟨0, _⟩ => rfl
  | ⟨1, _⟩ => rfl
  | ⟨2, _⟩ => show 512 * (t.val / 8) + n.val = (t.val / 8 * 512 + n.val); omega

/-- A block with these entries is the window's block of `G`. -/
theorem read_block (c : Dev nD) (t : Fin cfg0.N) (g : FVec Ideal S8192x1536 .f32) (x : Vec Ideal S1024x512 .f32)
    (hx : ∀ (r : Fin 1024) (n : Fin 512) (h1 : t.val % 8 * 1024 + r.val < 8192) (h2 : t.val / 8 * 512 + n.val < 1536),
      x (ix2 r n) = g (ix2 (⟨t.val % 8 * 1024 + r.val, h1⟩ : Fin 8192) (⟨t.val / 8 * 512 + n.val, h2⟩ : Fin 1536))) :
    (cfg0.win 2).cut (grid0.coords t) x = ((cfg0.win 2).blk t).view.read (Elt Ideal) g := by
  obtain ⟨-, -, -, -, -, e0, e1⟩ := at_point t
  have ht := t.isLt
  have hN : cfg0.N = 24 := N_0
  funext y
  have hy0 : (y 0).val < 1024 := (y 0).isLt
  have hy1 : (y 1).val < 512 := (y 1).isLt
  have hx' := hx ⟨(y 0).val, hy0⟩ ⟨(y 1).val, hy1⟩ (by show t.val % 8 * 1024 + (y 0).val < 8192; omega)
    (by show t.val / 8 * 512 + (y 1).val < 1536; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val % 8 * 1024 + (y 0).val = win0_2.index t (0 : Fin 2) * 1024 + 1 * (y 0).val; rw [e0]; omega
    | ⟨1, _⟩ => show t.val / 8 * 512 + (y 1).val = win0_2.index t (1 : Fin 2) * 512 + 1 * (y 1).val; rw [e1]; omega

/-- What a point writes back is its block of `G`. -/
theorem flushed_eq (c : Dev nD) (t : Fin cfg0.N) :
    (dats m 0 c).flushed 2 t = ((cfg0.win 2).blk t).view.read (Elt Ideal) (G m c) := by
  rw [Value.flushed2, block]
  exact read_block c t (G m c) _ (entry m c t)

/-- The result array after the run. -/
theorem final (c : Dev nD) : (dats m 0 c).arrAt 2 cfg0.N = G m c :=
  (dats m 0 c).arrAt_eq_of_cover 2 (G m c) (fun t _ => flushed_eq m c t) (fun i => (Value.covered_iff2 i).2 (by
    have h0 : (i 0).val < 8192 := (i 0).isLt; have h1 : (i 1).val < 1536 := (i 1).isLt; omega))

/-- A column of the reference's whole product. -/
theorem product (x0 : FVec Ideal S8192x4096 .bf16) (x1 : FVec Ideal S2x4096x5728 .f32) (r : Fin 8192) (n : Fin 5728) :
    Cert.OddLatentRefIdeal.Read.val_main_v3 (F := Ideal) x0 x1 (ix2 r n)
      = ∑ k : Fin 4096, x0 (ix2 r k) * x1 (ix3 (0 : Fin 2) k n) := by
  rw [Cert.OddLatentRefIdeal.Read.val_main_v3_apply]
  refine Finset.sum_congr rfl fun k _ => ?_
  rw [Cert.OddLatentRefIdeal.Read.val_main_v0_apply, Ideal.extf_def, Cert.OddLatentRefIdeal.Read.val_main_v2_apply,
    Cert.OddLatentRefIdeal.Read.val_main_v1_apply]
  have hn := n.isLt
  have hk := k.isLt
  refine congrArg₂ (· * ·) (congrArg x0 (funext fun a => Fin.ext ?_)) (congrArg x1 (funext fun a => Fin.ext ?_))
  · match a with | ⟨0, _⟩ => rfl | ⟨1, _⟩ => rfl
  · match a with
    | ⟨0, _⟩ => rfl
    | ⟨1, _⟩ => show (k.val * 5728 + n.val) / 5728 % 4096 = k.val; omega
    | ⟨2, _⟩ => show (k.val * 5728 + n.val) % 5728 = n.val; omega

/-- The reference's result is the same function of the same arrays: its two pieces are neighbouring columns. -/
theorem reference (x0 : FVec Ideal S8192x4096 .bf16) (x1 : FVec Ideal S2x4096x5728 .f32) (i : S8192x1536.Idx) :
    Cert.OddLatentRefIdeal.Read.val_main_v9 (F := Ideal) x0 x1 i
      = ∑ k : Fin 4096, x0 (ix2 (⟨(i 0).val, idx2_lt0 i⟩ : Fin 8192) k)
        * x1 (ix3 (0 : Fin 2) k (⟨(i 1).val, by have := idx2_lt1 i; omega⟩ : Fin 5728)) := by
  have hi := idx2_lt1 i
  rw [← product]
  unfold Cert.OddLatentRefIdeal.Read.val_main_v9
  by_cases h : (i 1).val < 1024
  · refine (concatenate_pair_apply_left (s₁ := Cert.OddLatentRefIdeal.S8192x1024) (s₂ := Cert.OddLatentRefIdeal.S8192x512) 1 _ _ _ i rfl
      (ix2 (⟨(i 0).val, idx2_lt0 i⟩ : Fin 8192) (⟨(i 1).val, h⟩ : Fin 1024)) ?_).trans ?_
    · intro b; match b with | ⟨0, _⟩ => rfl | ⟨1, _⟩ => rfl
    · rw [Cert.OddLatentRefIdeal.Read.val_main_v4_apply]
      exact congrArg _ (funext fun a => Fin.ext (by match a with | ⟨0, _⟩ => rfl | ⟨1, _⟩ => rfl))
  · refine (concatenate_pair_apply_right (s₁ := Cert.OddLatentRefIdeal.S8192x1024) (s₂ := Cert.OddLatentRefIdeal.S8192x512) 1 _ _ _ i rfl rfl
      (ix2 (⟨(i 0).val, idx2_lt0 i⟩ : Fin 8192) (⟨(i 1).val - 1024, by omega⟩ : Fin 512)) ?_ ?_).trans ?_
    · intro b hb; match b with | ⟨0, _⟩ => rfl | ⟨1, _⟩ => exact absurd rfl hb
    · show (i 1).val - 1024 + 1024 = (i 1).val; omega
    · rw [Cert.OddLatentRefIdeal.Read.val_main_v5_apply]
      refine congrArg _ (funext fun a => Fin.ext ?_)
      match a with
      | ⟨0, _⟩ => rfl
      | ⟨1, _⟩ => show 1024 + ((i 1).val - 1024) = (i 1).val; omega

/-- Kernel and reference end with the same array. -/
theorem algebraic : Cert.algebraic_OddLatentIdeal_OddLatentRefIdeal := by
  intro m ρ m' ρ' _ hagree
  refine ⟨fun c => G m c, ?_, ?_⟩
  · exact (θ_run Cert.OddLatentIdeal.defs _ _).mono (fun _ h c => ⟨(h c).1.trans (final m c), (h c).2⟩)
      (Value.run_blocks (F := Ideal) m ρ)
  refine (θ_run Cert.OddLatentRefIdeal.defs _ _).mono (fun _ h c => ⟨(h c).1.trans ?_, (h c).2⟩)
    (Cert.OddLatentRefIdeal.Value.run (F := Ideal) m' ρ')
  rw [(hagree c).1, (hagree c).2]
  exact funext fun i => reference _ _ i

end Cert.OddLatentIdeal.Product

end
-- ==== Proof.Ple.lean ====
/-
  The per-layer embedding's gate: the result array of `PleIdeal` is, entry by entry, the residual plus the logistic function
  of the hidden states' gate product times the projected embedding. Two scratches keep the two weight tiles of a column of
  points; the reference divides one by one plus the exponential as the kernel does, so the two are compared as written.
-/
module

public import proofs.«01_k».proof.Defs
public import proofs.«01_k».proof.Proof.Origin
public import proofs.«01_k».proof.Proof.Consts
public import proofs.«01_k».proof.Proof.Gen.PleIdeal.Value
public import proofs.«01_k».proof.Proof.Gen.PleRefIdeal.Run
public import proofs.«01_k».proof.Proof.Gen.PleRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.PleIdeal.Product

open Cert.PleIdeal Cert.PleIdeal.Gen

section Body
variable {F : FTy → Type} [FloatOps F]
variable (c : Dev nD) (i : grid0.Coords)
  (a2 : Memref sig .tc .vmem S1024x4096 .bf16) (h2 : a2.IsWhole)
  (a3 : Memref sig .tc .vmem S1x4096x512 .f32) (h3 : a3.IsWhole)
  (a4 : Memref sig .tc .vmem S1x1024x256 .f32) (h4 : a4.IsWhole)
  (a5 : Memref sig .tc .vmem S1x256x512 .f32) (h5 : a5.IsWhole)
  (a6 : Memref sig .tc .vmem S1024x512 .f32) (h6 : a6.IsWhole)
  (a7 : Memref sig .tc .vmem S1024x512 .f32) (h7 : a7.IsWhole)
  (a8 : Memref sig .tc .vmem S4096x512 .bf16) (h8 : a8.IsWhole)
  (a9 : Memref sig .tc .vmem S256x512 .bf16) (h9 : a9.IsWhole)
  (x : Vec F S1024x4096 .bf16)
  (g : Vec F S1x4096x512 .f32)
  (p : Vec F S1x1024x256 .f32)
  (w : Vec F S1x256x512 .f32)
  (h : Vec F S1024x512 .f32)

/-- At the first point of a column a scratch takes a weight tile, -/
theorem scratch_A0 (hc : cond0_0 i) : sout0_A_0 c i a2 h2 a3 h3 a4 h4 a5 h5 a6 h6 a7 h7 a8 h8 a9 h9 hc x g p w h = k0_pay1 g := by
  unfold sout0_A_0
  rw [View.read_writes_eq_canon _ _ _ (scover0_A_0 c i a2 h2 a3 h3 a4 h4 a5 h5 a6 h6 a7 h7 a8 h8 a9 h9 hc x g p w h)]
  unfold kernelRun0_A
  dsimp only
  sl_unfold_words
  rw [View.canon_unit_zero Cert.origin2]
  simp only [View.readAt_eq_ld, h3.read_unread, View.ld_unit_zero (S := S1x4096x512) Cert.origin3]

/-- At the first point of a column a scratch takes a weight tile, -/
theorem scratch_A1 (hc : cond0_0 i) : sout0_A_1 c i a2 h2 a3 h3 a4 h4 a5 h5 a6 h6 a7 h7 a8 h8 a9 h9 hc x g p w h = k0_pay2 w := by
  unfold sout0_A_1
  rw [View.read_writes_eq_canon _ _ _ (scover0_A_1 c i a2 h2 a3 h3 a4 h4 a5 h5 a6 h6 a7 h7 a8 h8 a9 h9 hc x g p w h)]
  unfold kernelRun0_A
  dsimp only
  sl_unfold_words
  rw [View.canon_unit_zero Cert.origin2]
  simp only [View.readAt_eq_ld, h5.read_unread, View.ld_unit_zero (S := S1x256x512) Cert.origin3]

/-- and the output block is computed from it; -/
theorem out_A (hc : cond0_0 i) : out0_A_5 c i a2 h2 a3 h3 a4 h4 a5 h5 a6 h6 a7 h7 a8 h8 a9 h9 hc x g p w h = k0_pay3 x (k0_pay1 g) p (k0_pay2 w) h := by
  unfold out0_A_5
  rw [View.read_writes_eq_canon _ _ _ (cover0_A_5 c i a2 h2 a3 h3 a4 h4 a5 h5 a6 h6 a7 h7 a8 h8 a9 h9 hc x g p w h)]
  unfold kernelRun0_A
  dsimp only
  sl_unfold_words
  rw [View.canon_unit_zero Cert.origin2, View.readCov_unit_zero (S := S4096x512) _ Cert.origin2, View.readCov_unit_zero (S := S256x512) _ Cert.origin2]
  simp only [View.readAt_eq_ld, h2.read_unread, h3.read_unread, h4.read_unread, h5.read_unread, h6.read_unread, View.ld_unit_zero (S := S1024x4096) Cert.origin2, View.ld_unit_zero (S := S1x4096x512) Cert.origin3, View.ld_unit_zero (S := S1x1024x256) Cert.origin3, View.ld_unit_zero (S := S1x256x512) Cert.origin3, View.ld_unit_zero (S := S1024x512) Cert.origin2]

/-- at the others it is computed from what the scratch holds. -/
theorem out_B (hc : ¬cond0_0 i) (s0 : Vec F S4096x512 .bf16) (s1 : Vec F S256x512 .bf16) :
    out0_B_5 c i a2 h2 a3 h3 a4 h4 a5 h5 a6 h6 a7 h7 a8 h8 a9 h9 hc x g p w h s0 s1 = k0_pay3 x s0 p s1 h := by
  unfold out0_B_5
  rw [View.read_writes_eq_canon _ _ _ (cover0_B_5 c i a2 h2 a3 h3 a4 h4 a5 h5 a6 h6 a7 h7 a8 h8 a9 h9 hc x g p w h s0 s1)]
  unfold kernelRun0_B
  dsimp only
  sl_unfold_words
  rw [View.canon_unit_zero Cert.origin2]
  simp only [View.readAt_eq_ld, h2.read_unread, h4.read_unread, h6.read_unread, h8.read_unread, h9.read_unread, View.ld_unit_zero (S := S1024x4096) Cert.origin2, View.ld_unit_zero (S := S1x1024x256) Cert.origin3, View.ld_unit_zero (S := S1024x512) Cert.origin2, View.ld_unit_zero (S := S4096x512) Cert.origin2, View.ld_unit_zero (S := S256x512) Cert.origin2]

end Body

variable (m : (ℓ : Loc nD τ sig) → Buf (Elt Ideal) ℓ)

/-- The hidden states, the gate's weights, the per-layer embeddings, their projection's weights and the residual, as launched. -/
abbrev hid (c : Dev nD) : FVec Ideal S8192x4096 .bf16 := m ((c : Thread nD τ).loc main_arg0)
abbrev gate (c : Dev nD) : FVec Ideal S4x4096x4096 .f32 := m ((c : Thread nD τ).loc main_arg1)
abbrev emb (c : Dev nD) : FVec Ideal S4x2x4096x256 .f32 := m ((c : Thread nD τ).loc main_arg2)
abbrev proj (c : Dev nD) : FVec Ideal S4x256x4096 .f32 := m ((c : Thread nD τ).loc main_arg3)
abbrev res (c : Dev nD) : FVec Ideal S8192x4096 .f32 := m ((c : Thread nD τ).loc main_arg4)

/-- The logistic function. -/
def sigmoid (z : EReal) : EReal := Ideal.div 1 (1 + Ideal.exp (-z))

/-- The result, entry by entry. -/
def result (x : FVec Ideal S8192x4096 .bf16) (g : FVec Ideal S4x4096x4096 .f32) (p : FVec Ideal S4x2x4096x256 .f32)
    (w : FVec Ideal S4x256x4096 .f32) (h : FVec Ideal S8192x4096 .f32) (r : Fin 8192) (n : Fin 4096) : EReal :=
  h (ix2 r n) + sigmoid (∑ k : Fin 4096, x (ix2 r k) * g (ix3 (0 : Fin 4) k n))
    * ∑ k : Fin 256, p (ix4 (0 : Fin 4) (⟨r.val / 4096, by omega⟩ : Fin 2) (⟨r.val % 4096, by omega⟩ : Fin 4096) k)
      * w (ix3 (0 : Fin 4) k n)

def G (c : Dev nD) : FVec Ideal S8192x4096 .f32 := fun i =>
  result (hid m c) (gate m c) (emb m c) (proj m c) (res m c) ⟨(i 0).val, idx2_lt0 i⟩ ⟨(i 1).val, idx2_lt1 i⟩

/-- Where the output's block stands. -/
theorem out_at : ∀ t : Fin cfg0.N, win0_5.index t 0 = t.val % 8 ∧ win0_5.index t 1 = t.val / 8 :=
  (by decide +kernel : ∀ t : Fin grid0.N, _)

theorem hid_block_at : ∀ t : Fin cfg0.N, win0_0.index t 0 = t.val % 8 ∧ win0_0.index t 1 = 0 :=
  (by decide +kernel : ∀ t : Fin grid0.N, _)

/-- The block of rows at point `t`. -/
theorem hid_block (c : Dev nD) (t : Fin cfg0.N) (r : Fin 1024) (k : Fin 4096) :
    (iblk m c 0 t : Vec Ideal S1024x4096 .bf16) (ix2 r k)
      = hid m c (ix2 (⟨t.val % 8 * 1024 + r.val, by omega⟩ : Fin 8192) k) := by
  obtain ⟨e0, e1⟩ := hid_block_at t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = t.val % 8 * 1024 + r.val; rw [e0]; omega
  | ⟨1, _⟩ => show win0_0.index t 1 * 4096 + 1 * k.val = k.val; rw [e1]; omega

/-- The residual's block at point `t`. -/
theorem res_block_at : ∀ t : Fin cfg0.N, win0_4.index t 0 = t.val % 8 ∧ win0_4.index t 1 = t.val / 8 :=
  (by decide +kernel : ∀ t : Fin grid0.N, _)

theorem res_block (c : Dev nD) (t : Fin cfg0.N) (r : Fin 1024) (n : Fin 512) (h2 : t.val / 8 * 512 + n.val < 4096) :
    (iblk m c 4 t : Vec Ideal S1024x512 .f32) (ix2 r n)
      = res m c (ix2 (⟨t.val % 8 * 1024 + r.val, by omega⟩ : Fin 8192) (⟨t.val / 8 * 512 + n.val, h2⟩ : Fin 4096)) := by
  obtain ⟨e0, e1⟩ := res_block_at t
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t 0 * 1024 + 1 * r.val = t.val % 8 * 1024 + r.val; rw [e0]; omega
  | ⟨1, _⟩ => show win0_4.index t 1 * 512 + 1 * n.val = t.val / 8 * 512 + n.val; rw [e1]; omega

/-- A weight tile at point `t`: it depends on the column of points alone. -/
theorem tile0_at : ∀ t : Fin cfg0.N, win0_1.index t 0 = 0 ∧ win0_1.index t 1 = 0 ∧ win0_1.index t 2 = t.val / 8 :=
  (by decide +kernel : ∀ t : Fin grid0.N, _)

theorem tile0 (c : Dev nD) (t : Fin cfg0.N) (k : Fin 4096) (n : Fin 512) :
    k0_pay1 (iblk m c 1 t) (ix2 k n)
      = (gate m c) (ix3 (0 : Fin 4) k (⟨t.val / 8 * 512 + n.val, by have := t.isLt; have h : cfg0.N = 64 := N_0; omega⟩ : Fin 4096)) := by
  obtain ⟨e0, e1, e2⟩ := tile0_at t
  unfold k0_pay1
  rw [shapeCast_self, truncf_apply]
  rw [shapeCast_dropUnit_apply]
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = 0; rw [e0]
  | ⟨1, _⟩ => show win0_1.index t 1 * 4096 + 1 * k.val = k.val; rw [e1]; omega
  | ⟨2, _⟩ => show win0_1.index t 2 * 512 + 1 * n.val = t.val / 8 * 512 + n.val; rw [e2]; omega

theorem tile_eq0 (c : Dev nD) (t t' : Fin cfg0.N) (h : t.val / 8 = t'.val / 8) :
    (k0_pay1 (iblk m c 1 t) : Vec Ideal S4096x512 .bf16) = k0_pay1 (iblk m c 1 t') := by
  funext y
  rw [eq_ix2 y]
  refine (tile0 m c t _ _).trans (Eq.trans (congrArg (gate m c) (funext fun a => Fin.ext ?_)) (tile0 m c t' _ _).symm)
  match a with
  | ⟨0, _⟩ => rfl
  | ⟨1, _⟩ => rfl
  | ⟨2, _⟩ => exact congrArg (· * 512 + _) h

/-- A weight tile at point `t`: it depends on the column of points alone. -/
theorem tile1_at : ∀ t : Fin cfg0.N, win0_3.index t 0 = 0 ∧ win0_3.index t 1 = 0 ∧ win0_3.index t 2 = t.val / 8 :=
  (by decide +kernel : ∀ t : Fin grid0.N, _)

theorem tile1 (c : Dev nD) (t : Fin cfg0.N) (k : Fin 256) (n : Fin 512) :
    k0_pay2 (iblk m c 3 t) (ix2 k n)
      = (proj m c) (ix3 (0 : Fin 4) k (⟨t.val / 8 * 512 + n.val, by have := t.isLt; have h : cfg0.N = 64 := N_0; omega⟩ : Fin 4096)) := by
  obtain ⟨e0, e1, e2⟩ := tile1_at t
  unfold k0_pay2
  rw [shapeCast_self, truncf_apply]
  rw [shapeCast_dropUnit_apply]
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 1 + 1 * 0 = 0; rw [e0]
  | ⟨1, _⟩ => show win0_3.index t 1 * 256 + 1 * k.val = k.val; rw [e1]; omega
  | ⟨2, _⟩ => show win0_3.index t 2 * 512 + 1 * n.val = t.val / 8 * 512 + n.val; rw [e2]; omega

theorem tile_eq1 (c : Dev nD) (t t' : Fin cfg0.N) (h : t.val / 8 = t'.val / 8) :
    (k0_pay2 (iblk m c 3 t) : Vec Ideal S256x512 .bf16) = k0_pay2 (iblk m c 3 t') := by
  funext y
  rw [eq_ix2 y]
  refine (tile1 m c t _ _).trans (Eq.trans (congrArg (proj m c) (funext fun a => Fin.ext ?_)) (tile1 m c t' _ _).symm)
  match a with
  | ⟨0, _⟩ => rfl
  | ⟨1, _⟩ => rfl
  | ⟨2, _⟩ => exact congrArg (· * 512 + _) h

/-- The host's embeddings with the batch and the positions in one axis. -/
theorem V_rows (c : Dev nD) (l : Fin 4) (r : Fin 8192) (k : Fin 256) :
    (V m c main_v0 : Vec Ideal S4x8192x256 .f32) (ix3 l r k)
      = emb m c (ix4 l (⟨r.val / 4096, by omega⟩ : Fin 2) (⟨r.val % 4096, by omega⟩ : Fin 4096) k) := by
  have e : V m c main_v0 = shapeCast S4x8192x256 (m ((c : Thread nD τ).loc main_arg2)) Facts₀.shapeCasts_S4x2x4096x256_S4x8192x256 := by
    unfold V hostOps0
    after_results
    rfl
  rw [e]
  refine shapeCast_apply _ _ _ _ ?_
  show (S4x2x4096x256.rowMajor (ix4 l (⟨r.val / 4096, by omega⟩ : Fin 2) (⟨r.val % 4096, by omega⟩ : Fin 4096) k)).val
    = (S4x8192x256.rowMajor (ix3 l r k)).val
  rw [Shape.rowMajor_val_four, Shape.rowMajor_val_three]
  show ((l.val * 2 + r.val / 4096) * 4096 + r.val % 4096) * 256 + k.val = (l.val * 8192 + r.val) * 256 + k.val
  omega

/-- The embeddings' block at point `t`. -/
theorem emb_at : ∀ t : Fin cfg0.N, win0_2.index t 0 = 0 ∧ win0_2.index t 1 = t.val % 8 ∧ win0_2.index t 2 = 0 :=
  (by decide +kernel : ∀ t : Fin grid0.N, _)

theorem emb_block (c : Dev nD) (t : Fin cfg0.N) (r : Fin 1024) (k : Fin 256) (h1 : t.val % 8 * 1024 + r.val < 8192) :
    (iblk m c 2 t : Vec Ideal S1x1024x256 .f32) (ix3 (0 : Fin 1) r k)
      = emb m c (ix4 (0 : Fin 4) (⟨(t.val % 8 * 1024 + r.val) / 4096, by omega⟩ : Fin 2)
        (⟨(t.val % 8 * 1024 + r.val) % 4096, by omega⟩ : Fin 4096) k) := by
  obtain ⟨e0, e1, e2⟩ := emb_at t
  refine Eq.trans ?_ (V_rows m c 0 ⟨t.val % 8 * 1024 + r.val, h1⟩ k)
  unfold iblk
  rw [View.read_apply]
  show V m c main_v0 _ = _
  refine congrArg (V m c main_v0) (funext fun a => Fin.ext ?_)
  match a with
  | ⟨0, _⟩ => show win0_2.index t 0 * 1 + 1 * 0 = 0; rw [e0]
  | ⟨1, _⟩ => show win0_2.index t 1 * 1024 + 1 * r.val = t.val % 8 * 1024 + r.val; rw [e1]; omega
  | ⟨2, _⟩ => show win0_2.index t 2 * 256 + 1 * k.val = k.val; rw [e2]; omega

/-- The body's result, entry by entry. -/
theorem pay3_apply (x : FVec Ideal S1024x4096 .bf16) (g : FVec Ideal S4096x512 .bf16) (p : FVec Ideal S1x1024x256 .f32)
    (w : FVec Ideal S256x512 .bf16) (h : Vec Ideal S1024x512 .f32) (r : Fin 1024) (n : Fin 512) :
    k0_pay3 x g p w h (ix2 r n)
      = h (ix2 r n) + sigmoid (∑ k : Fin 4096, x (ix2 r k) * g (ix2 k n))
        * ∑ k : Fin 256, p (ix3 (0 : Fin 1) r k) * w (ix2 k n) := by
  have gate : matmul dot_S1024x4096_S4096x512_S1024x512_1_0_0_1_n_n none x g (constant (F := Ideal) S1024x512 .f32 0x00000000#32) (ix2 r n)
      = ∑ k : Fin 4096, x (ix2 r k) * g (ix2 k n) := by
    refine (Ideal.matmul_plain_apply (M := 1024) (K := 4096) (N := 512) none x g _ r n).trans ?_
    rw [constant_apply]
    simp only [Ideal.ofBits_def, Ideal.ofBits_zero_f32, zero_add]
  have proj : matmul dot_S1024x256_S256x512_S1024x512_1_0_0_1_n_n none
      (truncf .bf16 (shapeCast S1024x256 p shapeCasts_S1x1024x256_S1024x256) bitsLt_bf16_f32 : FVec Ideal S1024x256 .bf16) w
      (constant (F := Ideal) S1024x512 .f32 0x00000000#32) (ix2 r n)
      = ∑ k : Fin 256, p (ix3 (0 : Fin 1) r k) * w (ix2 k n) := by
    refine (Ideal.matmul_plain_apply (M := 1024) (K := 256) (N := 512) none _ w _ r n).trans ?_
    rw [constant_apply]
    simp only [Ideal.ofBits_def, Ideal.ofBits_zero_f32, zero_add]
    refine Finset.sum_congr rfl fun k _ => congrArg (· * _) ?_
    rw [truncf_apply]
    refine (shapeCast_dropUnit_apply _ _ _ _).trans (congrArg p (funext fun a => Fin.ext ?_))
    match a with | ⟨0, _⟩ => rfl | ⟨1, _⟩ => rfl | ⟨2, _⟩ => rfl
  unfold k0_pay3
  rw [addf_apply, mulf_apply, divf_apply, addf_apply, broadcast_apply]
  rw [show (exp (subf (broadcast S1024x512 (FloatOps.ofBits .f32 0x00000000#32))
      (matmul dot_S1024x4096_S4096x512_S1024x512_1_0_0_1_n_n none x g (constant (F := Ideal) S1024x512 .f32 0x00000000#32)))
        : FVec Ideal S1024x512 .f32) (ix2 r n) = Ideal.exp (-(∑ k : Fin 4096, x (ix2 r k) * g (ix2 k n))) from by
    show Ideal.exp (FloatOps.subf (FloatOps.ofBits .f32 0x00000000#32) (matmul dot_S1024x4096_S4096x512_S1024x512_1_0_0_1_n_n none x g (constant (F := Ideal) S1024x512 .f32 0x00000000#32) (ix2 r n))) = _
    rw [gate, Ideal.subf_def]
    rw [show (FloatOps.ofBits .f32 0x00000000#32 : Ideal .f32) = (0 : EReal) from Ideal.ofBits_zero_f32]
    exact congrArg Ideal.exp (zero_sub _)]
  rw [show (FloatOps.ofBits .f32 0x3F800000#32 : Ideal .f32) = (1 : EReal) from Ideal.ofBits_one_f32]
  exact congrArg (h (ix2 r n) + ·) (congrArg (sigmoid (∑ k : Fin 4096, x (ix2 r k) * g (ix2 k n)) * ·) proj)

/-- The output block and the scratch at a first point of a column. -/
theorem at_A (c : Dev nD) (t : Fin cfg0.N) (h0 : t.val % 8 = 0) :
    outsAt0 m c t.val t.isLt = (k0_pay3 (iblk m c 0 t) (k0_pay1 (iblk m c 1 t)) (iblk m c 2 t) (k0_pay2 (iblk m c 3 t)) (iblk m c 4 t), k0_pay1 (iblk m c 1 t), k0_pay2 (iblk m c 3 t)) := by
  rw [outsAt0_A m c t h0, out_A, scratch_A0, scratch_A1]

/-- The same at another point, over the scratch that the point before left. -/
theorem at_B (c : Dev nD) (t : Fin cfg0.N) (h0 : ¬t.val % 8 = 0) (s0 : Vec Ideal S4096x512 .bf16) (s1 : Vec Ideal S256x512 .bf16)
    (hs0 : (outsAt0 m c (t.val - 1) (Nat.lt_of_le_of_lt (Nat.sub_le _ _) t.isLt)).2.1 = s0)
    (hs1 : (outsAt0 m c (t.val - 1) (Nat.lt_of_le_of_lt (Nat.sub_le _ _) t.isLt)).2.2 = s1) :
    outsAt0 m c t.val t.isLt = (k0_pay3 (iblk m c 0 t) s0 (iblk m c 2 t) s1 (iblk m c 4 t), s0, s1) := by
  rw [outsAt0_B m c t h0, hs0, hs1, out_B]
  unfold sout0_B_0
  unfold sout0_B_1
  rfl

/-- After every point the output block is computed from the point's own blocks, and the scratch holds the column's tile. -/
theorem block (c : Dev nD) : ∀ (n : ℕ) (h : n < cfg0.N),
    outsAt0 m c n h = (k0_pay3 (iblk m c 0 ⟨n, h⟩) (k0_pay1 (iblk m c 1 ⟨n, h⟩)) (iblk m c 2 ⟨n, h⟩) (k0_pay2 (iblk m c 3 ⟨n, h⟩)) (iblk m c 4 ⟨n, h⟩), k0_pay1 (iblk m c 1 ⟨n, h⟩), k0_pay2 (iblk m c 3 ⟨n, h⟩))
  | 0, h => at_A m c ⟨0, h⟩ rfl
  | n + 1, h => by
    by_cases h0 : (n + 1) % 8 = 0
    · exact at_A m c ⟨n + 1, h⟩ h0
    · have hd : n / 8 = (n + 1) / 8 := by omega
      have e := block c n (Nat.lt_of_succ_lt h)
      exact at_B m c ⟨n + 1, h⟩ h0 _ _ ((congrArg (fun p => p.2.1) e).trans (tile_eq0 m c ⟨n, Nat.lt_of_succ_lt h⟩ ⟨n + 1, h⟩ hd)) ((congrArg (fun p => p.2.2) e).trans (tile_eq1 m c ⟨n, Nat.lt_of_succ_lt h⟩ ⟨n + 1, h⟩ hd))

/-- An entry of the output block at point `t` is the entry of `G` at its place in the array. -/
theorem entry (c : Dev nD) (t : Fin cfg0.N) (r : Fin 1024) (n : Fin 512) (h1 : t.val % 8 * 1024 + r.val < 8192)
    (h2 : t.val / 8 * 512 + n.val < 4096) :
    k0_pay3 (iblk m c 0 t) (k0_pay1 (iblk m c 1 t)) (iblk m c 2 t) (k0_pay2 (iblk m c 3 t)) (iblk m c 4 t) (ix2 r n)
      = G m c (ix2 (⟨t.val % 8 * 1024 + r.val, h1⟩ : Fin 8192) (⟨t.val / 8 * 512 + n.val, h2⟩ : Fin 4096)) := by
  refine (pay3_apply _ _ _ _ _ r n).trans ?_
  rw [res_block m c t r n h2]
  refine congrArg (_ + ·) (congrArg₂ (· * ·) (congrArg sigmoid (Finset.sum_congr rfl fun k _ => ?_)) (Finset.sum_congr rfl fun k _ => ?_))
  · rw [hid_block, tile0]
  · rw [emb_block m c t r k h1, tile1]

/-- A block with these entries is the window's block of `G`. -/
theorem read_block (c : Dev nD) (t : Fin cfg0.N) (g : FVec Ideal S8192x4096 .f32) (x : Vec Ideal S1024x512 .f32)
    (hx : ∀ (r : Fin 1024) (n : Fin 512) (h1 : t.val % 8 * 1024 + r.val < 8192) (h2 : t.val / 8 * 512 + n.val < 4096),
      x (ix2 r n) = g (ix2 (⟨t.val % 8 * 1024 + r.val, h1⟩ : Fin 8192) (⟨t.val / 8 * 512 + n.val, h2⟩ : Fin 4096))) :
    (cfg0.win 5).cut (grid0.coords t) x = ((cfg0.win 5).blk t).view.read (Elt Ideal) g := by
  obtain ⟨e0, e1⟩ := out_at t
  have ht := t.isLt
  have hN : cfg0.N = 64 := N_0
  funext y
  have hy0 : (y 0).val < 1024 := (y 0).isLt
  have hy1 : (y 1).val < 512 := (y 1).isLt
  have hx' := hx ⟨(y 0).val, hy0⟩ ⟨(y 1).val, hy1⟩ (by show t.val % 8 * 1024 + (y 0).val < 8192; omega)
    (by show t.val / 8 * 512 + (y 1).val < 4096; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val % 8 * 1024 + (y 0).val = win0_5.index t (0 : Fin 2) * 1024 + 1 * (y 0).val; rw [e0]; omega
    | ⟨1, _⟩ => show t.val / 8 * 512 + (y 1).val = win0_5.index t (1 : Fin 2) * 512 + 1 * (y 1).val; rw [e1]; omega

/-- What a point writes back is its block of `G`. -/
theorem flushed_eq (c : Dev nD) (t : Fin cfg0.N) :
    (dats m 0 c).flushed 5 t = ((cfg0.win 5).blk t).view.read (Elt Ideal) (G m c) := by
  rw [Value.flushed5, block]
  exact read_block c t (G m c) _ (entry m c t)

/-- The result array after the run. -/
theorem final (c : Dev nD) : (dats m 0 c).arrAt 5 cfg0.N = G m c :=
  (dats m 0 c).arrAt_eq_of_cover 5 (G m c) (fun t _ => flushed_eq m c t) (fun i => (Value.covered_iff5 i).2 (by
    have h0 : (i 0).val < 8192 := (i 0).isLt; have h1 : (i 1).val < 4096 := (i 1).isLt; omega))

/-- The reference's result is the same function of the same arrays. -/
theorem reference (x0 : FVec Ideal S8192x4096 .bf16) (x1 : FVec Ideal S4x4096x4096 .f32) (x2 : FVec Ideal S4x2x4096x256 .f32)
    (x3 : FVec Ideal S4x256x4096 .f32) (x4 : FVec Ideal S8192x4096 .f32) (i : S8192x4096.Idx) :
    Cert.PleRefIdeal.Read.val_main_v17 (F := Ideal) x0 x1 x2 x3 x4 i
      = result x0 x1 x2 x3 x4 ⟨(i 0).val, idx2_lt0 i⟩ ⟨(i 1).val, idx2_lt1 i⟩ := by
  have hr := idx2_lt0 i
  have hn := idx2_lt1 i
  have one : ∀ j, Cert.PleRefIdeal.Read.val_main_v6 (F := Ideal) j = (1 : EReal) := fun j => by
    rw [Cert.PleRefIdeal.Read.val_main_v6_apply]; exact Ideal.ofBits_one_f32
  have one' : ∀ j, Cert.PleRefIdeal.Read.val_main_v8 (F := Ideal) j = (1 : EReal) := fun j => by
    rw [Cert.PleRefIdeal.Read.val_main_v8_apply]; exact Ideal.ofBits_one_f32
  rw [Cert.PleRefIdeal.Read.val_main_v17_apply, Cert.PleRefIdeal.Read.val_main_v16_apply, Cert.PleRefIdeal.Read.val_main_v9_apply,
    Cert.PleRefIdeal.Read.val_main_v7_apply, one, one', Cert.PleRefIdeal.Read.val_main_v5_apply,
    Cert.PleRefIdeal.Read.val_main_v4_apply, Ideal.addf_def, Ideal.mulf_def, Ideal.hostDivf_def, Ideal.addf_def]
  refine congrArg₂ (· + ·) (congrArg x4 (funext fun a => Fin.ext ?_)) (congrArg₂ (· * ·) ?_ ?_)
  · match a with | ⟨0, _⟩ => rfl | ⟨1, _⟩ => rfl
  · refine congrArg sigmoid ((Cert.PleRefIdeal.Read.val_main_v3_apply x0 x1 i).trans (Finset.sum_congr rfl fun k _ => ?_))
    have hk := k.isLt
    rw [Cert.PleRefIdeal.Read.val_main_v0_apply, Ideal.extf_def, Cert.PleRefIdeal.Read.val_main_v2_apply,
      Cert.PleRefIdeal.Read.val_main_v1_apply]
    refine congrArg₂ (· * ·) (congrArg x0 (funext fun a => Fin.ext ?_)) (congrArg x1 (funext fun a => Fin.ext ?_))
    · match a with | ⟨0, _⟩ => rfl | ⟨1, _⟩ => rfl
    · match a with
      | ⟨0, _⟩ => rfl
      | ⟨1, _⟩ => show (k.val * 4096 + (i 1).val) / 4096 % 4096 = k.val; omega
      | ⟨2, _⟩ => show (k.val * 4096 + (i 1).val) % 4096 = (i 1).val; omega
  · refine (Cert.PleRefIdeal.Read.val_main_v15_apply x2 x3 i).trans (Finset.sum_congr rfl fun k _ => ?_)
    have hk := k.isLt
    rw [Cert.PleRefIdeal.Read.val_main_v12_apply, Cert.PleRefIdeal.Read.val_main_v11_apply, Cert.PleRefIdeal.Read.val_main_v10_apply,
      Cert.PleRefIdeal.Read.val_main_v14_apply, Cert.PleRefIdeal.Read.val_main_v13_apply]
    -- the batch, the position and the channel of an entry of the row's embedding
    have q0 : ((i 0).val * 256 + k.val) / 1048576 = (i 0).val / 4096 := by omega
    have q1 : ((i 0).val * 256 + k.val) / 256 % 4096 = (i 0).val % 4096 := by omega
    have q2 : ((i 0).val * 256 + k.val) % 256 = k.val := by omega
    refine congrArg₂ (· * ·) (congrArg x2 (funext fun a => Fin.ext ?_)) (congrArg x3 (funext fun a => Fin.ext ?_))
    · match a with
      | ⟨0, _⟩ => rfl
      | ⟨1, _⟩ =>
        show ((((i 0).val * 256 + k.val) / 1048576 * 4096 + ((i 0).val * 256 + k.val) / 256 % 4096) * 256
          + ((i 0).val * 256 + k.val) % 256) / 1048576 % 2 = (i 0).val / 4096
        rw [q0, q1, q2]; omega
      | ⟨2, _⟩ =>
        show ((((i 0).val * 256 + k.val) / 1048576 * 4096 + ((i 0).val * 256 + k.val) / 256 % 4096) * 256
          + ((i 0).val * 256 + k.val) % 256) / 256 % 4096 = (i 0).val % 4096
        rw [q0, q1, q2]; omega
      | ⟨3, _⟩ =>
        show ((((i 0).val * 256 + k.val) / 1048576 * 4096 + ((i 0).val * 256 + k.val) / 256 % 4096) * 256
          + ((i 0).val * 256 + k.val) % 256) % 256 = k.val
        rw [q0, q1, q2]; omega
    · match a with
      | ⟨0, _⟩ => rfl
      | ⟨1, _⟩ => show (k.val * 4096 + (i 1).val) / 4096 % 256 = k.val; omega
      | ⟨2, _⟩ => show (k.val * 4096 + (i 1).val) % 4096 = (i 1).val; omega

/-- Kernel and reference end with the same array. -/
theorem algebraic : Cert.algebraic_PleIdeal_PleRefIdeal := by
  intro m ρ m' ρ' _ hagree
  refine ⟨fun c => G m c, ?_, ?_⟩
  · exact (θ_run Cert.PleIdeal.defs _ _).mono (fun _ h c => ⟨(h c).1.trans (final m c), (h c).2⟩)
      (Value.run_blocks (F := Ideal) m ρ)
  refine (θ_run Cert.PleRefIdeal.defs _ _).mono (fun _ h c => ⟨(h c).1.trans ?_, (h c).2⟩)
    (Cert.PleRefIdeal.Value.run (F := Ideal) m' ρ')
  rw [(hagree c).1, (hagree c).2.1, (hagree c).2.2.1, (hagree c).2.2.2.1, (hagree c).2.2.2.2]
  exact funext fun i => reference _ _ _ _ _ i

end Cert.PleIdeal.Product

end
-- ==== Proof.EvenOut.lean ====
/-
  The output projection of an even layer: the result array of `EvenOutIdeal` is the residual plus the product of the joined
  rows of the two attentions and the layer's output weights, entry by entry. The kernel never joins them: the upper half of
  the weights takes the first, the lower half the second. Two scratches keep the two weight tiles of a column of points.
-/
module

public import proofs.«01_k».proof.Defs
public import proofs.«01_k».proof.Proof.Origin
public import proofs.«01_k».proof.Proof.Consts
public import proofs.«01_k».proof.Proof.Gen.EvenOutIdeal.Value
public import proofs.«01_k».proof.Proof.Gen.EvenOutRefIdeal.Run
public import proofs.«01_k».proof.Proof.Gen.EvenOutRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.EvenOutIdeal.Product

open Cert.EvenOutIdeal Cert.EvenOutIdeal.Gen

section Body
variable {F : FTy → Type} [FloatOps F]
variable (c : Dev nD) (i : grid0.Coords)
  (a2 : Memref sig .tc .vmem S1024x2048 .bf16) (h2 : a2.IsWhole)
  (a3 : Memref sig .tc .vmem S1024x2048 .bf16) (h3 : a3.IsWhole)
  (a4 : Memref sig .tc .vmem S1x2048x512 .f32) (h4 : a4.IsWhole)
  (a5 : Memref sig .tc .vmem S1x2048x512 .f32) (h5 : a5.IsWhole)
  (a6 : Memref sig .tc .vmem S1024x512 .f32) (h6 : a6.IsWhole)
  (a7 : Memref sig .tc .vmem S1024x512 .f32) (h7 : a7.IsWhole)
  (a8 : Memref sig .tc .vmem S2048x512 .bf16) (h8 : a8.IsWhole)
  (a9 : Memref sig .tc .vmem S2048x512 .bf16) (h9 : a9.IsWhole)
  (x : Vec F S1024x2048 .bf16)
  (y : Vec F S1024x2048 .bf16)
  (u : Vec F S1x2048x512 .f32)
  (v : Vec F S1x2048x512 .f32)
  (h : Vec F S1024x512 .f32)

/-- At the first point of a column a scratch takes a weight tile, -/
theorem scratch_A0 (hc : cond0_0 i) : sout0_A_0 c i a2 h2 a3 h3 a4 h4 a5 h5 a6 h6 a7 h7 a8 h8 a9 h9 hc x y u v h = k0_pay1 u := by
  unfold sout0_A_0
  rw [View.read_writes_eq_canon _ _ _ (scover0_A_0 c i a2 h2 a3 h3 a4 h4 a5 h5 a6 h6 a7 h7 a8 h8 a9 h9 hc x y u v h)]
  unfold kernelRun0_A
  dsimp only
  sl_unfold_words
  rw [View.canon_unit_zero Cert.origin2]
  simp only [View.readAt_eq_ld, h4.read_unread, View.ld_unit_zero (S := S1x2048x512) Cert.origin3]

/-- At the first point of a column a scratch takes a weight tile, -/
theorem scratch_A1 (hc : cond0_0 i) : sout0_A_1 c i a2 h2 a3 h3 a4 h4 a5 h5 a6 h6 a7 h7 a8 h8 a9 h9 hc x y u v h = k0_pay2 v := by
  unfold sout0_A_1
  rw [View.read_writes_eq_canon _ _ _ (scover0_A_1 c i a2 h2 a3 h3 a4 h4 a5 h5 a6 h6 a7 h7 a8 h8 a9 h9 hc x y u v h)]
  unfold kernelRun0_A
  dsimp only
  sl_unfold_words
  rw [View.canon_unit_zero Cert.origin2]
  simp only [View.readAt_eq_ld, h5.read_unread, View.ld_unit_zero (S := S1x2048x512) Cert.origin3]

/-- and the output block is computed from it; -/
theorem out_A (hc : cond0_0 i) : out0_A_5 c i a2 h2 a3 h3 a4 h4 a5 h5 a6 h6 a7 h7 a8 h8 a9 h9 hc x y u v h = k0_pay3 x (k0_pay1 u) y (k0_pay2 v) h := by
  unfold out0_A_5
  rw [View.read_writes_eq_canon _ _ _ (cover0_A_5 c i a2 h2 a3 h3 a4 h4 a5 h5 a6 h6 a7 h7 a8 h8 a9 h9 hc x y u v h)]
  unfold kernelRun0_A
  dsimp only
  sl_unfold_words
  rw [View.canon_unit_zero Cert.origin2, View.readCov_unit_zero (S := S2048x512) _ Cert.origin2, View.readCov_unit_zero (S := S2048x512) _ Cert.origin2]
  simp only [View.readAt_eq_ld, h2.read_unread, h3.read_unread, h4.read_unread, h5.read_unread, h6.read_unread, View.ld_unit_zero (S := S1024x2048) Cert.origin2, View.ld_unit_zero (S := S1x2048x512) Cert.origin3, View.ld_unit_zero (S := S1024x512) Cert.origin2]

/-- at the others it is computed from what the scratch holds. -/
theorem out_B (hc : ¬cond0_0 i) (s0 : Vec F S2048x512 .bf16) (s1 : Vec F S2048x512 .bf16) :
    out0_B_5 c i a2 h2 a3 h3 a4 h4 a5 h5 a6 h6 a7 h7 a8 h8 a9 h9 hc x y u v h s0 s1 = k0_pay3 x s0 y s1 h := by
  unfold out0_B_5
  rw [View.read_writes_eq_canon _ _ _ (cover0_B_5 c i a2 h2 a3 h3 a4 h4 a5 h5 a6 h6 a7 h7 a8 h8 a9 h9 hc x y u v h s0 s1)]
  unfold kernelRun0_B
  dsimp only
  sl_unfold_words
  rw [View.canon_unit_zero Cert.origin2]
  simp only [View.readAt_eq_ld, h2.read_unread, h3.read_unread, h6.read_unread, h8.read_unread, h9.read_unread, View.ld_unit_zero (S := S1024x2048) Cert.origin2, View.ld_unit_zero (S := S1024x512) Cert.origin2, View.ld_unit_zero (S := S2048x512) Cert.origin2]

end Body

variable (m : (ℓ : Loc nD τ sig) → Buf (Elt Ideal) ℓ)

/-- The two attentions' rows, the weights and the residual, as launched. -/
abbrev ya (c : Dev nD) : FVec Ideal S8192x2048 .bf16 := m ((c : Thread nD τ).loc main_arg0)
abbrev yb (c : Dev nD) : FVec Ideal S8192x2048 .bf16 := m ((c : Thread nD τ).loc main_arg1)
abbrev wts (c : Dev nD) : FVec Ideal S2x4096x4096 .f32 := m ((c : Thread nD τ).loc main_arg2)
abbrev res (c : Dev nD) : FVec Ideal S8192x4096 .f32 := m ((c : Thread nD τ).loc main_arg3)

/-- The result, entry by entry: the upper half of the weights takes the first rows, the lower half the second. -/
def G (c : Dev nD) : FVec Ideal S8192x4096 .f32 := fun i =>
  res m c (ix2 (⟨(i 0).val, idx2_lt0 i⟩ : Fin 8192) (⟨(i 1).val, idx2_lt1 i⟩ : Fin 4096))
    + (∑ k : Fin 2048, ya m c (ix2 (⟨(i 0).val, idx2_lt0 i⟩ : Fin 8192) k)
        * wts m c (ix3 (0 : Fin 2) (⟨k.val, by omega⟩ : Fin 4096) (⟨(i 1).val, idx2_lt1 i⟩ : Fin 4096))
      + ∑ k : Fin 2048, yb m c (ix2 (⟨(i 0).val, idx2_lt0 i⟩ : Fin 8192) k)
        * wts m c (ix3 (0 : Fin 2) (⟨2048 + k.val, by omega⟩ : Fin 4096) (⟨(i 1).val, idx2_lt1 i⟩ : Fin 4096)))

/-- Where the output's block stands. -/
theorem out_at : ∀ t : Fin cfg0.N, win0_5.index t 0 = t.val % 8 ∧ win0_5.index t 1 = t.val / 8 :=
  (by decide +kernel : ∀ t : Fin grid0.N, _)

theorem a_block_at : ∀ t : Fin cfg0.N, win0_0.index t 0 = t.val % 8 ∧ win0_0.index t 1 = 0 :=
  (by decide +kernel : ∀ t : Fin grid0.N, _)

/-- The block of rows at point `t`. -/
theorem a_block (c : Dev nD) (t : Fin cfg0.N) (r : Fin 1024) (k : Fin 2048) :
    (iblk m c 0 t : Vec Ideal S1024x2048 .bf16) (ix2 r k)
      = ya m c (ix2 (⟨t.val % 8 * 1024 + r.val, by omega⟩ : Fin 8192) k) := by
  obtain ⟨e0, e1⟩ := a_block_at t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = t.val % 8 * 1024 + r.val; rw [e0]; omega
  | ⟨1, _⟩ => show win0_0.index t 1 * 2048 + 1 * k.val = k.val; rw [e1]; omega

theorem b_block_at : ∀ t : Fin cfg0.N, win0_1.index t 0 = t.val % 8 ∧ win0_1.index t 1 = 0 :=
  (by decide +kernel : ∀ t : Fin grid0.N, _)

/-- The block of rows at point `t`. -/
theorem b_block (c : Dev nD) (t : Fin cfg0.N) (r : Fin 1024) (k : Fin 2048) :
    (iblk m c 1 t : Vec Ideal S1024x2048 .bf16) (ix2 r k)
      = yb m c (ix2 (⟨t.val % 8 * 1024 + r.val, by omega⟩ : Fin 8192) k) := by
  obtain ⟨e0, e1⟩ := b_block_at t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1024 + 1 * r.val = t.val % 8 * 1024 + r.val; rw [e0]; omega
  | ⟨1, _⟩ => show win0_1.index t 1 * 2048 + 1 * k.val = k.val; rw [e1]; omega

/-- The residual's block at point `t`. -/
theorem res_block_at : ∀ t : Fin cfg0.N, win0_4.index t 0 = t.val % 8 ∧ win0_4.index t 1 = t.val / 8 :=
  (by decide +kernel : ∀ t : Fin grid0.N, _)

theorem res_block (c : Dev nD) (t : Fin cfg0.N) (r : Fin 1024) (n : Fin 512) (h2 : t.val / 8 * 512 + n.val < 4096) :
    (iblk m c 4 t : Vec Ideal S1024x512 .f32) (ix2 r n)
      = res m c (ix2 (⟨t.val % 8 * 1024 + r.val, by omega⟩ : Fin 8192) (⟨t.val / 8 * 512 + n.val, h2⟩ : Fin 4096)) := by
  obtain ⟨e0, e1⟩ := res_block_at t
  unfold iblk
  rw [View.read_apply]
  show V m c main_arg3 _ = _
  rw [V_main_arg3]
  refine congrArg (m ((c : Thread nD τ).loc main_arg3)) (funext fun a => Fin.ext ?_)
  match a with
  | ⟨0, _⟩ => show win0_4.index t 0 * 1024 + 1 * r.val = t.val % 8 * 1024 + r.val; rw [e0]; omega
  | ⟨1, _⟩ => show win0_4.index t 1 * 512 + 1 * n.val = t.val / 8 * 512 + n.val; rw [e1]; omega

/-- A weight tile at point `t`: it depends on the column of points alone. -/
theorem tile0_at : ∀ t : Fin cfg0.N, win0_2.index t 0 = 0 ∧ win0_2.index t 1 = 0 ∧ win0_2.index t 2 = t.val / 8 :=
  (by decide +kernel : ∀ t : Fin grid0.N, _)

theorem tile0 (c : Dev nD) (t : Fin cfg0.N) (k : Fin 2048) (n : Fin 512) :
    k0_pay1 (iblk m c 2 t) (ix2 k n)
      = (wts m c) (ix3 (0 : Fin 2) (⟨k.val, by omega⟩ : Fin 4096) (⟨t.val / 8 * 512 + n.val, by have := t.isLt; have h : cfg0.N = 64 := N_0; omega⟩ : Fin 4096)) := by
  obtain ⟨e0, e1, e2⟩ := tile0_at t
  unfold k0_pay1
  rw [shapeCast_self, truncf_apply]
  rw [shapeCast_dropUnit_apply]
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 1 + 1 * 0 = 0; rw [e0]
  | ⟨1, _⟩ => show win0_2.index t 1 * 2048 + 1 * k.val = k.val; rw [e1]; omega
  | ⟨2, _⟩ => show win0_2.index t 2 * 512 + 1 * n.val = t.val / 8 * 512 + n.val; rw [e2]; omega

theorem tile_eq0 (c : Dev nD) (t t' : Fin cfg0.N) (h : t.val / 8 = t'.val / 8) :
    (k0_pay1 (iblk m c 2 t) : Vec Ideal S2048x512 .bf16) = k0_pay1 (iblk m c 2 t') := by
  funext y
  rw [eq_ix2 y]
  refine (tile0 m c t _ _).trans (Eq.trans (congrArg (wts m c) (funext fun a => Fin.ext ?_)) (tile0 m c t' _ _).symm)
  match a with
  | ⟨0, _⟩ => rfl
  | ⟨1, _⟩ => rfl
  | ⟨2, _⟩ => exact congrArg (· * 512 + _) h

/-- A weight tile at point `t`: it depends on the column of points alone. -/
theorem tile1_at : ∀ t : Fin cfg0.N, win0_3.index t 0 = 0 ∧ win0_3.index t 1 = 1 ∧ win0_3.index t 2 = t.val / 8 :=
  (by decide +kernel : ∀ t : Fin grid0.N, _)

theorem tile1 (c : Dev nD) (t : Fin cfg0.N) (k : Fin 2048) (n : Fin 512) :
    k0_pay2 (iblk m c 3 t) (ix2 k n)
      = (wts m c) (ix3 (0 : Fin 2) (⟨2048 + k.val, by omega⟩ : Fin 4096) (⟨t.val / 8 * 512 + n.val, by have := t.isLt; have h : cfg0.N = 64 := N_0; omega⟩ : Fin 4096)) := by
  obtain ⟨e0, e1, e2⟩ := tile1_at t
  unfold k0_pay2
  rw [shapeCast_self, truncf_apply]
  rw [shapeCast_dropUnit_apply]
  unfold iblk
  rw [View.read_apply]
  show V m c main_arg2 _ = _
  rw [V_main_arg2]
  refine congrArg (m ((c : Thread nD τ).loc main_arg2)) (funext fun a => Fin.ext ?_)
  match a with
  | ⟨0, _⟩ => show win0_3.index t 0 * 1 + 1 * 0 = 0; rw [e0]
  | ⟨1, _⟩ => show win0_3.index t 1 * 2048 + 1 * k.val = 2048 + k.val; rw [e1]; omega
  | ⟨2, _⟩ => show win0_3.index t 2 * 512 + 1 * n.val = t.val / 8 * 512 + n.val; rw [e2]; omega

theorem tile_eq1 (c : Dev nD) (t t' : Fin cfg0.N) (h : t.val / 8 = t'.val / 8) :
    (k0_pay2 (iblk m c 3 t) : Vec Ideal S2048x512 .bf16) = k0_pay2 (iblk m c 3 t') := by
  funext y
  rw [eq_ix2 y]
  refine (tile1 m c t _ _).trans (Eq.trans (congrArg (wts m c) (funext fun a => Fin.ext ?_)) (tile1 m c t' _ _).symm)
  match a with
  | ⟨0, _⟩ => rfl
  | ⟨1, _⟩ => rfl
  | ⟨2, _⟩ => exact congrArg (· * 512 + _) h

/-- The body's result, entry by entry. -/
theorem pay3_apply (x : Vec Ideal S1024x2048 .bf16) (u : Vec Ideal S2048x512 .bf16) (y : Vec Ideal S1024x2048 .bf16)
    (v : Vec Ideal S2048x512 .bf16) (h : Vec Ideal S1024x512 .f32) (r : Fin 1024) (n : Fin 512) :
    k0_pay3 x u y v h (ix2 r n)
      = h (ix2 r n) + (∑ k : Fin 2048, x (ix2 r k) * u (ix2 k n) + ∑ k : Fin 2048, y (ix2 r k) * v (ix2 k n)) := by
  have product : ∀ (a : FVec Ideal S1024x2048 .bf16) (b : FVec Ideal S2048x512 .bf16),
      matmul dot_S1024x2048_S2048x512_S1024x512_1_0_0_1_n_n none a b (constant (F := Ideal) S1024x512 .f32 0x00000000#32) (ix2 r n)
        = ∑ k : Fin 2048, a (ix2 r k) * b (ix2 k n) := fun a b => by
    refine (Ideal.matmul_plain_apply (M := 1024) (K := 2048) (N := 512) none a b _ r n).trans ?_
    rw [constant_apply]
    simp only [Ideal.ofBits_def, Ideal.ofBits_zero_f32, zero_add]
  unfold k0_pay3
  rw [addf_apply, addf_apply, product, product]
  exact add_comm _ _

/-- The output block and the scratch at a first point of a column. -/
theorem at_A (c : Dev nD) (t : Fin cfg0.N) (h0 : t.val % 8 = 0) :
    outsAt0 m c t.val t.isLt = (k0_pay3 (iblk m c 0 t) (k0_pay1 (iblk m c 2 t)) (iblk m c 1 t) (k0_pay2 (iblk m c 3 t)) (iblk m c 4 t), k0_pay1 (iblk m c 2 t), k0_pay2 (iblk m c 3 t)) := by
  rw [outsAt0_A m c t h0, out_A, scratch_A0, scratch_A1]

/-- The same at another point, over the scratch that the point before left. -/
theorem at_B (c : Dev nD) (t : Fin cfg0.N) (h0 : ¬t.val % 8 = 0) (s0 : Vec Ideal S2048x512 .bf16) (s1 : Vec Ideal S2048x512 .bf16)
    (hs0 : (outsAt0 m c (t.val - 1) (Nat.lt_of_le_of_lt (Nat.sub_le _ _) t.isLt)).2.1 = s0)
    (hs1 : (outsAt0 m c (t.val - 1) (Nat.lt_of_le_of_lt (Nat.sub_le _ _) t.isLt)).2.2 = s1) :
    outsAt0 m c t.val t.isLt = (k0_pay3 (iblk m c 0 t) s0 (iblk m c 1 t) s1 (iblk m c 4 t), s0, s1) := by
  rw [outsAt0_B m c t h0, hs0, hs1, out_B]
  unfold sout0_B_0
  unfold sout0_B_1
  rfl

/-- After every point the output block is computed from the point's own blocks, and the scratch holds the column's tile. -/
theorem block (c : Dev nD) : ∀ (n : ℕ) (h : n < cfg0.N),
    outsAt0 m c n h = (k0_pay3 (iblk m c 0 ⟨n, h⟩) (k0_pay1 (iblk m c 2 ⟨n, h⟩)) (iblk m c 1 ⟨n, h⟩) (k0_pay2 (iblk m c 3 ⟨n, h⟩)) (iblk m c 4 ⟨n, h⟩), k0_pay1 (iblk m c 2 ⟨n, h⟩), k0_pay2 (iblk m c 3 ⟨n, h⟩))
  | 0, h => at_A m c ⟨0, h⟩ rfl
  | n + 1, h => by
    by_cases h0 : (n + 1) % 8 = 0
    · exact at_A m c ⟨n + 1, h⟩ h0
    · have hd : n / 8 = (n + 1) / 8 := by omega
      have e := block c n (Nat.lt_of_succ_lt h)
      exact at_B m c ⟨n + 1, h⟩ h0 _ _ ((congrArg (fun p => p.2.1) e).trans (tile_eq0 m c ⟨n, Nat.lt_of_succ_lt h⟩ ⟨n + 1, h⟩ hd)) ((congrArg (fun p => p.2.2) e).trans (tile_eq1 m c ⟨n, Nat.lt_of_succ_lt h⟩ ⟨n + 1, h⟩ hd))

/-- An entry of the output block at point `t` is the entry of `G` at its place in the array. -/
theorem entry (c : Dev nD) (t : Fin cfg0.N) (r : Fin 1024) (n : Fin 512) (h1 : t.val % 8 * 1024 + r.val < 8192)
    (h2 : t.val / 8 * 512 + n.val < 4096) :
    k0_pay3 (iblk m c 0 t) (k0_pay1 (iblk m c 2 t)) (iblk m c 1 t) (k0_pay2 (iblk m c 3 t)) (iblk m c 4 t) (ix2 r n)
      = G m c (ix2 (⟨t.val % 8 * 1024 + r.val, h1⟩ : Fin 8192) (⟨t.val / 8 * 512 + n.val, h2⟩ : Fin 4096)) := by
  refine (pay3_apply _ _ _ _ _ r n).trans ?_
  rw [res_block m c t r n h2]
  refine congrArg (_ + ·) (congrArg₂ (· + ·) (Finset.sum_congr rfl fun k _ => ?_) (Finset.sum_congr rfl fun k _ => ?_))
  · rw [a_block, tile0]
  · rw [b_block, tile1]

/-- A block with these entries is the window's block of `G`. -/
theorem read_block (c : Dev nD) (t : Fin cfg0.N) (g : FVec Ideal S8192x4096 .f32) (x : Vec Ideal S1024x512 .f32)
    (hx : ∀ (r : Fin 1024) (n : Fin 512) (h1 : t.val % 8 * 1024 + r.val < 8192) (h2 : t.val / 8 * 512 + n.val < 4096),
      x (ix2 r n) = g (ix2 (⟨t.val % 8 * 1024 + r.val, h1⟩ : Fin 8192) (⟨t.val / 8 * 512 + n.val, h2⟩ : Fin 4096))) :
    (cfg0.win 5).cut (grid0.coords t) x = ((cfg0.win 5).blk t).view.read (Elt Ideal) g := by
  obtain ⟨e0, e1⟩ := out_at t
  have ht := t.isLt
  have hN : cfg0.N = 64 := N_0
  funext y
  have hy0 : (y 0).val < 1024 := (y 0).isLt
  have hy1 : (y 1).val < 512 := (y 1).isLt
  have hx' := hx ⟨(y 0).val, hy0⟩ ⟨(y 1).val, hy1⟩ (by show t.val % 8 * 1024 + (y 0).val < 8192; omega)
    (by show t.val / 8 * 512 + (y 1).val < 4096; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val % 8 * 1024 + (y 0).val = win0_5.index t (0 : Fin 2) * 1024 + 1 * (y 0).val; rw [e0]; omega
    | ⟨1, _⟩ => show t.val / 8 * 512 + (y 1).val = win0_5.index t (1 : Fin 2) * 512 + 1 * (y 1).val; rw [e1]; omega

/-- What a point writes back is its block of `G`. -/
theorem flushed_eq (c : Dev nD) (t : Fin cfg0.N) :
    (dats m 0 c).flushed 5 t = ((cfg0.win 5).blk t).view.read (Elt Ideal) (G m c) := by
  rw [Value.flushed5, block]
  exact read_block c t (G m c) _ (entry m c t)

/-- The result array after the run. -/
theorem final (c : Dev nD) : (dats m 0 c).arrAt 5 cfg0.N = G m c :=
  (dats m 0 c).arrAt_eq_of_cover 5 (G m c) (fun t _ => flushed_eq m c t) (fun i => (Value.covered_iff5 i).2 (by
    have h0 : (i 0).val < 8192 := (i 0).isLt; have h1 : (i 1).val < 4096 := (i 1).isLt; omega))

/-- The joined rows, in the first half and in the second. -/
theorem joined_left (x0 x1 : FVec Ideal S8192x2048 .bf16) (r : Fin 8192) (k : Fin 2048) (h : k.val < 4096) :
    Cert.EvenOutRefIdeal.Read.val_main_v2 (F := Ideal) x0 x1 (ix2 r (⟨k.val, h⟩ : Fin 4096)) = x0 (ix2 r k) := by
  unfold Cert.EvenOutRefIdeal.Read.val_main_v2
  refine (concatenate_pair_apply_left (s₁ := S8192x2048) (s₂ := S8192x2048) (t := Cert.EvenOutRefIdeal.S8192x4096) 1 _ _ _ _ rfl (ix2 r k) ?_).trans ?_
  · intro b; match b with | ⟨0, _⟩ => rfl | ⟨1, _⟩ => rfl
  · rw [Cert.EvenOutRefIdeal.Read.val_main_v0_apply, Ideal.extf_def]

theorem joined_right (x0 x1 : FVec Ideal S8192x2048 .bf16) (r : Fin 8192) (k : Fin 2048) (h : 2048 + k.val < 4096) :
    Cert.EvenOutRefIdeal.Read.val_main_v2 (F := Ideal) x0 x1 (ix2 r (⟨2048 + k.val, h⟩ : Fin 4096)) = x1 (ix2 r k) := by
  unfold Cert.EvenOutRefIdeal.Read.val_main_v2
  refine (concatenate_pair_apply_right (s₁ := S8192x2048) (s₂ := S8192x2048) (t := Cert.EvenOutRefIdeal.S8192x4096) 1 _ _ _ _ rfl rfl (ix2 r k) ?_ ?_).trans ?_
  · intro b hb; match b with | ⟨0, _⟩ => rfl | ⟨1, _⟩ => exact absurd rfl hb
  · show k.val + 2048 = 2048 + k.val; omega
  · rw [Cert.EvenOutRefIdeal.Read.val_main_v1_apply, Ideal.extf_def]

/-- The layer's weights. -/
theorem weights (x2 : FVec Ideal S2x4096x4096 .f32) (k n : Fin 4096) :
    Cert.EvenOutRefIdeal.Read.val_main_v4 (F := Ideal) x2 (ix2 k n) = x2 (ix3 (0 : Fin 2) k n) := by
  rw [Cert.EvenOutRefIdeal.Read.val_main_v4_apply, Cert.EvenOutRefIdeal.Read.val_main_v3_apply]
  have hn := n.isLt
  have hk := k.isLt
  refine congrArg x2 (funext fun a => Fin.ext ?_)
  match a with
  | ⟨0, _⟩ => rfl
  | ⟨1, _⟩ => show (k.val * 4096 + n.val) / 4096 % 4096 = k.val; omega
  | ⟨2, _⟩ => show (k.val * 4096 + n.val) % 4096 = n.val; omega

/-- The reference's result is the same function of the same arrays: its sum over 4096 is the two sums over 2048. -/
theorem reference (x0 x1 : FVec Ideal S8192x2048 .bf16) (x2 : FVec Ideal S2x4096x4096 .f32) (x3 : FVec Ideal S8192x4096 .f32) (i : S8192x4096.Idx) :
    Cert.EvenOutRefIdeal.Read.val_main_v6 (F := Ideal) x0 x1 x2 x3 i
      = x3 (ix2 (⟨(i 0).val, idx2_lt0 i⟩ : Fin 8192) (⟨(i 1).val, idx2_lt1 i⟩ : Fin 4096))
        + (∑ k : Fin 2048, x0 (ix2 (⟨(i 0).val, idx2_lt0 i⟩ : Fin 8192) k)
            * x2 (ix3 (0 : Fin 2) (⟨k.val, by omega⟩ : Fin 4096) (⟨(i 1).val, idx2_lt1 i⟩ : Fin 4096))
          + ∑ k : Fin 2048, x1 (ix2 (⟨(i 0).val, idx2_lt0 i⟩ : Fin 8192) k)
            * x2 (ix3 (0 : Fin 2) (⟨2048 + k.val, by omega⟩ : Fin 4096) (⟨(i 1).val, idx2_lt1 i⟩ : Fin 4096))) := by
  rw [Cert.EvenOutRefIdeal.Read.val_main_v6_apply, Ideal.addf_def, Cert.EvenOutRefIdeal.Read.val_main_v5_apply]
  have el : ∀ k : Fin 4096, Cert.EvenOutRefIdeal.Read.lidx_main_v5 i k = ix2 (⟨(i 0).val, idx2_lt0 i⟩ : Fin 8192) k :=
    fun k => funext fun a => Fin.ext (by match a with | ⟨0, _⟩ => rfl | ⟨1, _⟩ => rfl)
  have er : ∀ k : Fin 4096, Cert.EvenOutRefIdeal.Read.ridx_main_v5 i k = ix2 k (⟨(i 1).val, idx2_lt1 i⟩ : Fin 4096) :=
    fun k => funext fun a => Fin.ext (by match a with | ⟨0, _⟩ => rfl | ⟨1, _⟩ => rfl)
  simp only [el, er, weights]
  refine congrArg₂ (· + ·) (congrArg x3 (funext fun a => Fin.ext ?_)) ?_
  · match a with | ⟨0, _⟩ => rfl | ⟨1, _⟩ => rfl
  refine (Fin.sum_univ_add (a := 2048) (b := 2048) _).trans (congrArg₂ (· + ·) (Finset.sum_congr rfl fun k _ => ?_) (Finset.sum_congr rfl fun k _ => ?_))
  · exact congrArg (· * _) (joined_left x0 x1 _ k _)
  · exact congrArg (· * _) (joined_right x0 x1 _ k _)

/-- Kernel and reference end with the same array. -/
theorem algebraic : Cert.algebraic_EvenOutIdeal_EvenOutRefIdeal := by
  intro m ρ m' ρ' _ hagree
  refine ⟨fun c => G m c, ?_, ?_⟩
  · exact (θ_run Cert.EvenOutIdeal.defs _ _).mono (fun _ h c => ⟨(h c).1.trans (final m c), (h c).2⟩)
      (Value.run_blocks (F := Ideal) m ρ)
  refine (θ_run Cert.EvenOutRefIdeal.defs _ _).mono (fun _ h c => ⟨(h c).1.trans ?_, (h c).2⟩)
    (Cert.EvenOutRefIdeal.Value.run (F := Ideal) m' ρ')
  rw [(hagree c).1, (hagree c).2.1, (hagree c).2.2.1, (hagree c).2.2.2]
  exact funext fun i => reference _ _ _ _ i

end Cert.EvenOutIdeal.Product

end
-- ==== Proof.OddOut.lean ====
/-
  The output projection of an odd layer: the result array of `OddOutIdeal` is the residual plus the product of the rows
  and the layer's output weights, entry by entry. A scratch keeps a weight tile for the eight points of a column.
-/
module

public import proofs.«01_k».proof.Defs
public import proofs.«01_k».proof.Proof.Origin
public import proofs.«01_k».proof.Proof.Consts
public import proofs.«01_k».proof.Proof.Gen.OddOutIdeal.Value
public import proofs.«01_k».proof.Proof.Gen.OddOutRefIdeal.Run
public import proofs.«01_k».proof.Proof.Gen.OddOutRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.OddOutIdeal.Product

open Cert.OddOutIdeal Cert.OddOutIdeal.Gen

section Body
variable {F : FTy → Type} [FloatOps F]
variable (c : Dev nD) (i : grid0.Coords)
  (a2 : Memref sig .tc .vmem S1024x4096 .bf16) (h2 : a2.IsWhole)
  (a3 : Memref sig .tc .vmem S1x4096x512 .f32) (h3 : a3.IsWhole)
  (a4 : Memref sig .tc .vmem S1024x512 .f32) (h4 : a4.IsWhole)
  (a5 : Memref sig .tc .vmem S1024x512 .f32) (h5 : a5.IsWhole)
  (a6 : Memref sig .tc .vmem S4096x512 .bf16) (h6 : a6.IsWhole)
  (x : Vec F S1024x4096 .bf16)
  (w : Vec F S1x4096x512 .f32)
  (h : Vec F S1024x512 .f32)

/-- At the first point of a column a scratch takes a weight tile, -/
theorem scratch_A0 (hc : cond0_0 i) : sout0_A_0 c i a2 h2 a3 h3 a4 h4 a5 h5 a6 h6 hc x w h = k0_pay1 w := by
  unfold sout0_A_0
  rw [View.read_writes_eq_canon _ _ _ (scover0_A_0 c i a2 h2 a3 h3 a4 h4 a5 h5 a6 h6 hc x w h)]
  unfold kernelRun0_A
  dsimp only
  sl_unfold_words
  rw [View.canon_unit_zero Cert.origin2]
  simp only [View.readAt_eq_ld, h3.read_unread, View.ld_unit_zero (S := S1x4096x512) Cert.origin3]

/-- and the output block is computed from it; -/
theorem out_A (hc : cond0_0 i) : out0_A_3 c i a2 h2 a3 h3 a4 h4 a5 h5 a6 h6 hc x w h = k0_pay2 x (k0_pay1 w) h := by
  unfold out0_A_3
  rw [View.read_writes_eq_canon _ _ _ (cover0_A_3 c i a2 h2 a3 h3 a4 h4 a5 h5 a6 h6 hc x w h)]
  unfold kernelRun0_A
  dsimp only
  sl_unfold_words
  rw [View.canon_unit_zero Cert.origin2, View.readCov_unit_zero (S := S4096x512) _ Cert.origin2]
  simp only [View.readAt_eq_ld, h2.read_unread, h3.read_unread, h4.read_unread, View.ld_unit_zero (S := S1024x4096) Cert.origin2, View.ld_unit_zero (S := S1x4096x512) Cert.origin3, View.ld_unit_zero (S := S1024x512) Cert.origin2]

/-- at the others it is computed from what the scratch holds. -/
theorem out_B (hc : ¬cond0_0 i) (s0 : Vec F S4096x512 .bf16) :
    out0_B_3 c i a2 h2 a3 h3 a4 h4 a5 h5 a6 h6 hc x w h s0 = k0_pay2 x s0 h := by
  unfold out0_B_3
  rw [View.read_writes_eq_canon _ _ _ (cover0_B_3 c i a2 h2 a3 h3 a4 h4 a5 h5 a6 h6 hc x w h s0)]
  unfold kernelRun0_B
  dsimp only
  sl_unfold_words
  rw [View.canon_unit_zero Cert.origin2]
  simp only [View.readAt_eq_ld, h2.read_unread, h4.read_unread, h6.read_unread, View.ld_unit_zero (S := S1024x4096) Cert.origin2, View.ld_unit_zero (S := S1024x512) Cert.origin2, View.ld_unit_zero (S := S4096x512) Cert.origin2]

end Body

variable (m : (ℓ : Loc nD τ sig) → Buf (Elt Ideal) ℓ)

/-- The rows that the projection takes, the weights and the residual, as launched. -/
abbrev rows (c : Dev nD) : FVec Ideal S8192x4096 .bf16 := m ((c : Thread nD τ).loc main_arg0)
abbrev wts (c : Dev nD) : FVec Ideal S2x4096x4096 .f32 := m ((c : Thread nD τ).loc main_arg1)
abbrev res (c : Dev nD) : FVec Ideal S8192x4096 .f32 := m ((c : Thread nD τ).loc main_arg2)

/-- The result, entry by entry. -/
def G (c : Dev nD) : FVec Ideal S8192x4096 .f32 := fun i =>
  res m c (ix2 (⟨(i 0).val, idx2_lt0 i⟩ : Fin 8192) (⟨(i 1).val, idx2_lt1 i⟩ : Fin 4096))
    + ∑ k : Fin 4096, rows m c (ix2 (⟨(i 0).val, idx2_lt0 i⟩ : Fin 8192) k)
      * wts m c (ix3 (0 : Fin 2) k (⟨(i 1).val, idx2_lt1 i⟩ : Fin 4096))

/-- Where the output's block stands. -/
theorem out_at : ∀ t : Fin cfg0.N, win0_3.index t 0 = t.val % 8 ∧ win0_3.index t 1 = t.val / 8 :=
  (by decide +kernel : ∀ t : Fin grid0.N, _)

theorem row_block_at : ∀ t : Fin cfg0.N, win0_0.index t 0 = t.val % 8 ∧ win0_0.index t 1 = 0 :=
  (by decide +kernel : ∀ t : Fin grid0.N, _)

/-- The block of rows at point `t`. -/
theorem row_block (c : Dev nD) (t : Fin cfg0.N) (r : Fin 1024) (k : Fin 4096) :
    (iblk m c 0 t : Vec Ideal S1024x4096 .bf16) (ix2 r k)
      = rows m c (ix2 (⟨t.val % 8 * 1024 + r.val, by omega⟩ : Fin 8192) k) := by
  obtain ⟨e0, e1⟩ := row_block_at t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = t.val % 8 * 1024 + r.val; rw [e0]; omega
  | ⟨1, _⟩ => show win0_0.index t 1 * 4096 + 1 * k.val = k.val; rw [e1]; omega

/-- The residual's block at point `t`. -/
theorem res_block_at : ∀ t : Fin cfg0.N, win0_2.index t 0 = t.val % 8 ∧ win0_2.index t 1 = t.val / 8 :=
  (by decide +kernel : ∀ t : Fin grid0.N, _)

theorem res_block (c : Dev nD) (t : Fin cfg0.N) (r : Fin 1024) (n : Fin 512) (h2 : t.val / 8 * 512 + n.val < 4096) :
    (iblk m c 2 t : Vec Ideal S1024x512 .f32) (ix2 r n)
      = res m c (ix2 (⟨t.val % 8 * 1024 + r.val, by omega⟩ : Fin 8192) (⟨t.val / 8 * 512 + n.val, h2⟩ : Fin 4096)) := by
  obtain ⟨e0, e1⟩ := res_block_at t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 1024 + 1 * r.val = t.val % 8 * 1024 + r.val; rw [e0]; omega
  | ⟨1, _⟩ => show win0_2.index t 1 * 512 + 1 * n.val = t.val / 8 * 512 + n.val; rw [e1]; omega

/-- A weight tile at point `t`: it depends on the column of points alone. -/
theorem tile0_at : ∀ t : Fin cfg0.N, win0_1.index t 0 = 0 ∧ win0_1.index t 1 = 0 ∧ win0_1.index t 2 = t.val / 8 :=
  (by decide +kernel : ∀ t : Fin grid0.N, _)

theorem tile0 (c : Dev nD) (t : Fin cfg0.N) (k : Fin 4096) (n : Fin 512) :
    k0_pay1 (iblk m c 1 t) (ix2 k n)
      = (wts m c) (ix3 (0 : Fin 2) k (⟨t.val / 8 * 512 + n.val, by have := t.isLt; have h : cfg0.N = 64 := N_0; omega⟩ : Fin 4096)) := by
  obtain ⟨e0, e1, e2⟩ := tile0_at t
  unfold k0_pay1
  rw [shapeCast_self, truncf_apply]
  rw [shapeCast_dropUnit_apply]
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = 0; rw [e0]
  | ⟨1, _⟩ => show win0_1.index t 1 * 4096 + 1 * k.val = k.val; rw [e1]; omega
  | ⟨2, _⟩ => show win0_1.index t 2 * 512 + 1 * n.val = t.val / 8 * 512 + n.val; rw [e2]; omega

theorem tile_eq0 (c : Dev nD) (t t' : Fin cfg0.N) (h : t.val / 8 = t'.val / 8) :
    (k0_pay1 (iblk m c 1 t) : Vec Ideal S4096x512 .bf16) = k0_pay1 (iblk m c 1 t') := by
  funext y
  rw [eq_ix2 y]
  refine (tile0 m c t _ _).trans (Eq.trans (congrArg (wts m c) (funext fun a => Fin.ext ?_)) (tile0 m c t' _ _).symm)
  match a with
  | ⟨0, _⟩ => rfl
  | ⟨1, _⟩ => rfl
  | ⟨2, _⟩ => exact congrArg (· * 512 + _) h

/-- The body's result, entry by entry. -/
theorem pay2_apply (x : Vec Ideal S1024x4096 .bf16) (w : Vec Ideal S4096x512 .bf16) (h : Vec Ideal S1024x512 .f32) (r : Fin 1024) (n : Fin 512) :
    k0_pay2 x w h (ix2 r n) = h (ix2 r n) + ∑ k : Fin 4096, x (ix2 r k) * w (ix2 k n) := by
  unfold k0_pay2
  rw [addf_apply, add_comm]
  refine congrArg (h (ix2 r n) + ·) ((Ideal.matmul_plain_apply (M := 1024) (K := 4096) (N := 512) none x w _ r n).trans ?_)
  rw [constant_apply]
  simp only [Ideal.ofBits_def, Ideal.ofBits_zero_f32, zero_add]

/-- The output block and the scratch at a first point of a column. -/
theorem at_A (c : Dev nD) (t : Fin cfg0.N) (h0 : t.val % 8 = 0) :
    outsAt0 m c t.val t.isLt = (k0_pay2 (iblk m c 0 t) (k0_pay1 (iblk m c 1 t)) (iblk m c 2 t), k0_pay1 (iblk m c 1 t)) := by
  rw [outsAt0_A m c t h0, out_A, scratch_A0]

/-- The same at another point, over the scratch that the point before left. -/
theorem at_B (c : Dev nD) (t : Fin cfg0.N) (h0 : ¬t.val % 8 = 0) (s0 : Vec Ideal S4096x512 .bf16)
    (hs0 : (outsAt0 m c (t.val - 1) (Nat.lt_of_le_of_lt (Nat.sub_le _ _) t.isLt)).2 = s0) :
    outsAt0 m c t.val t.isLt = (k0_pay2 (iblk m c 0 t) s0 (iblk m c 2 t), s0) := by
  rw [outsAt0_B m c t h0, hs0, out_B]
  unfold sout0_B_0
  rfl

/-- After every point the output block is computed from the point's own blocks, and the scratch holds the column's tile. -/
theorem block (c : Dev nD) : ∀ (n : ℕ) (h : n < cfg0.N),
    outsAt0 m c n h = (k0_pay2 (iblk m c 0 ⟨n, h⟩) (k0_pay1 (iblk m c 1 ⟨n, h⟩)) (iblk m c 2 ⟨n, h⟩), k0_pay1 (iblk m c 1 ⟨n, h⟩))
  | 0, h => at_A m c ⟨0, h⟩ rfl
  | n + 1, h => by
    by_cases h0 : (n + 1) % 8 = 0
    · exact at_A m c ⟨n + 1, h⟩ h0
    · have hd : n / 8 = (n + 1) / 8 := by omega
      have e := block c n (Nat.lt_of_succ_lt h)
      exact at_B m c ⟨n + 1, h⟩ h0 _ ((congrArg (fun p => p.2) e).trans (tile_eq0 m c ⟨n, Nat.lt_of_succ_lt h⟩ ⟨n + 1, h⟩ hd))

/-- An entry of the output block at point `t` is the entry of `G` at its place in the array. -/
theorem entry (c : Dev nD) (t : Fin cfg0.N) (r : Fin 1024) (n : Fin 512) (h1 : t.val % 8 * 1024 + r.val < 8192)
    (h2 : t.val / 8 * 512 + n.val < 4096) :
    k0_pay2 (iblk m c 0 t) (k0_pay1 (iblk m c 1 t)) (iblk m c 2 t) (ix2 r n)
      = G m c (ix2 (⟨t.val % 8 * 1024 + r.val, h1⟩ : Fin 8192) (⟨t.val / 8 * 512 + n.val, h2⟩ : Fin 4096)) := by
  refine (pay2_apply _ _ _ r n).trans ?_
  rw [res_block m c t r n h2]
  refine congrArg (_ + ·) (Finset.sum_congr rfl fun k _ => ?_)
  rw [row_block, tile0]

/-- A block with these entries is the window's block of `G`. -/
theorem read_block (c : Dev nD) (t : Fin cfg0.N) (g : FVec Ideal S8192x4096 .f32) (x : Vec Ideal S1024x512 .f32)
    (hx : ∀ (r : Fin 1024) (n : Fin 512) (h1 : t.val % 8 * 1024 + r.val < 8192) (h2 : t.val / 8 * 512 + n.val < 4096),
      x (ix2 r n) = g (ix2 (⟨t.val % 8 * 1024 + r.val, h1⟩ : Fin 8192) (⟨t.val / 8 * 512 + n.val, h2⟩ : Fin 4096))) :
    (cfg0.win 3).cut (grid0.coords t) x = ((cfg0.win 3).blk t).view.read (Elt Ideal) g := by
  obtain ⟨e0, e1⟩ := out_at t
  have ht := t.isLt
  have hN : cfg0.N = 64 := N_0
  funext y
  have hy0 : (y 0).val < 1024 := (y 0).isLt
  have hy1 : (y 1).val < 512 := (y 1).isLt
  have hx' := hx ⟨(y 0).val, hy0⟩ ⟨(y 1).val, hy1⟩ (by show t.val % 8 * 1024 + (y 0).val < 8192; omega)
    (by show t.val / 8 * 512 + (y 1).val < 4096; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val % 8 * 1024 + (y 0).val = win0_3.index t (0 : Fin 2) * 1024 + 1 * (y 0).val; rw [e0]; omega
    | ⟨1, _⟩ => show t.val / 8 * 512 + (y 1).val = win0_3.index t (1 : Fin 2) * 512 + 1 * (y 1).val; rw [e1]; omega

/-- What a point writes back is its block of `G`. -/
theorem flushed_eq (c : Dev nD) (t : Fin cfg0.N) :
    (dats m 0 c).flushed 3 t = ((cfg0.win 3).blk t).view.read (Elt Ideal) (G m c) := by
  rw [Value.flushed3, block]
  exact read_block c t (G m c) _ (entry m c t)

/-- The result array after the run. -/
theorem final (c : Dev nD) : (dats m 0 c).arrAt 3 cfg0.N = G m c :=
  (dats m 0 c).arrAt_eq_of_cover 3 (G m c) (fun t _ => flushed_eq m c t) (fun i => (Value.covered_iff3 i).2 (by
    have h0 : (i 0).val < 8192 := (i 0).isLt; have h1 : (i 1).val < 4096 := (i 1).isLt; omega))

/-- The reference's result is the same function of the same arrays. -/
theorem reference (x0 : FVec Ideal S8192x4096 .bf16) (x1 : FVec Ideal S2x4096x4096 .f32) (x2 : FVec Ideal S8192x4096 .f32) (i : S8192x4096.Idx) :
    Cert.OddOutRefIdeal.Read.val_main_v4 (F := Ideal) x0 x1 x2 i
      = x2 (ix2 (⟨(i 0).val, idx2_lt0 i⟩ : Fin 8192) (⟨(i 1).val, idx2_lt1 i⟩ : Fin 4096))
        + ∑ k : Fin 4096, x0 (ix2 (⟨(i 0).val, idx2_lt0 i⟩ : Fin 8192) k) * x1 (ix3 (0 : Fin 2) k (⟨(i 1).val, idx2_lt1 i⟩ : Fin 4096)) := by
  rw [Cert.OddOutRefIdeal.Read.val_main_v4_apply, Ideal.addf_def, Cert.OddOutRefIdeal.Read.val_main_v3_apply]
  refine congrArg₂ (· + ·) (congrArg x2 (funext fun a => Fin.ext ?_)) (Finset.sum_congr rfl fun k _ => ?_)
  · match a with | ⟨0, _⟩ => rfl | ⟨1, _⟩ => rfl
  rw [Cert.OddOutRefIdeal.Read.val_main_v0_apply, Ideal.extf_def, Cert.OddOutRefIdeal.Read.val_main_v2_apply,
    Cert.OddOutRefIdeal.Read.val_main_v1_apply]
  have hi := idx2_lt1 i
  have hk := k.isLt
  refine congrArg₂ (· * ·) (congrArg x0 (funext fun a => Fin.ext ?_)) (congrArg x1 (funext fun a => Fin.ext ?_))
  · match a with | ⟨0, _⟩ => rfl | ⟨1, _⟩ => rfl
  · match a with
    | ⟨0, _⟩ => rfl
    | ⟨1, _⟩ => show (k.val * 4096 + (i 1).val) / 4096 % 4096 = k.val; omega
    | ⟨2, _⟩ => show (k.val * 4096 + (i 1).val) % 4096 = (i 1).val; omega

/-- Kernel and reference end with the same array. -/
theorem algebraic : Cert.algebraic_OddOutIdeal_OddOutRefIdeal := by
  intro m ρ m' ρ' _ hagree
  refine ⟨fun c => G m c, ?_, ?_⟩
  · exact (θ_run Cert.OddOutIdeal.defs _ _).mono (fun _ h c => ⟨(h c).1.trans (final m c), (h c).2⟩)
      (Value.run_blocks (F := Ideal) m ρ)
  refine (θ_run Cert.OddOutRefIdeal.defs _ _).mono (fun _ h c => ⟨(h c).1.trans ?_, (h c).2⟩)
    (Cert.OddOutRefIdeal.Value.run (F := Ideal) m' ρ')
  rw [(hagree c).1, (hagree c).2.1, (hagree c).2.2]
  exact funext fun i => reference _ _ _ i

end Cert.OddOutIdeal.Product

end
-- ==== Proof.Final.lean ====
/-
  The closing normalization: the result array of `FinalIdeal` is each row scaled by the reciprocal root of its mean square
  and by the weights, entry by entry. A point takes 256 whole rows, so a row's sum of squares stands in one block.
-/
module

public import proofs.«01_k».proof.Defs
public import proofs.«01_k».proof.Proof.Origin
public import proofs.«01_k».proof.Proof.Gen.FinalIdeal.Value
public import proofs.«01_k».proof.Proof.Gen.FinalRefIdeal.Run
public import proofs.«01_k».proof.Proof.Gen.FinalRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.FinalIdeal.Product

open Cert.FinalIdeal Cert.FinalIdeal.Gen

variable (m : (ℓ : Loc nD τ sig) → Buf (Elt Ideal) ℓ)

/-- The rows and the weights, as launched. -/
abbrev rows (c : Dev nD) : FVec Ideal S8192x4096 .f32 := m ((c : Thread nD τ).loc main_arg0)
abbrev wts (c : Dev nD) : FVec Ideal S4096 .f32 := m ((c : Thread nD τ).loc main_arg1)

/-- The result, entry by entry: both programs hold the width and the small constant as the same float constants. -/
def scaled (x : FVec Ideal S8192x4096 .f32) (g : FVec Ideal S4096 .f32) (r : Fin 8192) (n : Fin 4096) : EReal :=
  x (ix2 r n) * Ideal.rsqrt (Ideal.div (∑ k : Fin 4096, x (ix2 r k) * x (ix2 r k)) (Ideal.ofBits .f32 0x45800000#32)
    + Ideal.ofBits .f32 0x358637BD#32) * g (ix1 n)

def G (c : Dev nD) : FVec Ideal S8192x4096 .f32 := fun i =>
  scaled (rows m c) (wts m c) ⟨(i 0).val, idx2_lt0 i⟩ ⟨(i 1).val, idx2_lt1 i⟩

/-- Where a point's blocks stand. -/
theorem at_point : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

/-- The rows of a point. -/
theorem row_block (c : Dev nD) (t : Fin cfg0.N) (r : Fin 256) (k : Fin 4096) (h : t.val * 256 + r.val < 8192) :
    (iblk m c 0 t : Vec Ideal S256x4096 .f32) (ix2 r k) = rows m c (ix2 (⟨t.val * 256 + r.val, h⟩ : Fin 8192) k) := by
  obtain ⟨e0, e1, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = t.val * 256 + r.val; rw [e0]; omega
  | ⟨1, _⟩ => show win0_0.index t 1 * 4096 + 1 * k.val = k.val; rw [e1]; omega

/-- The weights as the host lays them in one row. -/
theorem V_weights (c : Dev nD) (n : Fin 4096) :
    (V m c main_v0 : Vec Ideal S1x4096 .f32) (ix2 (0 : Fin 1) n) = wts m c (ix1 n) := by
  have e : V m c main_v0 = shapeCast S1x4096 (m ((c : Thread nD τ).loc main_arg1)) Facts₀.shapeCasts_S4096_S1x4096 := by
    unfold V hostOps0
    after_results
    rfl
  rw [e]
  refine shapeCast_apply _ _ _ _ ?_
  show (S4096.rowMajor (ix1 n)).val = (S1x4096.rowMajor (ix2 (0 : Fin 1) n)).val
  rw [Shape.rowMajor_val_one, Shape.rowMajor_val_two]
  show n.val = 0 * 4096 + n.val
  omega

theorem weight_block (c : Dev nD) (t : Fin cfg0.N) (n : Fin 4096) :
    (iblk m c 1 t : Vec Ideal S1x4096 .f32) (ix2 (0 : Fin 1) n) = wts m c (ix1 n) := by
  obtain ⟨-, -, e0, e1, -⟩ := at_point t
  refine Eq.trans ?_ (V_weights m c n)
  unfold iblk
  rw [View.read_apply]
  show V m c main_v0 _ = _
  refine congrArg (V m c main_v0) (funext fun a => Fin.ext ?_)
  match a with
  | ⟨0, _⟩ => show win0_1.index t 0 * 1 + 1 * 0 = 0; rw [e0]
  | ⟨1, _⟩ => show win0_1.index t 1 * 4096 + 1 * n.val = n.val; rw [e1]; omega

/-- A row's sum of squares in a block. -/
theorem squares (x : FVec Ideal S256x4096 .f32) (r : Fin 256) :
    multiReduction .add [1] S256 (mulf x x) 0x00000000#32 reduces_S256x4096_S256 (.inl rfl) rfl (ix1 r)
      = ∑ k : Fin 4096, x (ix2 r k) * x (ix2 r k) := by
  refine (Ideal.multiReduction_add_single (mulf x x) _ reduces_S256x4096_S256 _ _ (ix1 r)).trans ?_
  refine Finset.sum_congr rfl fun k _ => ?_
  have e : reduces_S256x4096_S256.lift (ix1 r) k = ix2 r k :=
    funext fun a => Fin.ext (by match a with | ⟨0, _⟩ => rfl | ⟨1, _⟩ => rfl)
  rw [e]
  rfl

/-- The body reads its two blocks whole. -/
theorem out_apply (x : Vec Ideal S256x4096 .f32) (g : Vec Ideal S1x4096 .f32) (y : S256x4096.Idx) :
    out0_2 x g y = Value.E2 x g y := by
  have e0 : View.ld x r0_0 = x := View.ld_unit_zero (S := S256x4096) Cert.origin2 _ _
  have e1 : View.ld g r0_1 = g := View.ld_unit_zero (S := S1x4096) Cert.origin2 _ _
  unfold out0_2
  rw [e0, e1, Value.canon2_eq]

/-- What a point computes, entry by entry. -/
theorem entry (c : Dev nD) (t : Fin cfg0.N) (r : Fin 256) (n : Fin 4096) (h : t.val * 256 + r.val < 8192) :
    out0_2 (iblk m c 0 t) (iblk m c 1 t) (ix2 r n) = G m c (ix2 (⟨t.val * 256 + r.val, h⟩ : Fin 8192) n) := by
  refine (out_apply (iblk m c 0 t) (iblk m c 1 t) (ix2 r n)).trans ?_
  have i0 : Value.ix2_0 (ix2 r n) = ix2 r n := funext fun a => Fin.ext (by match a with | ⟨0, _⟩ => rfl | ⟨1, _⟩ => rfl)
  have i1 : Value.ix2_1 (ix2 r n) = ix1 r := funext fun a => Fin.ext (by match a with | ⟨0, _⟩ => rfl)
  have i2 : Value.ix2_2 (ix2 r n) = ix2 (0 : Fin 1) n := funext fun a => Fin.ext (by match a with | ⟨0, _⟩ => rfl | ⟨1, _⟩ => rfl)
  unfold Value.E2
  rw [i0, i1, i2, squares, row_block m c t r n h, weight_block m c t n]
  simp only [row_block m c t r _ h]
  rfl

/-- The entries of the array in a point's block. -/
theorem mem_block (t : Fin cfg0.N) (i : S8192x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v1).slice (win0_2.rect t)).set ↔ _
  rw [View.set_slice_whole, Rect.mem_set_unit]
  exact Iff.rfl

/-- Every row is in some point's block. -/
theorem covered (i : S8192x4096.Idx) :
    ∃ t : Fin cfg0.N, (cfg0.win 2).flush t = true ∧ i ∈ ((cfg0.win 2).blk t).view.set := by
  have hN : cfg0.N = 32 := N_0
  have h0 : (i 0).val < 8192 := (i 0).isLt
  have h1 : (i 1).val < 4096 := (i 1).isLt
  refine ⟨⟨(i 0).val / 256, by omega⟩, flush0_2 _, ?_⟩
  obtain ⟨-, -, -, -, e0, e1⟩ := at_point ⟨(i 0).val / 256, by omega⟩
  dsimp only at e0 e1
  rw [mem_block]
  intro a
  match a with
  | ⟨0, _⟩ =>
    show win0_2.index _ (0 : Fin 2) * 256 ≤ (i 0).val ∧ (i 0).val < win0_2.index _ (0 : Fin 2) * 256 + 256
    rw [e0]; omega
  | ⟨1, _⟩ =>
    show win0_2.index _ (1 : Fin 2) * 4096 ≤ (i 1).val ∧ (i 1).val < win0_2.index _ (1 : Fin 2) * 4096 + 4096
    rw [e1]; omega

/-- A block with these entries is the window's block of `g`. -/
theorem read_block (t : Fin cfg0.N) (g : FVec Ideal S8192x4096 .f32) (x : Vec Ideal S256x4096 .f32)
    (hx : ∀ (r : Fin 256) (n : Fin 4096) (h : t.val * 256 + r.val < 8192), x (ix2 r n) = g (ix2 (⟨t.val * 256 + r.val, h⟩ : Fin 8192) n)) :
    (cfg0.win 2).cut (grid0.coords t) x = ((cfg0.win 2).blk t).view.read (Elt Ideal) g := by
  obtain ⟨-, -, -, -, e0, e1⟩ := at_point t
  have ht := t.isLt
  have hN : cfg0.N = 32 := N_0
  funext y
  have hy0 : (y 0).val < 256 := (y 0).isLt
  have hy1 : (y 1).val < 4096 := (y 1).isLt
  have hx' := hx ⟨(y 0).val, hy0⟩ ⟨(y 1).val, hy1⟩ (by show t.val * 256 + (y 0).val < 8192; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val * 256 + (y 0).val = win0_2.index t (0 : Fin 2) * 256 + 1 * (y 0).val; rw [e0]; omega
    | ⟨1, _⟩ => show (y 1).val = win0_2.index t (1 : Fin 2) * 4096 + 1 * (y 1).val; rw [e1]; omega

/-- What a point writes back is its block of `G`. -/
theorem flushed_eq (c : Dev nD) (t : Fin cfg0.N) :
    (dats m 0 c).flushed 2 t = ((cfg0.win 2).blk t).view.read (Elt Ideal) (G m c) := by
  rw [Value.flushed2]
  exact read_block t (G m c) _ (entry m c t)

/-- The result array after the run. -/
theorem final (c : Dev nD) : (dats m 0 c).arrAt 2 cfg0.N = G m c :=
  (dats m 0 c).arrAt_eq_of_cover 2 (G m c) (fun t _ => flushed_eq m c t) covered

/-- The reference's result is the same function of the same arrays. -/
theorem reference (x0 : FVec Ideal S8192x4096 .f32) (x1 : FVec Ideal S4096 .f32) (i : S8192x4096.Idx) :
    Cert.FinalRefIdeal.Read.val_main_v12 (F := Ideal) x0 x1 i = scaled x0 x1 ⟨(i 0).val, idx2_lt0 i⟩ ⟨(i 1).val, idx2_lt1 i⟩ := by
  rw [Cert.FinalRefIdeal.Read.val_main_v12_apply, Cert.FinalRefIdeal.Read.val_main_v9_apply, Cert.FinalRefIdeal.Read.val_main_v8_apply,
    Cert.FinalRefIdeal.Read.val_main_v7_apply, Cert.FinalRefIdeal.Read.val_main_v6_apply, Cert.FinalRefIdeal.Read.val_main_v4_apply,
    Cert.FinalRefIdeal.Read.val_main_v5_apply, Cert.FinalRefIdeal.Read.val_main_v3_apply, Cert.FinalRefIdeal.Read.val_main_v2_apply,
    Cert.FinalRefIdeal.Read.val_main_v1_apply, Cert.FinalRefIdeal.Read.val_main_v11_apply, Cert.FinalRefIdeal.Read.val_main_v10_apply,
    Cert.FinalRefIdeal.Read.val_main_cst_apply]
  simp only [Cert.FinalRefIdeal.Read.val_main_v0_apply, Ideal.mulf_def, Ideal.addf_def, Ideal.hostDivf_def, Ideal.hostUnary_rsqrt_def,
    Ideal.ofBits_def, Ideal.ofBits_zero_f32, zero_add]
  refine congrArg₂ (· * ·) (congrArg₂ (· * ·) (congrArg x0 (funext fun a => Fin.ext ?_)) (congrArg Ideal.rsqrt (congrArg₂ (· + ·)
    (congrArg₂ Ideal.div (Finset.sum_congr rfl fun k _ => ?_) rfl) rfl))) (congrArg x1 (funext fun a => Fin.ext ?_))
  · match a with | ⟨0, _⟩ => rfl | ⟨1, _⟩ => rfl
  · have e : Cert.FinalRefIdeal.Read.idx_main_v1 (Cert.FinalRefIdeal.Read.idx_main_v2 (Cert.FinalRefIdeal.Read.idx_main_v8 i)) k
        = ix2 (⟨(i 0).val, idx2_lt0 i⟩ : Fin 8192) k :=
      funext fun a => Fin.ext (by match a with | ⟨0, _⟩ => rfl | ⟨1, _⟩ => rfl)
    rw [e]
  · match a with | ⟨0, _⟩ => rfl

/-- Kernel and reference end with the same array. -/
theorem algebraic : Cert.algebraic_FinalIdeal_FinalRefIdeal := by
  intro m ρ m' ρ' _ hagree
  refine ⟨fun c => G m c, ?_, ?_⟩
  · exact (θ_run Cert.FinalIdeal.defs _ _).mono (fun _ h c => ⟨(h c).1.trans (final m c), (h c).2⟩)
      (Value.run_blocks (F := Ideal) m ρ)
  refine (θ_run Cert.FinalRefIdeal.defs _ _).mono (fun _ h c => ⟨(h c).1.trans ?_, (h c).2⟩)
    (Cert.FinalRefIdeal.Value.run (F := Ideal) m' ρ')
  rw [Cert.FinalRefIdeal.Read.val_main_v12_eq, (hagree c).1, (hagree c).2]
  exact funext fun i => reference _ _ i

end Cert.FinalIdeal.Product

end
-- ==== Proof.Softmax.lean ====
/-
  The attention of one query over the extended reals: scores that are numbers or minus infinity, a sink, and values that may be
  anything. Whatever number is subtracted from the scores before the exponential, and whether the powers are of e or, with the
  scores over log 2, of 2, the result is one quotient.
-/
module

public import proofs.«01_k».proof.Proof.Consts

@[expose] public section

noncomputable section

open Idealize.ShloMosaic

namespace Cert.Softmax

/-- What a score weighs: its exponential, nothing at minus infinity. -/
def wt (x : EReal) : ℝ := if x = ⊥ then 0 else Real.exp x.toReal

theorem wt_nonneg (x : EReal) : 0 ≤ wt x := by
  unfold wt; split
  · exact le_rfl
  · exact (Real.exp_pos _).le

theorem wt_coe (r : ℝ) : wt (r : EReal) = Real.exp r := by
  unfold wt; rw [if_neg (EReal.coe_ne_bot r), EReal.toReal_coe]

/-- The exponential after a number is subtracted. -/
theorem exp_sub {x : EReal} (hx : x ≠ ⊤) (M : ℝ) : Ideal.exp (x - (M : EReal)) = ((wt x * Real.exp (-M) : ℝ) : EReal) := by
  induction x with
  | bot => rw [EReal.bot_sub, Ideal.exp_bot]; simp [wt]
  | top => exact absurd rfl hx
  | coe r => rw [← EReal.coe_sub, Ideal.exp_coe, wt_coe, ← Real.exp_add]; rfl

/-- The same with a power of 2. -/
theorem exp2_sub {u : EReal} (hu : u ≠ ⊤) (M : ℝ) :
    Ideal.exp2 (u - (M : EReal)) = ((wt (u * ((Real.log 2 : ℝ) : EReal)) * Real.exp (-(M * Real.log 2)) : ℝ) : EReal) := by
  induction u with
  | bot =>
    rw [EReal.bot_sub, Ideal.exp2_bot, EReal.bot_mul_coe_of_pos Consts.log_two_pos]
    simp [wt]
  | top => exact absurd rfl hu
  | coe r =>
    rw [← EReal.coe_sub, Ideal.exp2_coe, ← EReal.coe_mul, wt_coe, ← Real.exp_add]
    congr 1
    show (2 : ℝ) ^ (r - M) = _
    rw [Real.rpow_def_of_pos (by norm_num)]
    congr 1; ring

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

theorem div_real (a : ℝ) {b : ℝ} (hb : 0 < b) : Ideal.div (a : EReal) (b : EReal) = ((a / b : ℝ) : EReal) := by
  rw [Consts.div_pos_real hb, ← EReal.coe_mul, div_eq_mul_inv]

/-- The attention of one query: the values' mean, weighed by the scores, with the sink among the weights. The values may be
    any extended reals. -/
def att {n : ℕ} (s : Fin n → EReal) (z : ℝ) (v : Fin n → EReal) : EReal :=
  (∑ k, v k * (wt (s k) : EReal)) * ((((∑ k, wt (s k)) + Real.exp z)⁻¹ : ℝ) : EReal)

theorem total_pos {n : ℕ} (s : Fin n → EReal) (z c : ℝ) (hc : 0 < c) :
    0 < (∑ k, wt (s k) * c) + Real.exp z * c :=
  add_pos_of_nonneg_of_pos (Finset.sum_nonneg fun k _ => mul_nonneg (wt_nonneg _) hc.le) (mul_pos (Real.exp_pos _) hc)

theorem shift {n : ℕ} (s : Fin n → EReal) (z : ℝ) (v : Fin n → EReal) (c : ℝ) (hc : 0 < c) :
    (∑ k, v k * ((wt (s k) * c : ℝ) : EReal)) * ((((∑ k, wt (s k) * c) + Real.exp z * c)⁻¹ : ℝ) : EReal) = att s z v := by
  unfold att
  rw [← Finset.sum_mul, ← add_mul, mul_inv]
  simp only [EReal.coe_mul]
  rw [Consts.sum_mul_real _ _ _ c hc.le, mul_assoc, ← EReal.coe_mul, ← EReal.coe_mul]
  refine congrArg (fun y : ℝ => _ * (y : EReal)) ?_
  rw [mul_comm _ c⁻¹, ← mul_assoc, mul_inv_cancel₀ hc.ne', one_mul]

/-- The kernel's order: powers of 2, the values' sum, and one division at the end. -/
theorem kernel_order {n : ℕ} (u : Fin n → EReal) (z : ℝ) (v : Fin n → EReal) (M : ℝ) (hu : ∀ k, u k ≠ ⊤) :
    Ideal.div (∑ k, Ideal.exp2 (u k - (M : EReal)) * v k)
        ((∑ k, Ideal.exp2 (u k - (M : EReal))) + Ideal.exp2 ((z : EReal) - (M : EReal)))
      = att (fun k => u k * ((Real.log 2 : ℝ) : EReal)) (z * Real.log 2) v := by
  simp only [exp2_sub (hu _), exp2_sub (EReal.coe_ne_top z)]
  rw [← EReal.coe_mul z, wt_coe, ← coe_sum, ← EReal.coe_add, Consts.div_pos_real (total_pos _ _ _ (Real.exp_pos _)),
    ← shift _ _ _ _ (Real.exp_pos (-(M * Real.log 2)))]
  exact congrArg (fun y : EReal => y * _) (Finset.sum_congr rfl fun k _ => mul_comm _ _)

/-- The plain order: each weight over the total, then the values' sum. -/
theorem plain_order {n : ℕ} (s : Fin n → EReal) (z : ℝ) (v : Fin n → EReal) (M : ℝ) (hs : ∀ k, s k ≠ ⊤) :
    ∑ k, v k * Ideal.div (Ideal.exp (s k - (M : EReal)))
        ((∑ k, Ideal.exp (s k - (M : EReal))) + Ideal.exp ((z : EReal) - (M : EReal)))
      = att s z v := by
  simp only [exp_sub (hs _), exp_sub (EReal.coe_ne_top z)]
  rw [wt_coe, ← coe_sum, ← EReal.coe_add]
  simp only [Consts.div_pos_real (total_pos s z _ (Real.exp_pos (-M)))]
  rw [Consts.sum_mul_real _ _ _ _ (inv_nonneg.mpr (total_pos s z _ (Real.exp_pos (-M))).le)]
  exact shift s z v _ (Real.exp_pos (-M))

/-- A maximum of numbers and minus infinities with a number among them is a number. -/
theorem max_real {ι : Type} (s : Finset ι) (f : ι → EReal) (hf : ∀ k ∈ s, f k ≠ ⊤) (z : ℝ) :
    ∃ M : ℝ, max (s.fold max ⊥ f) (z : EReal) = (M : EReal) := by
  classical
  have htop : s.fold max ⊥ f ≠ ⊤ := by
    revert hf
    induction s using Finset.induction_on with
    | empty => intro _; rw [Finset.fold_empty]; exact bot_ne_top
    | insert a s ha ih =>
      intro hf
      rw [Finset.fold_insert ha]
      rcases max_choice (f a) (s.fold max ⊥ f) with h | h <;> rw [h]
      · exact hf a (Finset.mem_insert_self a s)
      · exact ih fun k hk => hf k (Finset.mem_insert_of_mem hk)
  have h1 : max (s.fold max ⊥ f) (z : EReal) ≠ ⊤ := by
    rcases max_choice (s.fold max ⊥ f) (z : EReal) with h | h <;> rw [h]
    · exact htop
    · exact EReal.coe_ne_top z
  have h2 : max (s.fold max ⊥ f) (z : EReal) ≠ ⊥ := fun h => by
    have := le_max_right (s.fold max ⊥ f) (z : EReal)
    rw [h, le_bot_iff] at this
    exact EReal.coe_ne_bot z this
  exact ⟨_, (EReal.coe_toReal h1 h2).symm⟩

end Cert.Softmax

end
-- ==== Proof.SwaGroup.lean ====
/-
  The arithmetic of one group of heads that share their keys: the scores' entries, the row's maximum, and the entry of the
  group's result, as sums and maxima of the blocks' entries.
-/
module

public import proofs.«01_k».proof.Defs
public import proofs.«01_k».proof.Proof.Origin
public import proofs.«01_k».proof.Proof.Softmax
public import proofs.«01_k».proof.Proof.Gen.SwaIdeal.Value
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.SwaIdeal.Product

open Cert.SwaIdeal Cert.SwaIdeal.Gen

/-- Two blocks of 128 rows, one after the other. -/
def both (a b : FVec Ideal S128x64 .bf16) (k : Fin 256) (e : Fin 64) : EReal :=
  if h : k.val < 128 then a (ix2 ⟨k.val, h⟩ e) else b (ix2 (⟨k.val - 128, by omega⟩ : Fin 128) e)

theorem both_apply (a b : FVec Ideal S128x64 .bf16) (k : Fin 256) (e : Fin 64) : k0_pay7 (F := Ideal) a b (ix2 k e) = both a b k e := by
  unfold k0_pay7 both
  by_cases h : k.val < 128
  · rw [dif_pos h]
    exact concatenate_pair_apply_left (t := S256x64) (s₁ := S128x64) (s₂ := S128x64) _ _ _ _ _ rfl _
      (fun b => by match b with | ⟨0, _⟩ => rfl | ⟨1, _⟩ => rfl)
  · rw [dif_neg h]
    exact concatenate_pair_apply_right (t := S256x64) (s₁ := S128x64) (s₂ := S128x64) 0 _ _ _ _ rfl rfl _
      (fun b hb => by match b with | ⟨0, _⟩ => exact absurd rfl hb | ⟨1, _⟩ => rfl)
      (by show (k.val - 128) + 128 = k.val; omega)

/-- The queries of the group's eight heads, one below the other. -/
def stack (q : Fin 8 → FVec Ideal S128x64 .bf16) : FVec Ideal S1024x64 .bf16 :=
  concatenate S1024x64 0 [⟨S128x64, q 0⟩, ⟨S128x64, q 1⟩, ⟨S128x64, q 2⟩, ⟨S128x64, q 3⟩, ⟨S128x64, q 4⟩, ⟨S128x64, q 5⟩, ⟨S128x64, q 6⟩, ⟨S128x64, q 7⟩] Facts₀.concatenates_S128x64_S128x64_S128x64_S128x64_S128x64_S128x64_S128x64_S128x64_S1024x64_d0

theorem stack_apply (q : Fin 8 → FVec Ideal S128x64 .bf16) (i : Fin 8) (r : Fin 128) (e : Fin 64) :
    stack q (ix2 (⟨128 * i.val + r.val, by omega⟩ : Fin 1024) e) = q i (ix2 r e) := by
  unfold stack
  exact concatenate_ofFn_apply (s₁ := S128x64) (t := S1024x64) 0 q _ rfl 128 rfl _ i
    (by show (128 * i.val + r.val) / 128 = i.val; omega) _ (by show r.val = (128 * i.val + r.val) % 128; omega)
    (fun b hb => by match b with | ⟨0, _⟩ => exact absurd rfl hb | ⟨1, _⟩ => rfl)

/-- An entry of the scores. -/
def score (kp kc : FVec Ideal S128x64 .bf16) (q : Fin 8 → FVec Ideal S128x64 .bf16) (b : FVec Ideal S1x8x128x256 .f32)
    (i : Fin 8) (r : Fin 128) (k : Fin 256) : EReal :=
  (∑ e : Fin 64, q i (ix2 r e) * both kp kc k e) + b (ix4 (0 : Fin 1) i r k)

theorem score_apply (kp kc : FVec Ideal S128x64 .bf16) (q : Fin 8 → FVec Ideal S128x64 .bf16) (b : FVec Ideal S1x8x128x256 .f32)
    (i : Fin 8) (r : Fin 128) (k : Fin 256) :
    k0_pay8 (F := Ideal) kp kc (q 0) (q 1) (q 2) (q 3) (q 4) (q 5) (q 6) (q 7) b (ix2 (⟨128 * i.val + r.val, by omega⟩ : Fin 1024) k) = score kp kc q b i r k := by
  unfold k0_pay8 score
  refine congrArg₂ (fun y z : EReal => y + z) ?_ ?_
  · refine (Ideal.matmul_transposedRhs_apply (M := 1024) (K := 64) (N := 256) none (stack q) (k0_pay7 (F := Ideal) kp kc) _ _ _).trans ?_
    rw [constant_apply]
    simp only [Ideal.ofBits_def, Ideal.ofBits_zero_f32, zero_add]
    exact Finset.sum_congr rfl fun e _ => by rw [stack_apply, both_apply]
  · refine (shapeCast_apply (s := S8x128x256) (t := S1024x256) _ _ _ (ix3 i r k) ?_).trans ?_
    · show (S8x128x256.rowMajor (ix3 i r k)).val = (S1024x256.rowMajor (ix2 (⟨128 * i.val + r.val, by omega⟩ : Fin 1024) k)).val
      rw [Shape.rowMajor_val_three, Shape.rowMajor_val_two]
      show (i.val * 128 + r.val) * 256 + k.val = (128 * i.val + r.val) * 256 + k.val
      omega
    · refine (shapeCast_dropUnit_apply _ _ _ _).trans ?_
      exact congrArg b (funext fun a => Fin.ext (by match a with | ⟨0, _⟩ => rfl | ⟨1, _⟩ => rfl | ⟨2, _⟩ => rfl | ⟨3, _⟩ => rfl))

/-- A column of 1024 numbers, seen along 128 lanes. -/
theorem lanes (x : FVec Ideal S1024 .f32) (R : Fin 1024) (j : Fin 128) :
    broadcastTo S1024x128 (shapeCast S1024x1 x Facts₀.shapeCasts_S1024_S1024x1) Facts₀.broadcasts_S1024x1_S1024x128 (ix2 R j) = x (ix1 R) := by
  refine (broadcastTo_apply (s := S1024x1) (t := S1024x128) _ _ _ (ix2 R (0 : Fin 1)) (fun a => by match a with | ⟨0, _⟩ => rfl | ⟨1, _⟩ => rfl)).trans ?_
  refine shapeCast_apply (s := S1024) (t := S1024x1) _ _ _ (ix1 R) ?_
  show (S1024.rowMajor (ix1 R)).val = (S1024x1.rowMajor (ix2 R (0 : Fin 1))).val
  rw [Shape.rowMajor_val_one, Shape.rowMajor_val_two]
  show R.val = R.val * 1 + 0
  omega

theorem row_lift (R : Fin 1024) (k : Fin 256) : Facts₀.reduces_S1024x256_S1024.lift (ix1 R) k = ix2 R k :=
  funext fun a => Fin.ext (by match a with | ⟨0, _⟩ => rfl | ⟨1, _⟩ => rfl)

theorem row_sum (x : FVec Ideal S1024x256 .f32) (R : Fin 1024) :
    multiReduction .add [1] S1024 x 0x00000000#32 Facts₀.reduces_S1024x256_S1024 (.inl rfl) rfl (ix1 R) = ∑ k : Fin 256, x (ix2 R k) := by
  refine (Ideal.multiReduction_add_single x _ Facts₀.reduces_S1024x256_S1024 _ _ (ix1 R)).trans ?_
  exact Finset.sum_congr rfl fun k _ => congrArg x (row_lift R k)

theorem row_max (x : FVec Ideal S1024x256 .f32) (R : Fin 1024) :
    multiReduction .maximumf [1] S1024 x 0xFF800000#32 Facts₀.reduces_S1024x256_S1024 (.inl rfl) rfl (ix1 R)
      = (Finset.univ : Finset (Fin 256)).fold max ⊥ (fun k => x (ix2 R k)) := by
  refine (Ideal.multiReduction_maximumf_single x _ Facts₀.reduces_S1024x256_S1024 _ _ (ix1 R)).trans ?_
  rw [Ideal.ofBits_def, show Ideal.ofBits .f32 0xFF800000#32 = (⊥ : EReal) by simp [Ideal.ofBits, Ideal.ieee]]
  exact congrArg (Finset.fold max ⊥ · (Finset.univ : Finset (Fin 256))) (funext fun k => congrArg x (row_lift R k))

/-- The maximum that a row's scores and sink have. -/
theorem max_apply (kp kc : FVec Ideal S128x64 .bf16) (q : Fin 8 → FVec Ideal S128x64 .bf16) (b : FVec Ideal S1x8x128x256 .f32)
    (s : FVec Ideal S1024x128 .f32) (i : Fin 8) (r : Fin 128) (j : Fin 128) :
    k0_pay10 (F := Ideal) kp kc (q 0) (q 1) (q 2) (q 3) (q 4) (q 5) (q 6) (q 7) b s (ix2 (⟨128 * i.val + r.val, by omega⟩ : Fin 1024) j)
      = max ((Finset.univ : Finset (Fin 256)).fold max ⊥ (score kp kc q b i r)) (s (ix2 (⟨128 * i.val + r.val, by omega⟩ : Fin 1024) j)) := by
  unfold k0_pay10 k0_pay9
  refine congrArg₂ (fun y z : EReal => max y z) ((lanes _ _ _).trans ((row_max _ _).trans ?_)) (congrFun (shapeCast_self s _) _)
  exact (congrArg (Finset.fold max ⊥ · (Finset.univ : Finset (Fin 256))) (funext fun k => score_apply kp kc q b i r k))

/-- The group's result at a row whose maximum and sink are the same in every lane. -/
theorem quotient_apply (v : FVec Ideal S256x64 .bf16) (x : FVec Ideal S1024x256 .f32) (s w : FVec Ideal S1024x128 .f32)
    (R : Fin 1024) (d : Fin 64) (M z : EReal) (hM : ∀ j : Fin 128, w (ix2 R j) = M) (hz : ∀ j : Fin 128, s (ix2 R j) = z) :
    k0_pay11 (F := Ideal) v x s w (ix2 R d)
      = Ideal.div (∑ k : Fin 256, Ideal.exp2 (x (ix2 R k) - M) * v (ix2 k d))
          ((∑ k : Fin 256, Ideal.exp2 (x (ix2 R k) - M)) + Ideal.exp2 (z - M)) := by
  have hw : ∀ k : Fin 256, concatenate S1024x256 1 [⟨S1024x128, w⟩, ⟨S1024x128, w⟩] Facts₀.concatenates_S1024x128_S1024x128_S1024x256_d1 (ix2 R k) = M := by
    intro k
    by_cases h : k.val < 128
    · exact (concatenate_pair_apply_left (t := S1024x256) (s₁ := S1024x128) (s₂ := S1024x128) _ _ _ _ _ rfl (ix2 R (⟨k.val, h⟩ : Fin 128))
        (fun b => by match b with | ⟨0, _⟩ => rfl | ⟨1, _⟩ => rfl)).trans (hM _)
    · exact (concatenate_pair_apply_right (t := S1024x256) (s₁ := S1024x128) (s₂ := S1024x128) 1 _ _ _ _ rfl rfl (ix2 R (⟨k.val - 128, by omega⟩ : Fin 128))
        (fun b hb => by match b with | ⟨0, _⟩ => rfl | ⟨1, _⟩ => exact absurd rfl hb)
        (by show (k.val - 128) + 128 = k.val; omega)).trans (hM _)
  have hp : ∀ k : Fin 256, exp2 (subf x (concatenate S1024x256 1 [⟨S1024x128, w⟩, ⟨S1024x128, w⟩] Facts₀.concatenates_S1024x128_S1024x128_S1024x256_d1)) (ix2 R k)
      = Ideal.exp2 (x (ix2 R k) - M) := fun k => by
    show Ideal.exp2 (x (ix2 R k) - concatenate S1024x256 1 [⟨S1024x128, w⟩, ⟨S1024x128, w⟩] Facts₀.concatenates_S1024x128_S1024x128_S1024x256_d1 (ix2 R k)) = _
    rw [hw]
  unfold k0_pay11
  rw [divf_apply]
  refine congrArg₂ Ideal.div ?_ ?_
  · refine (Ideal.matmul_plain_apply (M := 1024) (K := 256) (N := 64) none _ v _ R d).trans ?_
    rw [constant_apply]
    simp only [Ideal.ofBits_def, Ideal.ofBits_zero_f32, zero_add]
    exact Finset.sum_congr rfl fun k _ => by rw [truncf_apply, hp]
  · refine (extractStridedSlice_apply (s := S1024x128) (t := S1024x64) _ _ _ _ (ix2 R (⟨d.val, by omega⟩ : Fin 128))
      (fun a => by match a with | ⟨0, _⟩ => exact (Nat.zero_add _).symm | ⟨1, _⟩ => exact (Nat.zero_add _).symm)).trans ?_
    refine congrArg₂ (fun y z : EReal => y + z) ?_ ?_
    · refine (lanes _ _ _).trans ((row_sum _ _).trans ?_)
      exact Finset.sum_congr rfl fun k _ => hp k
    · show Ideal.exp2 (s (ix2 R _) - w (ix2 R _)) = _
      rw [hM, hz]

/-- One group: eight heads over the same keys and values. -/
def grp (kp kc vp vc : FVec Ideal S128x64 .bf16) (q : Fin 8 → FVec Ideal S128x64 .bf16) (b : FVec Ideal S1x8x128x256 .f32)
    (s : FVec Ideal S1024x128 .f32) : FVec Ideal S1024x64 .f32 :=
  k0_pay11 (F := Ideal) (k0_pay7 (F := Ideal) vp vc) (k0_pay8 (F := Ideal) kp kc (q 0) (q 1) (q 2) (q 3) (q 4) (q 5) (q 6) (q 7) b) (k0_pay9 (F := Ideal) s) (k0_pay10 (F := Ideal) kp kc (q 0) (q 1) (q 2) (q 3) (q 4) (q 5) (q 6) (q 7) b s)

theorem grp_apply (kp kc vp vc : FVec Ideal S128x64 .bf16) (q : Fin 8 → FVec Ideal S128x64 .bf16) (b : FVec Ideal S1x8x128x256 .f32)
    (s : FVec Ideal S1024x128 .f32) (i : Fin 8) (r : Fin 128) (d : Fin 64) (z M : EReal)
    (hz : ∀ j : Fin 128, s (ix2 (⟨128 * i.val + r.val, by omega⟩ : Fin 1024) j) = z)
    (hM : M = max ((Finset.univ : Finset (Fin 256)).fold max ⊥ (score kp kc q b i r)) z) :
    grp kp kc vp vc q b s (ix2 (⟨128 * i.val + r.val, by omega⟩ : Fin 1024) d)
      = Ideal.div (∑ k : Fin 256, Ideal.exp2 (score kp kc q b i r k - M) * both vp vc k d)
          ((∑ k : Fin 256, Ideal.exp2 (score kp kc q b i r k - M)) + Ideal.exp2 (z - M)) := by
  unfold grp
  refine (quotient_apply _ _ _ _ _ d M z (fun j => ?_) (fun j => ?_)).trans ?_
  · rw [max_apply, hz, hM]
  · unfold k0_pay9; rw [shapeCast_self, hz]
  · simp only [score_apply, both_apply]

end Cert.SwaIdeal.Product

end
-- ==== Proof.SwaBody.lean ====
/-
  What one grid point leaves in the block it writes: 32 heads side by side, each 64 wide, times the gate.
-/
module

public import proofs.«01_k».proof.Defs
public import proofs.«01_k».proof.Proof.Origin
public import proofs.«01_k».proof.Proof.Softmax
public import proofs.«01_k».proof.Proof.SwaGroup
public import Idealize.ShloMosaic.Lib.Pipeline.Value
public import Idealize.ShloMosaic.Lib.Pipeline.ValueKit.Tiles
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.SwaIdeal.Product

open Cert.SwaIdeal Cert.SwaIdeal.Gen

/-- 64 columns of a block of keys or values. -/
def kvcut (x : Vec Ideal S128x256 .bf16) (o : Nat) (h : o + 64 ≤ 256) : FVec Ideal S128x64 .bf16 :=
  fun y => x (ix2 (y 0 : Fin 128) (⟨o + (y 1).val, by have h1 : (y 1).val < 64 := (y 1).isLt; omega⟩ : Fin 256))

/-- 64 columns of a block of queries. -/
def qcut (x : Vec Ideal S128x2048 .bf16) (o : Nat) (h : o + 64 ≤ 2048) : FVec Ideal S128x64 .bf16 :=
  fun y => x (ix2 (y 0 : Fin 128) (⟨o + (y 1).val, by have h1 : (y 1).val < 64 := (y 1).isLt; omega⟩ : Fin 2048))

/-- The bands of eight heads. -/
def bcut (x : Vec Ideal S1x32x128x256 .f32) (o : Nat) (h : o + 8 ≤ 32) : FVec Ideal S1x8x128x256 .f32 :=
  fun y => x (ix4 (0 : Fin 1) (⟨o + (y 1).val, by have h1 : (y 1).val < 8 := (y 1).isLt; omega⟩ : Fin 32) (y 2 : Fin 128) (y 3 : Fin 256))

/-- The sinks of eight heads. -/
def scut (x : Vec Ideal S4096x128 .f32) (o : Nat) (h : o + 1024 ≤ 4096) : FVec Ideal S1024x128 .f32 :=
  fun y => x (ix2 (⟨o + (y 0).val, by have h1 : (y 0).val < 1024 := (y 0).isLt; omega⟩ : Fin 4096) (y 1 : Fin 128))

theorem ld_kv (x : Vec Ideal S128x256 .bf16) (o : Nat) (inb : ∀ a, (![0, o] : Fin 2 → Nat) a + (![128, 64] : Fin 2 → Nat) a ≤ S128x256.size a) :
    View.ld x (Rect.unit ![0, o] ![128, 64] inb) = kvcut x o (inb 1) :=
  funext fun y => View.ld_unit_apply_of x _ _ inb y _ fun a => by
    match a with | ⟨0, _⟩ => exact (Nat.zero_add _).symm | ⟨1, _⟩ => rfl

theorem ld_q (x : Vec Ideal S128x2048 .bf16) (o : Nat) (inb : ∀ a, (![0, o] : Fin 2 → Nat) a + (![128, 64] : Fin 2 → Nat) a ≤ S128x2048.size a) :
    View.ld x (Rect.unit ![0, o] ![128, 64] inb) = qcut x o (inb 1) :=
  funext fun y => View.ld_unit_apply_of x _ _ inb y _ fun a => by
    match a with | ⟨0, _⟩ => exact (Nat.zero_add _).symm | ⟨1, _⟩ => rfl

theorem ld_b (x : Vec Ideal S1x32x128x256 .f32) (o : Nat)
    (inb : ∀ a, (![0, o, 0, 0] : Fin 4 → Nat) a + (![1, 8, 128, 256] : Fin 4 → Nat) a ≤ S1x32x128x256.size a) :
    View.ld x (Rect.unit ![0, o, 0, 0] ![1, 8, 128, 256] inb) = bcut x o (inb 1) :=
  funext fun y => View.ld_unit_apply_of x _ _ inb y _ fun a => by
    match a with
    | ⟨0, _⟩ => show 0 = 0 + (y 0).val; have h0 : (y 0).val < 1 := (y 0).isLt; omega
    | ⟨1, _⟩ => rfl
    | ⟨2, _⟩ => exact (Nat.zero_add _).symm
    | ⟨3, _⟩ => exact (Nat.zero_add _).symm

theorem ld_s (x : Vec Ideal S4096x128 .f32) (o : Nat) (inb : ∀ a, (![o, 0] : Fin 2 → Nat) a + (![1024, 128] : Fin 2 → Nat) a ≤ S4096x128.size a) :
    View.ld x (Rect.unit ![o, 0] ![1024, 128] inb) = scut x o (inb 0) :=
  funext fun y => View.ld_unit_apply_of x _ _ inb y _ fun a => by
    match a with | ⟨0, _⟩ => rfl | ⟨1, _⟩ => exact (Nat.zero_add _).symm

/-- One group's result, from the blocks of the grid point. -/
def res (x0 : Vec Ideal S4096x128 .f32) (x1 : Vec Ideal S128x2048 .bf16) (x2 x3 x4 x5 : Vec Ideal S128x256 .bf16)
    (x7 : Vec Ideal S1x32x128x256 .f32) (g : Fin 4) : FVec Ideal S1024x64 .f32 :=
  grp (kvcut x2 (64 * g.val) (by omega)) (kvcut x3 (64 * g.val) (by omega)) (kvcut x4 (64 * g.val) (by omega)) (kvcut x5 (64 * g.val) (by omega))
    (fun n => qcut x1 (512 * g.val + 64 * n.val) (by omega)) (bcut x7 (8 * g.val) (by omega)) (scut x0 (1024 * g.val) (by omega))

/-- The rows of one head of a group. -/
def part (G : FVec Ideal S1024x64 .f32) (n : Fin 8) : FVec Ideal S128x64 .f32 :=
  fun y => G (ix2 (⟨128 * n.val + (y 0).val, by have h0 : (y 0).val < 128 := (y 0).isLt; omega⟩ : Fin 1024) (y 1 : Fin 64))

theorem slice_part (G : FVec Ideal S1024x64 .f32) (n : Fin 8) (h : S1024x64.Slices ![128 * n.val, 0] S128x64) :
    extractStridedSlice S128x64 ![128 * n.val, 0] G h = part G n :=
  funext fun y => extractStridedSlice_apply (s := S1024x64) (t := S128x64) _ G h y _ fun a => by
    match a with | ⟨0, _⟩ => rfl | ⟨1, _⟩ => exact (Nat.zero_add _).symm

/-- 32 heads side by side. -/
def joined (p : Fin 32 → FVec Ideal S128x64 .f32) : FVec Ideal S128x2048 .f32 :=
  concatenate S128x2048 1 [⟨S128x64, p 0⟩, ⟨S128x64, p 1⟩, ⟨S128x64, p 2⟩, ⟨S128x64, p 3⟩, ⟨S128x64, p 4⟩, ⟨S128x64, p 5⟩, ⟨S128x64, p 6⟩, ⟨S128x64, p 7⟩, ⟨S128x64, p 8⟩, ⟨S128x64, p 9⟩, ⟨S128x64, p 10⟩, ⟨S128x64, p 11⟩, ⟨S128x64, p 12⟩, ⟨S128x64, p 13⟩, ⟨S128x64, p 14⟩, ⟨S128x64, p 15⟩, ⟨S128x64, p 16⟩, ⟨S128x64, p 17⟩, ⟨S128x64, p 18⟩, ⟨S128x64, p 19⟩, ⟨S128x64, p 20⟩, ⟨S128x64, p 21⟩, ⟨S128x64, p 22⟩, ⟨S128x64, p 23⟩, ⟨S128x64, p 24⟩, ⟨S128x64, p 25⟩, ⟨S128x64, p 26⟩, ⟨S128x64, p 27⟩, ⟨S128x64, p 28⟩, ⟨S128x64, p 29⟩, ⟨S128x64, p 30⟩, ⟨S128x64, p 31⟩]
    Facts₀.concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x2048_d1

theorem joined_apply (p : Fin 32 → FVec Ideal S128x64 .f32) (n : Fin 32) (r : Fin 128) (d : Fin 64) :
    joined p (ix2 r (⟨64 * n.val + d.val, by omega⟩ : Fin 2048)) = p n (ix2 r d) := by
  unfold joined
  exact concatenate_ofFn_apply (s₁ := S128x64) (t := S128x2048) 1 p _ rfl 64 rfl _ n
    (by show (64 * n.val + d.val) / 64 = n.val; omega) _ (by show d.val = (64 * n.val + d.val) % 64; omega)
    (fun b hb => by match b with | ⟨0, _⟩ => rfl | ⟨1, _⟩ => exact absurd rfl hb)

theorem joined_eq (G : Fin 4 → FVec Ideal S1024x64 .f32) :
    k0_pay5 (F := Ideal) (part (G 0) 0) (part (G 0) 1) (part (G 0) 2) (part (G 0) 3) (part (G 0) 4) (part (G 0) 5) (part (G 0) 6) (part (G 0) 7) (part (G 1) 0) (part (G 1) 1) (part (G 1) 2) (part (G 1) 3) (part (G 1) 4) (part (G 1) 5) (part (G 1) 6) (part (G 1) 7) (part (G 2) 0) (part (G 2) 1) (part (G 2) 2) (part (G 2) 3) (part (G 2) 4) (part (G 2) 5) (part (G 2) 6) (part (G 2) 7) (G 3)
      = joined fun n => part (G ⟨n.val / 8, by omega⟩) ⟨n.val % 8, by omega⟩ := by
  unfold k0_pay5
  rw [show extractStridedSlice S128x64 ![0, 0] (G 3) Facts₀.slices_S1024x64_o0_0_S128x64 = part (G 3) 0 from slice_part (G 3) 0 _, show extractStridedSlice S128x64 ![128, 0] (G 3) Facts₀.slices_S1024x64_o128_0_S128x64 = part (G 3) 1 from slice_part (G 3) 1 _, show extractStridedSlice S128x64 ![256, 0] (G 3) Facts₀.slices_S1024x64_o256_0_S128x64 = part (G 3) 2 from slice_part (G 3) 2 _, show extractStridedSlice S128x64 ![384, 0] (G 3) Facts₀.slices_S1024x64_o384_0_S128x64 = part (G 3) 3 from slice_part (G 3) 3 _, show extractStridedSlice S128x64 ![512, 0] (G 3) Facts₀.slices_S1024x64_o512_0_S128x64 = part (G 3) 4 from slice_part (G 3) 4 _, show extractStridedSlice S128x64 ![640, 0] (G 3) Facts₀.slices_S1024x64_o640_0_S128x64 = part (G 3) 5 from slice_part (G 3) 5 _, show extractStridedSlice S128x64 ![768, 0] (G 3) Facts₀.slices_S1024x64_o768_0_S128x64 = part (G 3) 6 from slice_part (G 3) 6 _, show extractStridedSlice S128x64 ![896, 0] (G 3) Facts₀.slices_S1024x64_o896_0_S128x64 = part (G 3) 7 from slice_part (G 3) 7 _]
  rfl

/-! The groups' values: each is the same function of its blocks. -/

theorem group_first (kp kc vp vc q0 q1 q2 q3 q4 q5 q6 q7 : FVec Ideal S128x64 .bf16) (b : FVec Ideal S1x8x128x256 .f32) (s : FVec Ideal S1024x128 .f32) :
    k0_pay11 (F := Ideal) (k0_pay7 (F := Ideal) vp vc) (k0_pay8 (F := Ideal) kp kc q0 q1 q2 q3 q4 q5 q6 q7 b) (k0_pay9 (F := Ideal) s) (k0_pay10 (F := Ideal) kp kc q0 q1 q2 q3 q4 q5 q6 q7 b s) = grp kp kc vp vc ![q0, q1, q2, q3, q4, q5, q6, q7] b s := rfl

theorem group_second (kp kc vp vc q0 q1 q2 q3 q4 q5 q6 q7 : FVec Ideal S128x64 .bf16) (b : FVec Ideal S1x8x128x256 .f32) (s : FVec Ideal S1024x128 .f32) :
    k0_pay22 (F := Ideal) (k0_pay20 (F := Ideal) kp kc) (k0_pay21 (F := Ideal) vp vc) q0 q1 q2 q3 q4 q5 q6 q7 b s = grp kp kc vp vc ![q0, q1, q2, q3, q4, q5, q6, q7] b s := rfl

theorem group_third (kp kc vp vc q0 q1 q2 q3 q4 q5 q6 q7 : FVec Ideal S128x64 .bf16) (b : FVec Ideal S1x8x128x256 .f32) (s : FVec Ideal S1024x128 .f32) :
    k0_pay33 (F := Ideal) (k0_pay31 (F := Ideal) kp kc) (k0_pay32 (F := Ideal) vp vc) q0 q1 q2 q3 q4 q5 q6 q7 b s = grp kp kc vp vc ![q0, q1, q2, q3, q4, q5, q6, q7] b s := rfl

theorem group_fourth (kp kc vp vc q0 q1 q2 q3 q4 q5 q6 q7 : FVec Ideal S128x64 .bf16) (b : FVec Ideal S1x8x128x256 .f32) (s : FVec Ideal S1024x128 .f32) :
    k0_pay4 (F := Ideal) (k0_pay44 (F := Ideal) s) (k0_pay1 (F := Ideal) (k0_pay44 (F := Ideal) s) (k0_pay45 (F := Ideal) kp kc q0 q1 q2 q3 q4 q5 q6 q7 b)) (k0_pay2 (F := Ideal) (k0_pay43 (F := Ideal) kp kc q0 q1 q2 q3 q4 q5 q6 q7 b) (k0_pay1 (F := Ideal) (k0_pay44 (F := Ideal) s) (k0_pay45 (F := Ideal) kp kc q0 q1 q2 q3 q4 q5 q6 q7 b))) (k0_pay3 (F := Ideal) (k0_pay42 (F := Ideal) vp vc) (k0_pay2 (F := Ideal) (k0_pay43 (F := Ideal) kp kc q0 q1 q2 q3 q4 q5 q6 q7 b) (k0_pay1 (F := Ideal) (k0_pay44 (F := Ideal) s) (k0_pay45 (F := Ideal) kp kc q0 q1 q2 q3 q4 q5 q6 q7 b)))) = grp kp kc vp vc ![q0, q1, q2, q3, q4, q5, q6, q7] b s := rfl

theorem head0 (kp kc vp vc q0 q1 q2 q3 q4 q5 q6 q7 : FVec Ideal S128x64 .bf16) (b : FVec Ideal S1x8x128x256 .f32) (s : FVec Ideal S1024x128 .f32) :
    k0_pay12 (F := Ideal) (k0_pay7 (F := Ideal) vp vc) (k0_pay8 (F := Ideal) kp kc q0 q1 q2 q3 q4 q5 q6 q7 b) (k0_pay9 (F := Ideal) s) (k0_pay10 (F := Ideal) kp kc q0 q1 q2 q3 q4 q5 q6 q7 b s) = part (grp kp kc vp vc ![q0, q1, q2, q3, q4, q5, q6, q7] b s) 0 := slice_part (grp kp kc vp vc ![q0, q1, q2, q3, q4, q5, q6, q7] b s) 0 Facts₀.slices_S1024x64_o0_0_S128x64

theorem head1 (kp kc vp vc q0 q1 q2 q3 q4 q5 q6 q7 : FVec Ideal S128x64 .bf16) (b : FVec Ideal S1x8x128x256 .f32) (s : FVec Ideal S1024x128 .f32) :
    k0_pay13 (F := Ideal) (k0_pay7 (F := Ideal) vp vc) (k0_pay8 (F := Ideal) kp kc q0 q1 q2 q3 q4 q5 q6 q7 b) (k0_pay9 (F := Ideal) s) (k0_pay10 (F := Ideal) kp kc q0 q1 q2 q3 q4 q5 q6 q7 b s) = part (grp kp kc vp vc ![q0, q1, q2, q3, q4, q5, q6, q7] b s) 1 := slice_part (grp kp kc vp vc ![q0, q1, q2, q3, q4, q5, q6, q7] b s) 1 Facts₀.slices_S1024x64_o128_0_S128x64

theorem head2 (kp kc vp vc q0 q1 q2 q3 q4 q5 q6 q7 : FVec Ideal S128x64 .bf16) (b : FVec Ideal S1x8x128x256 .f32) (s : FVec Ideal S1024x128 .f32) :
    k0_pay14 (F := Ideal) (k0_pay7 (F := Ideal) vp vc) (k0_pay8 (F := Ideal) kp kc q0 q1 q2 q3 q4 q5 q6 q7 b) (k0_pay9 (F := Ideal) s) (k0_pay10 (F := Ideal) kp kc q0 q1 q2 q3 q4 q5 q6 q7 b s) = part (grp kp kc vp vc ![q0, q1, q2, q3, q4, q5, q6, q7] b s) 2 := slice_part (grp kp kc vp vc ![q0, q1, q2, q3, q4, q5, q6, q7] b s) 2 Facts₀.slices_S1024x64_o256_0_S128x64

theorem head3 (kp kc vp vc q0 q1 q2 q3 q4 q5 q6 q7 : FVec Ideal S128x64 .bf16) (b : FVec Ideal S1x8x128x256 .f32) (s : FVec Ideal S1024x128 .f32) :
    k0_pay15 (F := Ideal) (k0_pay7 (F := Ideal) vp vc) (k0_pay8 (F := Ideal) kp kc q0 q1 q2 q3 q4 q5 q6 q7 b) (k0_pay9 (F := Ideal) s) (k0_pay10 (F := Ideal) kp kc q0 q1 q2 q3 q4 q5 q6 q7 b s) = part (grp kp kc vp vc ![q0, q1, q2, q3, q4, q5, q6, q7] b s) 3 := slice_part (grp kp kc vp vc ![q0, q1, q2, q3, q4, q5, q6, q7] b s) 3 Facts₀.slices_S1024x64_o384_0_S128x64

theorem head4 (kp kc vp vc q0 q1 q2 q3 q4 q5 q6 q7 : FVec Ideal S128x64 .bf16) (b : FVec Ideal S1x8x128x256 .f32) (s : FVec Ideal S1024x128 .f32) :
    k0_pay16 (F := Ideal) (k0_pay7 (F := Ideal) vp vc) (k0_pay8 (F := Ideal) kp kc q0 q1 q2 q3 q4 q5 q6 q7 b) (k0_pay9 (F := Ideal) s) (k0_pay10 (F := Ideal) kp kc q0 q1 q2 q3 q4 q5 q6 q7 b s) = part (grp kp kc vp vc ![q0, q1, q2, q3, q4, q5, q6, q7] b s) 4 := slice_part (grp kp kc vp vc ![q0, q1, q2, q3, q4, q5, q6, q7] b s) 4 Facts₀.slices_S1024x64_o512_0_S128x64

theorem head5 (kp kc vp vc q0 q1 q2 q3 q4 q5 q6 q7 : FVec Ideal S128x64 .bf16) (b : FVec Ideal S1x8x128x256 .f32) (s : FVec Ideal S1024x128 .f32) :
    k0_pay17 (F := Ideal) (k0_pay7 (F := Ideal) vp vc) (k0_pay8 (F := Ideal) kp kc q0 q1 q2 q3 q4 q5 q6 q7 b) (k0_pay9 (F := Ideal) s) (k0_pay10 (F := Ideal) kp kc q0 q1 q2 q3 q4 q5 q6 q7 b s) = part (grp kp kc vp vc ![q0, q1, q2, q3, q4, q5, q6, q7] b s) 5 := slice_part (grp kp kc vp vc ![q0, q1, q2, q3, q4, q5, q6, q7] b s) 5 Facts₀.slices_S1024x64_o640_0_S128x64

theorem head6 (kp kc vp vc q0 q1 q2 q3 q4 q5 q6 q7 : FVec Ideal S128x64 .bf16) (b : FVec Ideal S1x8x128x256 .f32) (s : FVec Ideal S1024x128 .f32) :
    k0_pay18 (F := Ideal) (k0_pay7 (F := Ideal) vp vc) (k0_pay8 (F := Ideal) kp kc q0 q1 q2 q3 q4 q5 q6 q7 b) (k0_pay9 (F := Ideal) s) (k0_pay10 (F := Ideal) kp kc q0 q1 q2 q3 q4 q5 q6 q7 b s) = part (grp kp kc vp vc ![q0, q1, q2, q3, q4, q5, q6, q7] b s) 6 := slice_part (grp kp kc vp vc ![q0, q1, q2, q3, q4, q5, q6, q7] b s) 6 Facts₀.slices_S1024x64_o768_0_S128x64

theorem head7 (kp kc vp vc q0 q1 q2 q3 q4 q5 q6 q7 : FVec Ideal S128x64 .bf16) (b : FVec Ideal S1x8x128x256 .f32) (s : FVec Ideal S1024x128 .f32) :
    k0_pay19 (F := Ideal) (k0_pay7 (F := Ideal) vp vc) (k0_pay8 (F := Ideal) kp kc q0 q1 q2 q3 q4 q5 q6 q7 b) (k0_pay9 (F := Ideal) s) (k0_pay10 (F := Ideal) kp kc q0 q1 q2 q3 q4 q5 q6 q7 b s) = part (grp kp kc vp vc ![q0, q1, q2, q3, q4, q5, q6, q7] b s) 7 := slice_part (grp kp kc vp vc ![q0, q1, q2, q3, q4, q5, q6, q7] b s) 7 Facts₀.slices_S1024x64_o896_0_S128x64

theorem head8 (kp kc vp vc q0 q1 q2 q3 q4 q5 q6 q7 : FVec Ideal S128x64 .bf16) (b : FVec Ideal S1x8x128x256 .f32) (s : FVec Ideal S1024x128 .f32) :
    k0_pay23 (F := Ideal) (k0_pay20 (F := Ideal) kp kc) (k0_pay21 (F := Ideal) vp vc) q0 q1 q2 q3 q4 q5 q6 q7 b s = part (grp kp kc vp vc ![q0, q1, q2, q3, q4, q5, q6, q7] b s) 0 := slice_part (grp kp kc vp vc ![q0, q1, q2, q3, q4, q5, q6, q7] b s) 0 Facts₀.slices_S1024x64_o0_0_S128x64

theorem head9 (kp kc vp vc q0 q1 q2 q3 q4 q5 q6 q7 : FVec Ideal S128x64 .bf16) (b : FVec Ideal S1x8x128x256 .f32) (s : FVec Ideal S1024x128 .f32) :
    k0_pay24 (F := Ideal) (k0_pay20 (F := Ideal) kp kc) (k0_pay21 (F := Ideal) vp vc) q0 q1 q2 q3 q4 q5 q6 q7 b s = part (grp kp kc vp vc ![q0, q1, q2, q3, q4, q5, q6, q7] b s) 1 := slice_part (grp kp kc vp vc ![q0, q1, q2, q3, q4, q5, q6, q7] b s) 1 Facts₀.slices_S1024x64_o128_0_S128x64

theorem head10 (kp kc vp vc q0 q1 q2 q3 q4 q5 q6 q7 : FVec Ideal S128x64 .bf16) (b : FVec Ideal S1x8x128x256 .f32) (s : FVec Ideal S1024x128 .f32) :
    k0_pay25 (F := Ideal) (k0_pay20 (F := Ideal) kp kc) (k0_pay21 (F := Ideal) vp vc) q0 q1 q2 q3 q4 q5 q6 q7 b s = part (grp kp kc vp vc ![q0, q1, q2, q3, q4, q5, q6, q7] b s) 2 := slice_part (grp kp kc vp vc ![q0, q1, q2, q3, q4, q5, q6, q7] b s) 2 Facts₀.slices_S1024x64_o256_0_S128x64

theorem head11 (kp kc vp vc q0 q1 q2 q3 q4 q5 q6 q7 : FVec Ideal S128x64 .bf16) (b : FVec Ideal S1x8x128x256 .f32) (s : FVec Ideal S1024x128 .f32) :
    k0_pay26 (F := Ideal) (k0_pay20 (F := Ideal) kp kc) (k0_pay21 (F := Ideal) vp vc) q0 q1 q2 q3 q4 q5 q6 q7 b s = part (grp kp kc vp vc ![q0, q1, q2, q3, q4, q5, q6, q7] b s) 3 := slice_part (grp kp kc vp vc ![q0, q1, q2, q3, q4, q5, q6, q7] b s) 3 Facts₀.slices_S1024x64_o384_0_S128x64

theorem head12 (kp kc vp vc q0 q1 q2 q3 q4 q5 q6 q7 : FVec Ideal S128x64 .bf16) (b : FVec Ideal S1x8x128x256 .f32) (s : FVec Ideal S1024x128 .f32) :
    k0_pay27 (F := Ideal) (k0_pay20 (F := Ideal) kp kc) (k0_pay21 (F := Ideal) vp vc) q0 q1 q2 q3 q4 q5 q6 q7 b s = part (grp kp kc vp vc ![q0, q1, q2, q3, q4, q5, q6, q7] b s) 4 := slice_part (grp kp kc vp vc ![q0, q1, q2, q3, q4, q5, q6, q7] b s) 4 Facts₀.slices_S1024x64_o512_0_S128x64

theorem head13 (kp kc vp vc q0 q1 q2 q3 q4 q5 q6 q7 : FVec Ideal S128x64 .bf16) (b : FVec Ideal S1x8x128x256 .f32) (s : FVec Ideal S1024x128 .f32) :
    k0_pay28 (F := Ideal) (k0_pay20 (F := Ideal) kp kc) (k0_pay21 (F := Ideal) vp vc) q0 q1 q2 q3 q4 q5 q6 q7 b s = part (grp kp kc vp vc ![q0, q1, q2, q3, q4, q5, q6, q7] b s) 5 := slice_part (grp kp kc vp vc ![q0, q1, q2, q3, q4, q5, q6, q7] b s) 5 Facts₀.slices_S1024x64_o640_0_S128x64

theorem head14 (kp kc vp vc q0 q1 q2 q3 q4 q5 q6 q7 : FVec Ideal S128x64 .bf16) (b : FVec Ideal S1x8x128x256 .f32) (s : FVec Ideal S1024x128 .f32) :
    k0_pay29 (F := Ideal) (k0_pay20 (F := Ideal) kp kc) (k0_pay21 (F := Ideal) vp vc) q0 q1 q2 q3 q4 q5 q6 q7 b s = part (grp kp kc vp vc ![q0, q1, q2, q3, q4, q5, q6, q7] b s) 6 := slice_part (grp kp kc vp vc ![q0, q1, q2, q3, q4, q5, q6, q7] b s) 6 Facts₀.slices_S1024x64_o768_0_S128x64

theorem head15 (kp kc vp vc q0 q1 q2 q3 q4 q5 q6 q7 : FVec Ideal S128x64 .bf16) (b : FVec Ideal S1x8x128x256 .f32) (s : FVec Ideal S1024x128 .f32) :
    k0_pay30 (F := Ideal) (k0_pay20 (F := Ideal) kp kc) (k0_pay21 (F := Ideal) vp vc) q0 q1 q2 q3 q4 q5 q6 q7 b s = part (grp kp kc vp vc ![q0, q1, q2, q3, q4, q5, q6, q7] b s) 7 := slice_part (grp kp kc vp vc ![q0, q1, q2, q3, q4, q5, q6, q7] b s) 7 Facts₀.slices_S1024x64_o896_0_S128x64

theorem head16 (kp kc vp vc q0 q1 q2 q3 q4 q5 q6 q7 : FVec Ideal S128x64 .bf16) (b : FVec Ideal S1x8x128x256 .f32) (s : FVec Ideal S1024x128 .f32) :
    k0_pay34 (F := Ideal) (k0_pay31 (F := Ideal) kp kc) (k0_pay32 (F := Ideal) vp vc) q0 q1 q2 q3 q4 q5 q6 q7 b s = part (grp kp kc vp vc ![q0, q1, q2, q3, q4, q5, q6, q7] b s) 0 := slice_part (grp kp kc vp vc ![q0, q1, q2, q3, q4, q5, q6, q7] b s) 0 Facts₀.slices_S1024x64_o0_0_S128x64

theorem head17 (kp kc vp vc q0 q1 q2 q3 q4 q5 q6 q7 : FVec Ideal S128x64 .bf16) (b : FVec Ideal S1x8x128x256 .f32) (s : FVec Ideal S1024x128 .f32) :
    k0_pay35 (F := Ideal) (k0_pay31 (F := Ideal) kp kc) (k0_pay32 (F := Ideal) vp vc) q0 q1 q2 q3 q4 q5 q6 q7 b s = part (grp kp kc vp vc ![q0, q1, q2, q3, q4, q5, q6, q7] b s) 1 := slice_part (grp kp kc vp vc ![q0, q1, q2, q3, q4, q5, q6, q7] b s) 1 Facts₀.slices_S1024x64_o128_0_S128x64

theorem head18 (kp kc vp vc q0 q1 q2 q3 q4 q5 q6 q7 : FVec Ideal S128x64 .bf16) (b : FVec Ideal S1x8x128x256 .f32) (s : FVec Ideal S1024x128 .f32) :
    k0_pay36 (F := Ideal) (k0_pay31 (F := Ideal) kp kc) (k0_pay32 (F := Ideal) vp vc) q0 q1 q2 q3 q4 q5 q6 q7 b s = part (grp kp kc vp vc ![q0, q1, q2, q3, q4, q5, q6, q7] b s) 2 := slice_part (grp kp kc vp vc ![q0, q1, q2, q3, q4, q5, q6, q7] b s) 2 Facts₀.slices_S1024x64_o256_0_S128x64

theorem head19 (kp kc vp vc q0 q1 q2 q3 q4 q5 q6 q7 : FVec Ideal S128x64 .bf16) (b : FVec Ideal S1x8x128x256 .f32) (s : FVec Ideal S1024x128 .f32) :
    k0_pay37 (F := Ideal) (k0_pay33 (F := Ideal) (k0_pay31 (F := Ideal) kp kc) (k0_pay32 (F := Ideal) vp vc) q0 q1 q2 q3 q4 q5 q6 q7 b s) = part (grp kp kc vp vc ![q0, q1, q2, q3, q4, q5, q6, q7] b s) 3 := slice_part (grp kp kc vp vc ![q0, q1, q2, q3, q4, q5, q6, q7] b s) 3 Facts₀.slices_S1024x64_o384_0_S128x64

theorem head20 (kp kc vp vc q0 q1 q2 q3 q4 q5 q6 q7 : FVec Ideal S128x64 .bf16) (b : FVec Ideal S1x8x128x256 .f32) (s : FVec Ideal S1024x128 .f32) :
    k0_pay38 (F := Ideal) (k0_pay33 (F := Ideal) (k0_pay31 (F := Ideal) kp kc) (k0_pay32 (F := Ideal) vp vc) q0 q1 q2 q3 q4 q5 q6 q7 b s) = part (grp kp kc vp vc ![q0, q1, q2, q3, q4, q5, q6, q7] b s) 4 := slice_part (grp kp kc vp vc ![q0, q1, q2, q3, q4, q5, q6, q7] b s) 4 Facts₀.slices_S1024x64_o512_0_S128x64

theorem head21 (kp kc vp vc q0 q1 q2 q3 q4 q5 q6 q7 : FVec Ideal S128x64 .bf16) (b : FVec Ideal S1x8x128x256 .f32) (s : FVec Ideal S1024x128 .f32) :
    k0_pay39 (F := Ideal) (k0_pay33 (F := Ideal) (k0_pay31 (F := Ideal) kp kc) (k0_pay32 (F := Ideal) vp vc) q0 q1 q2 q3 q4 q5 q6 q7 b s) = part (grp kp kc vp vc ![q0, q1, q2, q3, q4, q5, q6, q7] b s) 5 := slice_part (grp kp kc vp vc ![q0, q1, q2, q3, q4, q5, q6, q7] b s) 5 Facts₀.slices_S1024x64_o640_0_S128x64

theorem head22 (kp kc vp vc q0 q1 q2 q3 q4 q5 q6 q7 : FVec Ideal S128x64 .bf16) (b : FVec Ideal S1x8x128x256 .f32) (s : FVec Ideal S1024x128 .f32) :
    k0_pay40 (F := Ideal) (k0_pay33 (F := Ideal) (k0_pay31 (F := Ideal) kp kc) (k0_pay32 (F := Ideal) vp vc) q0 q1 q2 q3 q4 q5 q6 q7 b s) = part (grp kp kc vp vc ![q0, q1, q2, q3, q4, q5, q6, q7] b s) 6 := slice_part (grp kp kc vp vc ![q0, q1, q2, q3, q4, q5, q6, q7] b s) 6 Facts₀.slices_S1024x64_o768_0_S128x64

theorem head23 (kp kc vp vc q0 q1 q2 q3 q4 q5 q6 q7 : FVec Ideal S128x64 .bf16) (b : FVec Ideal S1x8x128x256 .f32) (s : FVec Ideal S1024x128 .f32) :
    k0_pay41 (F := Ideal) (k0_pay33 (F := Ideal) (k0_pay31 (F := Ideal) kp kc) (k0_pay32 (F := Ideal) vp vc) q0 q1 q2 q3 q4 q5 q6 q7 b s) = part (grp kp kc vp vc ![q0, q1, q2, q3, q4, q5, q6, q7] b s) 7 := slice_part (grp kp kc vp vc ![q0, q1, q2, q3, q4, q5, q6, q7] b s) 7 Facts₀.slices_S1024x64_o896_0_S128x64

theorem res0 (x0 : Vec Ideal S4096x128 .f32) (x1 : Vec Ideal S128x2048 .bf16) (x2 x3 x4 x5 : Vec Ideal S128x256 .bf16)
    (x7 : Vec Ideal S1x32x128x256 .f32) :
    grp (kvcut x2 0 (by omega)) (kvcut x3 0 (by omega)) (kvcut x4 0 (by omega)) (kvcut x5 0 (by omega))
      ![qcut x1 0 (by omega), qcut x1 64 (by omega), qcut x1 128 (by omega), qcut x1 192 (by omega), qcut x1 256 (by omega), qcut x1 320 (by omega), qcut x1 384 (by omega), qcut x1 448 (by omega)]
      (bcut x7 0 (by omega)) (scut x0 0 (by omega)) = res x0 x1 x2 x3 x4 x5 x7 0 := by
  unfold res
  refine congrArg (fun q => grp _ _ _ _ q _ _) (funext fun n => ?_)
  match n with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem res1 (x0 : Vec Ideal S4096x128 .f32) (x1 : Vec Ideal S128x2048 .bf16) (x2 x3 x4 x5 : Vec Ideal S128x256 .bf16)
    (x7 : Vec Ideal S1x32x128x256 .f32) :
    grp (kvcut x2 64 (by omega)) (kvcut x3 64 (by omega)) (kvcut x4 64 (by omega)) (kvcut x5 64 (by omega))
      ![qcut x1 512 (by omega), qcut x1 576 (by omega), qcut x1 640 (by omega), qcut x1 704 (by omega), qcut x1 768 (by omega), qcut x1 832 (by omega), qcut x1 896 (by omega), qcut x1 960 (by omega)]
      (bcut x7 8 (by omega)) (scut x0 1024 (by omega)) = res x0 x1 x2 x3 x4 x5 x7 1 := by
  unfold res
  refine congrArg (fun q => grp _ _ _ _ q _ _) (funext fun n => ?_)
  match n with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem res2 (x0 : Vec Ideal S4096x128 .f32) (x1 : Vec Ideal S128x2048 .bf16) (x2 x3 x4 x5 : Vec Ideal S128x256 .bf16)
    (x7 : Vec Ideal S1x32x128x256 .f32) :
    grp (kvcut x2 128 (by omega)) (kvcut x3 128 (by omega)) (kvcut x4 128 (by omega)) (kvcut x5 128 (by omega))
      ![qcut x1 1024 (by omega), qcut x1 1088 (by omega), qcut x1 1152 (by omega), qcut x1 1216 (by omega), qcut x1 1280 (by omega), qcut x1 1344 (by omega), qcut x1 1408 (by omega), qcut x1 1472 (by omega)]
      (bcut x7 16 (by omega)) (scut x0 2048 (by omega)) = res x0 x1 x2 x3 x4 x5 x7 2 := by
  unfold res
  refine congrArg (fun q => grp _ _ _ _ q _ _) (funext fun n => ?_)
  match n with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem res3 (x0 : Vec Ideal S4096x128 .f32) (x1 : Vec Ideal S128x2048 .bf16) (x2 x3 x4 x5 : Vec Ideal S128x256 .bf16)
    (x7 : Vec Ideal S1x32x128x256 .f32) :
    grp (kvcut x2 192 (by omega)) (kvcut x3 192 (by omega)) (kvcut x4 192 (by omega)) (kvcut x5 192 (by omega))
      ![qcut x1 1536 (by omega), qcut x1 1600 (by omega), qcut x1 1664 (by omega), qcut x1 1728 (by omega), qcut x1 1792 (by omega), qcut x1 1856 (by omega), qcut x1 1920 (by omega), qcut x1 1984 (by omega)]
      (bcut x7 24 (by omega)) (scut x0 3072 (by omega)) = res x0 x1 x2 x3 x4 x5 x7 3 := by
  unfold res
  refine congrArg (fun q => grp _ _ _ _ q _ _) (funext fun n => ?_)
  match n with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem out_A (c : Dev nD) (i : grid0.Coords)
    (a2 : Memref sig .tc .vmem S4096x128 .f32) (h2 : a2.IsWhole) (a3 : Memref sig .tc .vmem S128x2048 .bf16) (h3 : a3.IsWhole) (a4 : Memref sig .tc .vmem S128x256 .bf16) (h4 : a4.IsWhole) (a5 : Memref sig .tc .vmem S128x256 .bf16) (h5 : a5.IsWhole) (a6 : Memref sig .tc .vmem S128x256 .bf16) (h6 : a6.IsWhole) (a7 : Memref sig .tc .vmem S128x256 .bf16) (h7 : a7.IsWhole) (a8 : Memref sig .tc .vmem S128x2048 .bf16) (h8 : a8.IsWhole) (a9 : Memref sig .tc .vmem S1x32x128x256 .f32) (h9 : a9.IsWhole) (a10 : Memref sig .tc .vmem S128x2048 .bf16) (h10 : a10.IsWhole)
    (x0 : Vec Ideal S4096x128 .f32) (x1 : Vec Ideal S128x2048 .bf16) (x2 : Vec Ideal S128x256 .bf16) (x3 : Vec Ideal S128x256 .bf16)
    (x4 : Vec Ideal S128x256 .bf16) (x5 : Vec Ideal S128x256 .bf16) (x6 : Vec Ideal S128x2048 .bf16) (x7 : Vec Ideal S1x32x128x256 .f32) :
    out0_A_8 c i a2 h2 a3 h3 a4 h4 a5 h5 a6 h6 a7 h7 a8 h8 a9 h9 a10 h10 x0 x1 x2 x3 x4 x5 x6 x7
      = k0_pay6 (F := Ideal) (joined fun n => part (res x0 x1 x2 x3 x4 x5 x7 ⟨n.val / 8, by omega⟩) ⟨n.val % 8, by omega⟩) x6 := by
  unfold out0_A_8
  rw [View.read_writes_eq_canon _ _ _ (cover0_A_8 c i a2 h2 a3 h3 a4 h4 a5 h5 a6 h6 a7 h7 a8 h8 a9 h9 a10 h10 x0 x1 x2 x3 x4 x5 x6 x7)]
  unfold kernelRun0_A; dsimp only; sl_unfold_words
  rw [View.canon_unit_zero Cert.origin2]
  simp only [View.readAt_eq_ld, h2.read_unread, h3.read_unread, h4.read_unread, h5.read_unread, h6.read_unread, h7.read_unread, h8.read_unread, h9.read_unread, View.ld_unit_zero (S := S128x2048) Cert.origin2,
    ld_kv, ld_q, ld_b, ld_s]
  simp only [group_fourth, head0, head1, head2, head3, head4, head5, head6, head7, head8, head9, head10, head11, head12, head13, head14, head15, head16, head17, head18, head19, head20, head21, head22, head23, res0, res1, res2, res3]
  exact congrArg (fun y => k0_pay6 (F := Ideal) y x6) (joined_eq (res x0 x1 x2 x3 x4 x5 x7))

end Cert.SwaIdeal.Product

end
-- ==== Proof.SwaValue.lean ====
/-
  One head of a block of queries, from the nine blocks that a point reads, when the scores are numbers: the attention of
  each query over the keys it sees, times the gate.
-/
module

public import proofs.«01_k».proof.Proof.Softmax
public import proofs.«01_k».proof.Proof.Consts
public import proofs.«01_k».proof.Proof.SwaBody
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.SwaIdeal.Product

open Cert.SwaIdeal Cert.SwaIdeal.Gen

/-- The gate of one entry. -/
def gate (g : EReal) : EReal := Ideal.div g (1 + Ideal.exp (0 - g))

theorem gated (y : FVec Ideal S128x2048 .f32) (g : Vec Ideal S128x2048 .bf16) (i : S128x2048.Idx) :
    k0_pay6 (F := Ideal) y g i = y i * gate (g i) := by
  show y i * Ideal.div (g i) (Ideal.ofBits .f32 0x3F800000#32 + Ideal.exp (Ideal.ofBits .f32 0x00000000#32 - g i)) = _
  rw [Ideal.ofBits_one_f32, Ideal.ofBits_zero_f32]
  rfl

/-- A query's score with one key. -/
def logit (p : Prop) [Decidable p] (q k : Fin 64 → ℝ) (b : ℝ) : EReal :=
  if p then (((∑ e, q e * k e) * Real.log 2 + b : ℝ) : EReal) else ⊥

/-- The kernel's score, over log 2. -/
theorem scaled_score (p : Prop) [Decidable p] (q k : Fin 64 → ℝ) (b : ℝ) :
    ((∑ e, (q e : EReal) * (k e : EReal)) + if p then ((b / Real.log 2 : ℝ) : EReal) else ⊥) ≠ ⊤
    ∧ ((∑ e, (q e : EReal) * (k e : EReal)) + if p then ((b / Real.log 2 : ℝ) : EReal) else ⊥) * ((Real.log 2 : ℝ) : EReal)
      = logit p q k b := by
  have e : (∑ e, (q e : EReal) * (k e : EReal)) = ((∑ e, q e * k e : ℝ) : EReal) := by
    rw [Softmax.coe_sum]; simp only [EReal.coe_mul]
  rw [e]
  unfold logit
  by_cases h : p
  · rw [if_pos h, if_pos h, ← EReal.coe_add, ← EReal.coe_mul]
    refine ⟨EReal.coe_ne_top _, ?_⟩
    rw [add_mul, div_mul_cancel₀ _ Consts.log_two_pos.ne']
  · rw [if_neg h, if_neg h, EReal.add_bot]
    exact ⟨bot_ne_top, EReal.bot_mul_coe_of_pos Consts.log_two_pos⟩

/-- One entry of a point's block. -/
theorem value (x0 : Vec Ideal S4096x128 .f32) (x1 : Vec Ideal S128x2048 .bf16) (x2 x3 x4 x5 : Vec Ideal S128x256 .bf16)
    (x6 : Vec Ideal S128x2048 .bf16) (x7 : Vec Ideal S1x32x128x256 .f32) (h : Fin 32) (r : Fin 128) (d : Fin 64)
    (p : Fin 256 → Prop) [DecidablePred p] (Z : ℝ) (Q : Fin 64 → ℝ) (K : Fin 256 → Fin 64 → ℝ) (W : Fin 256 → EReal) (B : Fin 256 → ℝ)
    (hs : ∀ j : Fin 128, x0 (ix2 (⟨128 * h.val + r.val, by omega⟩ : Fin 4096) j) = ((Z / Real.log 2 : ℝ) : EReal))
    (hq : ∀ e : Fin 64, x1 (ix2 r (⟨64 * h.val + e.val, by omega⟩ : Fin 2048)) = (Q e : EReal))
    (hk : ∀ k e, both (kvcut x2 (64 * (h.val / 8)) (by omega)) (kvcut x3 (64 * (h.val / 8)) (by omega)) k e = (K k e : EReal))
    (hv : ∀ k, both (kvcut x4 (64 * (h.val / 8)) (by omega)) (kvcut x5 (64 * (h.val / 8)) (by omega)) k d = W k)
    (hb : ∀ k : Fin 256, x7 (ix4 (0 : Fin 1) h r k) = if p k then ((B k / Real.log 2 : ℝ) : EReal) else ⊥) :
    k0_pay6 (F := Ideal) (joined fun n => part (res x0 x1 x2 x3 x4 x5 x7 ⟨n.val / 8, by omega⟩) ⟨n.val % 8, by omega⟩) x6
        (ix2 r (⟨64 * h.val + d.val, by omega⟩ : Fin 2048))
      = Softmax.att (fun k => logit (p k) Q (K k) (B k)) Z W
        * gate (x6 (ix2 r (⟨64 * h.val + d.val, by omega⟩ : Fin 2048))) := by
  have hu : ∀ k, score (kvcut x2 (64 * (h.val / 8)) (by omega)) (kvcut x3 (64 * (h.val / 8)) (by omega))
      (fun n => qcut x1 (512 * (h.val / 8) + 64 * n.val) (by omega)) (bcut x7 (8 * (h.val / 8)) (by omega)) (⟨h.val % 8, by omega⟩ : Fin 8) r k
      = (∑ e, (Q e : EReal) * (K k e : EReal)) + if p k then ((B k / Real.log 2 : ℝ) : EReal) else ⊥ := by
    intro k
    unfold score
    refine congrArg₂ (fun y z : EReal => y + z) (Finset.sum_congr rfl fun e _ => congrArg₂ (fun y z : EReal => y * z) ?_ (hk k e)) ?_
    · refine Eq.trans (congrArg x1 (funext fun a => Fin.ext ?_)) (hq e)
      match a with
      | ⟨0, _⟩ => rfl
      | ⟨1, _⟩ => show 512 * (h.val / 8) + 64 * (h.val % 8) + e.val = 64 * h.val + e.val; omega
    · refine Eq.trans (congrArg x7 (funext fun a => Fin.ext ?_)) (hb k)
      match a with
      | ⟨0, _⟩ => rfl
      | ⟨1, _⟩ => show 8 * (h.val / 8) + h.val % 8 = h.val; omega
      | ⟨2, _⟩ => rfl
      | ⟨3, _⟩ => rfl
  have ht : ∀ k, score (kvcut x2 (64 * (h.val / 8)) (by omega)) (kvcut x3 (64 * (h.val / 8)) (by omega))
      (fun n => qcut x1 (512 * (h.val / 8) + 64 * n.val) (by omega)) (bcut x7 (8 * (h.val / 8)) (by omega)) (⟨h.val % 8, by omega⟩ : Fin 8) r k ≠ ⊤ :=
    fun k => by rw [hu k]; exact (scaled_score (p k) Q (K k) (B k)).1
  obtain ⟨M, hM⟩ := Softmax.max_real (Finset.univ : Finset (Fin 256)) _ (fun k _ => ht k) (Z / Real.log 2)
  rw [gated, joined_apply]
  refine congrArg₂ (fun y z : EReal => y * z) ?_ rfl
  show res x0 x1 x2 x3 x4 x5 x7 ⟨h.val / 8, by omega⟩ (ix2 (⟨128 * (h.val % 8) + r.val, by omega⟩ : Fin 1024) d) = _
  unfold res
  refine (grp_apply _ _ _ _ _ _ _ (⟨h.val % 8, by omega⟩ : Fin 8) r d ((Z / Real.log 2 : ℝ) : EReal) (M : EReal) (fun j => ?_) hM.symm).trans ?_
  · refine Eq.trans (congrArg x0 (funext fun a => Fin.ext ?_)) (hs j)
    match a with
    | ⟨0, _⟩ => show 1024 * (h.val / 8) + (128 * (h.val % 8) + r.val) = 128 * h.val + r.val; omega
    | ⟨1, _⟩ => rfl
  simp only [hv]
  refine (Softmax.kernel_order _ _ W M ht).trans ?_
  rw [div_mul_cancel₀ _ Consts.log_two_pos.ne']
  refine congrArg (fun s : Fin 256 → EReal => Softmax.att s Z W) (funext fun k => ?_)
  rw [hu k]
  exact (scaled_score (p k) Q (K k) (B k)).2

end Cert.SwaIdeal.Product

end
-- ==== Proof.SwaHost.lean ====
/-
  What the host prepares for the sliding windows: the column of sinks and the two tables of bands, one for a sequence's first
  block and one for the others, each entry over log 2, minus infinity where the key is not seen.
-/
module

public import proofs.«01_k».proof.Defs
public import proofs.«01_k».proof.Proof.Origin
public import proofs.«01_k».proof.Proof.Softmax
public import proofs.«01_k».proof.Proof.Consts
public import proofs.«01_k».proof.Proof.SwaBody
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.SwaIdeal.Product

open Cert.SwaIdeal Cert.SwaIdeal.Gen

/-- Whether the query `r` of a block sees key `k` of the two blocks; the first block of a sequence has no block before it. -/
def sees (first : Bool) (r : Fin 128) (k : Fin 256) : Prop := r.val + 1 ≤ k.val ∧ k.val ≤ r.val + 128 ∧ (first = true → 128 ≤ k.val)

instance (first : Bool) (r : Fin 128) (k : Fin 256) : Decidable (sees first r k) := by unfold sees; infer_instance

/-- What a query sees lies in the window. -/
theorem sees_window {first : Bool} {r : Fin 128} {k : Fin 256} (h : sees first r k) : sees false r k :=
  ⟨h.1, h.2.1, fun e => absurd e (by decide)⟩

/-- The host's comparisons of the coordinates. -/
def inWindow (r k : BitVec 32) : BitVec 1 := IntOp.andi (IntOp.cmpi .sge (k - r) 1#32) (IntOp.cmpi .sle (k - r) 128#32)

theorem inWindow_eq : ∀ (r : Fin 128) (k : Fin 256),
    inWindow (BitVec.ofNat 32 r.val) (BitVec.ofNat 32 k.val) = if sees false r k then 1#1 else 0#1 := by decide +kernel

theorem inFirst_eq : ∀ (r : Fin 128) (k : Fin 256),
    IntOp.andi (inWindow (BitVec.ofNat 32 r.val) (BitVec.ofNat 32 k.val)) (IntOp.cmpi .sge (BitVec.ofNat 32 k.val) 128#32)
      = if sees true r k then 1#1 else 0#1 := by decide +kernel

/-- The coordinates of queries and keys, as words. -/
def rows : IVec S128x256 32 :=
  broadcastInDim S128x256 ![0, 1] Facts₀.bcast_S128x1_S128x256_0_1 (broadcastInDim S128x1 ![0] Facts₀.bcast_S128_S128x1_0 (iotaInDim S128 32 0))
def keys1 : IVec S1x256 32 := broadcastInDim S1x256 ![1] Facts₀.bcast_S256_S1x256_1 (iotaInDim S256 32 0)
def keys : IVec S128x256 32 := broadcastInDim S128x256 ![0, 1] Facts₀.bcast_S1x256_S128x256_0_1 keys1

/-- The window's mask, and the first block's. -/
def window : IVec S128x256 1 :=
  andi (cmpi .sge (subi keys rows) (broadcastInDim S128x256 ![] Facts₀.bcast_S_S128x256 (constantI S_ 32 1#32)))
    (cmpi .sle (subi keys rows) (broadcastInDim S128x256 ![] Facts₀.bcast_S_S128x256 (constantI S_ 32 128#32)))
def windowFirst : IVec S128x256 1 :=
  andi window (broadcastInDim S128x256 ![0, 1] Facts₀.bcast_S1x256_S128x256_0_1
    (cmpi .sge keys1 (broadcastInDim S1x256 ![] Facts₀.bcast_S_S1x256 (constantI S_ 32 128#32))))

theorem window_apply (r : Fin 128) (k : Fin 256) : window (ix2 r k) = if sees false r k then 1#1 else 0#1 := by
  rw [← inWindow_eq]; rfl

theorem windowFirst_apply (r : Fin 128) (k : Fin 256) : windowFirst (ix2 r k) = if sees true r k then 1#1 else 0#1 := by
  rw [← inFirst_eq]; rfl

/-- The two masks. -/
def masks : IVec S2x1x128x256 1 :=
  broadcastInDim S2x1x128x256 ![0, 2, 3] Facts₀.bcast_S2x128x256_S2x1x128x256_0_2_3
    (concatenate S2x128x256 0
      [⟨S1x128x256, broadcastInDim S1x128x256 ![1, 2] Facts₀.bcast_S128x256_S1x128x256_1_2 windowFirst⟩,
       ⟨S1x128x256, broadcastInDim S1x128x256 ![1, 2] Facts₀.bcast_S128x256_S1x128x256_1_2 window⟩]
      Facts₀.concatenates_S1x128x256_S1x128x256_S2x128x256_d0)

theorem masks_apply (w : Fin 2) (r : Fin 128) (k : Fin 256) :
    masks (ix4 w (0 : Fin 1) r k) = if sees (w.val == 0) r k then 1#1 else 0#1 := by
  unfold masks
  refine (broadcastInDim_apply (s := S2x128x256) (t := S2x1x128x256) _ _ _ _ (ix3 w r k)
    (fun a => by match a with | ⟨0, _⟩ => rfl | ⟨1, _⟩ => rfl | ⟨2, _⟩ => rfl)).trans ?_
  match w with
  | ⟨0, _⟩ =>
    refine (concatenate_pair_apply_left (t := S2x128x256) (s₁ := S1x128x256) (s₂ := S1x128x256) 0 _ _ _ _ rfl (ix3 (0 : Fin 1) r k)
      (fun b => by match b with | ⟨0, _⟩ => rfl | ⟨1, _⟩ => rfl | ⟨2, _⟩ => rfl)).trans ?_
    refine (broadcastInDim_apply (s := S128x256) (t := S1x128x256) _ _ _ _ (ix2 r k)
      (fun a => by match a with | ⟨0, _⟩ => rfl | ⟨1, _⟩ => rfl)).trans ?_
    exact windowFirst_apply r k
  | ⟨1, _⟩ =>
    refine (concatenate_pair_apply_right (t := S2x128x256) (s₁ := S1x128x256) (s₂ := S1x128x256) 0 _ _ _ _ rfl rfl (ix3 (0 : Fin 1) r k)
      (fun b hb => by match b with | ⟨0, _⟩ => exact absurd rfl hb | ⟨1, _⟩ => rfl | ⟨2, _⟩ => rfl) rfl).trans ?_
    refine (broadcastInDim_apply (s := S128x256) (t := S1x128x256) _ _ _ _ (ix2 r k)
      (fun a => by match a with | ⟨0, _⟩ => rfl | ⟨1, _⟩ => rfl)).trans ?_
    exact window_apply r k

variable (m : (ℓ : Loc nD τ sig) → Buf (Elt Ideal) ℓ)

/-- The three arguments, as launched. -/
abbrev proj (c : Dev nD) : FVec Ideal S8192x12800 .bf16 := m ((c : Thread nD τ).loc main_arg0)
abbrev sinks (c : Dev nD) : FVec Ideal S32 .f32 := m ((c : Thread nD τ).loc main_arg1)
abbrev band (c : Dev nD) : FVec Ideal S32x128x256 .f32 := m ((c : Thread nD τ).loc main_arg2)

theorem log_two_word {s : Shape} (h : S_.BroadcastsInDim s (![] : Fin 0 → Fin s.rank)) (i : s.Idx) :
    broadcastInDim s ![] h (Host.log (constant (F := Ideal) S_ .f32 0x40000000#32)) i = ((Real.log 2 : ℝ) : EReal) := by
  show Ideal.log (Ideal.ofBits .f32 0x40000000#32) = _
  rw [Consts.ofBits_two, Consts.log_two]

/-- The tables of bands. -/
theorem V_band (c : Dev nD) (w : Fin 2) (h : Fin 32) (r : Fin 128) (k : Fin 256) :
    (V m c main_v27 : Vec Ideal S2x32x128x256 .f32) (ix4 w h r k)
      = if sees (w.val == 0) r k then Ideal.div (band m c (ix3 h r k)) ((Real.log 2 : ℝ) : EReal) else ⊥ := by
  have e : V m c main_v27
      = select (broadcastInDim S2x32x128x256 ![0, 1, 2, 3] Facts₀.bcast_S2x1x128x256_S2x32x128x256_0_1_2_3 masks)
          (broadcastInDim S2x32x128x256 ![0, 1, 2, 3] Facts₀.bcast_S1x32x128x256_S2x32x128x256_0_1_2_3
            (Host.divf (broadcastInDim S1x32x128x256 ![1, 2, 3] Facts₀.bcast_S32x128x256_S1x32x128x256_1_2_3 (band m c))
              (broadcastInDim S1x32x128x256 ![] Facts₀.bcast_S_S1x32x128x256 (Host.log (constant (F := Ideal) S_ .f32 0x40000000#32)))))
          (broadcastInDim S2x32x128x256 ![] Facts₀.bcast_S_S2x32x128x256 (constant (F := Ideal) S_ .f32 0xFF800000#32)) := by
    unfold V hostOps0 hostOps0_1 hostOps0_2
    simp only [List.flatten_cons, List.flatten_nil, List.append_nil, List.cons_append, List.nil_append]
    after_results
    rfl
  rw [e, select_apply]
  rw [broadcastInDim_apply (s := S2x1x128x256) (t := S2x32x128x256) _ _ _ _ (ix4 w (0 : Fin 1) r k)
    (fun a => by match a with | ⟨0, _⟩ => rfl | ⟨1, _⟩ => rfl | ⟨2, _⟩ => rfl | ⟨3, _⟩ => rfl), masks_apply]
  by_cases hs : sees (w.val == 0) r k
  · rw [if_pos hs, if_pos hs, select_one]
    refine (broadcastInDim_apply (s := S1x32x128x256) (t := S2x32x128x256) _ _ _ _ (ix4 (0 : Fin 1) h r k)
      (fun a => by match a with | ⟨0, _⟩ => rfl | ⟨1, _⟩ => rfl | ⟨2, _⟩ => rfl | ⟨3, _⟩ => rfl)).trans ?_
    refine congrArg₂ Ideal.div ?_ (log_two_word _ _)
    exact broadcastInDim_apply (s := S32x128x256) (t := S1x32x128x256) _ _ _ _ (ix3 h r k)
      (fun a => by match a with | ⟨0, _⟩ => rfl | ⟨1, _⟩ => rfl | ⟨2, _⟩ => rfl)
  · rw [if_neg hs, if_neg hs, select_zero]
    show Ideal.ofBits .f32 0xFF800000#32 = ⊥
    simp [Ideal.ofBits, Ideal.ieee]

/-- The column of sinks: 128 rows of each head, the same in every lane. -/
theorem V_sink (c : Dev nD) (h : Fin 32) (r : Fin 128) (j : Fin 128) :
    (V m c main_v34 : Vec Ideal S4096x128 .f32) (ix2 (⟨128 * h.val + r.val, by omega⟩ : Fin 4096) j)
      = Ideal.div (sinks m c (ix1 h)) ((Real.log 2 : ℝ) : EReal) := by
  have e : V m c main_v34
      = broadcastInDim S4096x128 ![0, 1] Facts₀.bcast_S4096x1_S4096x128_0_1
          (broadcastInDim S4096x1 ![0] Facts₀.bcast_S4096_S4096x1_0
            (shapeCast S4096 (broadcastInDim S32x128 ![0] Facts₀.bcast_S32_S32x128_0
              (Host.divf (sinks m c) (broadcastInDim S32 ![] Facts₀.bcast_S_S32 (Host.log (constant (F := Ideal) S_ .f32 0x40000000#32)))))
              Facts₀.shapeCasts_S32x128_S4096)) := by
    unfold V hostOps0 hostOps0_1 hostOps0_2
    simp only [List.flatten_cons, List.flatten_nil, List.append_nil, List.cons_append, List.nil_append]
    after_results
    rfl
  rw [e]
  refine (broadcastInDim_apply (s := S4096x1) (t := S4096x128) _ _ _ _ (ix2 (⟨128 * h.val + r.val, by omega⟩ : Fin 4096) (0 : Fin 1))
    (fun a => by match a with | ⟨0, _⟩ => rfl | ⟨1, _⟩ => rfl)).trans ?_
  refine (broadcastInDim_apply (s := S4096) (t := S4096x1) _ _ _ _ (ix1 (⟨128 * h.val + r.val, by omega⟩ : Fin 4096))
    (fun a => by match a with | ⟨0, _⟩ => rfl)).trans ?_
  refine (shapeCast_apply (s := S32x128) (t := S4096) _ _ _ (ix2 h r) ?_).trans ?_
  · show (S32x128.rowMajor (ix2 h r)).val = (S4096.rowMajor (ix1 (⟨128 * h.val + r.val, by omega⟩ : Fin 4096))).val
    rw [Shape.rowMajor_val_one, Shape.rowMajor_val_two]
    show h.val * 128 + r.val = 128 * h.val + r.val
    omega
  refine (broadcastInDim_apply (s := S32) (t := S32x128) _ _ _ _ (ix1 h) (fun a => by match a with | ⟨0, _⟩ => rfl)).trans ?_
  exact congrArg₂ Ideal.div rfl (log_two_word _ _)

end Cert.SwaIdeal.Product

end
-- ==== Proof.SwaSpec.lean ====
/-
  What both programs compute, entry by entry, when what the scores are made of are numbers.
-/
module

public import proofs.«01_k».proof.Proof.SwaValue
public import proofs.«01_k».proof.Proof.SwaHost
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.SwaIdeal.Product

open Cert.SwaIdeal Cert.SwaIdeal.Gen

/-- An entry of the projections as a number. -/
def num (x : FVec Ideal S8192x12800 .bf16) (i : Fin 8192) (j : ℕ) (h : j < 12800) : ℝ := (x (ix2 i (⟨j, h⟩ : Fin 12800))).toReal

/-- An entry of the projections. -/
def ent (x : FVec Ideal S8192x12800 .bf16) (i : Fin 8192) (j : ℕ) (h : j < 12800) : EReal := x (ix2 i (⟨j, h⟩ : Fin 12800))

/-- The row of a block's key: the block before, then the block itself; the first block of a sequence sees no key before it, and
    there its own row stands in. -/
def keyRow (t : Fin 64) (k : Fin 256) : Fin 8192 :=
  ⟨if k.val < 128 then (if t.val % 32 = 0 then t.val else t.val - 1) * 128 + k.val else t.val * 128 + (k.val - 128), by split <;> [split; skip] <;> omega⟩

/-- Whether a block is the first of a sequence. -/
def first (t : Fin 64) : Bool := t.val % 32 == 0

/-- Row `r` of block `t`, lane `d` of head `h`. -/
def target (x : FVec Ideal S8192x12800 .bf16) (z : FVec Ideal S32 .f32) (b : FVec Ideal S32x128x256 .f32)
    (t : Fin 64) (r : Fin 128) (h : Fin 32) (d : Fin 64) : EReal :=
  Softmax.att
      (fun k => logit (sees (first t) r k)
        (fun e => num x ⟨t.val * 128 + r.val, by omega⟩ (8192 + 64 * h.val + e.val) (by omega))
        (fun e => num x (keyRow t k) (12288 + 64 * (h.val / 8) + e.val) (by omega)) (b (ix3 h r k)).toReal)
      (z (ix1 h)).toReal
      (fun k => ent x (keyRow t k) (12544 + 64 * (h.val / 8) + d.val) (by omega))
    * gate (x (ix2 (⟨t.val * 128 + r.val, by omega⟩ : Fin 8192) (⟨10240 + 64 * h.val + d.val, by omega⟩ : Fin 12800)))

/-- The result array. -/
def whole (x : FVec Ideal S8192x12800 .bf16) (z : FVec Ideal S32 .f32) (b : FVec Ideal S32x128x256 .f32) : FVec Ideal S8192x2048 .bf16 :=
  fun i => target x z b ⟨(i 0).val / 128, by have := idx2_lt0 i; omega⟩ ⟨(i 0).val % 128, by omega⟩
    ⟨(i 1).val / 64, by have := idx2_lt1 i; omega⟩ ⟨(i 1).val % 64, by omega⟩

/-- The columns of the queries and the keys hold numbers. -/
def Numbers (x : FVec Ideal S8192x12800 .bf16) : Prop :=
  ∀ (i : Fin 8192) (j : Fin 12800), (8192 ≤ j.val ∧ j.val < 10240) ∨ (12288 ≤ j.val ∧ j.val < 12544) → x (ix2 i j) = ((x (ix2 i j)).toReal : EReal)

/-- What the scores are made of are numbers; of the values, of the gates and of the band outside the window nothing is asked. -/
structure Finite (x : FVec Ideal S8192x12800 .bf16) (z : FVec Ideal S32 .f32) (b : FVec Ideal S32x128x256 .f32) : Prop where
  proj : Numbers x
  sinks : ∀ i, z i = ((z i).toReal : EReal)
  band : ∀ (h : Fin 32) (r : Fin 128) (k : Fin 256), sees false r k → b (ix3 h r k) = ((b (ix3 h r k)).toReal : EReal)

end Cert.SwaIdeal.Product

end
-- ==== Proof.SwaKernel.lean ====
/-
  The sliding-window call: each point's blocks as entries of the arguments, and the result array after the run.
-/
module

public import proofs.«01_k».proof.Proof.SwaSpec
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.SwaIdeal.Product

open Cert.SwaIdeal Cert.SwaIdeal.Gen

variable (m : (ℓ : Loc nD τ sig) → Buf (Elt Ideal) ℓ)

/-- Where the windows begin at point `t`. -/
theorem at_point : ∀ t : Fin cfg0.N,
    win0_0.index t 0 = 0 ∧ win0_0.index t 1 = 0 ∧ win0_1.index t 0 = t.val ∧ win0_1.index t 1 = 4
    ∧ win0_2.index t 0 = (if t.val % 32 = 0 then t.val else t.val - 1) ∧ win0_2.index t 1 = 48 ∧ win0_3.index t 0 = t.val ∧ win0_3.index t 1 = 48
    ∧ win0_4.index t 0 = (if t.val % 32 = 0 then t.val else t.val - 1) ∧ win0_4.index t 1 = 49 ∧ win0_5.index t 0 = t.val ∧ win0_5.index t 1 = 49
    ∧ win0_6.index t 0 = t.val ∧ win0_6.index t 1 = 5
    ∧ win0_7.index t 0 = (if t.val % 32 = 0 then 0 else 1) ∧ win0_7.index t 1 = 0 ∧ win0_7.index t 2 = 0 ∧ win0_7.index t 3 = 0
    ∧ win0_8.index t 0 = t.val ∧ win0_8.index t 1 = 0 :=
  (by decide +kernel : ∀ t : Fin grid0.N, _)

/-- The queries of a point's block, -/
theorem q_block (c : Dev nD) (t : Fin cfg0.N) (r : Fin 128) (j : Fin 2048) (h : t.val * 128 + r.val < 8192) :
    (X0_1 m c t : Vec Ideal S128x2048 .bf16) (ix2 r j) = proj m c (ix2 (⟨t.val * 128 + r.val, h⟩ : Fin 8192) (⟨8192 + j.val, by omega⟩ : Fin 12800)) := by
  obtain ⟨-, -, e0, e1, -⟩ := at_point t
  unfold X0_1 Pipeline.Window.fill
  rw [dif_pos (moved0_1 t _)]
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 128 + 1 * r.val = t.val * 128 + r.val; rw [e0]; omega
  | ⟨1, _⟩ => show win0_1.index t 1 * 2048 + 1 * j.val = 8192 + j.val; rw [e1]; omega

/-- the keys of the block before, -/
theorem kp_block (c : Dev nD) (t : Fin cfg0.N) (r : Fin 128) (j : Fin 256) (h : (if t.val % 32 = 0 then t.val else t.val - 1) * 128 + r.val < 8192) :
    (iblk m c 2 t : Vec Ideal S128x256 .bf16) (ix2 r j) = proj m c (ix2 (⟨(if t.val % 32 = 0 then t.val else t.val - 1) * 128 + r.val, h⟩ : Fin 8192) (⟨12288 + j.val, by omega⟩ : Fin 12800)) := by
  obtain ⟨-, -, -, -, e0, e1, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t 0 * 128 + 1 * r.val = (if t.val % 32 = 0 then t.val else t.val - 1) * 128 + r.val; rw [e0]; omega
  | ⟨1, _⟩ => show win0_2.index t 1 * 256 + 1 * j.val = 12288 + j.val; rw [e1]; omega

/-- the keys of the block, -/
theorem kc_block (c : Dev nD) (t : Fin cfg0.N) (r : Fin 128) (j : Fin 256) (h : t.val * 128 + r.val < 8192) :
    (iblk m c 3 t : Vec Ideal S128x256 .bf16) (ix2 r j) = proj m c (ix2 (⟨t.val * 128 + r.val, h⟩ : Fin 8192) (⟨12288 + j.val, by omega⟩ : Fin 12800)) := by
  obtain ⟨-, -, -, -, -, -, e0, e1, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_3.index t 0 * 128 + 1 * r.val = t.val * 128 + r.val; rw [e0]; omega
  | ⟨1, _⟩ => show win0_3.index t 1 * 256 + 1 * j.val = 12288 + j.val; rw [e1]; omega

/-- the values of the two blocks, -/
theorem vp_block (c : Dev nD) (t : Fin cfg0.N) (r : Fin 128) (j : Fin 256) (h : (if t.val % 32 = 0 then t.val else t.val - 1) * 128 + r.val < 8192) :
    (iblk m c 4 t : Vec Ideal S128x256 .bf16) (ix2 r j) = proj m c (ix2 (⟨(if t.val % 32 = 0 then t.val else t.val - 1) * 128 + r.val, h⟩ : Fin 8192) (⟨12544 + j.val, by omega⟩ : Fin 12800)) := by
  obtain ⟨-, -, -, -, -, -, -, -, e0, e1, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_4.index t 0 * 128 + 1 * r.val = (if t.val % 32 = 0 then t.val else t.val - 1) * 128 + r.val; rw [e0]; omega
  | ⟨1, _⟩ => show win0_4.index t 1 * 256 + 1 * j.val = 12544 + j.val; rw [e1]; omega

theorem vc_block (c : Dev nD) (t : Fin cfg0.N) (r : Fin 128) (j : Fin 256) (h : t.val * 128 + r.val < 8192) :
    (iblk m c 5 t : Vec Ideal S128x256 .bf16) (ix2 r j) = proj m c (ix2 (⟨t.val * 128 + r.val, h⟩ : Fin 8192) (⟨12544 + j.val, by omega⟩ : Fin 12800)) := by
  obtain ⟨-, -, -, -, -, -, -, -, -, -, e0, e1, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_5.index t 0 * 128 + 1 * r.val = t.val * 128 + r.val; rw [e0]; omega
  | ⟨1, _⟩ => show win0_5.index t 1 * 256 + 1 * j.val = 12544 + j.val; rw [e1]; omega

/-- and the gates. -/
theorem g_block (c : Dev nD) (t : Fin cfg0.N) (r : Fin 128) (j : Fin 2048) (h : t.val * 128 + r.val < 8192) :
    (X0_6 m c t : Vec Ideal S128x2048 .bf16) (ix2 r j) = proj m c (ix2 (⟨t.val * 128 + r.val, h⟩ : Fin 8192) (⟨10240 + j.val, by omega⟩ : Fin 12800)) := by
  obtain ⟨-, -, -, -, -, -, -, -, -, -, -, -, e0, e1, -⟩ := at_point t
  unfold X0_6 Pipeline.Window.fill
  rw [dif_pos (moved0_6 t _)]
  unfold iblk
  rw [View.read_apply]
  show V m c main_arg0 _ = _
  rw [V_main_arg0]
  refine congrArg (m ((c : Thread nD τ).loc main_arg0)) (funext fun a => Fin.ext ?_)
  match a with
  | ⟨0, _⟩ => show win0_6.index t 0 * 128 + 1 * r.val = t.val * 128 + r.val; rw [e0]; omega
  | ⟨1, _⟩ => show win0_6.index t 1 * 2048 + 1 * j.val = 10240 + j.val; rw [e1]; omega

/-- The sinks, the same at every point, -/
theorem sink_block (c : Dev nD) (t : Fin cfg0.N) (h : Fin 32) (r j : Fin 128) :
    (iblk m c 0 t : Vec Ideal S4096x128 .f32) (ix2 (⟨128 * h.val + r.val, by omega⟩ : Fin 4096) j)
      = Ideal.div (sinks m c (ix1 h)) ((Real.log 2 : ℝ) : EReal) := by
  obtain ⟨e0, e1, -⟩ := at_point t
  refine Eq.trans ?_ (V_sink m c h r j)
  unfold iblk
  rw [View.read_apply]
  show V m c main_v34 _ = _
  refine congrArg (V m c main_v34) (funext fun a => Fin.ext ?_)
  match a with
  | ⟨0, _⟩ => show win0_0.index t 0 * 4096 + 1 * (128 * h.val + r.val) = 128 * h.val + r.val; rw [e0]; omega
  | ⟨1, _⟩ => show win0_0.index t 1 * 128 + 1 * j.val = j.val; rw [e1]; omega

/-- and the bands. -/
theorem band_block (c : Dev nD) (t : Fin 64) (ht : t.val < cfg0.N) (h : Fin 32) (r : Fin 128) (k : Fin 256) :
    (iblk m c 7 ⟨t.val, ht⟩ : Vec Ideal S1x32x128x256 .f32) (ix4 (0 : Fin 1) h r k)
      = if sees (first t) r k then Ideal.div (band m c (ix3 h r k)) ((Real.log 2 : ℝ) : EReal) else ⊥ := by
  obtain ⟨-, -, -, -, -, -, -, -, -, -, -, -, -, -, e0, e1, e2, e3, -⟩ := at_point ⟨t.val, ht⟩
  have hw : ((⟨if t.val % 32 = 0 then 0 else 1, by split <;> omega⟩ : Fin 2).val == 0) = first t := by
    unfold first
    by_cases h0 : t.val % 32 = 0 <;> simp [h0]
  rw [← hw]
  refine Eq.trans ?_ (V_band m c ⟨if t.val % 32 = 0 then 0 else 1, by split <;> omega⟩ h r k)
  unfold iblk
  rw [View.read_apply]
  show V m c main_v27 _ = _
  refine congrArg (V m c main_v27) (funext fun a => Fin.ext ?_)
  match a with
  | ⟨0, _⟩ => show win0_7.index ⟨t.val, ht⟩ 0 * 1 + 1 * 0 = if t.val % 32 = 0 then 0 else 1; rw [e0]; simp
  | ⟨1, _⟩ => show win0_7.index ⟨t.val, ht⟩ 1 * 32 + 1 * h.val = h.val; rw [e1]; omega
  | ⟨2, _⟩ => show win0_7.index ⟨t.val, ht⟩ 2 * 128 + 1 * r.val = r.val; rw [e2]; omega
  | ⟨3, _⟩ => show win0_7.index ⟨t.val, ht⟩ 3 * 256 + 1 * k.val = k.val; rw [e3]; omega

/-- A column of the two key blocks, or of the two value blocks, of a point. -/
theorem two_blocks (x : FVec Ideal S8192x12800 .bf16) (t : Fin 64) (o s : ℕ) (ho : o + 256 ≤ 12800)
    (hs : s + 64 ≤ 256) (a b : Vec Ideal S128x256 .bf16)
    (ha : ∀ (r : Fin 128) (j : Fin 256) (h : (if t.val % 32 = 0 then t.val else t.val - 1) * 128 + r.val < 8192),
      a (ix2 r j) = x (ix2 (⟨(if t.val % 32 = 0 then t.val else t.val - 1) * 128 + r.val, h⟩ : Fin 8192) (⟨o + j.val, by omega⟩ : Fin 12800)))
    (hb : ∀ (r : Fin 128) (j : Fin 256) (h : t.val * 128 + r.val < 8192),
      b (ix2 r j) = x (ix2 (⟨t.val * 128 + r.val, h⟩ : Fin 8192) (⟨o + j.val, by omega⟩ : Fin 12800))) (k : Fin 256) (e : Fin 64) :
    both (kvcut a s hs) (kvcut b s hs) k e = ent x (keyRow t k) (o + s + e.val) (by omega) := by
  unfold both ent
  by_cases hk : k.val < 128
  · rw [dif_pos hk]
    refine (ha ⟨k.val, hk⟩ ⟨s + e.val, by omega⟩ (by show (if t.val % 32 = 0 then t.val else t.val - 1) * 128 + k.val < 8192; split <;> omega)).trans
      (congrArg x (funext fun a => Fin.ext ?_))
    match a with
    | ⟨0, _⟩ =>
      show (if t.val % 32 = 0 then t.val else t.val - 1) * 128 + k.val = (keyRow t k).val
      unfold keyRow
      exact (if_pos hk).symm
    | ⟨1, _⟩ => show o + (s + e.val) = o + s + e.val; omega
  · rw [dif_neg hk]
    refine (hb ⟨k.val - 128, by omega⟩ ⟨s + e.val, by omega⟩ (by show t.val * 128 + (k.val - 128) < 8192; omega)).trans
      (congrArg x (funext fun a => Fin.ext ?_))
    match a with
    | ⟨0, _⟩ =>
      show t.val * 128 + (k.val - 128) = (keyRow t k).val
      unfold keyRow
      exact (if_neg hk).symm
    | ⟨1, _⟩ => show o + (s + e.val) = o + s + e.val; omega

/-- An entry of what a point computes. -/
theorem entry (c : Dev nD) (hf : Finite (proj m c) (sinks m c) (band m c)) (t : Fin 64) (ht : t.val < cfg0.N) (h : Fin 32) (r : Fin 128) (d : Fin 64) :
    outsAt0 m c ⟨t.val, ht⟩ (ix2 r (⟨64 * h.val + d.val, by omega⟩ : Fin 2048)) = target (proj m c) (sinks m c) (band m c) t r h d := by
  unfold outsAt0
  rw [out_A]
  refine (value _ _ _ _ _ _ _ _ h r d (fun k => sees (first t) r k) (sinks m c (ix1 h)).toReal
    (fun e => num (proj m c) ⟨t.val * 128 + r.val, by omega⟩ (8192 + 64 * h.val + e.val) (by omega))
    (fun k e => num (proj m c) (keyRow t k) (12288 + 64 * (h.val / 8) + e.val) (by omega))
    (fun k => ent (proj m c) (keyRow t k) (12544 + 64 * (h.val / 8) + d.val) (by omega))
    (fun k => (band m c (ix3 h r k)).toReal) (fun j => ?_) (fun e => ?_) (fun k e => ?_) (fun k => ?_) (fun k => ?_)).trans ?_
  · refine (sink_block m c ⟨t.val, ht⟩ h r j).trans ?_
    rw [hf.sinks, Softmax.div_real _ Consts.log_two_pos, EReal.toReal_coe]
  · refine (q_block m c ⟨t.val, ht⟩ r _ (by show t.val * 128 + r.val < 8192; omega)).trans ?_
    unfold num
    rw [← hf.proj _ _ (.inl ⟨by show 8192 ≤ 8192 + 64 * h.val + e.val; omega, by show 8192 + 64 * h.val + e.val < 10240; omega⟩)]
    refine congrArg (proj m c) (funext fun a => Fin.ext ?_)
    match a with
    | ⟨0, _⟩ => rfl
    | ⟨1, _⟩ => show 8192 + (64 * h.val + e.val) = 8192 + 64 * h.val + e.val; omega
  · refine (two_blocks (proj m c) t 12288 (64 * (h.val / 8)) (by omega) (by omega) _ _
      (fun r j hr => kp_block m c ⟨t.val, ht⟩ r j hr) (fun r j hr => kc_block m c ⟨t.val, ht⟩ r j hr) k e).trans ?_
    exact hf.proj _ _ (.inr ⟨by show 12288 ≤ 12288 + 64 * (h.val / 8) + e.val; omega, by show 12288 + 64 * (h.val / 8) + e.val < 12544; omega⟩)
  · exact two_blocks (proj m c) t 12544 (64 * (h.val / 8)) (by omega) (by omega) _ _
      (fun r j hr => vp_block m c ⟨t.val, ht⟩ r j hr) (fun r j hr => vc_block m c ⟨t.val, ht⟩ r j hr) k d
  · refine (band_block m c t ht h r k).trans ?_
    by_cases hs : sees (first t) r k
    swap
    · rw [if_neg hs, if_neg hs]
    rw [if_pos hs, if_pos hs, hf.band h r k (sees_window hs), Softmax.div_real _ Consts.log_two_pos, EReal.toReal_coe]
  · unfold target
    refine congrArg₂ (fun y z : EReal => y * z) rfl (congrArg gate ?_)
    refine (g_block m c ⟨t.val, ht⟩ r _ (by show t.val * 128 + r.val < 8192; omega)).trans (congrArg (proj m c) (funext fun a => Fin.ext ?_))
    match a with
    | ⟨0, _⟩ => rfl
    | ⟨1, _⟩ => show 10240 + (64 * h.val + d.val) = 10240 + 64 * h.val + d.val; omega

/-- The entries of the array in a point's block. -/
theorem mem_block (t : Fin cfg0.N) (i : S8192x2048.Idx) :
    i ∈ ((cfg0.win 8).blk t).view.set ↔ ∀ a : Fin 2, win0_8.index t a * S128x2048.size a ≤ (i a).val
      ∧ (i a).val < win0_8.index t a * S128x2048.size a + S128x2048.size a := by
  show i ∈ ((View.whole main_v35).slice (win0_8.rect t)).set ↔ _
  rw [View.set_slice_whole, Rect.mem_set_unit]
  exact Iff.rfl

/-- Every row is in some point's block. -/
theorem covered (i : S8192x2048.Idx) :
    ∃ t : Fin cfg0.N, (cfg0.win 8).flush t = true ∧ i ∈ ((cfg0.win 8).blk t).view.set := by
  have hN : cfg0.N = 64 := N_0
  have h0 : (i 0).val < 8192 := (i 0).isLt
  have h1 : (i 1).val < 2048 := (i 1).isLt
  refine ⟨⟨(i 0).val / 128, by omega⟩, flush0_8 _, ?_⟩
  obtain ⟨-, -, -, -, -, -, -, -, -, -, -, -, -, -, -, -, -, -, e0, e1⟩ := at_point ⟨(i 0).val / 128, by omega⟩
  dsimp only at e0 e1
  rw [mem_block]
  intro a
  match a with
  | ⟨0, _⟩ =>
    show win0_8.index _ (0 : Fin 2) * 128 ≤ (i 0).val ∧ (i 0).val < win0_8.index _ (0 : Fin 2) * 128 + 128
    rw [e0]; omega
  | ⟨1, _⟩ =>
    show win0_8.index _ (1 : Fin 2) * 2048 ≤ (i 1).val ∧ (i 1).val < win0_8.index _ (1 : Fin 2) * 2048 + 2048
    rw [e1]; omega

/-- A block with these entries is the window's block of `g`. -/
theorem read_block (t : Fin cfg0.N) (g : FVec Ideal S8192x2048 .bf16) (x : Vec Ideal S128x2048 .bf16)
    (hx : ∀ (r : Fin 128) (n : Fin 2048) (h : t.val * 128 + r.val < 8192), x (ix2 r n) = g (ix2 (⟨t.val * 128 + r.val, h⟩ : Fin 8192) n)) :
    (cfg0.win 8).cut (grid0.coords t) x = ((cfg0.win 8).blk t).view.read (Elt Ideal) g := by
  obtain ⟨-, -, -, -, -, -, -, -, -, -, -, -, -, -, -, -, -, -, e0, e1⟩ := at_point t
  have ht := t.isLt
  have hN : cfg0.N = 64 := N_0
  funext y
  have hy0 : (y 0).val < 128 := (y 0).isLt
  have hy1 : (y 1).val < 2048 := (y 1).isLt
  have hx' := hx ⟨(y 0).val, hy0⟩ ⟨(y 1).val, hy1⟩ (by show t.val * 128 + (y 0).val < 8192; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val * 128 + (y 0).val = win0_8.index t (0 : Fin 2) * 128 + 1 * (y 0).val; rw [e0]; omega
    | ⟨1, _⟩ => show (y 1).val = win0_8.index t (1 : Fin 2) * 2048 + 1 * (y 1).val; rw [e1]; omega

/-- What a point writes back is its block of the result. -/
theorem flushed_eq (c : Dev nD) (hf : Finite (proj m c) (sinks m c) (band m c)) (t : Fin cfg0.N) :
    (dats m 0 c).flushed 8 t = ((cfg0.win 8).blk t).view.read (Elt Ideal) (whole (proj m c) (sinks m c) (band m c)) := by
  have hN : cfg0.N = 64 := N_0
  have ht := t.isLt
  rw [Value.flushed8]
  refine read_block t _ _ fun r n h => ?_
  have e := entry m c hf ⟨t.val, by omega⟩ ht ⟨n.val / 64, by omega⟩ r ⟨n.val % 64, by omega⟩
  refine Eq.trans (congrArg (outsAt0 m c t) (funext fun a => Fin.ext ?_)) (e.trans ?_)
  · match a with
    | ⟨0, _⟩ => rfl
    | ⟨1, _⟩ => show n.val = 64 * (n.val / 64) + n.val % 64; omega
  · show target _ _ _ _ _ _ _ = target _ _ _ ⟨(t.val * 128 + r.val) / 128, _⟩ ⟨(t.val * 128 + r.val) % 128, _⟩ ⟨n.val / 64, _⟩ ⟨n.val % 64, _⟩
    have e1 : (⟨(t.val * 128 + r.val) / 128, by omega⟩ : Fin 64) = ⟨t.val, by omega⟩ := Fin.ext (by show (t.val * 128 + r.val) / 128 = t.val; omega)
    have e2 : (⟨(t.val * 128 + r.val) % 128, by omega⟩ : Fin 128) = r := Fin.ext (by show (t.val * 128 + r.val) % 128 = r.val; omega)
    rw [e1, e2]

/-- The result array after the run. -/
theorem final (c : Dev nD) (hf : Finite (proj m c) (sinks m c) (band m c)) :
    (dats m 0 c).arrAt 8 cfg0.N = whole (proj m c) (sinks m c) (band m c) :=
  (dats m 0 c).arrAt_eq_of_cover 8 _ (fun t _ => flushed_eq m c hf t) covered

end Cert.SwaIdeal.Product

end
-- ==== Proof.SwaRefRows.lean ====
/-
  The reference's queries, keys and values, entry by entry.
-/
module

public import proofs.«01_k».proof.Proof.Consts
public import proofs.«01_k».proof.Proof.SwaSpec
public import proofs.«01_k».proof.Proof.Gen.SwaRefIdeal.Read
public import Idealize.ShloMosaic.Lib.KernelVsHost
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx

namespace Cert.SwaRefIdeal.Product

open Cert.SwaRefIdeal Cert.SwaRefIdeal.Gen Cert.SwaRefIdeal.Read Cert.SwaIdeal.Product

/-- The logarithm of the word of two. -/
theorem log_two_apply (i : S8192x2048.Idx) : val_main_v7 (F := Ideal) i = ((Real.log 2 : ℝ) : EReal) := by
  rw [val_main_v7_apply]
  show Ideal.log (Ideal.ofBits .f32 0x40000000#32) = _
  rw [Consts.ofBits_two]; exact Consts.log_two

/-- The reference's queries, times log 2. -/
theorem query_apply (x : FVec Ideal S8192x12800 .bf16) (t : Fin 64) (r : Fin 128) (g : Fin 4) (n : Fin 8) (e : Fin 64) :
    val_main_v9 (F := Ideal) x (ix5 t r g n e)
      = x (ix2 (⟨t.val * 128 + r.val, by omega⟩ : Fin 8192) (⟨8192 + 64 * (8 * g.val + n.val) + e.val, by omega⟩ : Fin 12800))
        * ((Real.log 2 : ℝ) : EReal) := by
  rw [val_main_v9_apply, val_main_v8_apply, log_two_apply, val_main_v2_apply, val_main_v1_apply, val_main_v0_apply]
  refine congrArg (fun y : EReal => y * ((Real.log 2 : ℝ) : EReal)) (congrArg x (funext fun a => Fin.ext ?_))
  match a with
  | ⟨0, _⟩ =>
    show ((((t.val * 128 + r.val) * 4 + g.val) * 8 + n.val) * 64 + e.val) / 2048 = t.val * 128 + r.val
    omega
  | ⟨1, _⟩ =>
    show 8192 + ((((t.val * 128 + r.val) * 4 + g.val) * 8 + n.val) * 64 + e.val) % 2048 = 8192 + 64 * (8 * g.val + n.val) + e.val
    omega

/-- Each block of rows after the block before it; the padding stands before a sequence's first block. -/
theorem rows_before (y : FVec Ideal S2x32x128x256 .f32) (p : FVec Ideal S_ .f32) (c : Fin 2) (n : Fin 32) (k : Fin 256) (j : Fin 256) :
    concatenate S2x32x256x256 2 [⟨S2x32x128x256, extractStridedSlice S2x32x128x256 ![0, 0, 0, 0]
        (pad S2x33x128x256 ![0, 1, 0, 0] ![0, 0, 0, 0] ![0, 0, 0, 0] y p pads_S2x32x128x256_S2x33x128x256_000_100_000_000 h_S_)
        slices_S2x33x128x256_S2x32x128x256_0_0_0_0⟩, ⟨S2x32x128x256, y⟩]
        concatenates_S2x32x128x256_S2x32x128x256_S2x32x256x256_d2 (ix4 c n k j)
      = if hk : k.val < 128 then (if n.val = 0 then p (Shape.Idx.first h_S_)
          else y (ix4 c (⟨n.val - 1, by omega⟩ : Fin 32) (⟨k.val, hk⟩ : Fin 128) j))
        else y (ix4 c n (⟨k.val - 128, by omega⟩ : Fin 128) j) := by
  by_cases hk : k.val < 128
  · rw [dif_pos hk]
    refine (concatenate_pair_apply_left (t := S2x32x256x256) (s₁ := S2x32x128x256) (s₂ := S2x32x128x256) _ _ _ _ _ rfl
      (ix4 c n (⟨k.val, hk⟩ : Fin 128) j)
      (fun b => by match b with | ⟨0, _⟩ => rfl | ⟨1, _⟩ => rfl | ⟨2, _⟩ => rfl | ⟨3, _⟩ => rfl)).trans ?_
    refine (extractStridedSlice_apply ![0, 0, 0, 0] _ slices_S2x33x128x256_S2x32x128x256_0_0_0_0 _
      (ix4 c (⟨n.val, by omega⟩ : Fin 33) (⟨k.val, hk⟩ : Fin 128) j) (fun a => match a with
        | ⟨0, _⟩ => (Nat.zero_add c.val).symm
        | ⟨1, _⟩ => (Nat.zero_add n.val).symm
        | ⟨2, _⟩ => (Nat.zero_add k.val).symm
        | ⟨3, _⟩ => (Nat.zero_add j.val).symm)).trans ?_
    by_cases hn : n.val = 0
    · rw [if_pos hn]
      exact pad_apply_of_not_inside _ _ _ _ _ _ _ _ 1 (fun h => by
        have h1 : (1 : ℕ) ≤ n.val := h.1
        omega)
    · rw [if_neg hn]
      exact pad_apply_of_inside _ _ _ _ _ _ _ _ _ (fun a => match a with
        | ⟨0, _⟩ => by show c.val = 0 + c.val * (0 + 1); omega
        | ⟨1, _⟩ => by show n.val = 1 + (n.val - 1) * (0 + 1); omega
        | ⟨2, _⟩ => by show k.val = 0 + k.val * (0 + 1); omega
        | ⟨3, _⟩ => by show j.val = 0 + j.val * (0 + 1); omega)
  · rw [dif_neg hk]
    exact concatenate_pair_apply_right (t := S2x32x256x256) (s₁ := S2x32x128x256) (s₂ := S2x32x128x256) 2 _ _ _ _ rfl rfl
      (ix4 c n (⟨k.val - 128, by omega⟩ : Fin 128) j)
      (fun b hb => by match b with | ⟨0, _⟩ => rfl | ⟨1, _⟩ => rfl | ⟨2, _⟩ => exact absurd rfl hb | ⟨3, _⟩ => rfl)
      (by show (k.val - 128) + 128 = k.val; omega)

/-- What the reference has at a key's place: that row's entry, or the padding's zero. -/
def held (x : FVec Ideal S8192x12800 .bf16) (t : Fin 64) (k : Fin 256) (j : ℕ) (hj : j < 12800) : EReal :=
  if k.val < 128 ∧ t.val % 32 = 0 then 0 else ent x (keyRow t k) j hj

theorem held_of_sees (x : FVec Ideal S8192x12800 .bf16) (t : Fin 64) (r : Fin 128) (k : Fin 256) (h : sees (first t) r k) (j : ℕ) (hj : j < 12800) :
    held x t k j hj = ent x (keyRow t k) j hj := by
  refine if_neg fun ⟨h1, h2⟩ => ?_
  have := h.2.2 (by show (t.val % 32 == 0) = true; rw [h2]; rfl)
  omega

/-- The padding's value. -/
theorem zero_word : (FloatOps.sitofp .f32 (0#32 : BitVec 32) : Ideal .f32) = (0 : EReal) := by
  show (((0#32 : BitVec 32).toInt : ℝ) : EReal) = 0
  simp

/-- The joined rows' entry, from the rows' entries. -/
theorem held_eq (x : FVec Ideal S8192x12800 .bf16) (y : FVec Ideal S2x32x128x256 .f32)
    (p : FVec Ideal S_ .f32) (hp : p (Shape.Idx.first h_S_) = (0 : EReal)) (o : ℕ) (ho : o + 256 ≤ 12800)
    (hy : ∀ (c : Fin 2) (n : Fin 32) (k : Fin 128) (j : Fin 256), y (ix4 c n k j)
      = x (ix2 (⟨(c.val * 32 + n.val) * 128 + k.val, by omega⟩ : Fin 8192) (⟨o + j.val, by omega⟩ : Fin 12800)))
    (t : Fin 64) (k : Fin 256) (j : Fin 256) :
    (if hk : k.val < 128 then (if t.val % 32 = 0 then p (Shape.Idx.first h_S_)
          else y (ix4 (⟨t.val / 32, by omega⟩ : Fin 2) (⟨t.val % 32 - 1, by omega⟩ : Fin 32) (⟨k.val, hk⟩ : Fin 128) j))
        else y (ix4 (⟨t.val / 32, by omega⟩ : Fin 2) (⟨t.val % 32, by omega⟩ : Fin 32) (⟨k.val - 128, by omega⟩ : Fin 128) j))
      = held x t k (o + j.val) (by omega) := by
  by_cases hk : k.val < 128
  · rw [dif_pos hk]
    by_cases ht : t.val % 32 = 0
    · rw [if_pos ht, hp]; unfold held; rw [if_pos ⟨hk, ht⟩]
    · rw [if_neg ht, hy]; unfold held; rw [if_neg fun h => ht h.2]
      refine congrArg x (congrArg₂ ix2 (Fin.ext ?_) rfl)
      show (t.val / 32 * 32 + (t.val % 32 - 1)) * 128 + k.val
        = if k.val < 128 then (if t.val % 32 = 0 then t.val else t.val - 1) * 128 + k.val else t.val * 128 + (k.val - 128)
      rw [if_pos hk, if_neg ht]; omega
  · rw [dif_neg hk, hy]; unfold held; rw [if_neg fun h => hk h.1]
    refine congrArg x (congrArg₂ ix2 (Fin.ext ?_) rfl)
    show (t.val / 32 * 32 + t.val % 32) * 128 + (k.val - 128)
      = if k.val < 128 then (if t.val % 32 = 0 then t.val else t.val - 1) * 128 + k.val else t.val * 128 + (k.val - 128)
    rw [if_neg hk]; omega

/-- The reference's keys, as they stand in the argument. -/
theorem key_rows (x : FVec Ideal S8192x12800 .bf16) (c : Fin 2) (n : Fin 32) (k : Fin 128) (j : Fin 256) :
    val_main_v10 (F := Ideal) x (ix4 c n k j)
      = x (ix2 (⟨(c.val * 32 + n.val) * 128 + k.val, by omega⟩ : Fin 8192) (⟨12288 + j.val, by omega⟩ : Fin 12800)) := by
  rw [val_main_v10_apply, val_main_v4_apply, val_main_v1_apply, val_main_v0_apply]
  refine congrArg x (funext fun a => Fin.ext ?_)
  match a with
  | ⟨0, _⟩ =>
    show (((c.val * 32 + n.val) * 128 + k.val) * 256 + j.val) / 256 = (c.val * 32 + n.val) * 128 + k.val
    omega
  | ⟨1, _⟩ =>
    show 8192 + (4096 + (((c.val * 32 + n.val) * 128 + k.val) * 256 + j.val) % 256) = 12288 + j.val
    omega

theorem key_apply (x : FVec Ideal S8192x12800 .bf16) (t : Fin 64) (k : Fin 256) (g : Fin 4) (e : Fin 64) :
    val_main_v14 (F := Ideal) x (ix4 t k g e) = held x t k (12288 + 64 * g.val + e.val) (by omega) := by
  rw [val_main_v14_apply]
  unfold val_main_v13 val_main_v12 val_main_v11
  have hi : idx_main_v14 (ix4 t k g e) = ix4 (⟨t.val / 32, by omega⟩ : Fin 2) (⟨t.val % 32, by omega⟩ : Fin 32) k (⟨64 * g.val + e.val, by omega⟩ : Fin 256) :=
    funext fun a => Fin.ext (by
      match a with
      | ⟨0, _⟩ => show (((t.val * 256 + k.val) * 4 + g.val) * 64 + e.val) / 2097152 = t.val / 32; omega
      | ⟨1, _⟩ => show (((t.val * 256 + k.val) * 4 + g.val) * 64 + e.val) / 65536 % 32 = t.val % 32; omega
      | ⟨2, _⟩ => show (((t.val * 256 + k.val) * 4 + g.val) * 64 + e.val) / 256 % 256 = k.val; omega
      | ⟨3, _⟩ => show (((t.val * 256 + k.val) * 4 + g.val) * 64 + e.val) % 256 = 64 * g.val + e.val; omega)
  rw [hi]
  refine (rows_before _ _ _ _ _ _).trans ((held_eq x _ _ zero_word 12288 (by omega) (key_rows x) t k _).trans ?_)
  unfold held; simp only [Nat.add_assoc]

/-- The reference's values, as they stand in the argument. -/
theorem value_rows (x : FVec Ideal S8192x12800 .bf16) (c : Fin 2) (n : Fin 32) (k : Fin 128) (j : Fin 256) :
    val_main_v15 (F := Ideal) x (ix4 c n k j)
      = x (ix2 (⟨(c.val * 32 + n.val) * 128 + k.val, by omega⟩ : Fin 8192) (⟨12544 + j.val, by omega⟩ : Fin 12800)) := by
  rw [val_main_v15_apply, val_main_v5_apply, val_main_v1_apply, val_main_v0_apply]
  refine congrArg x (funext fun a => Fin.ext ?_)
  match a with
  | ⟨0, _⟩ =>
    show (((c.val * 32 + n.val) * 128 + k.val) * 256 + j.val) / 256 = (c.val * 32 + n.val) * 128 + k.val
    omega
  | ⟨1, _⟩ =>
    show 8192 + (4352 + (((c.val * 32 + n.val) * 128 + k.val) * 256 + j.val) % 256) = 12544 + j.val
    omega

theorem value_apply (x : FVec Ideal S8192x12800 .bf16) (t : Fin 64) (k : Fin 256) (g : Fin 4) (e : Fin 64) :
    val_main_v19 (F := Ideal) x (ix4 t k g e) = held x t k (12544 + 64 * g.val + e.val) (by omega) := by
  rw [val_main_v19_apply]
  unfold val_main_v18 val_main_v17 val_main_v16
  have hi : idx_main_v19 (ix4 t k g e) = ix4 (⟨t.val / 32, by omega⟩ : Fin 2) (⟨t.val % 32, by omega⟩ : Fin 32) k (⟨64 * g.val + e.val, by omega⟩ : Fin 256) :=
    funext fun a => Fin.ext (by
      match a with
      | ⟨0, _⟩ => show (((t.val * 256 + k.val) * 4 + g.val) * 64 + e.val) / 2097152 = t.val / 32; omega
      | ⟨1, _⟩ => show (((t.val * 256 + k.val) * 4 + g.val) * 64 + e.val) / 65536 % 32 = t.val % 32; omega
      | ⟨2, _⟩ => show (((t.val * 256 + k.val) * 4 + g.val) * 64 + e.val) / 256 % 256 = k.val; omega
      | ⟨3, _⟩ => show (((t.val * 256 + k.val) * 4 + g.val) * 64 + e.val) % 256 = 64 * g.val + e.val; omega)
  rw [hi]
  refine (rows_before _ _ _ _ _ _).trans ((held_eq x _ _ zero_word 12544 (by omega) (value_rows x) t k _).trans ?_)
  unfold held; simp only [Nat.add_assoc]

end Cert.SwaRefIdeal.Product

end
-- ==== Proof.SwaRefMask.lean ====
/-
  The keys that the reference's mask lets a query see.
-/
module

public import proofs.«01_k».proof.Proof.SwaSpec
public import proofs.«01_k».proof.Proof.Gen.SwaRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx

namespace Cert.SwaRefIdeal.Product

open Cert.SwaRefIdeal Cert.SwaRefIdeal.Gen Cert.SwaRefIdeal.Read Cert.SwaIdeal.Product

/-- The reference's comparisons of the coordinates. -/
def near (r k : BitVec 32) : BitVec 1 :=
  IntOp.andi (IntOp.cmpi .sge (r + 128#32 - k) 0#32) (IntOp.cmpi .slt (r + 128#32 - k) 128#32)

def inside (n k : BitVec 32) : BitVec 1 := IntOp.ori (IntOp.cmpi .sgt n 0#32) (IntOp.cmpi .sge k 128#32)

theorem near_eq : ∀ (r : Fin 128) (k : Fin 256),
    near (BitVec.ofNat 32 r.val) (BitVec.ofNat 32 k.val) = if sees false r k then 1#1 else 0#1 := by decide +kernel

theorem inside_eq : ∀ (n : Fin 32) (k : Fin 256),
    inside (BitVec.ofNat 32 n.val) (BitVec.ofNat 32 k.val) = if n.val = 0 → 128 ≤ k.val then 1#1 else 0#1 := by decide +kernel

/-- The mask before it is spread over the heads. -/
theorem mask_apply (n : Fin 32) (r : Fin 128) (k : Fin 256) :
    val_main_v53 (F := Ideal) (ix3 n r k)
      = IntOp.andi (near (BitVec.ofNat 32 r.val) (BitVec.ofNat 32 k.val)) (inside (BitVec.ofNat 32 n.val) (BitVec.ofNat 32 k.val)) := by
  rw [val_main_v53_apply]
  refine congrArg₂ IntOp.andi ?_ ?_
  · rw [val_main_v51_apply, val_main_v50_apply, val_main_v39_apply, val_main_v36_apply, val_main_v38_apply, val_main_v34_apply,
      val_main_v35_apply, val_main_v37_apply, val_main_v32_apply, val_main_v33_apply, val_main_v31_apply, val_main_v30_apply,
      val_main_v29_apply, val_main_v28_apply, val_main_v27_apply, val_main_v26_apply]
    rfl
  · rw [val_main_v52_apply, val_main_v49_apply, val_main_v47_apply, val_main_v48_apply, val_main_v43_apply, val_main_v46_apply,
      val_main_v41_apply, val_main_v42_apply, val_main_v44_apply, val_main_v45_apply, val_main_v40_apply, val_main_v29_apply, val_main_v28_apply]
    rfl

theorem select_mask (t : Fin 64) (g : Fin 4) (n : Fin 8) (r : Fin 128) (k : Fin 256) :
    val_main_call2_v1 (F := Ideal) (ix5 t g n r k) = if sees (first t) r k then 1#1 else 0#1 := by
  rw [val_main_call2_v1_apply, val_main_v56_apply, val_main_v55_apply, val_main_v54_apply]
  have hi : idx_main_v54 (idx_main_v55 (idx_main_v56 (idx_main_call2_v1 (ix5 t g n r k)))) = ix3 (⟨t.val % 32, by omega⟩ : Fin 32) r k :=
    funext fun a => Fin.ext (by
      match a with
      | ⟨0, _⟩ => show ((t.val * 128 + r.val) * 256 + k.val) / 32768 % 32 = t.val % 32; omega
      | ⟨1, _⟩ => show ((t.val * 128 + r.val) * 256 + k.val) / 256 % 128 = r.val; omega
      | ⟨2, _⟩ => show ((t.val * 128 + r.val) * 256 + k.val) % 256 = k.val; omega)
  rw [hi, mask_apply, near_eq, inside_eq]
  have hf : (first t = true) ↔ t.val % 32 = 0 := by unfold first; exact beq_iff_eq
  have hs : sees (first t) r k ↔ sees false r k ∧ (t.val % 32 = 0 → 128 ≤ k.val) := by
    unfold sees; rw [hf]; simp only [Bool.false_eq_true, false_imp_iff, and_true, and_assoc]
  by_cases h1 : sees false r k <;> by_cases h2 : (t.val % 32 = 0 → 128 ≤ k.val)
  · rw [if_pos h1, if_pos h2, if_pos (hs.2 ⟨h1, h2⟩)]; rfl
  · rw [if_pos h1, if_neg h2, if_neg fun h => h2 (hs.1 h).2]; rfl
  · rw [if_neg h1, if_pos h2, if_neg fun h => h1 (hs.1 h).1]; rfl
  · rw [if_neg h1, if_neg h2, if_neg fun h => h1 (hs.1 h).1]; rfl

end Cert.SwaRefIdeal.Product

end
-- ==== Proof.SwaRef.lean ====
/-
  The reference's attention of a window with sinks, and its gate, entry by entry.
-/
module

public import proofs.«01_k».proof.Proof.Softmax
public import proofs.«01_k».proof.Proof.SwaRefRows
public import proofs.«01_k».proof.Proof.SwaRefMask
public import Idealize.ShloMosaic.Lib.KernelVsHost
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx

namespace Cert.SwaRefIdeal.Product

open Cert.SwaRefIdeal Cert.SwaRefIdeal.Gen Cert.SwaRefIdeal.Read Cert.SwaIdeal.Product

/-- A key's entry is a number. -/
theorem key_number (x : FVec Ideal S8192x12800 .bf16) (hx : Numbers x) (i : Fin 8192) (g : Fin 4) (e : Fin 64)
    (h : 12288 + 64 * g.val + e.val < 12800) :
    ent x i (12288 + 64 * g.val + e.val) h = ((num x i (12288 + 64 * g.val + e.val) h : ℝ) : EReal) :=
  hx _ _ (.inr ⟨by show 12288 ≤ 12288 + 64 * g.val + e.val; omega, by show 12288 + 64 * g.val + e.val < 12544; omega⟩)

/-- A score of the reference, before the sinks are joined to them. -/
theorem logit_apply (x : FVec Ideal S8192x12800 .bf16) (b : FVec Ideal S32x128x256 .f32) (hx : Numbers x)
    (hb : ∀ (h : Fin 32) (r : Fin 128) (k : Fin 256), sees false r k → b (ix3 h r k) = ((b (ix3 h r k)).toReal : EReal)) (t : Fin 64) (g : Fin 4) (n : Fin 8) (r : Fin 128) (k : Fin 256) :
    val_main_v57 (F := Ideal) x b (ix5 t g n r k)
      = logit (sees (first t) r k)
        (fun e => num x ⟨t.val * 128 + r.val, by omega⟩ (8192 + 64 * (8 * g.val + n.val) + e.val) (by omega))
        (fun e => num x (keyRow t k) (12288 + 64 * g.val + e.val) (by omega))
        (b (ix3 (⟨8 * g.val + n.val, by omega⟩ : Fin 32) r k)).toReal := by
  rw [val_main_v57_apply, select_mask]
  unfold logit
  by_cases h : sees (first t) r k
  · rw [if_pos h, if_pos h, Scalar.select, if_pos (by decide), EReal.coe_add]
    rw [val_main_v25_apply, val_main_v21_apply, val_main_v20_apply, val_main_v24_apply, val_main_v23_apply, val_main_v22_apply]
    refine congrArg₂ (fun y z : EReal => y + z) ?_ ((congrArg b (funext fun a => Fin.ext ?_)).trans (hb _ r k (sees_window h)))
    · rw [Finset.sum_mul, Softmax.coe_sum]
      refine Finset.sum_congr rfl fun e _ => ?_
      have hl : lidx_main_v20 (idx_main_v21 (ix5 t g n r k)) e = ix4 t k g e :=
        funext fun a => Fin.ext (by match a with | ⟨0, _⟩ => rfl | ⟨1, _⟩ => rfl | ⟨2, _⟩ => rfl | ⟨3, _⟩ => rfl)
      have hr : ridx_main_v20 (idx_main_v21 (ix5 t g n r k)) e = ix5 t r g n e :=
        funext fun a => Fin.ext (by match a with | ⟨0, _⟩ => rfl | ⟨1, _⟩ => rfl | ⟨2, _⟩ => rfl | ⟨3, _⟩ => rfl | ⟨4, _⟩ => rfl)
      rw [hl, hr, key_apply x, held_of_sees x t r k h, key_number x hx, query_apply, hx _ _ (.inl ⟨by show 8192 ≤ 8192 + 64 * (8 * g.val + n.val) + e.val; omega, by show 8192 + 64 * (8 * g.val + n.val) + e.val < 10240; omega⟩), ← EReal.coe_mul, ← EReal.coe_mul]
      refine congrArg (fun y : ℝ => (y : EReal)) ?_
      show num x _ _ _ * (num x _ _ _ * Real.log 2) = _
      ring
    · match a with
      | ⟨0, _⟩ =>
        show (((g.val * 8 + n.val) * 128 + r.val) * 256 + k.val) / 32768 = 8 * g.val + n.val
        omega
      | ⟨1, _⟩ =>
        show (((g.val * 8 + n.val) * 128 + r.val) * 256 + k.val) / 256 % 128 = r.val
        omega
      | ⟨2, _⟩ =>
        show (((g.val * 8 + n.val) * 128 + r.val) * 256 + k.val) % 256 = k.val
        omega
  · rw [if_neg h, if_neg h, Scalar.select, if_neg (by decide), val_main_call2_v2_apply]
    show Ideal.ofBits .f32 0xFF800000#32 = (⊥ : EReal)
    simp [Ideal.ofBits, Ideal.ieee]

/-- The sink joined to a query's scores. -/
theorem sink_apply (z : FVec Ideal S32 .f32) (t : Fin 64) (g : Fin 4) (n : Fin 8) (r : Fin 128) :
    val_main_v59 (F := Ideal) z (ix5 t g n r (0 : Fin 1)) = z (ix1 (⟨8 * g.val + n.val, by omega⟩ : Fin 32)) := by
  rw [val_main_v59_apply, val_main_v58_apply]
  refine congrArg z (funext fun a => Fin.ext ?_)
  match a with
  | ⟨0, _⟩ => show (((0 * 4 + g.val) * 8 + n.val) * 1 + 0) * 1 + 0 = 8 * g.val + n.val; omega

/-- The word of −∞. -/
theorem bot_word : Ideal.ofBits .f32 0xFF800000#32 = (⊥ : EReal) := by simp [Ideal.ofBits, Ideal.ieee]

theorem row_max (y : FVec Ideal S64x4x8x128x257 .f32) (t : Fin 64) (g : Fin 4) (n : Fin 8) (r : Fin 128) :
    Host.reduce (FloatOps.maximumf (F := Ideal) (φ := .f32)) y (constant S_ .f32 0xFF800000#32)
        reducesTo_S64x4x8x128x257_S64x4x8x128_d4 h_S_ (ix4 t g n r)
      = (Finset.univ : Finset (Fin 257)).fold max ⊥ (fun k => y (ix5 t g n r k)) := by
  have hred : S64x4x8x128x257.Reduces [4] S64x4x8x128 := by decide
  refine (congrFun (hostReduce_maximumf_eq_multiReduction y 0xFF800000#32 reducesTo_S64x4x8x128x257_S64x4x8x128_d4 h_S_ hred (.inl rfl) rfl) _).trans ?_
  refine (Ideal.multiReduction_maximumf_single y _ hred _ _ (ix4 t g n r)).trans ?_
  rw [Ideal.ofBits_def, bot_word]
  exact congrArg (Finset.fold max ⊥ · (Finset.univ : Finset (Fin 257))) (funext fun k => congrArg y (funext fun a => Fin.ext (by
    match a with | ⟨0, _⟩ => rfl | ⟨1, _⟩ => rfl | ⟨2, _⟩ => rfl | ⟨3, _⟩ => rfl | ⟨4, _⟩ => rfl)))

section Row
variable (x : FVec Ideal S8192x12800 .bf16) (z : FVec Ideal S32 .f32) (b : FVec Ideal S32x128x256 .f32)
  (t : Fin 64) (g : Fin 4) (n : Fin 8) (r : Fin 128)

theorem joined_left (k : Fin 256) :
    val_main_v60 (F := Ideal) x z b (ix5 t g n r k.castSucc) = val_main_v57 (F := Ideal) x b (ix5 t g n r k) := by
  unfold val_main_v60
  exact concatenate_pair_apply_left (t := S64x4x8x128x257) (s₁ := S64x4x8x128x256) (s₂ := S64x4x8x128x1) _ _ _ _ _ rfl (ix5 t g n r k)
    (fun b => by match b with | ⟨0, _⟩ => rfl | ⟨1, _⟩ => rfl | ⟨2, _⟩ => rfl | ⟨3, _⟩ => rfl | ⟨4, _⟩ => rfl)

theorem joined_right :
    val_main_v60 (F := Ideal) x z b (ix5 t g n r (Fin.last 256)) = z (ix1 (⟨8 * g.val + n.val, by omega⟩ : Fin 32)) := by
  rw [← sink_apply z t g n r]
  unfold val_main_v60
  exact concatenate_pair_apply_right (t := S64x4x8x128x257) (s₁ := S64x4x8x128x256) (s₂ := S64x4x8x128x1) 4 _ _ _ _ rfl rfl (ix5 t g n r (0 : Fin 1))
    (fun b hb => by match b with | ⟨0, _⟩ => rfl | ⟨1, _⟩ => rfl | ⟨2, _⟩ => rfl | ⟨3, _⟩ => rfl | ⟨4, _⟩ => exact absurd rfl hb)
    rfl

/-- A row's maximum. -/
theorem top_apply :
    val_main_v63 (F := Ideal) x z b (ix4 t g n r)
      = (Finset.univ : Finset (Fin 257)).fold max ⊥ (fun k => val_main_v60 (F := Ideal) x z b (ix5 t g n r k)) := by
  rw [val_main_v63_apply]
  unfold val_main_v61
  refine (congrArg₂ (fun v w : EReal => max v w) ?_ (row_max _ t g n r)).trans (bot_sup_eq _)
  rw [val_main_v62_apply]
  exact bot_word

/-- The exponentials' quotient, when the row's maximum is a number. -/
theorem quotient_apply (M : EReal) (hM : val_main_v63 (F := Ideal) x z b (ix4 t g n r) = M) (k : Fin 256) :
    val_main_v72 (F := Ideal) x z b (ix5 t g n r k)
      = Ideal.div (Ideal.exp (val_main_v57 (F := Ideal) x b (ix5 t g n r k) - M))
          ((∑ j : Fin 256, Ideal.exp (val_main_v57 (F := Ideal) x b (ix5 t g n r j) - M))
            + Ideal.exp (z (ix1 (⟨8 * g.val + n.val, by omega⟩ : Fin 32)) - M)) := by
  have hw : ∀ k : Fin 257, val_main_v67 (F := Ideal) x z b (ix5 t g n r k) = Ideal.exp (val_main_v60 (F := Ideal) x z b (ix5 t g n r k) - M) := by
    intro k
    rw [val_main_v67_apply, val_main_v66_apply, val_main_v65_apply, val_main_v64_apply]
    have hi : idx_main_v64 (idx_main_v65 (ix5 t g n r k)) = ix4 t g n r :=
      funext fun a => Fin.ext (by match a with | ⟨0, _⟩ => rfl | ⟨1, _⟩ => rfl | ⟨2, _⟩ => rfl | ⟨3, _⟩ => rfl)
    rw [hi, hM]
    rfl
  have hi : idx_main_v72 (ix5 t g n r k) = ix5 t g n r k.castSucc :=
    funext fun a => Fin.ext (by match a with | ⟨0, _⟩ => rfl | ⟨1, _⟩ => rfl | ⟨2, _⟩ => rfl | ⟨3, _⟩ => rfl | ⟨4, _⟩ => rfl)
  rw [val_main_v72_apply, hi, val_main_v71_apply, Ideal.hostDivf_def]
  refine congrArg₂ Ideal.div ((hw _).trans (by rw [joined_left])) ?_
  rw [val_main_v70_apply, val_main_v69_apply, val_main_v68_apply]
  have hz : val_main_cst_9 (F := Ideal) (Shape.Idx.first h_S_) = (0 : EReal) := Ideal.ofBits_zero_f32
  rw [hz, zero_add]
  have hs : ∀ j : Fin 257, idx_main_v68 (idx_main_v69 (idx_main_v70 (ix5 t g n r k.castSucc))) j = ix5 t g n r j := fun j =>
    funext fun a => Fin.ext (by match a with | ⟨0, _⟩ => rfl | ⟨1, _⟩ => rfl | ⟨2, _⟩ => rfl | ⟨3, _⟩ => rfl | ⟨4, _⟩ => rfl)
  simp only [hs, hw]
  rw [Fin.sum_univ_castSucc]
  simp only [joined_left, joined_right]

end Row

/-- One query's attention does not read the values of keys that it does not see. -/
theorem att_congr {n : ℕ} (s u : Fin n → EReal) (z : ℝ) (v w : Fin n → EReal) (hs : ∀ k, s k = u k) (hv : ∀ k, u k ≠ ⊥ → v k = w k) :
    Softmax.att s z v = Softmax.att u z w := by
  rw [funext hs]
  unfold Softmax.att
  refine congrArg (fun y : EReal => y * _) (Finset.sum_congr rfl fun k _ => ?_)
  by_cases h : u k = ⊥
  · unfold Softmax.wt; rw [if_pos h, EReal.coe_zero, mul_zero, mul_zero]
  · rw [hv k h]

theorem logit_ne_top (p : Prop) [Decidable p] (q k : Fin 64 → ℝ) (c : ℝ) : logit p q k c ≠ ⊤ := by
  unfold logit; split
  · exact EReal.coe_ne_top _
  · exact bot_ne_top

/-- The reference's gate, of any extended real. -/
theorem gate_apply (x : FVec Ideal S8192x12800 .bf16) (i : S8192x2048.Idx) (y : EReal) (hy : val_main_v3 (F := Ideal) x i = y) :
    val_main_v76 (F := Ideal) x i = gate y := by
  rw [val_main_v76_apply, val_main_call3_v5_apply, val_main_call3_v3_apply, val_main_call3_v1_apply, val_main_call3_v0_apply, hy,
    val_main_call3_v4_apply, val_main_call3_v2_apply]
  show y * Ideal.div (Ideal.ofBits .f32 0x3F800000#32) (Ideal.ofBits .f32 0x3F800000#32 + Ideal.exp (-y)) = _
  unfold gate
  rw [Ideal.ofBits_one_f32, zero_sub]
  have hne : (1 : EReal) + Ideal.exp (-y) ≠ 0 := fun h => by
    have hp : (0 : EReal) ≤ Ideal.exp (-y) := by
      generalize -y = w
      induction w using EReal.rec with
      | bot => exact le_rfl
      | top => exact le_top
      | coe r => exact EReal.coe_nonneg.2 (Real.exp_pos r).le
    have h1 : (1 : EReal) ≤ 1 + Ideal.exp (-y) := by simpa using add_le_add_right hp (1 : EReal)
    rw [h] at h1
    exact absurd h1 (not_le.2 (by norm_num))
  unfold Ideal.div
  rw [if_neg hne, if_neg hne, one_mul]

section Whole
variable (x : FVec Ideal S8192x12800 .bf16) (z : FVec Ideal S32 .f32) (b : FVec Ideal S32x128x256 .f32) (hf : Finite x z b)
include hf

/-- The reference's attention, at one lane of a query's head. -/
theorem attention_apply (t : Fin 64) (g : Fin 4) (d : Fin 64) (n : Fin 8) (r : Fin 128) :
    val_main_v73 (F := Ideal) x z b (ix5 t g d n r)
      = Softmax.att (fun k => logit (sees (first t) r k)
            (fun e => num x ⟨t.val * 128 + r.val, by omega⟩ (8192 + 64 * (8 * g.val + n.val) + e.val) (by omega))
            (fun e => num x (keyRow t k) (12288 + 64 * g.val + e.val) (by omega))
            (b (ix3 (⟨8 * g.val + n.val, by omega⟩ : Fin 32) r k)).toReal)
          (z (ix1 (⟨8 * g.val + n.val, by omega⟩ : Fin 32))).toReal
          (fun k => ent x (keyRow t k) (12544 + 64 * g.val + d.val) (by omega)) := by
  have hl : ∀ k, val_main_v57 (F := Ideal) x b (ix5 t g n r k) ≠ ⊤ := fun k => by
    rw [logit_apply x b hf.proj hf.band]; exact logit_ne_top _ _ _ _
  obtain ⟨M, hM⟩ : ∃ M : ℝ, val_main_v63 (F := Ideal) x z b (ix4 t g n r) = (M : EReal) := by
    obtain ⟨M, hM⟩ := Softmax.max_real (Finset.univ : Finset (Fin 257)) (fun k => val_main_v60 (F := Ideal) x z b (ix5 t g n r k))
      (fun k _ => by
        refine Fin.lastCases ?_ (fun k => ?_) k
        · rw [joined_right, hf.sinks]; exact EReal.coe_ne_top _
        · rw [joined_left]; exact hl k)
      (z (ix1 (⟨8 * g.val + n.val, by omega⟩ : Fin 32))).toReal
    refine ⟨M, (top_apply x z b t g n r).trans (Eq.trans (max_eq_left ?_).symm hM)⟩
    rw [← hf.sinks, ← joined_right x z b t g n r]
    exact (Finset.le_fold_max _).2 (.inr ⟨Fin.last 256, Finset.mem_univ _, le_rfl⟩)
  rw [val_main_v73_apply]
  have hi : ∀ k, lidx_main_v73 (ix5 t g d n r) k = ix4 t k g d := fun k =>
    funext fun a => Fin.ext (by match a with | ⟨0, _⟩ => rfl | ⟨1, _⟩ => rfl | ⟨2, _⟩ => rfl | ⟨3, _⟩ => rfl)
  have hj : ∀ k, ridx_main_v73 (ix5 t g d n r) k = ix5 t g n r k := fun k =>
    funext fun a => Fin.ext (by match a with | ⟨0, _⟩ => rfl | ⟨1, _⟩ => rfl | ⟨2, _⟩ => rfl | ⟨3, _⟩ => rfl | ⟨4, _⟩ => rfl)
  have hsum : ∀ k, val_main_v19 (F := Ideal) x (lidx_main_v73 (ix5 t g d n r) k) * val_main_v72 (F := Ideal) x z b (ridx_main_v73 (ix5 t g d n r) k)
      = held x t k (12544 + 64 * g.val + d.val) (by omega)
        * Ideal.div (Ideal.exp (val_main_v57 (F := Ideal) x b (ix5 t g n r k) - M))
          ((∑ j : Fin 256, Ideal.exp (val_main_v57 (F := Ideal) x b (ix5 t g n r j) - M))
            + Ideal.exp (((z (ix1 (⟨8 * g.val + n.val, by omega⟩ : Fin 32))).toReal : EReal) - M)) := fun k => by
    rw [hi, hj, value_apply x, quotient_apply x z b t g n r _ hM, ← hf.sinks]
  refine (Finset.sum_congr rfl fun k _ => hsum k).trans ((Softmax.plain_order _ _ _ M hl).trans ?_)
  refine att_congr _ _ _ _ _ (fun k => ?_) (fun k hk => ?_)
  · exact logit_apply x b hf.proj hf.band t g n r k
  · refine held_of_sees x t r k ?_ _ _
    by_contra h
    exact hk (if_neg h)

/-- The reference's result. -/
theorem reference (i : S8192x2048.Idx) : val_main_v78 (F := Ideal) x z b i = whole x z b i := by
  have h0 := idx2_lt0 i
  have h1 := idx2_lt1 i
  rw [val_main_v78_apply, val_main_v77_apply, Ideal.truncf_def, Ideal.mulf_def]
  unfold whole target
  have hg : val_main_v3 (F := Ideal) x i = x (ix2 (⟨(i 0).val / 128 * 128 + (i 0).val % 128, by omega⟩ : Fin 8192)
      (⟨10240 + 64 * ((i 1).val / 64) + (i 1).val % 64, by omega⟩ : Fin 12800)) := by
    rw [val_main_v3_apply, val_main_v1_apply, val_main_v0_apply]
    refine congrArg x (funext fun a => Fin.ext ?_)
    match a with
    | ⟨0, _⟩ => show (i 0).val = (i 0).val / 128 * 128 + (i 0).val % 128; omega
    | ⟨1, _⟩ => show 8192 + (2048 + (i 1).val) = 10240 + 64 * ((i 1).val / 64) + (i 1).val % 64; omega
  refine congrArg₂ (fun y w : EReal => y * w) ?_ ?_
  · rw [val_main_v75_apply, val_main_v74_apply]
    have hi : idx_main_v74 (idx_main_v75 i) = ix5 (⟨(i 0).val / 128, by omega⟩ : Fin 64) (⟨(i 1).val / 512, by omega⟩ : Fin 4)
        (⟨(i 1).val % 64, by omega⟩ : Fin 64) (⟨(i 1).val / 64 % 8, by omega⟩ : Fin 8) (⟨(i 0).val % 128, by omega⟩ : Fin 128) :=
      funext fun a => Fin.ext (by
        match a with
        | ⟨0, _⟩ => show ((i 0).val * 2048 + (i 1).val) / 262144 = (i 0).val / 128; omega
        | ⟨1, _⟩ => show ((i 0).val * 2048 + (i 1).val) / 512 % 4 = (i 1).val / 512; omega
        | ⟨2, _⟩ => show ((i 0).val * 2048 + (i 1).val) % 64 = (i 1).val % 64; omega
        | ⟨3, _⟩ => show ((i 0).val * 2048 + (i 1).val) / 64 % 8 = (i 1).val / 64 % 8; omega
        | ⟨4, _⟩ => show ((i 0).val * 2048 + (i 1).val) / 2048 % 128 = (i 0).val % 128; omega)
    rw [hi, attention_apply x z b hf]
    have e1 : 8 * ((i 1).val / 512) + (i 1).val / 64 % 8 = (i 1).val / 64 := by omega
    have e3 : (i 1).val / 64 / 8 = (i 1).val / 512 := by omega
    simp only [e1, e3]
  · exact gate_apply x i _ hg

end Whole

end Cert.SwaRefIdeal.Product

end
-- ==== Proof.Swa.lean ====
/-
  The attention of a sliding window with sinks: the program's result and the reference's are equal when what the scores
  are made of is finite.
-/
module

public import proofs.«01_k».proof.Defs
public import proofs.«01_k».proof.Proof.Origin
public import proofs.«01_k».proof.Proof.SwaKernel
public import proofs.«01_k».proof.Proof.SwaRef
public import proofs.«01_k».proof.Proof.Gen.SwaIdeal.Value
public import proofs.«01_k».proof.Proof.Gen.SwaRefIdeal.Run
public import proofs.«01_k».proof.Proof.Gen.SwaRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx

namespace Cert.SwaIdeal.Product

open Cert.SwaIdeal Cert.SwaIdeal.Gen

/-- The word of +∞. -/
theorem top_word : Ideal.ofBits .f32 0x7F800000#32 = (⊤ : EReal) := by simp [Ideal.ofBits, Ideal.ieee]

/-- An entry whose size is less than infinity is a number. -/
theorem number_of_lt (a : EReal) (h : Ideal.cmp .olt (max a (-a)) ⊤ = 1#1) : a = (a.toReal : EReal) := by
  have hl : max a (-a) < ⊤ := by
    by_contra hn
    simp [Ideal.cmp, hn] at h
  refine (EReal.coe_toReal (fun h1 => ?_) (fun h1 => ?_)).symm
  · rw [h1, max_eq_left le_top] at hl; exact lt_irrefl _ hl
  · rw [h1, EReal.neg_bot, max_eq_right bot_le] at hl; exact lt_irrefl _ hl

/-- An entry of a slice of the columns from `o` on is the entry of the whole array. -/
theorem columns (x : FVec Ideal S8192x12800 .bf16) (o n : ℕ) (hs : S8192x12800.Slices ![0, o] ⟨2, ![8192, n]⟩) (i : Fin 8192)
    (j : Fin 12800) (h : o ≤ j.val) (h' : j.val < o + n) :
    extractStridedSlice ⟨2, ![8192, n]⟩ ![0, o] x hs (ix2 i (⟨j.val - o, by omega⟩ : Fin n)) = x (ix2 i j) :=
  extractStridedSlice_apply _ _ _ _ _ (fun a => match a with
    | ⟨0, _⟩ => (Nat.zero_add i.val).symm
    | ⟨1, _⟩ => by show j.val = o + (j.val - o); omega)

/-- What the precondition says of the arguments. -/
theorem finite_of_pre [Cert.Pre_swa_finite.Facts] (x : FVec Ideal S8192x12800 .bf16) (z : FVec Ideal S32 .f32) (b : FVec Ideal S32x128x256 .f32)
    (h : (Cert.Pre_swa_finite.fn (F := Ideal) x z b).1 = (fun _ => 1#1)
      ∧ (Cert.Pre_swa_finite.fn (F := Ideal) x z b).2.1 = (fun _ => 1#1)
      ∧ (Cert.Pre_swa_finite.fn (F := Ideal) x z b).2.2.1 = (fun _ => 1#1)
      ∧ (Cert.Pre_swa_finite.fn (F := Ideal) x z b).2.2.2 = (fun _ => 1#1)) : Finite x z b where
  proj := fun i j hj => by
    rcases hj with ⟨h0, h1⟩ | ⟨h0, h1⟩
    · rw [← columns x 8192 2048 Cert.Pre_swa_finite.Facts.slices_S8192x12800_S8192x2048_0_8192 i j h0 (by omega)]
      exact number_of_lt _ (by rw [← top_word]; exact congrFun h.1 (ix2 i (⟨j.val - 8192, by omega⟩ : Fin 2048)))
    · rw [← columns x 12288 256 Cert.Pre_swa_finite.Facts.slices_S8192x12800_S8192x256_0_12288 i j h0 (by omega)]
      exact number_of_lt _ (by rw [← top_word]; exact congrFun h.2.1 (ix2 i (⟨j.val - 12288, by omega⟩ : Fin 256)))
  sinks := fun i => number_of_lt _ (by rw [← top_word]; exact congrFun h.2.2.1 i)
  band := fun w r k hs => by
    have e : Ideal.cmp .olt (max (Scalar.select (inWindow (BitVec.ofNat 32 r.val) (BitVec.ofNat 32 k.val)) (b (ix3 w r k)) (Ideal.ofBits .f32 0x00000000#32))
        (-(Scalar.select (inWindow (BitVec.ofNat 32 r.val) (BitVec.ofNat 32 k.val)) (b (ix3 w r k)) (Ideal.ofBits .f32 0x00000000#32))))
        (Ideal.ofBits .f32 0x7F800000#32) = 1#1 := congrFun h.2.2.2 (ix3 w r k)
    rw [inWindow_eq, if_pos hs, Scalar.select, if_pos (by decide), top_word] at e
    exact number_of_lt _ e

theorem algebraic [Cert.Pre_swa_finite.Facts] : Cert.algebraic_SwaIdeal_SwaRefIdeal_pre_swa_finite := by
  intro m ρ m' ρ' hpre hagree
  have hf : ∀ c, Finite (proj m c) (sinks m c) (band m c) := fun c => finite_of_pre _ _ _ (hpre c)
  refine ⟨fun c => whole (proj m c) (sinks m c) (band m c), ?_, ?_⟩
  · exact (θ_run Cert.SwaIdeal.defs _ _).mono (fun _ h c => ⟨(h c).1.trans (final m c (hf c)), (h c).2⟩)
      (Value.run_blocks (F := Ideal) m ρ)
  refine (θ_run Cert.SwaRefIdeal.defs _ _).mono (fun _ h c => ⟨(h c).1.trans ?_, (h c).2⟩)
    (Cert.SwaRefIdeal.Value.run (F := Ideal) m' ρ')
  rw [Cert.SwaRefIdeal.Read.val_main_v78_eq, (hagree c).1, (hagree c).2.1, (hagree c).2.2]
  exact funext fun i => Cert.SwaRefIdeal.Product.reference _ _ _ (hf c) i

end Cert.SwaIdeal.Product

end
-- ==== Proof.EvenGate.lean ====
/-
  The projection of an even layer's forget gates: the result array of `EvenGateIdeal` is the product of the hidden states and
  the columns 6144 … 6271 of the layer's input weights, entry by entry; the reference joins the 16 gates' columns and the first
  112 of the next part. The weight tile is read by a window whose index map gives elements, and is kept in a scratch for the
  eight points.
-/
module

public import proofs.«01_k».proof.Defs
public import proofs.«01_k».proof.Proof.Origin
public import proofs.«01_k».proof.Proof.Gen.EvenGateIdeal.Value
public import proofs.«01_k».proof.Proof.Gen.EvenGateRefIdeal.Run
public import proofs.«01_k».proof.Proof.Gen.EvenGateRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.EvenGateIdeal.Product

open Cert.EvenGateIdeal Cert.EvenGateIdeal.Gen

section Body
variable {F : FTy → Type} [FloatOps F]
variable (c : Dev nD) (i : grid0.Coords) (a2 : Memref sig .tc .vmem S1024x4096 .bf16) (h2 : a2.IsWhole)
  (a3 : Memref sig .tc .vmem S1x128x4096 .f32) (h3 : a3.IsWhole) (a4 : Memref sig .tc .vmem S1024x128 .f32) (h4 : a4.IsWhole)
  (a5 : Memref sig .tc .vmem S128x4096 .bf16) (h5 : a5.IsWhole) (x : Vec F S1024x4096 .bf16) (w : Vec F S1x128x4096 .f32)

/-- At the first point of a column the scratch takes the weight tile, -/
theorem scratch_A (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero Cert.origin2]
  simp only [View.readAt_eq_ld, h3.read_unread, View.ld_unit_zero (S := S1x128x4096) Cert.origin3]

/-- and the output block is the product with it; -/
theorem out_A (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero Cert.origin2, View.readCov_unit_zero (S := S128x4096) _ Cert.origin2]
  simp only [View.readAt_eq_ld, h2.read_unread, h3.read_unread, View.ld_unit_zero (S := S1x128x4096) Cert.origin3,
    View.ld_unit_zero (S := S1024x4096) Cert.origin2]

/-- at the others it is the product with what the scratch holds. -/
theorem out_B (hc : ¬cond0_0 i) (s : Vec F S128x4096 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero Cert.origin2]
  simp only [View.readAt_eq_ld, h2.read_unread, h5.read_unread, View.ld_unit_zero (S := S128x4096) Cert.origin2,
    View.ld_unit_zero (S := S1024x4096) Cert.origin2]

end Body

variable (m : (ℓ : Loc nD τ sig) → Buf (Elt Ideal) ℓ)

/-- The hidden states and the weights, as launched. -/
abbrev hid (c : Dev nD) : FVec Ideal S8192x4096 .bf16 := m ((c : Thread nD τ).loc main_arg0)
abbrev wts (c : Dev nD) : FVec Ideal S2x4096x12816 .f32 := m ((c : Thread nD τ).loc main_arg1)

/-- The result, entry by entry: row `i 0` of the hidden states times column `6144 + i 1` of the weights. -/
def G (c : Dev nD) : FVec Ideal S8192x128 .f32 := fun i =>
  ∑ k : Fin 4096, hid m c (ix2 (⟨(i 0).val, idx2_lt0 i⟩ : Fin 8192) k)
    * wts m c (ix3 (0 : Fin 2) k (⟨6144 + (i 1).val, by have := idx2_lt1 i; omega⟩ : Fin 12816))

/-- Where the windows begin at point `t`. -/
theorem at_point : ∀ t : Fin cfg0.N, win0_0.index t 0 = t.val % 8 ∧ win0_0.index t 1 = 0
    ∧ cc0_transform_1 (grid0.coords t) 0 = 0 ∧ cc0_transform_1 (grid0.coords t) 1 = 6144 + 128 * (t.val / 8)
    ∧ cc0_transform_1 (grid0.coords t) 2 = 0
    ∧ win0_2.index t 0 = t.val % 8 ∧ win0_2.index t 1 = t.val / 8 :=
  (by decide +kernel : ∀ t : Fin grid0.N, _)

/-- The block of hidden states at point `t`. -/
theorem hid_block (c : Dev nD) (t : Fin cfg0.N) (r : Fin 1024) (k : Fin 4096) :
    (iblk m c 0 t : Vec Ideal S1024x4096 .bf16) (ix2 r k)
      = hid m c (ix2 (⟨t.val % 8 * 1024 + r.val, by omega⟩ : Fin 8192) k) := by
  obtain ⟨e0, e1, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = t.val % 8 * 1024 + r.val; rw [e0]; omega
  | ⟨1, _⟩ => show win0_0.index t 1 * 4096 + 1 * k.val = k.val; rw [e1]; omega

/-- The host's transposed weights. -/
theorem V_weights (c : Dev nD) (l : Fin 2) (n : Fin 12816) (k : Fin 4096) :
    (V m c main_v0 : Vec Ideal S2x12816x4096 .f32) (ix3 l n k) = wts m c (ix3 l k n) := by
  have e : V m c main_v0 = transpose S2x12816x4096 [0, 2, 1] (m ((c : Thread nD τ).loc main_arg1)) Facts₀.transposes_S2x4096x12816_S2x12816x4096_0_2_1 := by
    unfold V hostOps0
    after_results
  rw [e]
  exact transpose_apply _ _ _ _ _ (fun b => by match b with | ⟨0, _⟩ => rfl | ⟨1, _⟩ => rfl | ⟨2, _⟩ => rfl)

/-- The weight tile at point `t`: it depends on the column of points alone. -/
theorem tile (c : Dev nD) (t : Fin cfg0.N) (n : Fin 128) (k : Fin 4096) :
    k0_pay1 (iblk m c 1 t) (ix2 n k)
      = wts m c (ix3 (0 : Fin 2) k (⟨6144 + 128 * (t.val / 8) + n.val, by have := t.isLt; have h : cfg0.N = 8 := N_0; omega⟩ : Fin 12816)) := by
  obtain ⟨-, -, e0, e1, e2, -⟩ := at_point t
  unfold k0_pay1
  rw [shapeCast_self, truncf_apply]
  rw [shapeCast_dropUnit_apply]
  unfold iblk
  rw [View.read_apply]
  show V m c main_v0 _ = _
  rw [← V_weights]
  refine congrArg (V m c main_v0) (funext fun a => Fin.ext ?_)
  match a with
  | ⟨0, _⟩ => show cc0_transform_1 (grid0.coords t) 0 + 1 * 0 = 0; rw [e0]
  | ⟨1, _⟩ => show cc0_transform_1 (grid0.coords t) 1 + 1 * n.val = 6144 + 128 * (t.val / 8) + n.val; rw [e1]; omega
  | ⟨2, _⟩ => show cc0_transform_1 (grid0.coords t) 2 + 1 * k.val = k.val; rw [e2]; omega

/-- So two points of a column have the same tile. -/
theorem tile_eq (c : Dev nD) (t t' : Fin cfg0.N) (h : t.val / 8 = t'.val / 8) :
    (k0_pay1 (iblk m c 1 t) : Vec Ideal S128x4096 .bf16) = k0_pay1 (iblk m c 1 t') := by
  funext y
  rw [eq_ix2 y]
  refine (tile m c t _ _).trans (Eq.trans (congrArg (wts m c) (funext fun a => Fin.ext ?_)) (tile m c t' _ _).symm)
  match a with
  | ⟨0, _⟩ => rfl
  | ⟨1, _⟩ => rfl
  | ⟨2, _⟩ => show 6144 + 128 * (t.val / 8) + _ = 6144 + 128 * (t'.val / 8) + _; rw [h]

/-- The scratch and the output block at a first point of a column. -/
theorem at_A (c : Dev nD) (t : Fin cfg0.N) (h0 : t.val % 8 = 0) :
    outsAt0 m c t.val t.isLt = (k0_pay2 (iblk m c 0 t) (k0_pay1 (iblk m c 1 t)), k0_pay1 (iblk m c 1 t)) := by
  rw [outsAt0_A m c t h0, out_A, scratch_A]

/-- The two at another point, over the scratch that the point before left. -/
theorem at_B (c : Dev nD) (t : Fin cfg0.N) (h0 : ¬t.val % 8 = 0) (s : Vec Ideal S128x4096 .bf16)
    (hs : (outsAt0 m c (t.val - 1) (Nat.lt_of_le_of_lt (Nat.sub_le _ _) t.isLt)).2 = s) :
    outsAt0 m c t.val t.isLt = (k0_pay2 (iblk m c 0 t) s, s) := by
  rw [outsAt0_B m c t h0, hs, out_B]
  unfold sout0_B_0
  rfl

/-- After every point the output block is the product of the two blocks, and the scratch holds the tile. -/
theorem block (c : Dev nD) : ∀ (n : ℕ) (h : n < cfg0.N),
    outsAt0 m c n h = (k0_pay2 (iblk m c 0 ⟨n, h⟩) (k0_pay1 (iblk m c 1 ⟨n, h⟩)), k0_pay1 (iblk m c 1 ⟨n, h⟩))
  | 0, h => at_A m c ⟨0, h⟩ rfl
  | n + 1, h => by
    by_cases h0 : (n + 1) % 8 = 0
    · exact at_A m c ⟨n + 1, h⟩ h0
    · refine at_B m c ⟨n + 1, h⟩ h0 _ ((congrArg Prod.snd (block c n (Nat.lt_of_succ_lt h))).trans ?_)
      exact tile_eq m c ⟨n, Nat.lt_of_succ_lt h⟩ ⟨n + 1, h⟩ (by show n / 8 = (n + 1) / 8; omega)

/-- That product, entry by entry. -/
theorem pay2_apply (x : Vec Ideal S1024x4096 .bf16) (w : Vec Ideal S128x4096 .bf16) (r : Fin 1024) (n : Fin 128) :
    k0_pay2 x w (ix2 r n) = ∑ k : Fin 4096, x (ix2 r k) * w (ix2 n k) := by
  unfold k0_pay2
  refine (Ideal.matmul_transposedRhs_apply (M := 1024) (K := 4096) (N := 128) none x w _ r n).trans ?_
  rw [constant_apply]
  simp only [Ideal.ofBits_def, Ideal.ofBits_zero_f32, zero_add]

/-- An entry of the product at point `t` is the entry of `G` at its place in the array. -/
theorem entry (c : Dev nD) (t : Fin cfg0.N) (r : Fin 1024) (n : Fin 128) (h1 : t.val % 8 * 1024 + r.val < 8192)
    (h2 : t.val / 8 * 128 + n.val < 128) :
    k0_pay2 (iblk m c 0 t) (k0_pay1 (iblk m c 1 t)) (ix2 r n)
      = G m c (ix2 (⟨t.val % 8 * 1024 + r.val, h1⟩ : Fin 8192) (⟨t.val / 8 * 128 + n.val, h2⟩ : Fin 128)) := by
  refine (pay2_apply _ _ r n).trans (Finset.sum_congr rfl fun k _ => ?_)
  rw [hid_block, tile]
  refine congrArg₂ (· * ·) rfl (congrArg (wts m c) (funext fun a => Fin.ext ?_))
  match a with
  | ⟨0, _⟩ => rfl
  | ⟨1, _⟩ => rfl
  | ⟨2, _⟩ => show 6144 + 128 * (t.val / 8) + n.val = 6144 + (t.val / 8 * 128 + n.val); omega

/-- A block with these entries is the window's block of `G`. -/
theorem read_block (c : Dev nD) (t : Fin cfg0.N) (g : FVec Ideal S8192x128 .f32) (x : Vec Ideal S1024x128 .f32)
    (hx : ∀ (r : Fin 1024) (n : Fin 128) (h1 : t.val % 8 * 1024 + r.val < 8192) (h2 : t.val / 8 * 128 + n.val < 128),
      x (ix2 r n) = g (ix2 (⟨t.val % 8 * 1024 + r.val, h1⟩ : Fin 8192) (⟨t.val / 8 * 128 + n.val, h2⟩ : Fin 128))) :
    (cfg0.win 2).cut (grid0.coords t) x = ((cfg0.win 2).blk t).view.read (Elt Ideal) g := by
  obtain ⟨-, -, -, -, -, e0, e1⟩ := at_point t
  have ht := t.isLt
  have hN : cfg0.N = 8 := N_0
  funext y
  have hy0 : (y 0).val < 1024 := (y 0).isLt
  have hy1 : (y 1).val < 128 := (y 1).isLt
  have hx' := hx ⟨(y 0).val, hy0⟩ ⟨(y 1).val, hy1⟩ (by show t.val % 8 * 1024 + (y 0).val < 8192; omega)
    (by show t.val / 8 * 128 + (y 1).val < 128; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val % 8 * 1024 + (y 0).val = win0_2.index t (0 : Fin 2) * 1024 + 1 * (y 0).val; rw [e0]; omega
    | ⟨1, _⟩ => show t.val / 8 * 128 + (y 1).val = win0_2.index t (1 : Fin 2) * 128 + 1 * (y 1).val; rw [e1]; omega

/-- What a point writes back is its block of `G`. -/
theorem flushed_eq (c : Dev nD) (t : Fin cfg0.N) :
    (dats m 0 c).flushed 2 t = ((cfg0.win 2).blk t).view.read (Elt Ideal) (G m c) := by
  rw [Value.flushed2, block]
  exact read_block c t (G m c) _ (entry m c t)

/-- The result array after the run. -/
theorem final (c : Dev nD) : (dats m 0 c).arrAt 2 cfg0.N = G m c :=
  (dats m 0 c).arrAt_eq_of_cover 2 (G m c) (fun t _ => flushed_eq m c t) (fun i => (Value.covered_iff2 i).2 (by
    have h0 : (i 0).val < 8192 := (i 0).isLt; have h1 : (i 1).val < 128 := (i 1).isLt; omega))

/-- A column of the reference's whole product. -/
theorem product (x0 : FVec Ideal S8192x4096 .bf16) (x1 : FVec Ideal S2x4096x12816 .f32) (r : Fin 8192) (n : Fin 12816) :
    Cert.EvenGateRefIdeal.Read.val_main_v3 (F := Ideal) x0 x1 (ix2 r n)
      = ∑ k : Fin 4096, x0 (ix2 r k) * x1 (ix3 (0 : Fin 2) k n) := by
  rw [Cert.EvenGateRefIdeal.Read.val_main_v3_apply]
  refine Finset.sum_congr rfl fun k _ => ?_
  rw [Cert.EvenGateRefIdeal.Read.val_main_v0_apply, Ideal.extf_def, Cert.EvenGateRefIdeal.Read.val_main_v2_apply,
    Cert.EvenGateRefIdeal.Read.val_main_v1_apply]
  have hn := n.isLt
  have hk := k.isLt
  refine congrArg₂ (· * ·) (congrArg x0 (funext fun a => Fin.ext ?_)) (congrArg x1 (funext fun a => Fin.ext ?_))
  · match a with | ⟨0, _⟩ => rfl | ⟨1, _⟩ => rfl
  · match a with
    | ⟨0, _⟩ => rfl
    | ⟨1, _⟩ => show (k.val * 12816 + n.val) / 12816 % 4096 = k.val; omega
    | ⟨2, _⟩ => show (k.val * 12816 + n.val) % 12816 = n.val; omega

/-- A joined array of matrices of 8192 rows, read in the piece `y` whose columns begin at `pre`. -/
theorem piece {xs : List ((s : Shape) × (s.Idx → EReal))} {h : Shape.Concatenates (xs.map (·.1)) S8192x128 1}
    (i : S8192x128.Idx) (k : ℕ) (hk : k < xs.length) {p : ℕ} (y : (⟨2, ![8192, p]⟩ : Shape).Idx → EReal)
    (hxk : xs[k] = ⟨⟨2, ![8192, p]⟩, y⟩) (pre : ℕ)
    (hpre : (((xs.take k).map (·.1)).map fun s => if h : s.rank = S8192x128.rank then s.size (Fin.cast h.symm 1) else 0).sum = pre)
    (n : Fin p) (hn : pre + n.val = (i 1).val) :
    concatenate S8192x128 1 xs h i = y (ix2 (⟨(i 0).val, idx2_lt0 i⟩ : Fin 8192) n) :=
  concatenate_apply_piece 1 xs h i k hk ⟨2, ![8192, p]⟩ y hxk rfl pre hpre _
    (fun b hb => by match b with | ⟨0, _⟩ => rfl | ⟨1, _⟩ => exact absurd rfl hb) hn

/-- The reference's result is the same function of the same arrays: its pieces are neighbouring columns. -/
theorem reference (x0 : FVec Ideal S8192x4096 .bf16) (x1 : FVec Ideal S2x4096x12816 .f32) (i : S8192x128.Idx) :
    Cert.EvenGateRefIdeal.Read.val_main_v14 (F := Ideal) x0 x1 i
      = ∑ k : Fin 4096, x0 (ix2 (⟨(i 0).val, idx2_lt0 i⟩ : Fin 8192) k)
        * x1 (ix3 (0 : Fin 2) k (⟨6144 + (i 1).val, by have := idx2_lt1 i; omega⟩ : Fin 12816)) := by
  have hi := idx2_lt1 i
  rw [← product]
  unfold Cert.EvenGateRefIdeal.Read.val_main_v14
  by_cases h0 : (i 1).val < 16
  · refine (piece i 0 (by simp) (Cert.EvenGateRefIdeal.Read.val_main_v7 (F := Ideal) x0 x1) rfl 0 rfl (⟨(i 1).val - 0, by omega⟩ : Fin 16)
      (by show 0 + ((i 1).val - 0) = _; omega)).trans ?_
    rw [Cert.EvenGateRefIdeal.Read.val_main_v7_apply]
    refine congrArg _ (funext fun a => Fin.ext ?_)
    match a with
    | ⟨0, _⟩ => rfl
    | ⟨1, _⟩ => show 6144 + ((i 1).val - 0) = 6144 + (i 1).val; omega
  · refine (piece i 1 (by simp) (Cert.EvenGateRefIdeal.Read.val_main_v13 (F := Ideal) x0 x1) rfl 16 rfl (⟨(i 1).val - 16, by omega⟩ : Fin 112)
      (by show 16 + ((i 1).val - 16) = _; omega)).trans ?_
    rw [Cert.EvenGateRefIdeal.Read.val_main_v13_apply, Cert.EvenGateRefIdeal.Read.val_main_v8_apply]
    refine congrArg _ (funext fun a => Fin.ext ?_)
    match a with
    | ⟨0, _⟩ => rfl
    | ⟨1, _⟩ => show 6160 + ((i 1).val - 16) = 6144 + (i 1).val; omega

/-- Kernel and reference end with the same array. -/
theorem algebraic : Cert.algebraic_EvenGateIdeal_EvenGateRefIdeal := by
  intro m ρ m' ρ' _ hagree
  refine ⟨fun c => G m c, ?_, ?_⟩
  · exact (θ_run Cert.EvenGateIdeal.defs _ _).mono (fun _ h c => ⟨(h c).1.trans (final m c), (h c).2⟩)
      (Value.run_blocks (F := Ideal) m ρ)
  refine (θ_run Cert.EvenGateRefIdeal.defs _ _).mono (fun _ h c => ⟨(h c).1.trans ?_, (h c).2⟩)
    (Cert.EvenGateRefIdeal.Value.run (F := Ideal) m' ρ')
  rw [(hagree c).1, (hagree c).2]
  exact funext fun i => reference _ _ i

end Cert.EvenGateIdeal.Product

end
-- ==== Proof.OddIndex.lean ====
/-
  The projection of an odd layer's indexer: the result array of `OddIndexIdeal` is the product of the hidden states and the
  columns 1536 … 1663 of the layer's input weights, entry by entry; the reference joins the index's key (64 columns), the
  heads' weights (32) and the first 32 of the next part. The weight tile is read by a window whose index map gives elements,
  and is kept in a scratch for the eight points.
-/
module

public import proofs.«01_k».proof.Defs
public import proofs.«01_k».proof.Proof.Origin
public import proofs.«01_k».proof.Proof.Gen.OddIndexIdeal.Value
public import proofs.«01_k».proof.Proof.Gen.OddIndexRefIdeal.Run
public import proofs.«01_k».proof.Proof.Gen.OddIndexRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.OddIndexIdeal.Product

open Cert.OddIndexIdeal Cert.OddIndexIdeal.Gen

section Body
variable {F : FTy → Type} [FloatOps F]
variable (c : Dev nD) (i : grid0.Coords) (a2 : Memref sig .tc .vmem S1024x4096 .bf16) (h2 : a2.IsWhole)
  (a3 : Memref sig .tc .vmem S1x128x4096 .f32) (h3 : a3.IsWhole) (a4 : Memref sig .tc .vmem S1024x128 .f32) (h4 : a4.IsWhole)
  (a5 : Memref sig .tc .vmem S128x4096 .bf16) (h5 : a5.IsWhole) (x : Vec F S1024x4096 .bf16) (w : Vec F S1x128x4096 .f32)

/-- At the first point of a column the scratch takes the weight tile, -/
theorem scratch_A (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero Cert.origin2]
  simp only [View.readAt_eq_ld, h3.read_unread, View.ld_unit_zero (S := S1x128x4096) Cert.origin3]

/-- and the output block is the product with it; -/
theorem out_A (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero Cert.origin2, View.readCov_unit_zero (S := S128x4096) _ Cert.origin2]
  simp only [View.readAt_eq_ld, h2.read_unread, h3.read_unread, View.ld_unit_zero (S := S1x128x4096) Cert.origin3,
    View.ld_unit_zero (S := S1024x4096) Cert.origin2]

/-- at the others it is the product with what the scratch holds. -/
theorem out_B (hc : ¬cond0_0 i) (s : Vec F S128x4096 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero Cert.origin2]
  simp only [View.readAt_eq_ld, h2.read_unread, h5.read_unread, View.ld_unit_zero (S := S128x4096) Cert.origin2,
    View.ld_unit_zero (S := S1024x4096) Cert.origin2]

end Body

variable (m : (ℓ : Loc nD τ sig) → Buf (Elt Ideal) ℓ)

/-- The hidden states and the weights, as launched. -/
abbrev hid (c : Dev nD) : FVec Ideal S8192x4096 .bf16 := m ((c : Thread nD τ).loc main_arg0)
abbrev wts (c : Dev nD) : FVec Ideal S2x4096x5728 .f32 := m ((c : Thread nD τ).loc main_arg1)

/-- The result, entry by entry: row `i 0` of the hidden states times column `1536 + i 1` of the weights. -/
def G (c : Dev nD) : FVec Ideal S8192x128 .f32 := fun i =>
  ∑ k : Fin 4096, hid m c (ix2 (⟨(i 0).val, idx2_lt0 i⟩ : Fin 8192) k)
    * wts m c (ix3 (0 : Fin 2) k (⟨1536 + (i 1).val, by have := idx2_lt1 i; omega⟩ : Fin 5728))

/-- Where the windows begin at point `t`. -/
theorem at_point : ∀ t : Fin cfg0.N, win0_0.index t 0 = t.val % 8 ∧ win0_0.index t 1 = 0
    ∧ cc0_transform_1 (grid0.coords t) 0 = 0 ∧ cc0_transform_1 (grid0.coords t) 1 = 1536 + 128 * (t.val / 8)
    ∧ cc0_transform_1 (grid0.coords t) 2 = 0
    ∧ win0_2.index t 0 = t.val % 8 ∧ win0_2.index t 1 = t.val / 8 :=
  (by decide +kernel : ∀ t : Fin grid0.N, _)

/-- The block of hidden states at point `t`. -/
theorem hid_block (c : Dev nD) (t : Fin cfg0.N) (r : Fin 1024) (k : Fin 4096) :
    (iblk m c 0 t : Vec Ideal S1024x4096 .bf16) (ix2 r k)
      = hid m c (ix2 (⟨t.val % 8 * 1024 + r.val, by omega⟩ : Fin 8192) k) := by
  obtain ⟨e0, e1, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = t.val % 8 * 1024 + r.val; rw [e0]; omega
  | ⟨1, _⟩ => show win0_0.index t 1 * 4096 + 1 * k.val = k.val; rw [e1]; omega

/-- The host's transposed weights. -/
theorem V_weights (c : Dev nD) (l : Fin 2) (n : Fin 5728) (k : Fin 4096) :
    (V m c main_v0 : Vec Ideal S2x5728x4096 .f32) (ix3 l n k) = wts m c (ix3 l k n) := by
  have e : V m c main_v0 = transpose S2x5728x4096 [0, 2, 1] (m ((c : Thread nD τ).loc main_arg1)) Facts₀.transposes_S2x4096x5728_S2x5728x4096_0_2_1 := by
    unfold V hostOps0
    after_results
  rw [e]
  exact transpose_apply _ _ _ _ _ (fun b => by match b with | ⟨0, _⟩ => rfl | ⟨1, _⟩ => rfl | ⟨2, _⟩ => rfl)

/-- The weight tile at point `t`: it depends on the column of points alone. -/
theorem tile (c : Dev nD) (t : Fin cfg0.N) (n : Fin 128) (k : Fin 4096) :
    k0_pay1 (iblk m c 1 t) (ix2 n k)
      = wts m c (ix3 (0 : Fin 2) k (⟨1536 + 128 * (t.val / 8) + n.val, by have := t.isLt; have h : cfg0.N = 8 := N_0; omega⟩ : Fin 5728)) := by
  obtain ⟨-, -, e0, e1, e2, -⟩ := at_point t
  unfold k0_pay1
  rw [shapeCast_self, truncf_apply]
  rw [shapeCast_dropUnit_apply]
  unfold iblk
  rw [View.read_apply]
  show V m c main_v0 _ = _
  rw [← V_weights]
  refine congrArg (V m c main_v0) (funext fun a => Fin.ext ?_)
  match a with
  | ⟨0, _⟩ => show cc0_transform_1 (grid0.coords t) 0 + 1 * 0 = 0; rw [e0]
  | ⟨1, _⟩ => show cc0_transform_1 (grid0.coords t) 1 + 1 * n.val = 1536 + 128 * (t.val / 8) + n.val; rw [e1]; omega
  | ⟨2, _⟩ => show cc0_transform_1 (grid0.coords t) 2 + 1 * k.val = k.val; rw [e2]; omega

/-- So two points of a column have the same tile. -/
theorem tile_eq (c : Dev nD) (t t' : Fin cfg0.N) (h : t.val / 8 = t'.val / 8) :
    (k0_pay1 (iblk m c 1 t) : Vec Ideal S128x4096 .bf16) = k0_pay1 (iblk m c 1 t') := by
  funext y
  rw [eq_ix2 y]
  refine (tile m c t _ _).trans (Eq.trans (congrArg (wts m c) (funext fun a => Fin.ext ?_)) (tile m c t' _ _).symm)
  match a with
  | ⟨0, _⟩ => rfl
  | ⟨1, _⟩ => rfl
  | ⟨2, _⟩ => show 1536 + 128 * (t.val / 8) + _ = 1536 + 128 * (t'.val / 8) + _; rw [h]

/-- The scratch and the output block at a first point of a column. -/
theorem at_A (c : Dev nD) (t : Fin cfg0.N) (h0 : t.val % 8 = 0) :
    outsAt0 m c t.val t.isLt = (k0_pay2 (iblk m c 0 t) (k0_pay1 (iblk m c 1 t)), k0_pay1 (iblk m c 1 t)) := by
  rw [outsAt0_A m c t h0, out_A, scratch_A]

/-- The two at another point, over the scratch that the point before left. -/
theorem at_B (c : Dev nD) (t : Fin cfg0.N) (h0 : ¬t.val % 8 = 0) (s : Vec Ideal S128x4096 .bf16)
    (hs : (outsAt0 m c (t.val - 1) (Nat.lt_of_le_of_lt (Nat.sub_le _ _) t.isLt)).2 = s) :
    outsAt0 m c t.val t.isLt = (k0_pay2 (iblk m c 0 t) s, s) := by
  rw [outsAt0_B m c t h0, hs, out_B]
  unfold sout0_B_0
  rfl

/-- After every point the output block is the product of the two blocks, and the scratch holds the tile. -/
theorem block (c : Dev nD) : ∀ (n : ℕ) (h : n < cfg0.N),
    outsAt0 m c n h = (k0_pay2 (iblk m c 0 ⟨n, h⟩) (k0_pay1 (iblk m c 1 ⟨n, h⟩)), k0_pay1 (iblk m c 1 ⟨n, h⟩))
  | 0, h => at_A m c ⟨0, h⟩ rfl
  | n + 1, h => by
    by_cases h0 : (n + 1) % 8 = 0
    · exact at_A m c ⟨n + 1, h⟩ h0
    · refine at_B m c ⟨n + 1, h⟩ h0 _ ((congrArg Prod.snd (block c n (Nat.lt_of_succ_lt h))).trans ?_)
      exact tile_eq m c ⟨n, Nat.lt_of_succ_lt h⟩ ⟨n + 1, h⟩ (by show n / 8 = (n + 1) / 8; omega)

/-- That product, entry by entry. -/
theorem pay2_apply (x : Vec Ideal S1024x4096 .bf16) (w : Vec Ideal S128x4096 .bf16) (r : Fin 1024) (n : Fin 128) :
    k0_pay2 x w (ix2 r n) = ∑ k : Fin 4096, x (ix2 r k) * w (ix2 n k) := by
  unfold k0_pay2
  refine (Ideal.matmul_transposedRhs_apply (M := 1024) (K := 4096) (N := 128) none x w _ r n).trans ?_
  rw [constant_apply]
  simp only [Ideal.ofBits_def, Ideal.ofBits_zero_f32, zero_add]

/-- An entry of the product at point `t` is the entry of `G` at its place in the array. -/
theorem entry (c : Dev nD) (t : Fin cfg0.N) (r : Fin 1024) (n : Fin 128) (h1 : t.val % 8 * 1024 + r.val < 8192)
    (h2 : t.val / 8 * 128 + n.val < 128) :
    k0_pay2 (iblk m c 0 t) (k0_pay1 (iblk m c 1 t)) (ix2 r n)
      = G m c (ix2 (⟨t.val % 8 * 1024 + r.val, h1⟩ : Fin 8192) (⟨t.val / 8 * 128 + n.val, h2⟩ : Fin 128)) := by
  refine (pay2_apply _ _ r n).trans (Finset.sum_congr rfl fun k _ => ?_)
  rw [hid_block, tile]
  refine congrArg₂ (· * ·) rfl (congrArg (wts m c) (funext fun a => Fin.ext ?_))
  match a with
  | ⟨0, _⟩ => rfl
  | ⟨1, _⟩ => rfl
  | ⟨2, _⟩ => show 1536 + 128 * (t.val / 8) + n.val = 1536 + (t.val / 8 * 128 + n.val); omega

/-- A block with these entries is the window's block of `G`. -/
theorem read_block (c : Dev nD) (t : Fin cfg0.N) (g : FVec Ideal S8192x128 .f32) (x : Vec Ideal S1024x128 .f32)
    (hx : ∀ (r : Fin 1024) (n : Fin 128) (h1 : t.val % 8 * 1024 + r.val < 8192) (h2 : t.val / 8 * 128 + n.val < 128),
      x (ix2 r n) = g (ix2 (⟨t.val % 8 * 1024 + r.val, h1⟩ : Fin 8192) (⟨t.val / 8 * 128 + n.val, h2⟩ : Fin 128))) :
    (cfg0.win 2).cut (grid0.coords t) x = ((cfg0.win 2).blk t).view.read (Elt Ideal) g := by
  obtain ⟨-, -, -, -, -, e0, e1⟩ := at_point t
  have ht := t.isLt
  have hN : cfg0.N = 8 := N_0
  funext y
  have hy0 : (y 0).val < 1024 := (y 0).isLt
  have hy1 : (y 1).val < 128 := (y 1).isLt
  have hx' := hx ⟨(y 0).val, hy0⟩ ⟨(y 1).val, hy1⟩ (by show t.val % 8 * 1024 + (y 0).val < 8192; omega)
    (by show t.val / 8 * 128 + (y 1).val < 128; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val % 8 * 1024 + (y 0).val = win0_2.index t (0 : Fin 2) * 1024 + 1 * (y 0).val; rw [e0]; omega
    | ⟨1, _⟩ => show t.val / 8 * 128 + (y 1).val = win0_2.index t (1 : Fin 2) * 128 + 1 * (y 1).val; rw [e1]; omega

/-- What a point writes back is its block of `G`. -/
theorem flushed_eq (c : Dev nD) (t : Fin cfg0.N) :
    (dats m 0 c).flushed 2 t = ((cfg0.win 2).blk t).view.read (Elt Ideal) (G m c) := by
  rw [Value.flushed2, block]
  exact read_block c t (G m c) _ (entry m c t)

/-- The result array after the run. -/
theorem final (c : Dev nD) : (dats m 0 c).arrAt 2 cfg0.N = G m c :=
  (dats m 0 c).arrAt_eq_of_cover 2 (G m c) (fun t _ => flushed_eq m c t) (fun i => (Value.covered_iff2 i).2 (by
    have h0 : (i 0).val < 8192 := (i 0).isLt; have h1 : (i 1).val < 128 := (i 1).isLt; omega))

/-- A column of the reference's whole product. -/
theorem product (x0 : FVec Ideal S8192x4096 .bf16) (x1 : FVec Ideal S2x4096x5728 .f32) (r : Fin 8192) (n : Fin 5728) :
    Cert.OddIndexRefIdeal.Read.val_main_v3 (F := Ideal) x0 x1 (ix2 r n)
      = ∑ k : Fin 4096, x0 (ix2 r k) * x1 (ix3 (0 : Fin 2) k n) := by
  rw [Cert.OddIndexRefIdeal.Read.val_main_v3_apply]
  refine Finset.sum_congr rfl fun k _ => ?_
  rw [Cert.OddIndexRefIdeal.Read.val_main_v0_apply, Ideal.extf_def, Cert.OddIndexRefIdeal.Read.val_main_v2_apply,
    Cert.OddIndexRefIdeal.Read.val_main_v1_apply]
  have hn := n.isLt
  have hk := k.isLt
  refine congrArg₂ (· * ·) (congrArg x0 (funext fun a => Fin.ext ?_)) (congrArg x1 (funext fun a => Fin.ext ?_))
  · match a with | ⟨0, _⟩ => rfl | ⟨1, _⟩ => rfl
  · match a with
    | ⟨0, _⟩ => rfl
    | ⟨1, _⟩ => show (k.val * 5728 + n.val) / 5728 % 4096 = k.val; omega
    | ⟨2, _⟩ => show (k.val * 5728 + n.val) % 5728 = n.val; omega

/-- A joined array of matrices of 8192 rows, read in the piece `y` whose columns begin at `pre`. -/
theorem piece {xs : List ((s : Shape) × (s.Idx → EReal))} {h : Shape.Concatenates (xs.map (·.1)) S8192x128 1}
    (i : S8192x128.Idx) (k : ℕ) (hk : k < xs.length) {p : ℕ} (y : (⟨2, ![8192, p]⟩ : Shape).Idx → EReal)
    (hxk : xs[k] = ⟨⟨2, ![8192, p]⟩, y⟩) (pre : ℕ)
    (hpre : (((xs.take k).map (·.1)).map fun s => if h : s.rank = S8192x128.rank then s.size (Fin.cast h.symm 1) else 0).sum = pre)
    (n : Fin p) (hn : pre + n.val = (i 1).val) :
    concatenate S8192x128 1 xs h i = y (ix2 (⟨(i 0).val, idx2_lt0 i⟩ : Fin 8192) n) :=
  concatenate_apply_piece 1 xs h i k hk ⟨2, ![8192, p]⟩ y hxk rfl pre hpre _
    (fun b hb => by match b with | ⟨0, _⟩ => rfl | ⟨1, _⟩ => exact absurd rfl hb) hn

/-- The reference's result is the same function of the same arrays: its pieces are neighbouring columns. -/
theorem reference (x0 : FVec Ideal S8192x4096 .bf16) (x1 : FVec Ideal S2x4096x5728 .f32) (i : S8192x128.Idx) :
    Cert.OddIndexRefIdeal.Read.val_main_v10 (F := Ideal) x0 x1 i
      = ∑ k : Fin 4096, x0 (ix2 (⟨(i 0).val, idx2_lt0 i⟩ : Fin 8192) k)
        * x1 (ix3 (0 : Fin 2) k (⟨1536 + (i 1).val, by have := idx2_lt1 i; omega⟩ : Fin 5728)) := by
  have hi := idx2_lt1 i
  rw [← product]
  unfold Cert.OddIndexRefIdeal.Read.val_main_v10
  by_cases h0 : (i 1).val < 64
  · refine (piece i 0 (by simp) (Cert.OddIndexRefIdeal.Read.val_main_v6 (F := Ideal) x0 x1) rfl 0 rfl (⟨(i 1).val - 0, by omega⟩ : Fin 64)
      (by show 0 + ((i 1).val - 0) = _; omega)).trans ?_
    rw [Cert.OddIndexRefIdeal.Read.val_main_v6_apply]
    refine congrArg _ (funext fun a => Fin.ext ?_)
    match a with
    | ⟨0, _⟩ => rfl
    | ⟨1, _⟩ => show 1536 + ((i 1).val - 0) = 1536 + (i 1).val; omega
  by_cases h1 : (i 1).val < 96
  · refine (piece i 1 (by simp) (Cert.OddIndexRefIdeal.Read.val_main_v7 (F := Ideal) x0 x1) rfl 64 rfl (⟨(i 1).val - 64, by omega⟩ : Fin 32)
      (by show 64 + ((i 1).val - 64) = _; omega)).trans ?_
    rw [Cert.OddIndexRefIdeal.Read.val_main_v7_apply]
    refine congrArg _ (funext fun a => Fin.ext ?_)
    match a with
    | ⟨0, _⟩ => rfl
    | ⟨1, _⟩ => show 1600 + ((i 1).val - 64) = 1536 + (i 1).val; omega
  · refine (piece i 2 (by simp) (Cert.OddIndexRefIdeal.Read.val_main_v9 (F := Ideal) x0 x1) rfl 96 rfl (⟨(i 1).val - 96, by omega⟩ : Fin 32)
      (by show 96 + ((i 1).val - 96) = _; omega)).trans ?_
    rw [Cert.OddIndexRefIdeal.Read.val_main_v9_apply, Cert.OddIndexRefIdeal.Read.val_main_v8_apply]
    refine congrArg _ (funext fun a => Fin.ext ?_)
    match a with
    | ⟨0, _⟩ => rfl
    | ⟨1, _⟩ => show 1632 + ((i 1).val - 96) = 1536 + (i 1).val; omega

/-- Kernel and reference end with the same array. -/
theorem algebraic : Cert.algebraic_OddIndexIdeal_OddIndexRefIdeal := by
  intro m ρ m' ρ' _ hagree
  refine ⟨fun c => G m c, ?_, ?_⟩
  · exact (θ_run Cert.OddIndexIdeal.defs _ _).mono (fun _ h c => ⟨(h c).1.trans (final m c), (h c).2⟩)
      (Value.run_blocks (F := Ideal) m ρ)
  refine (θ_run Cert.OddIndexRefIdeal.defs _ _).mono (fun _ h c => ⟨(h c).1.trans ?_, (h c).2⟩)
    (Cert.OddIndexRefIdeal.Value.run (F := Ideal) m' ρ')
  rw [(hagree c).1, (hagree c).2]
  exact funext fun i => reference _ _ i

end Cert.OddIndexIdeal.Product

end
-- ==== Proof.QUp.lean ====
/-
  The projection that gives an odd layer its queries: the result array of `QUpIdeal` is the product of the normed latents and
  the layer's weights, scaled for an exponential of base two, entry by entry. The scale stands in the weight tile, which a
  scratch keeps for the eight points of a column.
-/
module

public import proofs.«01_k».proof.Defs
public import proofs.«01_k».proof.Proof.Origin
public import proofs.«01_k».proof.Proof.Consts
public import proofs.«01_k».proof.Proof.Gen.QUpIdeal.Value
public import proofs.«01_k».proof.Proof.Gen.QUpRefIdeal.Run
public import proofs.«01_k».proof.Proof.Gen.QUpRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.QUpIdeal.Product

open Cert.QUpIdeal Cert.QUpIdeal.Gen

section Body
variable (c : Dev nD) (i : grid0.Coords)
  (a2 : Memref sig .tc .vmem S1024x1024 .bf16) (h2 : a2.IsWhole)
  (a3 : Memref sig .tc .vmem S1x1024x1024 .f32) (h3 : a3.IsWhole)
  (a4 : Memref sig .tc .vmem S1024x1024 .bf16) (h4 : a4.IsWhole)
  (a5 : Memref sig .tc .vmem S1024x1024 .bf16) (h5 : a5.IsWhole)
  (x : Vec Ideal S1024x1024 .bf16)
  (w : Vec Ideal S1x1024x1024 .f32)

/-- At the first point of a column a scratch takes a weight tile, -/
theorem scratch_A0 (hc : cond0_0 i) : sout0_A_0 c i a2 h2 a3 h3 a4 h4 a5 h5 hc x w = k0_pay1 i w := by
  unfold sout0_A_0
  rw [View.read_writes_eq_canon _ _ _ (scover0_A_0 c i a2 h2 a3 h3 a4 h4 a5 h5 hc x w)]
  unfold kernelRun0_A
  dsimp only
  sl_unfold_words
  rw [View.canon_unit_zero Cert.origin2]
  simp only [View.readAt_eq_ld, h3.read_unread, View.ld_unit_zero (S := S1x1024x1024) Cert.origin3]

/-- and the output block is computed from it; -/
theorem out_A (hc : cond0_0 i) : out0_A_2 c i a2 h2 a3 h3 a4 h4 a5 h5 hc x w = k0_pay2 x (k0_pay1 i w) := by
  unfold out0_A_2
  rw [View.read_writes_eq_canon _ _ _ (cover0_A_2 c i a2 h2 a3 h3 a4 h4 a5 h5 hc x w)]
  unfold kernelRun0_A
  dsimp only
  sl_unfold_words
  rw [View.canon_unit_zero Cert.origin2, View.readCov_unit_zero (S := S1024x1024) _ Cert.origin2]
  simp only [View.readAt_eq_ld, h2.read_unread, h3.read_unread, View.ld_unit_zero (S := S1024x1024) Cert.origin2, View.ld_unit_zero (S := S1x1024x1024) Cert.origin3]

/-- at the others it is computed from what the scratch holds. -/
theorem out_B (hc : ¬cond0_0 i) (s0 : Vec Ideal S1024x1024 .bf16) :
    out0_B_2 c i a2 h2 a3 h3 a4 h4 a5 h5 hc x w s0 = k0_pay2 x s0 := by
  unfold out0_B_2
  rw [View.read_writes_eq_canon _ _ _ (cover0_B_2 c i a2 h2 a3 h3 a4 h4 a5 h5 hc x w s0)]
  unfold kernelRun0_B
  dsimp only
  sl_unfold_words
  rw [View.canon_unit_zero Cert.origin2]
  simp only [View.readAt_eq_ld, h2.read_unread, h5.read_unread, View.ld_unit_zero (S := S1024x1024) Cert.origin2, View.ld_unit_zero (S := S1024x1024) Cert.origin2]

end Body

variable (m : (ℓ : Loc nD τ sig) → Buf (Elt Ideal) ℓ)

/-- The rows that the projection takes and the weights, as launched. -/
abbrev rows (c : Dev nD) : FVec Ideal S8192x1024 .bf16 := m ((c : Thread nD τ).loc main_arg0)
abbrev wts (c : Dev nD) : FVec Ideal S2x1024x4096 .f32 := m ((c : Thread nD τ).loc main_arg1)

/-- The scale of the queries, over the logarithm of two. -/
abbrev fox : ℝ := (Real.sqrt 128)⁻¹ * (Real.log 2)⁻¹
abbrev scale : EReal := (fox : EReal)

theorem fox_nonneg : 0 ≤ fox := by have := Cert.Consts.log_two_pos; have := Cert.Consts.sqrt_128_pos; positivity

/-- The result, entry by entry. -/
def G (c : Dev nD) : FVec Ideal S8192x4096 .bf16 := fun i =>
  ∑ k : Fin 1024, rows m c (ix2 (⟨(i 0).val, idx2_lt0 i⟩ : Fin 8192) k)
    * (wts m c (ix3 (0 : Fin 2) k (⟨(i 1).val, idx2_lt1 i⟩ : Fin 4096)) * scale)

/-- Where the output's block stands. -/
theorem out_at : ∀ t : Fin cfg0.N, win0_2.index t 0 = t.val % 8 ∧ win0_2.index t 1 = t.val / 8 :=
  (by decide +kernel : ∀ t : Fin grid0.N, _)

theorem row_block_at : ∀ t : Fin cfg0.N, win0_0.index t 0 = t.val % 8 ∧ win0_0.index t 1 = 0 :=
  (by decide +kernel : ∀ t : Fin grid0.N, _)

/-- The block of rows at point `t`. -/
theorem row_block (c : Dev nD) (t : Fin cfg0.N) (r : Fin 1024) (k : Fin 1024) :
    (iblk m c 0 t : Vec Ideal S1024x1024 .bf16) (ix2 r k)
      = rows m c (ix2 (⟨t.val % 8 * 1024 + r.val, by omega⟩ : Fin 8192) k) := by
  obtain ⟨e0, e1⟩ := row_block_at t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = t.val % 8 * 1024 + r.val; rw [e0]; omega
  | ⟨1, _⟩ => show win0_0.index t 1 * 1024 + 1 * k.val = k.val; rw [e1]; omega

/-- A weight tile at point `t`: it depends on the column of points alone. -/
theorem tile0_at : ∀ t : Fin cfg0.N, win0_1.index t 0 = 0 ∧ win0_1.index t 1 = 0 ∧ win0_1.index t 2 = t.val / 8 :=
  (by decide +kernel : ∀ t : Fin grid0.N, _)

/-- The kernel's test of the column of points holds at every point. -/
theorem tests : ∀ t : Fin cfg0.N,
    Scalar.andi (Scalar.cmpi .sge (BitVec.ofNat 32 (grid0.coords t 0).val) 0#32)
        (Scalar.cmpi .slt (BitVec.ofNat 32 (grid0.coords t 0).val) 4#32) = 1 :=
  (by decide +kernel : ∀ t : Fin grid0.N, _)

/-- So every weight tile is scaled. -/
theorem scaled (t : Fin cfg0.N) (w : Vec Ideal S1x1024x1024 .f32) (k n : Fin 1024) :
    k0_pay1 (grid0.coords t) w (ix2 k n) = w (ix3 (0 : Fin 1) k n) * scale := by
  have h := tests t
  unfold k0_pay1
  rw [shapeCast_self, truncf_apply, mulf_apply, broadcast_apply]
  refine congrArg₂ (· * ·) ((shapeCast_dropUnit_apply _ _ _ _).trans (congrArg w (funext fun a => Fin.ext ?_))) ?_
  · match a with | ⟨0, _⟩ => rfl | ⟨1, _⟩ => rfl | ⟨2, _⟩ => rfl
  dsimp only [Scalar.select]
  rw [if_pos h, IdealRules.named_const.ideal_named_scalar _ _ _ _ rfl]

theorem tile0 (c : Dev nD) (t : Fin cfg0.N) (k : Fin 1024) (n : Fin 1024) :
    k0_pay1 (grid0.coords t) (iblk m c 1 t) (ix2 k n)
      = (wts m c) (ix3 (0 : Fin 2) k (⟨t.val / 8 * 1024 + n.val, by have := t.isLt; have h : cfg0.N = 32 := N_0; omega⟩ : Fin 4096)) * scale := by
  obtain ⟨e0, e1, e2⟩ := tile0_at t
  rw [scaled]
  refine congrArg (· * scale) ?_
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = 0; rw [e0]
  | ⟨1, _⟩ => show win0_1.index t 1 * 1024 + 1 * k.val = k.val; rw [e1]; omega
  | ⟨2, _⟩ => show win0_1.index t 2 * 1024 + 1 * n.val = t.val / 8 * 1024 + n.val; rw [e2]; omega

theorem tile_eq0 (c : Dev nD) (t t' : Fin cfg0.N) (h : t.val / 8 = t'.val / 8) :
    (k0_pay1 (grid0.coords t) (iblk m c 1 t) : Vec Ideal S1024x1024 .bf16) = k0_pay1 (grid0.coords t') (iblk m c 1 t') := by
  funext y
  rw [eq_ix2 y]
  refine (tile0 m c t _ _).trans (Eq.trans (congrArg (wts m c · * scale) (funext fun a => Fin.ext ?_)) (tile0 m c t' _ _).symm)
  match a with
  | ⟨0, _⟩ => rfl
  | ⟨1, _⟩ => rfl
  | ⟨2, _⟩ => exact congrArg (· * 1024 + _) h

/-- The body's result, entry by entry. -/
theorem pay2_apply (x : Vec Ideal S1024x1024 .bf16) (w : Vec Ideal S1024x1024 .bf16) (r n : Fin 1024) :
    k0_pay2 x w (ix2 r n) = ∑ k : Fin 1024, x (ix2 r k) * w (ix2 k n) := by
  unfold k0_pay2
  rw [truncf_apply]
  refine (Ideal.matmul_plain_apply (M := 1024) (K := 1024) (N := 1024) none x w _ r n).trans ?_
  rw [constant_apply]
  simp only [Ideal.ofBits_def, Ideal.ofBits_zero_f32, zero_add]

/-- The output block and the scratch at a first point of a column. -/
theorem at_A (c : Dev nD) (t : Fin cfg0.N) (h0 : t.val % 8 = 0) :
    outsAt0 m c t.val t.isLt = (k0_pay2 (iblk m c 0 t) (k0_pay1 (grid0.coords t) (iblk m c 1 t)), k0_pay1 (grid0.coords t) (iblk m c 1 t)) := by
  rw [outsAt0_A m c t h0, out_A, scratch_A0]

/-- The same at another point, over the scratch that the point before left. -/
theorem at_B (c : Dev nD) (t : Fin cfg0.N) (h0 : ¬t.val % 8 = 0) (s0 : Vec Ideal S1024x1024 .bf16)
    (hs0 : (outsAt0 m c (t.val - 1) (Nat.lt_of_le_of_lt (Nat.sub_le _ _) t.isLt)).2 = s0) :
    outsAt0 m c t.val t.isLt = (k0_pay2 (iblk m c 0 t) s0, s0) := by
  rw [outsAt0_B m c t h0, hs0, out_B]
  unfold sout0_B_0
  rfl

/-- After every point the output block is computed from the point's own blocks, and the scratch holds the column's tile. -/
theorem block (c : Dev nD) : ∀ (n : ℕ) (h : n < cfg0.N),
    outsAt0 m c n h = (k0_pay2 (iblk m c 0 ⟨n, h⟩) (k0_pay1 (grid0.coords ⟨n, h⟩) (iblk m c 1 ⟨n, h⟩)), k0_pay1 (grid0.coords ⟨n, h⟩) (iblk m c 1 ⟨n, h⟩))
  | 0, h => at_A m c ⟨0, h⟩ rfl
  | n + 1, h => by
    by_cases h0 : (n + 1) % 8 = 0
    · exact at_A m c ⟨n + 1, h⟩ h0
    · have hd : n / 8 = (n + 1) / 8 := by omega
      have e := block c n (Nat.lt_of_succ_lt h)
      exact at_B m c ⟨n + 1, h⟩ h0 _ ((congrArg (fun p => p.2) e).trans (tile_eq0 m c ⟨n, Nat.lt_of_succ_lt h⟩ ⟨n + 1, h⟩ hd))

/-- An entry of the output block at point `t` is the entry of `G` at its place in the array. -/
theorem entry (c : Dev nD) (t : Fin cfg0.N) (r : Fin 1024) (n : Fin 1024) (h1 : t.val % 8 * 1024 + r.val < 8192)
    (h2 : t.val / 8 * 1024 + n.val < 4096) :
    k0_pay2 (iblk m c 0 t) (k0_pay1 (grid0.coords t) (iblk m c 1 t)) (ix2 r n)
      = G m c (ix2 (⟨t.val % 8 * 1024 + r.val, h1⟩ : Fin 8192) (⟨t.val / 8 * 1024 + n.val, h2⟩ : Fin 4096)) := by
  refine (pay2_apply _ _ r n).trans ?_
  refine Finset.sum_congr rfl fun k _ => ?_
  rw [row_block, tile0]

/-- A block with these entries is the window's block of `G`. -/
theorem read_block (c : Dev nD) (t : Fin cfg0.N) (g : FVec Ideal S8192x4096 .bf16) (x : Vec Ideal S1024x1024 .bf16)
    (hx : ∀ (r : Fin 1024) (n : Fin 1024) (h1 : t.val % 8 * 1024 + r.val < 8192) (h2 : t.val / 8 * 1024 + n.val < 4096),
      x (ix2 r n) = g (ix2 (⟨t.val % 8 * 1024 + r.val, h1⟩ : Fin 8192) (⟨t.val / 8 * 1024 + n.val, h2⟩ : Fin 4096))) :
    (cfg0.win 2).cut (grid0.coords t) x = ((cfg0.win 2).blk t).view.read (Elt Ideal) g := by
  obtain ⟨e0, e1⟩ := out_at t
  have ht := t.isLt
  have hN : cfg0.N = 32 := N_0
  funext y
  have hy0 : (y 0).val < 1024 := (y 0).isLt
  have hy1 : (y 1).val < 1024 := (y 1).isLt
  have hx' := hx ⟨(y 0).val, hy0⟩ ⟨(y 1).val, hy1⟩ (by show t.val % 8 * 1024 + (y 0).val < 8192; omega)
    (by show t.val / 8 * 1024 + (y 1).val < 4096; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val % 8 * 1024 + (y 0).val = win0_2.index t (0 : Fin 2) * 1024 + 1 * (y 0).val; rw [e0]; omega
    | ⟨1, _⟩ => show t.val / 8 * 1024 + (y 1).val = win0_2.index t (1 : Fin 2) * 1024 + 1 * (y 1).val; rw [e1]; omega

/-- What a point writes back is its block of `G`. -/
theorem flushed_eq (c : Dev nD) (t : Fin cfg0.N) :
    (dats m 0 c).flushed 2 t = ((cfg0.win 2).blk t).view.read (Elt Ideal) (G m c) := by
  rw [Value.flushed2, block]
  exact read_block c t (G m c) _ (entry m c t)

/-- The result array after the run. -/
theorem final (c : Dev nD) : (dats m 0 c).arrAt 2 cfg0.N = G m c :=
  (dats m 0 c).arrAt_eq_of_cover 2 (G m c) (fun t _ => flushed_eq m c t) (fun i => (Value.covered_iff2 i).2 (by
    have h0 : (i 0).val < 8192 := (i 0).isLt; have h1 : (i 1).val < 4096 := (i 1).isLt; omega))

/-- The reference's product. -/
theorem product (x0 : FVec Ideal S8192x1024 .bf16) (x1 : FVec Ideal S2x1024x4096 .f32) (i : S8192x4096.Idx) :
    Cert.QUpRefIdeal.Read.val_main_v3 (F := Ideal) x0 x1 i
      = ∑ k : Fin 1024, x0 (ix2 (⟨(i 0).val, idx2_lt0 i⟩ : Fin 8192) k) * x1 (ix3 (0 : Fin 2) k (⟨(i 1).val, idx2_lt1 i⟩ : Fin 4096)) := by
  rw [Cert.QUpRefIdeal.Read.val_main_v3_apply]
  refine Finset.sum_congr rfl fun k _ => ?_
  rw [Cert.QUpRefIdeal.Read.val_main_v0_apply, Ideal.extf_def, Cert.QUpRefIdeal.Read.val_main_v2_apply,
    Cert.QUpRefIdeal.Read.val_main_v1_apply]
  have hi := idx2_lt1 i
  have hk := k.isLt
  refine congrArg₂ (· * ·) (congrArg x0 (funext fun a => Fin.ext ?_)) (congrArg x1 (funext fun a => Fin.ext ?_))
  · match a with | ⟨0, _⟩ => rfl | ⟨1, _⟩ => rfl
  · match a with
    | ⟨0, _⟩ => rfl
    | ⟨1, _⟩ => show (k.val * 4096 + (i 1).val) / 4096 % 1024 = k.val; omega
    | ⟨2, _⟩ => show (k.val * 4096 + (i 1).val) % 4096 = (i 1).val; omega

/-- The reference's result is the same function of the same arrays: its two quotients are the one scale. -/
theorem reference (x0 : FVec Ideal S8192x1024 .bf16) (x1 : FVec Ideal S2x1024x4096 .f32) (i : S8192x4096.Idx) :
    Cert.QUpRefIdeal.Read.val_main_v10 (F := Ideal) x0 x1 i
      = ∑ k : Fin 1024, x0 (ix2 (⟨(i 0).val, idx2_lt0 i⟩ : Fin 8192) k) * (x1 (ix3 (0 : Fin 2) k (⟨(i 1).val, idx2_lt1 i⟩ : Fin 4096)) * scale) := by
  rw [Cert.Consts.sum_mul_real _ _ _ _ fox_nonneg, ← product, Cert.QUpRefIdeal.Read.val_main_v10_apply, Ideal.truncf_def, Cert.QUpRefIdeal.Read.val_main_v9_apply,
    Cert.QUpRefIdeal.Read.val_main_v8_apply, Cert.QUpRefIdeal.Read.val_main_v7_apply, Cert.QUpRefIdeal.Read.val_main_v6_apply, Cert.QUpRefIdeal.Read.val_main_v5_apply, Cert.QUpRefIdeal.Read.val_main_v4_apply,
    Cert.QUpRefIdeal.Read.val_main_cst_apply, Cert.QUpRefIdeal.Read.val_main_cst_0_apply, Ideal.hostDivf_def, Ideal.hostDivf_def, Ideal.hostUnary_sqrt_def,
    Ideal.hostUnary_log_def, Ideal.ofBits_def, Ideal.ofBits_def, Cert.Consts.ofBits_two, Cert.Consts.ofBits_128,
    Cert.Consts.log_two, Cert.Consts.sqrt_128, Cert.Consts.div_pos_real Cert.Consts.log_two_pos,
    Cert.Consts.div_pos_real Cert.Consts.sqrt_128_pos, mul_assoc, ← EReal.coe_mul]

/-- Kernel and reference end with the same array. -/
theorem algebraic : Cert.algebraic_QUpIdeal_QUpRefIdeal := by
  intro m ρ m' ρ' _ hagree
  refine ⟨fun c => G m c, ?_, ?_⟩
  · exact (θ_run Cert.QUpIdeal.defs _ _).mono (fun _ h c => ⟨(h c).1.trans (final m c), (h c).2⟩)
      (Value.run_blocks (F := Ideal) m ρ)
  refine (θ_run Cert.QUpRefIdeal.defs _ _).mono (fun _ h c => ⟨(h c).1.trans ?_, (h c).2⟩)
    (Cert.QUpRefIdeal.Value.run (F := Ideal) m' ρ')
  rw [(hagree c).1, (hagree c).2]
  exact funext fun i => reference _ _ i

end Cert.QUpIdeal.Product

end
-- ==== Proof.QIdxUp.lean ====
/-
  The projection that gives an odd layer's indexer its queries: the result array of `QIdxUpIdeal` is the product of the normed
  latents and the layer's weights, entry by entry. A scratch keeps a weight tile for the eight points of a column.
-/
module

public import proofs.«01_k».proof.Defs
public import proofs.«01_k».proof.Proof.Origin
public import proofs.«01_k».proof.Proof.Consts
public import proofs.«01_k».proof.Proof.Gen.QIdxUpIdeal.Value
public import proofs.«01_k».proof.Proof.Gen.QIdxUpRefIdeal.Run
public import proofs.«01_k».proof.Proof.Gen.QIdxUpRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.QIdxUpIdeal.Product

open Cert.QIdxUpIdeal Cert.QIdxUpIdeal.Gen

section Body
variable {F : FTy → Type} [FloatOps F]
variable (c : Dev nD) (i : grid0.Coords)
  (a2 : Memref sig .tc .vmem S1024x1024 .bf16) (h2 : a2.IsWhole)
  (a3 : Memref sig .tc .vmem S1x1024x1024 .f32) (h3 : a3.IsWhole)
  (a4 : Memref sig .tc .vmem S1024x1024 .bf16) (h4 : a4.IsWhole)
  (a5 : Memref sig .tc .vmem S1024x1024 .bf16) (h5 : a5.IsWhole)
  (x : Vec F S1024x1024 .bf16)
  (w : Vec F S1x1024x1024 .f32)

/-- At the first point of a column a scratch takes a weight tile, -/
theorem scratch_A0 (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero Cert.origin2]
  simp only [View.readAt_eq_ld, h3.read_unread, View.ld_unit_zero (S := S1x1024x1024) Cert.origin3]

/-- and the output block is computed from it; -/
theorem out_A (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero Cert.origin2, View.readCov_unit_zero (S := S1024x1024) _ Cert.origin2]
  simp only [View.readAt_eq_ld, h2.read_unread, h3.read_unread, View.ld_unit_zero (S := S1024x1024) Cert.origin2, View.ld_unit_zero (S := S1x1024x1024) Cert.origin3]

/-- at the others it is computed from what the scratch holds. -/
theorem out_B (hc : ¬cond0_0 i) (s0 : Vec F S1024x1024 .bf16) :
    out0_B_2 c i a2 h2 a3 h3 a4 h4 a5 h5 hc x w s0 = k0_pay2 x s0 := by
  unfold out0_B_2
  rw [View.read_writes_eq_canon _ _ _ (cover0_B_2 c i a2 h2 a3 h3 a4 h4 a5 h5 hc x w s0)]
  unfold kernelRun0_B
  dsimp only
  sl_unfold_words
  rw [View.canon_unit_zero Cert.origin2]
  simp only [View.readAt_eq_ld, h2.read_unread, h5.read_unread, View.ld_unit_zero (S := S1024x1024) Cert.origin2, View.ld_unit_zero (S := S1024x1024) Cert.origin2]

end Body

variable (m : (ℓ : Loc nD τ sig) → Buf (Elt Ideal) ℓ)

/-- The rows that the projection takes and the weights, as launched. -/
abbrev rows (c : Dev nD) : FVec Ideal S8192x1024 .bf16 := m ((c : Thread nD τ).loc main_arg0)
abbrev wts (c : Dev nD) : FVec Ideal S2x1024x2048 .f32 := m ((c : Thread nD τ).loc main_arg1)

/-- The result, entry by entry. -/
def G (c : Dev nD) : FVec Ideal S8192x2048 .bf16 := fun i =>
  ∑ k : Fin 1024, rows m c (ix2 (⟨(i 0).val, idx2_lt0 i⟩ : Fin 8192) k)
    * wts m c (ix3 (0 : Fin 2) k (⟨(i 1).val, idx2_lt1 i⟩ : Fin 2048))

/-- Where the output's block stands. -/
theorem out_at : ∀ t : Fin cfg0.N, win0_2.index t 0 = t.val % 8 ∧ win0_2.index t 1 = t.val / 8 :=
  (by decide +kernel : ∀ t : Fin grid0.N, _)

theorem row_block_at : ∀ t : Fin cfg0.N, win0_0.index t 0 = t.val % 8 ∧ win0_0.index t 1 = 0 :=
  (by decide +kernel : ∀ t : Fin grid0.N, _)

/-- The block of rows at point `t`. -/
theorem row_block (c : Dev nD) (t : Fin cfg0.N) (r : Fin 1024) (k : Fin 1024) :
    (iblk m c 0 t : Vec Ideal S1024x1024 .bf16) (ix2 r k)
      = rows m c (ix2 (⟨t.val % 8 * 1024 + r.val, by omega⟩ : Fin 8192) k) := by
  obtain ⟨e0, e1⟩ := row_block_at t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = t.val % 8 * 1024 + r.val; rw [e0]; omega
  | ⟨1, _⟩ => show win0_0.index t 1 * 1024 + 1 * k.val = k.val; rw [e1]; omega

/-- A weight tile at point `t`: it depends on the column of points alone. -/
theorem tile0_at : ∀ t : Fin cfg0.N, win0_1.index t 0 = 0 ∧ win0_1.index t 1 = 0 ∧ win0_1.index t 2 = t.val / 8 :=
  (by decide +kernel : ∀ t : Fin grid0.N, _)

theorem tile0 (c : Dev nD) (t : Fin cfg0.N) (k : Fin 1024) (n : Fin 1024) :
    k0_pay1 (iblk m c 1 t) (ix2 k n)
      = (wts m c) (ix3 (0 : Fin 2) k (⟨t.val / 8 * 1024 + n.val, by have := t.isLt; have h : cfg0.N = 16 := N_0; omega⟩ : Fin 2048)) := by
  obtain ⟨e0, e1, e2⟩ := tile0_at t
  unfold k0_pay1
  rw [shapeCast_self, truncf_apply]
  rw [shapeCast_dropUnit_apply]
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = 0; rw [e0]
  | ⟨1, _⟩ => show win0_1.index t 1 * 1024 + 1 * k.val = k.val; rw [e1]; omega
  | ⟨2, _⟩ => show win0_1.index t 2 * 1024 + 1 * n.val = t.val / 8 * 1024 + n.val; rw [e2]; omega

theorem tile_eq0 (c : Dev nD) (t t' : Fin cfg0.N) (h : t.val / 8 = t'.val / 8) :
    (k0_pay1 (iblk m c 1 t) : Vec Ideal S1024x1024 .bf16) = k0_pay1 (iblk m c 1 t') := by
  funext y
  rw [eq_ix2 y]
  refine (tile0 m c t _ _).trans (Eq.trans (congrArg (wts m c) (funext fun a => Fin.ext ?_)) (tile0 m c t' _ _).symm)
  match a with
  | ⟨0, _⟩ => rfl
  | ⟨1, _⟩ => rfl
  | ⟨2, _⟩ => exact congrArg (· * 1024 + _) h

/-- The body's result, entry by entry. -/
theorem pay2_apply (x : Vec Ideal S1024x1024 .bf16) (w : Vec Ideal S1024x1024 .bf16) (r n : Fin 1024) :
    k0_pay2 x w (ix2 r n) = ∑ k : Fin 1024, x (ix2 r k) * w (ix2 k n) := by
  unfold k0_pay2
  rw [truncf_apply]
  refine (Ideal.matmul_plain_apply (M := 1024) (K := 1024) (N := 1024) none x w _ r n).trans ?_
  rw [constant_apply]
  simp only [Ideal.ofBits_def, Ideal.ofBits_zero_f32, zero_add]

/-- The output block and the scratch at a first point of a column. -/
theorem at_A (c : Dev nD) (t : Fin cfg0.N) (h0 : t.val % 8 = 0) :
    outsAt0 m c t.val t.isLt = (k0_pay2 (iblk m c 0 t) (k0_pay1 (iblk m c 1 t)), k0_pay1 (iblk m c 1 t)) := by
  rw [outsAt0_A m c t h0, out_A, scratch_A0]

/-- The same at another point, over the scratch that the point before left. -/
theorem at_B (c : Dev nD) (t : Fin cfg0.N) (h0 : ¬t.val % 8 = 0) (s0 : Vec Ideal S1024x1024 .bf16)
    (hs0 : (outsAt0 m c (t.val - 1) (Nat.lt_of_le_of_lt (Nat.sub_le _ _) t.isLt)).2 = s0) :
    outsAt0 m c t.val t.isLt = (k0_pay2 (iblk m c 0 t) s0, s0) := by
  rw [outsAt0_B m c t h0, hs0, out_B]
  unfold sout0_B_0
  rfl

/-- After every point the output block is computed from the point's own blocks, and the scratch holds the column's tile. -/
theorem block (c : Dev nD) : ∀ (n : ℕ) (h : n < cfg0.N),
    outsAt0 m c n h = (k0_pay2 (iblk m c 0 ⟨n, h⟩) (k0_pay1 (iblk m c 1 ⟨n, h⟩)), k0_pay1 (iblk m c 1 ⟨n, h⟩))
  | 0, h => at_A m c ⟨0, h⟩ rfl
  | n + 1, h => by
    by_cases h0 : (n + 1) % 8 = 0
    · exact at_A m c ⟨n + 1, h⟩ h0
    · have hd : n / 8 = (n + 1) / 8 := by omega
      have e := block c n (Nat.lt_of_succ_lt h)
      exact at_B m c ⟨n + 1, h⟩ h0 _ ((congrArg (fun p => p.2) e).trans (tile_eq0 m c ⟨n, Nat.lt_of_succ_lt h⟩ ⟨n + 1, h⟩ hd))

/-- An entry of the output block at point `t` is the entry of `G` at its place in the array. -/
theorem entry (c : Dev nD) (t : Fin cfg0.N) (r : Fin 1024) (n : Fin 1024) (h1 : t.val % 8 * 1024 + r.val < 8192)
    (h2 : t.val / 8 * 1024 + n.val < 2048) :
    k0_pay2 (iblk m c 0 t) (k0_pay1 (iblk m c 1 t)) (ix2 r n)
      = G m c (ix2 (⟨t.val % 8 * 1024 + r.val, h1⟩ : Fin 8192) (⟨t.val / 8 * 1024 + n.val, h2⟩ : Fin 2048)) := by
  refine (pay2_apply _ _ r n).trans ?_
  refine Finset.sum_congr rfl fun k _ => ?_
  rw [row_block, tile0]

/-- A block with these entries is the window's block of `G`. -/
theorem read_block (c : Dev nD) (t : Fin cfg0.N) (g : FVec Ideal S8192x2048 .bf16) (x : Vec Ideal S1024x1024 .bf16)
    (hx : ∀ (r : Fin 1024) (n : Fin 1024) (h1 : t.val % 8 * 1024 + r.val < 8192) (h2 : t.val / 8 * 1024 + n.val < 2048),
      x (ix2 r n) = g (ix2 (⟨t.val % 8 * 1024 + r.val, h1⟩ : Fin 8192) (⟨t.val / 8 * 1024 + n.val, h2⟩ : Fin 2048))) :
    (cfg0.win 2).cut (grid0.coords t) x = ((cfg0.win 2).blk t).view.read (Elt Ideal) g := by
  obtain ⟨e0, e1⟩ := out_at t
  have ht := t.isLt
  have hN : cfg0.N = 16 := N_0
  funext y
  have hy0 : (y 0).val < 1024 := (y 0).isLt
  have hy1 : (y 1).val < 1024 := (y 1).isLt
  have hx' := hx ⟨(y 0).val, hy0⟩ ⟨(y 1).val, hy1⟩ (by show t.val % 8 * 1024 + (y 0).val < 8192; omega)
    (by show t.val / 8 * 1024 + (y 1).val < 2048; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val % 8 * 1024 + (y 0).val = win0_2.index t (0 : Fin 2) * 1024 + 1 * (y 0).val; rw [e0]; omega
    | ⟨1, _⟩ => show t.val / 8 * 1024 + (y 1).val = win0_2.index t (1 : Fin 2) * 1024 + 1 * (y 1).val; rw [e1]; omega

/-- What a point writes back is its block of `G`. -/
theorem flushed_eq (c : Dev nD) (t : Fin cfg0.N) :
    (dats m 0 c).flushed 2 t = ((cfg0.win 2).blk t).view.read (Elt Ideal) (G m c) := by
  rw [Value.flushed2, block]
  exact read_block c t (G m c) _ (entry m c t)

/-- The result array after the run. -/
theorem final (c : Dev nD) : (dats m 0 c).arrAt 2 cfg0.N = G m c :=
  (dats m 0 c).arrAt_eq_of_cover 2 (G m c) (fun t _ => flushed_eq m c t) (fun i => (Value.covered_iff2 i).2 (by
    have h0 : (i 0).val < 8192 := (i 0).isLt; have h1 : (i 1).val < 2048 := (i 1).isLt; omega))

/-- The reference's result is the same function of the same arrays. -/
theorem reference (x0 : FVec Ideal S8192x1024 .bf16) (x1 : FVec Ideal S2x1024x2048 .f32) (i : S8192x2048.Idx) :
    Cert.QIdxUpRefIdeal.Read.val_main_v4 (F := Ideal) x0 x1 i
      = ∑ k : Fin 1024, x0 (ix2 (⟨(i 0).val, idx2_lt0 i⟩ : Fin 8192) k) * x1 (ix3 (0 : Fin 2) k (⟨(i 1).val, idx2_lt1 i⟩ : Fin 2048)) := by
  rw [Cert.QIdxUpRefIdeal.Read.val_main_v4_apply, Ideal.truncf_def]
  rw [Cert.QIdxUpRefIdeal.Read.val_main_v3_apply]
  refine Finset.sum_congr rfl fun k _ => ?_
  rw [Cert.QIdxUpRefIdeal.Read.val_main_v0_apply, Ideal.extf_def, Cert.QIdxUpRefIdeal.Read.val_main_v2_apply,
    Cert.QIdxUpRefIdeal.Read.val_main_v1_apply]
  have hi := idx2_lt1 i
  have hk := k.isLt
  refine congrArg₂ (· * ·) (congrArg x0 (funext fun a => Fin.ext ?_)) (congrArg x1 (funext fun a => Fin.ext ?_))
  · match a with | ⟨0, _⟩ => rfl | ⟨1, _⟩ => rfl
  · match a with
    | ⟨0, _⟩ => rfl
    | ⟨1, _⟩ => show (k.val * 2048 + (i 1).val) / 2048 % 1024 = k.val; omega
    | ⟨2, _⟩ => show (k.val * 2048 + (i 1).val) % 2048 = (i 1).val; omega

/-- Kernel and reference end with the same array. -/
theorem algebraic : Cert.algebraic_QIdxUpIdeal_QIdxUpRefIdeal := by
  intro m ρ m' ρ' _ hagree
  refine ⟨fun c => G m c, ?_, ?_⟩
  · exact (θ_run Cert.QIdxUpIdeal.defs _ _).mono (fun _ h c => ⟨(h c).1.trans (final m c), (h c).2⟩)
      (Value.run_blocks (F := Ideal) m ρ)
  refine (θ_run Cert.QIdxUpRefIdeal.defs _ _).mono (fun _ h c => ⟨(h c).1.trans ?_, (h c).2⟩)
    (Cert.QIdxUpRefIdeal.Value.run (F := Ideal) m' ρ')
  rw [(hagree c).1, (hagree c).2]
  exact funext fun i => reference _ _ i

end Cert.QIdxUpIdeal.Product

end
-- ==== Proof.Norm.lean ====
/-
  The norm before a layer: the result array of `NormIdeal` is each row scaled by the reciprocal root of its mean square and by
  the layer's weights, entry by entry. A point takes 256 whole rows, so a row's sum of squares stands in one block.
-/
module

public import proofs.«01_k».proof.Defs
public import proofs.«01_k».proof.Proof.Origin
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.NormIdeal.Product

open Cert.NormIdeal Cert.NormIdeal.Gen

variable (m : (ℓ : Loc nD τ sig) → Buf (Elt Ideal) ℓ)

/-- The rows and the weights, as launched. -/
abbrev rows (c : Dev nD) : FVec Ideal S8192x4096 .f32 := m ((c : Thread nD τ).loc main_arg0)
abbrev wts (c : Dev nD) : FVec Ideal S4x4096 .f32 := m ((c : Thread nD τ).loc main_arg1)

/-- The result, entry by entry: both programs hold the width and the small constant as the same float constants. -/
def scaled (x : FVec Ideal S8192x4096 .f32) (g : FVec Ideal S4x4096 .f32) (r : Fin 8192) (n : Fin 4096) : EReal :=
  x (ix2 r n) * Ideal.rsqrt (Ideal.div (∑ k : Fin 4096, x (ix2 r k) * x (ix2 r k)) (Ideal.ofBits .f32 0x45800000#32)
    + Ideal.ofBits .f32 0x358637BD#32) * g (ix2 (0 : Fin 4) n)

def G (c : Dev nD) : FVec Ideal S8192x4096 .bf16 := fun i =>
  scaled (rows m c) (wts m c) ⟨(i 0).val, idx2_lt0 i⟩ ⟨(i 1).val, idx2_lt1 i⟩

/-- Where a point's blocks stand. -/
theorem at_point : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

/-- The rows of a point. -/
theorem row_block (c : Dev nD) (t : Fin cfg0.N) (r : Fin 256) (k : Fin 4096) (h : t.val * 256 + r.val < 8192) :
    (iblk m c 0 t : Vec Ideal S256x4096 .f32) (ix2 r k) = rows m c (ix2 (⟨t.val * 256 + r.val, h⟩ : Fin 8192) k) := by
  obtain ⟨e0, e1, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = t.val * 256 + r.val; rw [e0]; omega
  | ⟨1, _⟩ => show win0_0.index t 1 * 4096 + 1 * k.val = k.val; rw [e1]; omega

/-- The layer's weights as the host lays them in one row. -/
theorem V_weights (c : Dev nD) (n : Fin 4096) :
    (V m c main_v2 : Vec Ideal S1x4096 .f32) (ix2 (0 : Fin 1) n) = wts m c (ix2 (0 : Fin 4) n) := by
  have e : V m c main_v2 = shapeCast S1x4096 (shapeCast S4096 (extractStridedSlice S1x4096 ![0, 0]
      (m ((c : Thread nD τ).loc main_arg1)) Facts₀.slices_S4x4096_S1x4096_0_0) Facts₀.shapeCasts_S1x4096_S4096) Facts₀.shapeCasts_S4096_S1x4096 := by
    unfold V hostOps0
    after_results
    rfl
  rw [e]
  refine (shapeCast_apply _ _ _ (ix1 n) ?_).trans ((shapeCast_apply _ _ _ (ix2 (0 : Fin 1) n) ?_).trans (congrArg (wts m c) (funext fun a => Fin.ext ?_)))
  · show (S4096.rowMajor (ix1 n)).val = (S1x4096.rowMajor (ix2 (0 : Fin 1) n)).val
    rw [Shape.rowMajor_val_one, Shape.rowMajor_val_two]
    show n.val = 0 * 4096 + n.val
    omega
  · show (S1x4096.rowMajor (ix2 (0 : Fin 1) n)).val = (S4096.rowMajor (ix1 n)).val
    rw [Shape.rowMajor_val_one, Shape.rowMajor_val_two]
    show 0 * 4096 + n.val = n.val
    omega
  · match a with
    | ⟨0, _⟩ => rfl
    | ⟨1, _⟩ => show 0 + n.val = n.val; omega

/-- So they stand in every point's block. -/
theorem weight_block (c : Dev nD) (t : Fin cfg0.N) (n : Fin 4096) :
    (iblk m c 1 t : Vec Ideal S1x4096 .f32) (ix2 (0 : Fin 1) n) = wts m c (ix2 (0 : Fin 4) n) := by
  obtain ⟨-, -, e0, e1, -⟩ := at_point t
  refine Eq.trans ?_ (V_weights m c n)
  unfold iblk
  rw [View.read_apply]
  show V m c main_v2 _ = _
  refine congrArg (V m c main_v2) (funext fun a => Fin.ext ?_)
  match a with
  | ⟨0, _⟩ => show win0_1.index t 0 * 1 + 1 * 0 = 0; rw [e0]
  | ⟨1, _⟩ => show win0_1.index t 1 * 4096 + 1 * n.val = n.val; rw [e1]; omega

/-- A row's sum of squares in a block. -/
theorem squares (x : FVec Ideal S256x4096 .f32) (r : Fin 256) :
    multiReduction .add [1] S256 (mulf x x) 0x00000000#32 reduces_S256x4096_S256 (.inl rfl) rfl (ix1 r)
      = ∑ k : Fin 4096, x (ix2 r k) * x (ix2 r k) := by
  refine (Ideal.multiReduction_add_single (mulf x x) _ reduces_S256x4096_S256 _ _ (ix1 r)).trans ?_
  refine Finset.sum_congr rfl fun k _ => ?_
  have e : reduces_S256x4096_S256.lift (ix1 r) k = ix2 r k :=
    funext fun a => Fin.ext (by match a with | ⟨0, _⟩ => rfl | ⟨1, _⟩ => rfl)
  rw [e]
  rfl

/-- The body reads its two blocks whole. -/
theorem out_apply (x : Vec Ideal S256x4096 .f32) (g : Vec Ideal S1x4096 .f32) (y : S256x4096.Idx) :
    out0_2 x g y = Value.E2 x g y := by
  have e0 : View.ld x r0_0 = x := View.ld_unit_zero (S := S256x4096) Cert.origin2 _ _
  have e1 : View.ld g r0_1 = g := View.ld_unit_zero (S := S1x4096) Cert.origin2 _ _
  unfold out0_2
  rw [e0, e1, Value.canon2_eq]

/-- What a point computes, entry by entry. -/
theorem entry (c : Dev nD) (t : Fin cfg0.N) (r : Fin 256) (n : Fin 4096) (h : t.val * 256 + r.val < 8192) :
    out0_2 (iblk m c 0 t) (iblk m c 1 t) (ix2 r n) = G m c (ix2 (⟨t.val * 256 + r.val, h⟩ : Fin 8192) n) := by
  refine (out_apply (iblk m c 0 t) (iblk m c 1 t) (ix2 r n)).trans ?_
  have i0 : Value.ix2_0 (ix2 r n) = ix2 r n := funext fun a => Fin.ext (by match a with | ⟨0, _⟩ => rfl | ⟨1, _⟩ => rfl)
  have i1 : Value.ix2_1 (ix2 r n) = ix1 r := funext fun a => Fin.ext (by match a with | ⟨0, _⟩ => rfl)
  have i2 : Value.ix2_2 (ix2 r n) = ix2 (0 : Fin 1) n := funext fun a => Fin.ext (by match a with | ⟨0, _⟩ => rfl | ⟨1, _⟩ => rfl)
  unfold Value.E2
  rw [i0, i1, i2, squares, row_block m c t r n h, weight_block m c t n]
  simp only [row_block m c t r _ h]
  rfl

/-- The entries of the array in a point's block. -/
theorem mem_block (t : Fin cfg0.N) (i : S8192x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v3).slice (win0_2.rect t)).set ↔ _
  rw [View.set_slice_whole, Rect.mem_set_unit]
  exact Iff.rfl

/-- Every row is in some point's block. -/
theorem covered (i : S8192x4096.Idx) :
    ∃ t : Fin cfg0.N, (cfg0.win 2).flush t = true ∧ i ∈ ((cfg0.win 2).blk t).view.set := by
  have hN : cfg0.N = 32 := N_0
  have h0 : (i 0).val < 8192 := (i 0).isLt
  have h1 : (i 1).val < 4096 := (i 1).isLt
  refine ⟨⟨(i 0).val / 256, by omega⟩, flush0_2 _, ?_⟩
  obtain ⟨-, -, -, -, e0, e1⟩ := at_point ⟨(i 0).val / 256, by omega⟩
  dsimp only at e0 e1
  rw [mem_block]
  intro a
  match a with
  | ⟨0, _⟩ =>
    show win0_2.index _ (0 : Fin 2) * 256 ≤ (i 0).val ∧ (i 0).val < win0_2.index _ (0 : Fin 2) * 256 + 256
    rw [e0]; omega
  | ⟨1, _⟩ =>
    show win0_2.index _ (1 : Fin 2) * 4096 ≤ (i 1).val ∧ (i 1).val < win0_2.index _ (1 : Fin 2) * 4096 + 4096
    rw [e1]; omega

/-- A block with these entries is the window's block of `g`. -/
theorem read_block (t : Fin cfg0.N) (g : FVec Ideal S8192x4096 .bf16) (x : Vec Ideal S256x4096 .bf16)
    (hx : ∀ (r : Fin 256) (n : Fin 4096) (h : t.val * 256 + r.val < 8192), x (ix2 r n) = g (ix2 (⟨t.val * 256 + r.val, h⟩ : Fin 8192) n)) :
    (cfg0.win 2).cut (grid0.coords t) x = ((cfg0.win 2).blk t).view.read (Elt Ideal) g := by
  obtain ⟨-, -, -, -, e0, e1⟩ := at_point t
  have ht := t.isLt
  have hN : cfg0.N = 32 := N_0
  funext y
  have hy0 : (y 0).val < 256 := (y 0).isLt
  have hy1 : (y 1).val < 4096 := (y 1).isLt
  have hx' := hx ⟨(y 0).val, hy0⟩ ⟨(y 1).val, hy1⟩ (by show t.val * 256 + (y 0).val < 8192; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val * 256 + (y 0).val = win0_2.index t (0 : Fin 2) * 256 + 1 * (y 0).val; rw [e0]; omega
    | ⟨1, _⟩ => show (y 1).val = win0_2.index t (1 : Fin 2) * 4096 + 1 * (y 1).val; rw [e1]; omega

/-- What a point writes back is its block of `G`. -/
theorem flushed_eq (c : Dev nD) (t : Fin cfg0.N) :
    (dats m 0 c).flushed 2 t = ((cfg0.win 2).blk t).view.read (Elt Ideal) (G m c) := by
  rw [Value.flushed2]
  exact read_block t (G m c) _ (entry m c t)

/-- The result array after the run. -/
theorem final (c : Dev nD) : (dats m 0 c).arrAt 2 cfg0.N = G m c :=
  (dats m 0 c).arrAt_eq_of_cover 2 (G m c) (fun t _ => flushed_eq m c t) covered

/-- The reference's result is the same function of the same arrays. -/
theorem reference (x0 : FVec Ideal S8192x4096 .f32) (x1 : FVec Ideal S4x4096 .f32) (i : S8192x4096.Idx) :
    Cert.NormRefIdeal.Read.val_main_v15 (F := Ideal) x0 x1 i = scaled x0 x1 ⟨(i 0).val, idx2_lt0 i⟩ ⟨(i 1).val, idx2_lt1 i⟩ := by
  rw [Cert.NormRefIdeal.Read.val_main_v15_apply, Cert.NormRefIdeal.Read.val_main_v14_apply, Cert.NormRefIdeal.Read.val_main_v13_apply, Cert.NormRefIdeal.Read.val_main_v12_apply,
    Cert.NormRefIdeal.Read.val_main_v11_apply, Cert.NormRefIdeal.Read.val_main_v10_apply, Cert.NormRefIdeal.Read.val_main_v9_apply, Cert.NormRefIdeal.Read.val_main_v8_apply,
    Cert.NormRefIdeal.Read.val_main_v7_apply, Cert.NormRefIdeal.Read.val_main_v6_apply, Cert.NormRefIdeal.Read.val_main_v4_apply, Cert.NormRefIdeal.Read.val_main_v5_apply,
    Cert.NormRefIdeal.Read.val_main_v3_apply, Cert.NormRefIdeal.Read.val_main_v2_apply, Cert.NormRefIdeal.Read.val_main_v1_apply, Cert.NormRefIdeal.Read.val_main_cst_apply]
  simp only [Cert.NormRefIdeal.Read.val_main_v0_apply, Ideal.truncf_def, Ideal.mulf_def, Ideal.addf_def, Ideal.hostDivf_def, Ideal.hostUnary_rsqrt_def,
    Ideal.ofBits_def, Ideal.ofBits_zero_f32, zero_add]
  refine congrArg₂ (· * ·) (congrArg₂ (· * ·) (congrArg x0 (funext fun a => Fin.ext ?_)) (congrArg Ideal.rsqrt (congrArg₂ (· + ·)
    (congrArg₂ Ideal.div (Finset.sum_congr rfl fun k _ => ?_) rfl) rfl))) (congrArg x1 (funext fun a => Fin.ext ?_))
  · match a with | ⟨0, _⟩ => rfl | ⟨1, _⟩ => rfl
  · have e : Cert.NormRefIdeal.Read.idx_main_v1 (Cert.NormRefIdeal.Read.idx_main_v2 (Cert.NormRefIdeal.Read.idx_main_v8 i)) k
        = ix2 (⟨(i 0).val, idx2_lt0 i⟩ : Fin 8192) k :=
      funext fun a => Fin.ext (by match a with | ⟨0, _⟩ => rfl | ⟨1, _⟩ => rfl)
    rw [e]
  · have hi := idx2_lt1 i
    match a with
    | ⟨0, _⟩ => rfl
    | ⟨1, _⟩ => first | rfl | (show (i 1).val % 4096 = (i 1).val; omega)

/-- Kernel and reference end with the same array. -/
theorem algebraic : Cert.algebraic_NormIdeal_NormRefIdeal := by
  intro m ρ m' ρ' _ hagree
  refine ⟨fun c => G m c, ?_, ?_⟩
  · exact (θ_run Cert.NormIdeal.defs _ _).mono (fun _ h c => ⟨(h c).1.trans (final m c), (h c).2⟩)
      (Value.run_blocks (F := Ideal) m ρ)
  refine (θ_run Cert.NormRefIdeal.defs _ _).mono (fun _ h c => ⟨(h c).1.trans ?_, (h c).2⟩)
    (Cert.NormRefIdeal.Value.run (F := Ideal) m' ρ')
  rw [Cert.NormRefIdeal.Read.val_main_v15_eq, (hagree c).1, (hagree c).2]
  exact funext fun i => reference _ _ i

end Cert.NormIdeal.Product

end
-- ==== Proof.LatentNormsRef.lean ====
/-
  What stands between an odd layer's projections, entry by entry, and that the reference `LatentNormsRefIdeal` computes it: the
  two latents' rows are normed by their mean squares, the indexer's keys by their means and variances, and the heads' weights
  are scaled. The widths, the small constant and the scale are the same float constants in both programs.
-/
module

public import proofs.«01_k».proof.Defs
public import proofs.«01_k».proof.Proof.Gen.LatentNormsRefIdeal.Run
public import proofs.«01_k».proof.Proof.Gen.LatentNormsRefIdeal.Read
public import Idealize.ShloMosaic.Lib.Pipeline.Value
public import Idealize.ShloMosaic.Lib.ValueIdx
public import Idealize.ShloMosaic.PureOps.Ideal.Laws

@[expose] public section

noncomputable section

open Idealize.ShloMosaic Idealize.ShloMosaic.ValueIdx

namespace Cert.LatentNorms

/-- The small constant under the roots. -/
abbrev eps : EReal := Ideal.ofBits .f32 0x358637BD#32

/-- An entry of a row `f` over the root of its mean square, times a weight; `width` is the row's length as a float. -/
def rms {w : ℕ} (width : EReal) (f g : Fin w → EReal) (n : Fin w) : EReal :=
  f n * Ideal.rsqrt (Ideal.div (∑ k : Fin w, f k * f k) width + eps) * g n

/-- An entry of a row less the row's mean. -/
abbrev centred {w : ℕ} (width : EReal) (f : Fin w → EReal) (n : Fin w) : EReal := f n - Ideal.div (∑ k : Fin w, f k) width

/-- An entry of a row less its mean, over the root of its variance, times a weight, plus another. -/
def layer {w : ℕ} (width : EReal) (f g b : Fin w → EReal) (n : Fin w) : EReal := rms width (centred width f) g n + b n

variable (lat : FVec Ideal ⟨2, ![8192, 1536]⟩ .f32) (tail : FVec Ideal ⟨2, ![8192, 128]⟩ .f32) (qg : FVec Ideal ⟨2, ![2, 1024]⟩ .f32)
  (kg : FVec Ideal ⟨2, ![2, 512]⟩ .f32) (lg lb : FVec Ideal ⟨2, ![2, 64]⟩ .f32)

/-- The four results, entry by entry. -/
def cq (r : Fin 8192) (n : Fin 1024) : EReal :=
  rms (Ideal.ofBits .f32 0x44800000#32) (fun k : Fin 1024 => lat (ix2 r (⟨k.val, by omega⟩ : Fin 1536))) (fun k => qg (ix2 (0 : Fin 2) k)) n
def ckv (r : Fin 8192) (n : Fin 512) : EReal :=
  rms (Ideal.ofBits .f32 0x44000000#32) (fun k : Fin 512 => lat (ix2 r (⟨1024 + k.val, by omega⟩ : Fin 1536))) (fun k => kg (ix2 (0 : Fin 2) k)) n
def kidx (r : Fin 8192) (n : Fin 64) : EReal :=
  layer (Ideal.ofBits .f32 0x42800000#32) (fun k : Fin 64 => tail (ix2 r (⟨k.val, by omega⟩ : Fin 128))) (fun k => lg (ix2 (0 : Fin 2) k))
    (fun k => lb (ix2 (0 : Fin 2) k)) n
def widx (r : Fin 8192) (n : Fin 32) : EReal :=
  tail (ix2 r (⟨64 + n.val, by omega⟩ : Fin 128)) * Ideal.ofBits .f32 0x3CB504F3#32

open Cert.LatentNormsRefIdeal Cert.LatentNormsRefIdeal.Read

/-- The queries' latents. -/
theorem cq_ref (i : S8192x1024.Idx) : val_main_v20 (F := Ideal) lat qg i = cq lat qg ⟨(i 0).val, idx2_lt0 i⟩ ⟨(i 1).val, idx2_lt1 i⟩ := by
  have hi := idx2_lt1 i
  rw [val_main_v20_apply, val_main_v19_apply, val_main_v18_apply, val_main_v17_apply, val_main_v6_apply, val_main_v5_apply, val_main_v16_apply, val_main_v15_apply, val_main_v14_apply, val_main_v13_apply, val_main_v11_apply, val_main_v12_apply, val_main_v10_apply, val_main_v9_apply, val_main_v8_apply, val_main_cst_apply]
  simp only [val_main_v7_apply, val_main_v0_apply, Ideal.truncf_def, Ideal.mulf_def, Ideal.addf_def, Ideal.hostDivf_def, Ideal.hostUnary_rsqrt_def, Ideal.ofBits_def,
    Ideal.ofBits_zero_f32, zero_add]
  refine congrArg₂ (· * ·) (congrArg₂ (· * ·) (congrArg lat (funext fun a => Fin.ext ?_)) (congrArg Ideal.rsqrt (congrArg₂ (· + ·)
    (congrArg₂ Ideal.div (Finset.sum_congr rfl fun k _ => congrArg (fun z : EReal => z * z) (congrArg lat (funext fun a => Fin.ext ?_))) rfl) rfl)))
    (congrArg qg (funext fun a => Fin.ext ?_))
  · match a with | ⟨0, _⟩ => rfl | ⟨1, _⟩ => rfl
  · match a with | ⟨0, _⟩ => rfl | ⟨1, _⟩ => rfl
  · match a with
    | ⟨0, _⟩ => rfl
    | ⟨1, _⟩ => first | rfl | (show (i 1).val % 1024 = (i 1).val; omega)

/-- The keys' and values' latents. -/
theorem ckv_ref (i : S8192x512.Idx) : val_main_v36 (F := Ideal) lat kg i = ckv lat kg ⟨(i 0).val, idx2_lt0 i⟩ ⟨(i 1).val, idx2_lt1 i⟩ := by
  have hi := idx2_lt1 i
  rw [val_main_v36_apply, val_main_v35_apply, val_main_v34_apply, val_main_v33_apply, val_main_v22_apply, val_main_v21_apply, val_main_v32_apply, val_main_v31_apply, val_main_v30_apply, val_main_v29_apply, val_main_v27_apply, val_main_v28_apply, val_main_v26_apply, val_main_v25_apply, val_main_v24_apply, val_main_cst_2_apply]
  simp only [val_main_v23_apply, val_main_v1_apply, Ideal.truncf_def, Ideal.mulf_def, Ideal.addf_def, Ideal.hostDivf_def, Ideal.hostUnary_rsqrt_def, Ideal.ofBits_def,
    Ideal.ofBits_zero_f32, zero_add]
  refine congrArg₂ (· * ·) (congrArg₂ (· * ·) (congrArg lat (funext fun a => Fin.ext ?_)) (congrArg Ideal.rsqrt (congrArg₂ (· + ·)
    (congrArg₂ Ideal.div (Finset.sum_congr rfl fun k _ => congrArg (fun z : EReal => z * z) (congrArg lat (funext fun a => Fin.ext ?_))) rfl) rfl)))
    (congrArg kg (funext fun a => Fin.ext ?_))
  · match a with | ⟨0, _⟩ => rfl | ⟨1, _⟩ => rfl
  · match a with | ⟨0, _⟩ => rfl | ⟨1, _⟩ => rfl
  · match a with
    | ⟨0, _⟩ => rfl
    | ⟨1, _⟩ => first | rfl | (show (i 1).val % 512 = (i 1).val; omega)

/-- The indexer's keys less their row's mean. -/
theorem centred_ref (j : S8192x64.Idx) : val_main_v46 (F := Ideal) tail j
    = centred (Ideal.ofBits .f32 0x42800000#32) (fun k : Fin 64 => tail (ix2 (⟨(j 0).val, idx2_lt0 j⟩ : Fin 8192) (⟨k.val, by omega⟩ : Fin 128)))
        ⟨(j 1).val, idx2_lt1 j⟩ := by
  rw [val_main_v46_apply, val_main_v45_apply, val_main_v44_apply, val_main_v43_apply, val_main_v42_apply, val_main_v41_apply, val_main_cst_5_apply]
  simp only [val_main_v3_apply, val_main_v2_apply, Ideal.subf_def, Ideal.hostDivf_def, Ideal.ofBits_def, Ideal.ofBits_zero_f32, zero_add]
  refine congrArg₂ (· - ·) (congrArg tail (funext fun a => Fin.ext ?_)) (congrArg₂ Ideal.div (Finset.sum_congr rfl fun k _ => congrArg tail (funext fun a => Fin.ext ?_)) rfl)
  · match a with | ⟨0, _⟩ => rfl | ⟨1, _⟩ => rfl
  · match a with | ⟨0, _⟩ => rfl | ⟨1, _⟩ => rfl

/-- The indexer's keys. -/
theorem kidx_ref (i : S8192x64.Idx) : val_main_v63 (F := Ideal) tail lg lb i = kidx tail lg lb ⟨(i 0).val, idx2_lt0 i⟩ ⟨(i 1).val, idx2_lt1 i⟩ := by
  have hi := idx2_lt1 i
  rw [val_main_v63_apply, val_main_v62_apply, val_main_v61_apply, val_main_v60_apply, val_main_v40_apply, val_main_v39_apply, val_main_v59_apply, val_main_v58_apply, val_main_v57_apply, val_main_v38_apply, val_main_v37_apply, val_main_v56_apply, val_main_v55_apply, val_main_v54_apply, val_main_v53_apply, val_main_v51_apply, val_main_v52_apply, val_main_v50_apply, val_main_v49_apply, val_main_v48_apply, val_main_cst_7_apply]
  simp only [val_main_v47_apply, centred_ref, Ideal.truncf_def, Ideal.mulf_def, Ideal.addf_def, Ideal.hostDivf_def, Ideal.hostUnary_rsqrt_def, Ideal.ofBits_def,
    Ideal.ofBits_zero_f32, zero_add]
  refine congrArg₂ (· + ·) (congrArg₂ (· * ·) rfl (congrArg lg (funext fun a => Fin.ext ?_))) (congrArg lb (funext fun a => Fin.ext ?_))
  · match a with
    | ⟨0, _⟩ => rfl
    | ⟨1, _⟩ => first | rfl | (show (i 1).val % 64 = (i 1).val; omega)
  · match a with
    | ⟨0, _⟩ => rfl
    | ⟨1, _⟩ => first | rfl | (show (i 1).val % 64 = (i 1).val; omega)

/-- The heads' weights. -/
theorem widx_ref (i : S8192x32.Idx) : val_main_v65 (F := Ideal) tail i = widx tail ⟨(i 0).val, idx2_lt0 i⟩ ⟨(i 1).val, idx2_lt1 i⟩ := by
  rw [val_main_v65_apply, val_main_v4_apply, val_main_v2_apply, val_main_v64_apply, Ideal.mulf_def]
  refine congrArg₂ (· * ·) (congrArg tail (funext fun a => Fin.ext ?_)) rfl
  match a with | ⟨0, _⟩ => rfl | ⟨1, _⟩ => rfl

end Cert.LatentNorms

end
-- ==== Proof.LatentNorms.lean ====
/-
  What stands between an odd layer's projections: the four result arrays of `LatentNormsIdeal` are, entry by entry, the
  functions of `LatentNormsRef.lean`. A point takes 512 whole rows, so every sum over a row stands in one block.
-/
module

public import proofs.«01_k».proof.Defs
public import proofs.«01_k».proof.Proof.Origin
public import proofs.«01_k».proof.Proof.LatentNormsRef
public import proofs.«01_k».proof.Proof.Gen.LatentNormsIdeal.Value
public import Idealize.ShloMosaic.Lib.Pipeline.Value
public import Idealize.ShloMosaic.Lib.MatmulPlain

@[expose] public section

noncomputable section

open Idealize.ShloMosaic Idealize.ShloMosaic.TcCoe Idealize.SL.Sem Idealize.ShloMosaic.ValueIdx
open Idealize.ShloMosaic.Pipeline (Dat)

namespace Cert.LatentNormsIdeal.Norms

open Cert.LatentNormsIdeal Cert.LatentNormsIdeal.Gen Cert.LatentNorms

/-- A sum over the rows of a block. -/
theorem row_sum {w : ℕ} (x : FVec Ideal ⟨2, ![512, w]⟩ .f32) (h : (⟨2, ![512, w]⟩ : Shape).Reduces [1] S512) (r : Fin 512) :
    multiReduction .add [1] S512 x 0x00000000#32 h (.inl rfl) rfl (ix1 r) = ∑ k : Fin w, x (ix2 r k) :=
  (Ideal.multiReduction_add_single x _ h _ _ (ix1 r)).trans (Finset.sum_congr rfl fun k _ => congrArg x
    (funext fun a => Fin.ext (by match a with | ⟨0, _⟩ => rfl | ⟨1, _⟩ => rfl)))

/-- A layer's weights, sliced and laid in one row. -/
theorem row_cast {w : ℕ} (g : FVec Ideal ⟨2, ![2, w]⟩ .f32) (h1 : (⟨2, ![2, w]⟩ : Shape).Slices ![0, 0] ⟨2, ![1, w]⟩)
    (h2 : (⟨2, ![1, w]⟩ : Shape).ShapeCasts ⟨1, ![w]⟩) (h3 : (⟨1, ![w]⟩ : Shape).ShapeCasts ⟨2, ![1, w]⟩) (n : Fin w) :
    shapeCast ⟨2, ![1, w]⟩ (shapeCast ⟨1, ![w]⟩ (extractStridedSlice ⟨2, ![1, w]⟩ ![0, 0] g h1) h2) h3 (ix2 (0 : Fin 1) n) = g (ix2 (0 : Fin 2) n) := by
  have e : ((⟨1, ![w]⟩ : Shape).rowMajor (ix1 n)).val = ((⟨2, ![1, w]⟩ : Shape).rowMajor (ix2 (0 : Fin 1) n)).val := by
    rw [Shape.rowMajor_val_one, Shape.rowMajor_val_two]
    show n.val = 0 * w + n.val
    omega
  refine (shapeCast_apply _ _ _ (ix1 n) e).trans ((shapeCast_apply _ _ _ (ix2 (0 : Fin 1) n) e.symm).trans (congrArg g (funext fun a => Fin.ext ?_)))
  match a with
  | ⟨0, _⟩ => rfl
  | ⟨1, _⟩ => show 0 + n.val = n.val; omega

variable (m : (ℓ : Loc nD τ sig) → Buf (Elt Ideal) ℓ)

/-- The two projected arrays and the weights, as launched. -/
abbrev lat (c : Dev nD) : FVec Ideal S8192x1536 .f32 := m ((c : Thread nD τ).loc main_arg0)
abbrev tail (c : Dev nD) : FVec Ideal S8192x128 .f32 := m ((c : Thread nD τ).loc main_arg1)
abbrev qg (c : Dev nD) : FVec Ideal S2x1024 .f32 := m ((c : Thread nD τ).loc main_arg2)
abbrev kg (c : Dev nD) : FVec Ideal S2x512 .f32 := m ((c : Thread nD τ).loc main_arg3)
abbrev lg (c : Dev nD) : FVec Ideal S2x64 .f32 := m ((c : Thread nD τ).loc main_arg4)
abbrev lb (c : Dev nD) : FVec Ideal S2x64 .f32 := m ((c : Thread nD τ).loc main_arg5)

/-- The four result arrays. -/
def Gq (c : Dev nD) : FVec Ideal S8192x1024 .bf16 := fun i => cq (lat m c) (qg m c) ⟨(i 0).val, idx2_lt0 i⟩ ⟨(i 1).val, idx2_lt1 i⟩
def Gkv (c : Dev nD) : FVec Ideal S8192x512 .bf16 := fun i => ckv (lat m c) (kg m c) ⟨(i 0).val, idx2_lt0 i⟩ ⟨(i 1).val, idx2_lt1 i⟩
def Gki (c : Dev nD) : FVec Ideal S8192x64 .bf16 := fun i => kidx (tail m c) (lg m c) (lb m c) ⟨(i 0).val, idx2_lt0 i⟩ ⟨(i 1).val, idx2_lt1 i⟩
def Gw (c : Dev nD) : FVec Ideal S8192x32 .f32 := fun i => widx (tail m c) ⟨(i 0).val, idx2_lt0 i⟩ ⟨(i 1).val, idx2_lt1 i⟩

/-- Where a point's blocks of rows stand, -/
theorem rows_at : ∀ t : Fin cfg0.N, (win0_0.index t 0 = t.val ∧ win0_0.index t 1 = 0) ∧ (win0_1.index t 0 = t.val ∧ win0_1.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0) :=
  (by decide +kernel : ∀ t : Fin grid0.N, _)

/-- and the weights', which are whole. -/
theorem weights_at : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, _)

/-- The latents of a point. -/
theorem lat_block (c : Dev nD) (t : Fin cfg0.N) (r : Fin 512) (k : Fin 1536) (h : t.val * 512 + r.val < 8192) :
    (iblk m c 0 t : Vec Ideal S512x1536 .f32) (ix2 r k) = lat m c (ix2 (⟨t.val * 512 + r.val, h⟩ : Fin 8192) k) := by
  obtain ⟨⟨e0, e1⟩, -⟩ := rows_at t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = t.val * 512 + r.val; rw [e0]; omega
  | ⟨1, _⟩ => show win0_0.index t 1 * 1536 + 1 * k.val = k.val; rw [e1]; omega

/-- The indexer's columns of a point. -/
theorem tail_block (c : Dev nD) (t : Fin cfg0.N) (r : Fin 512) (k : Fin 128) (h : t.val * 512 + r.val < 8192) :
    (iblk m c 1 t : Vec Ideal S512x128 .f32) (ix2 r k) = tail m c (ix2 (⟨t.val * 512 + r.val, h⟩ : Fin 8192) k) := by
  obtain ⟨-, ⟨e0, e1⟩, -⟩ := rows_at t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * r.val = t.val * 512 + r.val; rw [e0]; omega
  | ⟨1, _⟩ => show win0_1.index t 1 * 128 + 1 * k.val = k.val; rw [e1]; omega

/-- The weights of the queries' norm, in every block; -/
theorem qg_block (c : Dev nD) (t : Fin cfg0.N) (n : Fin 1024) :
    (iblk m c 2 t : Vec Ideal S1x1024 .f32) (ix2 (0 : Fin 1) n) = qg m c (ix2 (0 : Fin 2) n) := by
  obtain ⟨⟨e0, e1⟩, -⟩ := weights_at t
  have e : V m c main_v8 = shapeCast S1x1024 (shapeCast S1024 (extractStridedSlice S1x1024 ![0, 0] (m ((c : Thread nD τ).loc main_arg2))
      Facts₀.slices_S2x1024_S1x1024_0_0) Facts₀.shapeCasts_S1x1024_S1024) Facts₀.shapeCasts_S1024_S1x1024 := by
    unfold V hostOps0
    after_results
    rfl
  refine Eq.trans ?_ ((congrFun e _).trans (row_cast (qg m c) _ _ _ n))
  unfold iblk
  rw [View.read_apply]
  show V m c main_v8 _ = _
  refine congrArg (V m c main_v8) (funext fun a => Fin.ext ?_)
  match a with
  | ⟨0, _⟩ => show win0_2.index t 0 * 1 + 1 * 0 = 0; rw [e0]
  | ⟨1, _⟩ => show win0_2.index t 1 * 1024 + 1 * n.val = n.val; rw [e1]; omega

/-- of the keys' and values'; -/
theorem kg_block (c : Dev nD) (t : Fin cfg0.N) (n : Fin 512) :
    (iblk m c 3 t : Vec Ideal S1x512 .f32) (ix2 (0 : Fin 1) n) = kg m c (ix2 (0 : Fin 2) n) := by
  obtain ⟨-, ⟨e0, e1⟩, -⟩ := weights_at t
  have e : V m c main_v9 = shapeCast S1x512 (shapeCast S512 (extractStridedSlice S1x512 ![0, 0] (m ((c : Thread nD τ).loc main_arg3))
      Facts₀.slices_S2x512_S1x512_0_0) Facts₀.shapeCasts_S1x512_S512) Facts₀.shapeCasts_S512_S1x512 := by
    unfold V hostOps0
    after_results
    rfl
  refine Eq.trans ?_ ((congrFun e _).trans (row_cast (kg m c) _ _ _ n))
  unfold iblk
  rw [View.read_apply]
  show V m c main_v9 _ = _
  refine congrArg (V m c main_v9) (funext fun a => Fin.ext ?_)
  match a with
  | ⟨0, _⟩ => show win0_3.index t 0 * 1 + 1 * 0 = 0; rw [e0]
  | ⟨1, _⟩ => show win0_3.index t 1 * 512 + 1 * n.val = n.val; rw [e1]; omega

/-- of the indexer's; -/
theorem lg_block (c : Dev nD) (t : Fin cfg0.N) (n : Fin 64) :
    (iblk m c 4 t : Vec Ideal S1x64 .f32) (ix2 (0 : Fin 1) n) = lg m c (ix2 (0 : Fin 2) n) := by
  obtain ⟨-, -, ⟨e0, e1⟩, -⟩ := weights_at t
  have e : V m c main_v10 = shapeCast S1x64 (shapeCast S64 (extractStridedSlice S1x64 ![0, 0] (m ((c : Thread nD τ).loc main_arg4))
      Facts₀.slices_S2x64_S1x64_0_0) Facts₀.shapeCasts_S1x64_S64) Facts₀.shapeCasts_S64_S1x64 := by
    unfold V hostOps0
    after_results
    rfl
  refine Eq.trans ?_ ((congrFun e _).trans (row_cast (lg m c) _ _ _ n))
  unfold iblk
  rw [View.read_apply]
  show V m c main_v10 _ = _
  refine congrArg (V m c main_v10) (funext fun a => Fin.ext ?_)
  match a with
  | ⟨0, _⟩ => show win0_4.index t 0 * 1 + 1 * 0 = 0; rw [e0]
  | ⟨1, _⟩ => show win0_4.index t 1 * 64 + 1 * n.val = n.val; rw [e1]; omega

/-- and what is added to it. -/
theorem lb_block (c : Dev nD) (t : Fin cfg0.N) (n : Fin 64) :
    (iblk m c 5 t : Vec Ideal S1x64 .f32) (ix2 (0 : Fin 1) n) = lb m c (ix2 (0 : Fin 2) n) := by
  obtain ⟨-, -, -, e0, e1⟩ := weights_at t
  have e : V m c main_v11 = shapeCast S1x64 (shapeCast S64 (extractStridedSlice S1x64 ![0, 0] (m ((c : Thread nD τ).loc main_arg5))
      Facts₀.slices_S2x64_S1x64_0_0) Facts₀.shapeCasts_S1x64_S64) Facts₀.shapeCasts_S64_S1x64 := by
    unfold V hostOps0
    after_results
    rfl
  refine Eq.trans ?_ ((congrFun e _).trans (row_cast (lb m c) _ _ _ n))
  unfold iblk
  rw [View.read_apply]
  show V m c main_v11 _ = _
  refine congrArg (V m c main_v11) (funext fun a => Fin.ext ?_)
  match a with
  | ⟨0, _⟩ => show win0_5.index t 0 * 1 + 1 * 0 = 0; rw [e0]
  | ⟨1, _⟩ => show win0_5.index t 1 * 64 + 1 * n.val = n.val; rw [e1]; omega

/-! The body reads its blocks whole, but the latents' in two parts. -/
section Body
variable (x0 : Vec Ideal S512x1536 .f32) (x1 : Vec Ideal S512x128 .f32) (x2 : Vec Ideal S1x1024 .f32) (x3 : Vec Ideal S1x512 .f32)
  (x4 x5 : Vec Ideal S1x64 .f32)

theorem out6_apply (y : S512x1024.Idx) : out0_6 x0 x1 x2 x3 x4 x5 y = Value.E6 (View.ld x0 r0_0) x2 y := by
  have e : View.ld x2 r0_1 = x2 := View.ld_unit_zero (S := S1x1024) Cert.origin2 _ _
  unfold out0_6
  rw [e, Value.canon6_eq]

theorem out7_apply (y : S512x512.Idx) : out0_7 x0 x1 x2 x3 x4 x5 y = Value.E7 (View.ld x0 r0_3) x3 y := by
  have e : View.ld x3 r0_4 = x3 := View.ld_unit_zero (S := S1x512) Cert.origin2 _ _
  unfold out0_7
  rw [e, Value.canon7_eq]

theorem out8_apply (y : S512x64.Idx) : out0_8 x0 x1 x2 x3 x4 x5 y = Value.E8 x1 x4 x5 y := by
  have e0 : View.ld x1 r0_6 = x1 := View.ld_unit_zero (S := S512x128) Cert.origin2 _ _
  have e1 (x : Vec Ideal S1x64 .f32) : View.ld x r0_7 = x := View.ld_unit_zero (S := S1x64) Cert.origin2 _ _
  unfold out0_8
  rw [e0, e1, e1, Value.canon8_eq]

theorem out9_apply (y : S512x32.Idx) : out0_9 x0 x1 x2 x3 x4 x5 y = Value.E9 x1 y := by
  have e0 : View.ld x1 r0_6 = x1 := View.ld_unit_zero (S := S512x128) Cert.origin2 _ _
  unfold out0_9
  rw [e0, Value.canon9_eq]

/-- The two parts, entry by entry. -/
theorem part_q (r : Fin 512) (k : Fin 1024) : View.ld x0 r0_0 (ix2 r k) = x0 (ix2 r (⟨k.val, by omega⟩ : Fin 1536)) :=
  congrArg x0 (funext fun a => Fin.ext (by
    match a with
    | ⟨0, _⟩ => show 0 + 1 * r.val = r.val; omega
    | ⟨1, _⟩ => show 0 + 1 * k.val = k.val; omega))

theorem part_kv (r : Fin 512) (k : Fin 512) : View.ld x0 r0_3 (ix2 r k) = x0 (ix2 r (⟨1024 + k.val, by omega⟩ : Fin 1536)) :=
  congrArg x0 (funext fun a => Fin.ext (by
    match a with
    | ⟨0, _⟩ => show 0 + 1 * r.val = r.val; omega
    | ⟨1, _⟩ => show 1024 + 1 * k.val = 1024 + k.val; omega))

end Body

/-- What a point computes of the result `Gq`, entry by entry. -/
theorem entry_q (c : Dev nD) (t : Fin cfg0.N) (r : Fin 512) (n : Fin 1024) (h : t.val * 512 + r.val < 8192) :
    out0_6 (iblk m c 0 t) (iblk m c 1 t) (iblk m c 2 t) (iblk m c 3 t) (iblk m c 4 t) (iblk m c 5 t) (ix2 r n)
      = Gq m c (ix2 (⟨t.val * 512 + r.val, h⟩ : Fin 8192) n) := by
  have e0 (k : Fin 1024) : (View.ld (iblk m c 0 t : Vec Ideal S512x1536 .f32) r0_0 : Vec Ideal S512x1024 .f32) (ix2 r k)
      = lat m c (ix2 (⟨t.val * 512 + r.val, h⟩ : Fin 8192) (⟨k.val, by omega⟩ : Fin 1536)) := by
    exact (part_q (iblk m c 0 t) r k).trans (lat_block m c t r (⟨k.val, by omega⟩ : Fin 1536) h)
  refine (out6_apply (iblk m c 0 t) (iblk m c 1 t) (iblk m c 2 t) (iblk m c 3 t) (iblk m c 4 t) (iblk m c 5 t) (ix2 r n)).trans ?_
  have i0 : Value.ix6_0 (ix2 r n) = ix2 r n := funext fun a => Fin.ext (by match a with | ⟨0, _⟩ => rfl | ⟨1, _⟩ => rfl)
  have i1 : Value.ix6_1 (ix2 r n) = ix1 r := funext fun a => Fin.ext (by match a with | ⟨0, _⟩ => rfl)
  have i2 : Value.ix6_2 (ix2 r n) = ix2 (0 : Fin 1) n := funext fun a => Fin.ext (by match a with | ⟨0, _⟩ => rfl | ⟨1, _⟩ => rfl)
  unfold Value.E6
  rw [i0, i1, i2, row_sum, e0, qg_block m c t n]
  refine congrArg₂ (· * ·) (congrArg₂ (· * ·) rfl (congrArg Ideal.rsqrt (congrArg₂ (· + ·) (congrArg₂ Ideal.div (Finset.sum_congr rfl fun k _ => ?_) rfl) rfl))) rfl
  exact congrArg (fun z : EReal => z * z) (e0 k)

/-- What a point computes of the result `Gkv`, entry by entry. -/
theorem entry_kv (c : Dev nD) (t : Fin cfg0.N) (r : Fin 512) (n : Fin 512) (h : t.val * 512 + r.val < 8192) :
    out0_7 (iblk m c 0 t) (iblk m c 1 t) (iblk m c 2 t) (iblk m c 3 t) (iblk m c 4 t) (iblk m c 5 t) (ix2 r n)
      = Gkv m c (ix2 (⟨t.val * 512 + r.val, h⟩ : Fin 8192) n) := by
  have e0 (k : Fin 512) : (View.ld (iblk m c 0 t : Vec Ideal S512x1536 .f32) r0_3 : Vec Ideal S512x512 .f32) (ix2 r k)
      = lat m c (ix2 (⟨t.val * 512 + r.val, h⟩ : Fin 8192) (⟨1024 + k.val, by omega⟩ : Fin 1536)) := by
    exact (part_kv (iblk m c 0 t) r k).trans (lat_block m c t r (⟨1024 + k.val, by omega⟩ : Fin 1536) h)
  refine (out7_apply (iblk m c 0 t) (iblk m c 1 t) (iblk m c 2 t) (iblk m c 3 t) (iblk m c 4 t) (iblk m c 5 t) (ix2 r n)).trans ?_
  have i0 : Value.ix7_0 (ix2 r n) = ix2 r n := funext fun a => Fin.ext (by match a with | ⟨0, _⟩ => rfl | ⟨1, _⟩ => rfl)
  have i1 : Value.ix7_1 (ix2 r n) = ix1 r := funext fun a => Fin.ext (by match a with | ⟨0, _⟩ => rfl)
  have i2 : Value.ix7_2 (ix2 r n) = ix2 (0 : Fin 1) n := funext fun a => Fin.ext (by match a with | ⟨0, _⟩ => rfl | ⟨1, _⟩ => rfl)
  unfold Value.E7
  rw [i0, i1, i2, row_sum, e0, kg_block m c t n]
  refine congrArg₂ (· * ·) (congrArg₂ (· * ·) rfl (congrArg Ideal.rsqrt (congrArg₂ (· + ·) (congrArg₂ Ideal.div (Finset.sum_congr rfl fun k _ => ?_) rfl) rfl))) rfl
  exact congrArg (fun z : EReal => z * z) (e0 k)

/-- The indexer's keys of a block. -/
abbrev keys (x : Vec Ideal S512x128 .f32) : FVec Ideal S512x64 .f32 := extractStridedSlice S512x64 ![0, 0] x slices_S512x128_o0_0_S512x64

theorem keys_apply (x : Vec Ideal S512x128 .f32) (r : Fin 512) (k : Fin 64) : keys x (ix2 r k) = x (ix2 r (⟨k.val, by omega⟩ : Fin 128)) :=
  extractStridedSlice_apply _ _ _ _ _ (fun a => by
    match a with
    | ⟨0, _⟩ => show r.val = 0 + r.val; omega
    | ⟨1, _⟩ => show k.val = 0 + k.val; omega)

/-- The keys less their row's mean, as the body computes them, -/
abbrev less (x : Vec Ideal S512x128 .f32) : FVec Ideal S512x64 .f32 :=
  subf (keys x) (broadcastTo S512x64 (divf (shapeCast S512x1 (multiReduction .add [1] S512 (keys x) 0x00000000#32 reduces_S512x64_S512 (.inl rfl) rfl)
    shapeCasts_S512_S512x1) (broadcast S512x1 (Scalar.ofBits .f32 0x42800000#32))) broadcasts_S512x1_S512x64)

/-- entry by entry. -/
theorem less_apply (x : Vec Ideal S512x128 .f32) (r : Fin 512) (k : Fin 64) :
    less x (ix2 r k) = centred (Ideal.ofBits .f32 0x42800000#32) (fun k : Fin 64 => x (ix2 r (⟨k.val, by omega⟩ : Fin 128))) k := by
  unfold less
  rw [subf_apply, keys_apply]
  refine congrArg (x (ix2 r (⟨k.val, by omega⟩ : Fin 128)) - ·) ?_
  refine (broadcastTo_apply _ _ _ (ix2 r (0 : Fin 1)) (fun a => by
    match a with
    | ⟨0, _⟩ => show r.val = if (512 : ℕ) = 1 then 0 else r.val; rw [if_neg (by decide)]
    | ⟨1, _⟩ => show 0 = if (1 : ℕ) = 1 then 0 else k.val; rw [if_pos rfl])).trans ?_
  refine congrArg₂ Ideal.div ((shapeCast_apply _ _ _ (ix1 r) (by
    rw [Shape.rowMajor_val_one, Shape.rowMajor_val_two]
    show r.val = r.val * 1 + 0
    omega)).trans ((row_sum (keys x) _ r).trans (Finset.sum_congr rfl fun k _ => keys_apply x r k))) rfl

/-- What a point computes of the result `Gki`, entry by entry. -/
theorem entry_ki (c : Dev nD) (t : Fin cfg0.N) (r : Fin 512) (n : Fin 64) (h : t.val * 512 + r.val < 8192) :
    out0_8 (iblk m c 0 t) (iblk m c 1 t) (iblk m c 2 t) (iblk m c 3 t) (iblk m c 4 t) (iblk m c 5 t) (ix2 r n)
      = Gki m c (ix2 (⟨t.val * 512 + r.val, h⟩ : Fin 8192) n) := by
  refine (out8_apply (iblk m c 0 t) (iblk m c 1 t) (iblk m c 2 t) (iblk m c 3 t) (iblk m c 4 t) (iblk m c 5 t) (ix2 r n)).trans ?_
  have i0 : Value.ix8_0 (ix2 r n) = ix2 r (⟨n.val, by omega⟩ : Fin 128) := funext fun a => Fin.ext (by match a with | ⟨0, _⟩ => rfl | ⟨1, _⟩ => rfl)
  have i1 : Value.ix8_1 (ix2 r n) = ix1 r := funext fun a => Fin.ext (by match a with | ⟨0, _⟩ => rfl)
  have i2 : Value.ix8_2 (ix2 r n) = ix1 r := funext fun a => Fin.ext (by match a with | ⟨0, _⟩ => rfl)
  have i3 : Value.ix8_3 (ix2 r n) = ix2 (0 : Fin 1) n := funext fun a => Fin.ext (by match a with | ⟨0, _⟩ => rfl | ⟨1, _⟩ => rfl)
  have i4 : Value.ix8_4 (ix2 r n) = ix2 (0 : Fin 1) n := funext fun a => Fin.ext (by match a with | ⟨0, _⟩ => rfl | ⟨1, _⟩ => rfl)
  unfold Value.E8
  rw [i0, i1, i2, i3, i4, row_sum, row_sum, lg_block m c t n, lb_block m c t n]
  have hl (k : Fin 64) : less (iblk m c 1 t) (ix2 r k) = centred (Ideal.ofBits .f32 0x42800000#32)
      (fun k : Fin 64 => tail m c (ix2 (⟨t.val * 512 + r.val, h⟩ : Fin 8192) (⟨k.val, by omega⟩ : Fin 128))) k := by
    rw [less_apply]
    simp only [tail_block m c t r _ h]
  refine congrArg₂ (· + ·) (congrArg₂ (· * ·) (congrArg₂ (· * ·) ?_ (congrArg Ideal.rsqrt (congrArg₂ (· + ·) (congrArg₂ Ideal.div (Finset.sum_congr rfl fun k _ => ?_) rfl) rfl))) rfl) rfl
  · refine congrArg₂ (· - ·) (tail_block m c t r _ h) (congrArg₂ Ideal.div (Finset.sum_congr rfl fun k _ => ?_) rfl)
    exact (keys_apply _ r k).trans (tail_block m c t r _ h)
  · exact congrArg (fun z : EReal => z * z) (hl k)

/-- What a point computes of the result `Gw`, entry by entry. -/
theorem entry_w (c : Dev nD) (t : Fin cfg0.N) (r : Fin 512) (n : Fin 32) (h : t.val * 512 + r.val < 8192) :
    out0_9 (iblk m c 0 t) (iblk m c 1 t) (iblk m c 2 t) (iblk m c 3 t) (iblk m c 4 t) (iblk m c 5 t) (ix2 r n)
      = Gw m c (ix2 (⟨t.val * 512 + r.val, h⟩ : Fin 8192) n) := by
  refine (out9_apply (iblk m c 0 t) (iblk m c 1 t) (iblk m c 2 t) (iblk m c 3 t) (iblk m c 4 t) (iblk m c 5 t) (ix2 r n)).trans ?_
  have i0 : Value.ix9_0 (ix2 r n) = ix2 r (⟨64 + n.val, by omega⟩ : Fin 128) :=
    funext fun a => Fin.ext (by match a with | ⟨0, _⟩ => rfl | ⟨1, _⟩ => show n.val + 64 = 64 + n.val; omega)
  unfold Value.E9
  rw [i0, tail_block m c t r _ h]
  rfl

/-- A block with the entries of `g` is the window's block of it. -/
theorem read_block6 (t : Fin cfg0.N) (g : FVec Ideal S8192x1024 .bf16) (x : Vec Ideal S512x1024 .bf16)
    (hx : ∀ (r : Fin 512) (n : Fin 1024) (h : t.val * 512 + r.val < 8192), x (ix2 r n) = g (ix2 (⟨t.val * 512 + r.val, h⟩ : Fin 8192) n)) :
    (cfg0.win 6).cut (grid0.coords t) x = ((cfg0.win 6).blk t).view.read (Elt Ideal) g := by
  obtain ⟨-, -, ⟨e0, e1⟩, -⟩ := rows_at t
  have ht := t.isLt
  have hN : cfg0.N = 16 := N_0
  funext y
  have hy0 : (y 0).val < 512 := (y 0).isLt
  have hy1 : (y 1).val < 1024 := (y 1).isLt
  have hx' := hx ⟨(y 0).val, hy0⟩ ⟨(y 1).val, hy1⟩ (by show t.val * 512 + (y 0).val < 8192; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val * 512 + (y 0).val = win0_6.index t (0 : Fin 2) * 512 + 1 * (y 0).val; rw [e0]; omega
    | ⟨1, _⟩ => show (y 1).val = win0_6.index t (1 : Fin 2) * 1024 + 1 * (y 1).val; rw [e1]; omega

/-- The entries of the array in a point's block. -/
theorem mem_block6 (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v12_0).slice (win0_6.rect t)).set ↔ _
  rw [View.set_slice_whole, Rect.mem_set_unit]
  exact Iff.rfl

/-- Every row is in some point's block. -/
theorem covered6 (i : S8192x1024.Idx) :
    ∃ t : Fin cfg0.N, (cfg0.win 6).flush t = true ∧ i ∈ ((cfg0.win 6).blk t).view.set := by
  have hN : cfg0.N = 16 := N_0
  have h0 : (i 0).val < 8192 := (i 0).isLt
  have h1 : (i 1).val < 1024 := (i 1).isLt
  refine ⟨⟨(i 0).val / 512, by omega⟩, flush0_6 _, ?_⟩
  obtain ⟨-, -, ⟨e0, e1⟩, -⟩ := rows_at ⟨(i 0).val / 512, by omega⟩
  dsimp only at e0 e1
  rw [mem_block6]
  intro a
  match a with
  | ⟨0, _⟩ =>
    show win0_6.index _ (0 : Fin 2) * 512 ≤ (i 0).val ∧ (i 0).val < win0_6.index _ (0 : Fin 2) * 512 + 512
    rw [e0]; omega
  | ⟨1, _⟩ =>
    show win0_6.index _ (1 : Fin 2) * 1024 ≤ (i 1).val ∧ (i 1).val < win0_6.index _ (1 : Fin 2) * 1024 + 1024
    rw [e1]; omega

/-- The result array after the run. -/
theorem final6 (c : Dev nD) : (dats m 0 c).arrAt 6 cfg0.N = Gq m c :=
  (dats m 0 c).arrAt_eq_of_cover 6 (Gq m c) (fun t _ => by
    rw [Value.flushed6]
    exact read_block6 t (Gq m c) _ (entry_q m c t)) covered6

/-- A block with the entries of `g` is the window's block of it. -/
theorem read_block7 (t : Fin cfg0.N) (g : FVec Ideal S8192x512 .bf16) (x : Vec Ideal S512x512 .bf16)
    (hx : ∀ (r : Fin 512) (n : Fin 512) (h : t.val * 512 + r.val < 8192), x (ix2 r n) = g (ix2 (⟨t.val * 512 + r.val, h⟩ : Fin 8192) n)) :
    (cfg0.win 7).cut (grid0.coords t) x = ((cfg0.win 7).blk t).view.read (Elt Ideal) g := by
  obtain ⟨-, -, -, ⟨e0, e1⟩, -⟩ := rows_at t
  have ht := t.isLt
  have hN : cfg0.N = 16 := N_0
  funext y
  have hy0 : (y 0).val < 512 := (y 0).isLt
  have hy1 : (y 1).val < 512 := (y 1).isLt
  have hx' := hx ⟨(y 0).val, hy0⟩ ⟨(y 1).val, hy1⟩ (by show t.val * 512 + (y 0).val < 8192; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val * 512 + (y 0).val = win0_7.index t (0 : Fin 2) * 512 + 1 * (y 0).val; rw [e0]; omega
    | ⟨1, _⟩ => show (y 1).val = win0_7.index t (1 : Fin 2) * 512 + 1 * (y 1).val; rw [e1]; omega

/-- The entries of the array in a point's block. -/
theorem mem_block7 (t : Fin cfg0.N) (i : S8192x512.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v12_1).slice (win0_7.rect t)).set ↔ _
  rw [View.set_slice_whole, Rect.mem_set_unit]
  exact Iff.rfl

/-- Every row is in some point's block. -/
theorem covered7 (i : S8192x512.Idx) :
    ∃ t : Fin cfg0.N, (cfg0.win 7).flush t = true ∧ i ∈ ((cfg0.win 7).blk t).view.set := by
  have hN : cfg0.N = 16 := N_0
  have h0 : (i 0).val < 8192 := (i 0).isLt
  have h1 : (i 1).val < 512 := (i 1).isLt
  refine ⟨⟨(i 0).val / 512, by omega⟩, flush0_7 _, ?_⟩
  obtain ⟨-, -, -, ⟨e0, e1⟩, -⟩ := rows_at ⟨(i 0).val / 512, by omega⟩
  dsimp only at e0 e1
  rw [mem_block7]
  intro a
  match a with
  | ⟨0, _⟩ =>
    show win0_7.index _ (0 : Fin 2) * 512 ≤ (i 0).val ∧ (i 0).val < win0_7.index _ (0 : Fin 2) * 512 + 512
    rw [e0]; omega
  | ⟨1, _⟩ =>
    show win0_7.index _ (1 : Fin 2) * 512 ≤ (i 1).val ∧ (i 1).val < win0_7.index _ (1 : Fin 2) * 512 + 512
    rw [e1]; omega

/-- The result array after the run. -/
theorem final7 (c : Dev nD) : (dats m 0 c).arrAt 7 cfg0.N = Gkv m c :=
  (dats m 0 c).arrAt_eq_of_cover 7 (Gkv m c) (fun t _ => by
    rw [Value.flushed7]
    exact read_block7 t (Gkv m c) _ (entry_kv m c t)) covered7

/-- A block with the entries of `g` is the window's block of it. -/
theorem read_block8 (t : Fin cfg0.N) (g : FVec Ideal S8192x64 .bf16) (x : Vec Ideal S512x64 .bf16)
    (hx : ∀ (r : Fin 512) (n : Fin 64) (h : t.val * 512 + r.val < 8192), x (ix2 r n) = g (ix2 (⟨t.val * 512 + r.val, h⟩ : Fin 8192) n)) :
    (cfg0.win 8).cut (grid0.coords t) x = ((cfg0.win 8).blk t).view.read (Elt Ideal) g := by
  obtain ⟨-, -, -, -, ⟨e0, e1⟩, -⟩ := rows_at t
  have ht := t.isLt
  have hN : cfg0.N = 16 := N_0
  funext y
  have hy0 : (y 0).val < 512 := (y 0).isLt
  have hy1 : (y 1).val < 64 := (y 1).isLt
  have hx' := hx ⟨(y 0).val, hy0⟩ ⟨(y 1).val, hy1⟩ (by show t.val * 512 + (y 0).val < 8192; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val * 512 + (y 0).val = win0_8.index t (0 : Fin 2) * 512 + 1 * (y 0).val; rw [e0]; omega
    | ⟨1, _⟩ => show (y 1).val = win0_8.index t (1 : Fin 2) * 64 + 1 * (y 1).val; rw [e1]; omega

/-- The entries of the array in a point's block. -/
theorem mem_block8 (t : Fin cfg0.N) (i : S8192x64.Idx) :
    i ∈ ((cfg0.win 8).blk t).view.set ↔ ∀ a : Fin 2, win0_8.index t a * S512x64.size a ≤ (i a).val
      ∧ (i a).val < win0_8.index t a * S512x64.size a + S512x64.size a := by
  show i ∈ ((View.whole main_v12_2).slice (win0_8.rect t)).set ↔ _
  rw [View.set_slice_whole, Rect.mem_set_unit]
  exact Iff.rfl

/-- Every row is in some point's block. -/
theorem covered8 (i : S8192x64.Idx) :
    ∃ t : Fin cfg0.N, (cfg0.win 8).flush t = true ∧ i ∈ ((cfg0.win 8).blk t).view.set := by
  have hN : cfg0.N = 16 := N_0
  have h0 : (i 0).val < 8192 := (i 0).isLt
  have h1 : (i 1).val < 64 := (i 1).isLt
  refine ⟨⟨(i 0).val / 512, by omega⟩, flush0_8 _, ?_⟩
  obtain ⟨-, -, -, -, ⟨e0, e1⟩, -⟩ := rows_at ⟨(i 0).val / 512, by omega⟩
  dsimp only at e0 e1
  rw [mem_block8]
  intro a
  match a with
  | ⟨0, _⟩ =>
    show win0_8.index _ (0 : Fin 2) * 512 ≤ (i 0).val ∧ (i 0).val < win0_8.index _ (0 : Fin 2) * 512 + 512
    rw [e0]; omega
  | ⟨1, _⟩ =>
    show win0_8.index _ (1 : Fin 2) * 64 ≤ (i 1).val ∧ (i 1).val < win0_8.index _ (1 : Fin 2) * 64 + 64
    rw [e1]; omega

/-- The result array after the run. -/
theorem final8 (c : Dev nD) : (dats m 0 c).arrAt 8 cfg0.N = Gki m c :=
  (dats m 0 c).arrAt_eq_of_cover 8 (Gki m c) (fun t _ => by
    rw [Value.flushed8]
    exact read_block8 t (Gki m c) _ (entry_ki m c t)) covered8

/-- A block with the entries of `g` is the window's block of it. -/
theorem read_block9 (t : Fin cfg0.N) (g : FVec Ideal S8192x32 .f32) (x : Vec Ideal S512x32 .f32)
    (hx : ∀ (r : Fin 512) (n : Fin 32) (h : t.val * 512 + r.val < 8192), x (ix2 r n) = g (ix2 (⟨t.val * 512 + r.val, h⟩ : Fin 8192) n)) :
    (cfg0.win 9).cut (grid0.coords t) x = ((cfg0.win 9).blk t).view.read (Elt Ideal) g := by
  obtain ⟨-, -, -, -, -, e0, e1⟩ := rows_at t
  have ht := t.isLt
  have hN : cfg0.N = 16 := N_0
  funext y
  have hy0 : (y 0).val < 512 := (y 0).isLt
  have hy1 : (y 1).val < 32 := (y 1).isLt
  have hx' := hx ⟨(y 0).val, hy0⟩ ⟨(y 1).val, hy1⟩ (by show t.val * 512 + (y 0).val < 8192; omega)
  rw [View.read_apply]
  refine Eq.trans ?_ (hx'.trans (congrArg g (funext fun a => Fin.ext ?_)))
  · exact congrArg x (funext fun a => Fin.ext (by match a with | ⟨0, _⟩ => rfl | ⟨1, _⟩ => rfl))
  · match a with
    | ⟨0, _⟩ => show t.val * 512 + (y 0).val = win0_9.index t (0 : Fin 2) * 512 + 1 * (y 0).val; rw [e0]; omega
    | ⟨1, _⟩ => show (y 1).val = win0_9.index t (1 : Fin 2) * 32 + 1 * (y 1).val; rw [e1]; omega

/-- The entries of the array in a point's block. -/
theorem mem_block9 (t : Fin cfg0.N) (i : S8192x32.Idx) :
    i ∈ ((cfg0.win 9).blk t).view.set ↔ ∀ a : Fin 2, win0_9.index t a * S512x32.size a ≤ (i a).val
      ∧ (i a).val < win0_9.index t a * S512x32.size a + S512x32.size a := by
  show i ∈ ((View.whole main_v12_3).slice (win0_9.rect t)).set ↔ _
  rw [View.set_slice_whole, Rect.mem_set_unit]
  exact Iff.rfl

/-- Every row is in some point's block. -/
theorem covered9 (i : S8192x32.Idx) :
    ∃ t : Fin cfg0.N, (cfg0.win 9).flush t = true ∧ i ∈ ((cfg0.win 9).blk t).view.set := by
  have hN : cfg0.N = 16 := N_0
  have h0 : (i 0).val < 8192 := (i 0).isLt
  have h1 : (i 1).val < 32 := (i 1).isLt
  refine ⟨⟨(i 0).val / 512, by omega⟩, flush0_9 _, ?_⟩
  obtain ⟨-, -, -, -, -, e0, e1⟩ := rows_at ⟨(i 0).val / 512, by omega⟩
  dsimp only at e0 e1
  rw [mem_block9]
  intro a
  match a with
  | ⟨0, _⟩ =>
    show win0_9.index _ (0 : Fin 2) * 512 ≤ (i 0).val ∧ (i 0).val < win0_9.index _ (0 : Fin 2) * 512 + 512
    rw [e0]; omega
  | ⟨1, _⟩ =>
    show win0_9.index _ (1 : Fin 2) * 32 ≤ (i 1).val ∧ (i 1).val < win0_9.index _ (1 : Fin 2) * 32 + 32
    rw [e1]; omega

/-- The result array after the run. -/
theorem final9 (c : Dev nD) : (dats m 0 c).arrAt 9 cfg0.N = Gw m c :=
  (dats m 0 c).arrAt_eq_of_cover 9 (Gw m c) (fun t _ => by
    rw [Value.flushed9]
    exact read_block9 t (Gw m c) _ (entry_w m c t)) covered9

/-- Kernel and reference end with the same arrays. -/
theorem algebraic : Cert.algebraic_LatentNormsIdeal_LatentNormsRefIdeal := by
  intro m ρ m' ρ' _ hagree
  refine ⟨fun c => Gq m c, fun c => Gkv m c, fun c => Gki m c, fun c => Gw m c, ?_, ?_⟩
  · exact (θ_run Cert.LatentNormsIdeal.defs _ _).mono (fun _ h c => ⟨(h c).1.trans (final6 m c), (h c).2.1.trans (final7 m c),
      (h c).2.2.1.trans (final8 m c), (h c).2.2.2.1.trans (final9 m c), (h c).2.2.2.2⟩) (Value.run_blocks (F := Ideal) m ρ)
  refine (θ_run Cert.LatentNormsRefIdeal.defs _ _).mono (fun _ h c => ⟨(h c).1.trans ?_, (h c).2.1.trans ?_, (h c).2.2.1.trans ?_,
    (h c).2.2.2.1.trans ?_, (h c).2.2.2.2⟩) (Cert.LatentNormsRefIdeal.Value.run (F := Ideal) m' ρ')
  · rw [(hagree c).1, (hagree c).2.2.1]
    exact funext fun i => cq_ref (lat m c) (qg m c) i
  · rw [(hagree c).1, (hagree c).2.2.2.1]
    exact funext fun i => ckv_ref (lat m c) (kg m c) i
  · rw [(hagree c).2.1, (hagree c).2.2.2.2.1, (hagree c).2.2.2.2.2]
    exact funext fun i => kidx_ref (tail m c) (lg m c) (lb m c) i
  · rw [(hagree c).2.1]
    exact funext fun i => widx_ref (tail m c) i

end Cert.LatentNormsIdeal.Norms

end
-- ==== Proof.BandRef.lean ====
/-
  The T5 bias of the band, in the reference: a place's bucket is always one of the table's 32 rows, so the gather takes that row
  and the result is its entry in the head's column.
-/
module

public import proofs.«01_k».proof.Defs
public import proofs.«01_k».proof.Proof.Gen.BandRefIdeal.Run
public import proofs.«01_k».proof.Proof.Gen.BandRefIdeal.Read
public import Idealize.ShloMosaic.Lib.ValueIdx
public import Idealize.ShloMosaic.PureOps.Ideal.Laws

@[expose] public section

noncomputable section

open Idealize.ShloMosaic Idealize.ShloMosaic.TcCoe Idealize.SL.Sem Idealize.ShloMosaic.ValueIdx

namespace Cert.BandRefIdeal.Buckets

open Cert.BandRefIdeal Cert.BandRefIdeal.Read

/-- The base of the bucket's logarithm, as a number: above 2. -/
theorem base_gt : ∃ b : ℝ, Ideal.ofBits .f32 0x40051592#32 = (b : EReal) ∧ 2 ≤ b := by
  refine ⟨8721810 / 4194304, ?_, by norm_num⟩
  simp [Ideal.ofBits, Ideal.ieee]
  rw [← EReal.coe_mul]
  norm_num

/-- Sixteen. -/
theorem sixteen : Ideal.ofBits .f32 0x41800000#32 = ((16 : ℝ) : EReal) := by
  simp [Ideal.ofBits, Ideal.ieee]
  rw [← EReal.coe_mul]
  norm_num

/-- The logarithm of a number of 1 or more, over a base above 2 and by 16, is cut to a word between 0 and half of the largest. -/
theorem cut_bound (x b : ℝ) (h1 : 1 ≤ x) (h2 : x ≤ 2 ^ 27) (hb : 2 ≤ b) :
    ∃ n : ℕ, n ≤ 2 ^ 30 ∧ Ideal.fptosi 32 (Ideal.div (Ideal.log (x : EReal)) (b : EReal) * ((16 : ℝ) : EReal)) = BitVec.ofNat 32 n := by
  have hx : ¬x ≤ 0 := by linarith
  have hb0 : ((b : ℝ) : EReal) ≠ 0 := by
    intro h; have : b = 0 := by exact_mod_cast h
    linarith
  have hl : 0 ≤ Real.log x := Real.log_nonneg h1
  have hu : Real.log x ≤ x := (Real.log_le_sub_one_of_pos (by linarith)).trans (by linarith)
  have e : Ideal.div (Ideal.log (x : EReal)) (b : EReal) * ((16 : ℝ) : EReal) = ((Real.log x * b⁻¹ * 16 : ℝ) : EReal) := by
    rw [Ideal.log_coe, if_neg hx, Ideal.div, if_neg hb0, ← EReal.coe_inv, ← EReal.coe_mul, ← EReal.coe_mul]
  have hbi : 0 ≤ b⁻¹ := by positivity
  have hbi2 : b⁻¹ ≤ 1 / 2 := by rw [inv_eq_one_div]; exact one_div_le_one_div_of_le (by norm_num) hb
  have p0 : 0 ≤ Real.log x * b⁻¹ * 16 := by positivity
  have p1 : Real.log x * b⁻¹ * 16 ≤ 2 ^ 30 := by nlinarith [mul_le_mul hu hbi2 hbi (by linarith)]
  refine ⟨⌊Real.log x * b⁻¹ * 16⌋.toNat, ?_, ?_⟩
  · have : ⌊Real.log x * b⁻¹ * 16⌋ ≤ 2 ^ 30 := by
      have := Int.floor_le (Real.log x * b⁻¹ * 16)
      exact_mod_cast this.trans p1
    omega
  · have f0 : 0 ≤ ⌊Real.log x * b⁻¹ * 16⌋ := Int.floor_nonneg.2 p0
    have f1 : ⌊Real.log x * b⁻¹ * 16⌋ ≤ 2 ^ 30 := by
      have := Int.floor_le (Real.log x * b⁻¹ * 16)
      exact_mod_cast this.trans p1
    rw [e, Ideal.fptosi, Ideal.toIntClamped_coe, if_pos p0]
    generalize ⌊Real.log x * b⁻¹ * 16⌋ = z at f0 f1
    obtain ⟨n, rfl⟩ := Int.eq_ofNat_of_zero_le f0
    have : max (-((2 ^ (32 - 1) : ℕ) : ℤ)) (min (((2 ^ (32 - 1) : ℕ) : ℤ) - 1) (n : ℤ)) = n := by
      norm_num
      omega
    rw [this]
    simp

/-- Each bucket is one of the table's rows. -/
theorem bucket_lt (i : S128x256.Idx) : (val_main_v28 (F := Ideal) i).toNat < 32 := by
  rw [val_main_v28_apply, val_main_v27_apply, val_main_v25_apply, val_main_v23_apply, val_main_v21_apply, val_main_v20_apply,
    val_main_v18_apply, val_main_v16_apply, val_main_v15_apply, val_main_v13_apply, val_main_v12_apply, val_main_v10_apply,
    val_main_v26_apply, val_main_v24_apply, val_main_v22_apply, val_main_v19_apply, val_main_v17_apply, val_main_v14_apply,
    val_main_v11_apply, val_main_v9_apply]
  generalize val_main_v8 (F := Ideal) i = w
  show (Scalar.select (IntOp.cmpi .slt (IntOp.maxsi w 0#32) 16#32) (IntOp.maxsi w 0#32) (IntOp.minsi (IntOp.addi 16#32
    (Ideal.fptosi 32 (Ideal.div (Ideal.log (Ideal.div ((((IntOp.maxsi (IntOp.maxsi w 0#32) 1#32).toInt : ℝ) : EReal)) (Ideal.ofBits .f32 0x41800000#32)))
      (Ideal.ofBits .f32 0x40051592#32) * Ideal.ofBits .f32 0x41800000#32))) 31#32)).toNat < 32
  obtain ⟨b, eb, hb⟩ := base_gt
  rw [eb, sixteen]
  have hz : (0#32).toInt = 0 := rfl
  have ho : (1#32).toInt = 1 := rfl
  have hs : (16#32).toInt = 16 := rfl
  have ht : (31#32).toInt = 31 := rfl
  have hm : 0 ≤ (IntOp.maxsi w 0#32).toInt := by
    unfold IntOp.maxsi
    split <;> simp_all [BitVec.slt] <;> omega
  generalize IntOp.maxsi w 0#32 = v at hm
  by_cases h : v.toInt < 16
  · have ec : IntOp.cmpi .slt v 16#32 = 1#1 := by simp [IntOp.cmpi, BitVec.slt, hs, h]
    rw [ec]
    show v.toNat < 32
    have := BitVec.toInt_eq_toNat_cond v
    split at this <;> omega
  · have ec : IntOp.cmpi .slt v 16#32 = 0#1 := by
      show BitVec.ofBool (decide (v.toInt < (16#32).toInt)) = 0#1
      rw [decide_eq_false (by rw [hs]; exact h)]
      rfl
    have em : IntOp.maxsi v 1#32 = v := if_pos (by
      show decide ((1#32).toInt < v.toInt) = true
      rw [ho]
      exact decide_eq_true (by omega))
    have hv : v.toInt < 2 ^ 31 := by have := BitVec.toInt_lt (x := v); simpa using this
    have r0 : (16 : ℝ) ≤ (v.toInt : ℝ) := by exact_mod_cast (not_lt.1 h)
    have r1 : (v.toInt : ℝ) ≤ 2 ^ 31 := by exact_mod_cast hv.le
    have ed : Ideal.div ((v.toInt : ℝ) : EReal) ((16 : ℝ) : EReal) = (((v.toInt : ℝ) * (16 : ℝ)⁻¹ : ℝ) : EReal) := by
      rw [Ideal.div, if_neg (by norm_num), ← EReal.coe_inv, ← EReal.coe_mul]
    obtain ⟨n, hn, en⟩ := cut_bound ((v.toInt : ℝ) * (16 : ℝ)⁻¹) b (by linarith) (by linarith) hb
    rw [ec, em, ed, en]
    show (IntOp.minsi (16#32 + BitVec.ofNat 32 n) 31#32).toNat < 32
    have ea : (16#32 + BitVec.ofNat 32 n).toNat = 16 + n := by
      rw [BitVec.toNat_add, BitVec.toNat_ofNat, BitVec.toNat_ofNat]; omega
    have ei := BitVec.toInt_eq_toNat_cond (16#32 + BitVec.ofNat 32 n)
    rw [if_pos (by omega)] at ei
    generalize 16#32 + BitVec.ofNat 32 n = a at ea ei
    unfold IntOp.minsi
    split
    · rename_i q
      simp [BitVec.slt, BitVec.sle, ht, ei] at q
      omega
    · decide

/-- The rows the gather takes: the bucket itself, being no negative number, -/
theorem row_eq (i : S128x256.Idx) : val_main_v33 (F := Ideal) i = val_main_v28 (F := Ideal) i := by
  rw [val_main_v33_apply, val_main_v30_apply, val_main_v29_apply]
  have hb := bucket_lt i
  generalize val_main_v28 (F := Ideal) i = w at hb
  have ec : IntOp.cmpi .slt w (val_main_c_7 (F := Ideal) (idx_main_v29 i)) = 0#1 := by
    show IntOp.cmpi .slt w 0#32 = 0#1
    have := BitVec.toInt_eq_toNat_cond w
    rw [if_pos (by omega)] at this
    have e : ¬((w.toNat : ℤ) < 0) := by omega
    simp [IntOp.cmpi, BitVec.slt, this, e]
  rw [ec]
  rfl

/-- A gather of whole rows: the row at the index, read signed and kept inside the table. -/
theorem gather_row (x : FVec Ideal S32x64 .f32) (idx : IVec S128x256x1 32) (y : S128x256x64.Idx) :
    Host.gather gather_S32x64_S128x256x1_S128x256x64_2_0_n_n_0_2_164 x idx y
      = x (ix2 (⟨min (idx (ix3 (⟨(y 0).val, (y 0).isLt⟩ : Fin 128) (⟨(y 1).val, (y 1).isLt⟩ : Fin 256) (0 : Fin 1))).toInt.toNat 31, by omega⟩ : Fin 32)
        (⟨(y 2).val, (y 2).isLt⟩ : Fin 64)) := by
  unfold Host.gather
  congr 1
  funext a
  refine Fin.ext ?_
  set d := gather_S32x64_S128x256x1_S128x256x64_2_0_n_n_0_2_164 with hd
  show d.start y idx a + d.batchCoord y a + d.offCoord y a = _
  rw [GatherDims.batchCoord_eq_zero d y a List.not_mem_nil]
  obtain rfl | rfl : a = (0 : Fin 2) ∨ a = (1 : Fin 2) := by
    match a with
    | ⟨0, _⟩ => exact .inl rfl
    | ⟨1, _⟩ => exact .inr rfl
  · rw [GatherDims.offCoord_eq_zero d y _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx y ⟨List.idxOf (0 : Fin 2) d.startIndexMap, List.idxOf_lt_length_iff.2 (List.mem_singleton.mpr rfl)⟩
        = ix3 (⟨(y 0).val, (y 0).isLt⟩ : Fin 128) (⟨(y 1).val, (y 1).isLt⟩ : Fin 256) (0 : Fin 1) := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ d.startIndexMap from fun h => absurd (List.mem_singleton.mp h) (by decide))]
    exact (Nat.zero_add _).trans rfl

/-- The same at an index that is a row's number, in the order of axes of the result. -/
theorem gather_at (x : FVec Ideal S32x64 .f32) (idx : IVec S128x256x1 32) (y : S64x128x256.Idx) (w : BitVec 32)
    (hw : idx (ix3 (⟨(y 1).val, (y 1).isLt⟩ : Fin 128) (⟨(y 2).val, (y 2).isLt⟩ : Fin 256) (0 : Fin 1)) = w) (hb : w.toNat < 32) :
    Host.gather gather_S32x64_S128x256x1_S128x256x64_2_0_n_n_0_2_164 x idx (idx_main_v36 y)
      = x (ix2 (⟨w.toNat, hb⟩ : Fin 32) (⟨(y 0).val, (y 0).isLt⟩ : Fin 64)) := by
  refine (gather_row x idx _).trans (congrArg x (congrArg₂ ix2 (Fin.ext ?_) rfl))
  show min (idx (ix3 (⟨(y 1).val, (y 1).isLt⟩ : Fin 128) (⟨(y 2).val, (y 2).isLt⟩ : Fin 256) (0 : Fin 1))).toInt.toNat 31 = w.toNat
  rw [hw]
  have := BitVec.toInt_eq_toNat_cond w
  rw [if_pos (by omega)] at this
  rw [this]
  omega

/-- The index is the place's bucket. -/
theorem index_eq (r : Fin 128) (k : Fin 256) : val_main_v34 (F := Ideal) (ix3 r k (0 : Fin 1)) = val_main_v28 (F := Ideal) (ix2 r k) := by
  have e : idx_main_v34 (ix3 r k (0 : Fin 1)) = ix2 r k := funext fun b => Fin.ext (by match b with | ⟨0, _⟩ => rfl | ⟨1, _⟩ => rfl)
  rw [val_main_v34_apply, row_eq, e]

/-- What the reference gives: at each head and place the table's entry of the place's bucket, in the head's column. -/
theorem result (x : FVec Ideal S32x64 .f32) (h : Fin 64) (r : Fin 128) (k : Fin 256) (hb : (val_main_v28 (F := Ideal) (ix2 r k)).toNat < 32) :
    val_main_v36 (F := Ideal) x (ix3 h r k) = x (ix2 (⟨(val_main_v28 (F := Ideal) (ix2 r k)).toNat, hb⟩ : Fin 32) h) := by
  rw [val_main_v36_apply]
  unfold val_main_v35
  exact gather_at x _ (ix3 h r k) _ (index_eq r k) hb

end Cert.BandRefIdeal.Buckets

end
-- ==== Proof.BandBody.lean ====
/-
  The T5 bias of the band, in the kernel: for each of a point's eight heads the body runs through the table's 32 rows and keeps,
  at each place, the entry of the row that the place's bucket names.
-/
module

public import proofs.«01_k».proof.Defs
public import proofs.«01_k».proof.Proof.Origin
public import proofs.«01_k».proof.Proof.Gen.BandIdeal.Value
public import Idealize.ShloMosaic.Lib.Pipeline.Value
public import Idealize.ShloMosaic.Lib.Pipeline.ReadBack
public import Idealize.ShloMosaic.Lib.ValueIdx
public import Idealize.ShloMosaic.PureOps.Ideal.Laws

@[expose] public section

noncomputable section

open Idealize.ShloMosaic Idealize.ShloMosaic.TcCoe Idealize.SL.Sem Idealize.ShloMosaic.ValueIdx

namespace Cert.BandIdeal.Product

open Cert.BandIdeal Cert.BandIdeal.Gen

/-- The last of the first `n` entries of a table whose number is `w`, or 0: what a chain of selects leaves. -/
def pick (w : BitVec 32) (t : ℕ → EReal) : ℕ → EReal
  | 0 => Scalar.ofBits (F := Ideal) .f32 0x00000000#32
  | n + 1 => Scalar.select (IntOp.cmpi .eq w (BitVec.ofNat 32 n)) (t n) (pick w t n)

/-- It is the entry at `w`, where there is one. -/
theorem pick_eq (w : BitVec 32) (t : ℕ → EReal) : ∀ n : ℕ, n ≤ 32 → w.toNat < n → pick w t n = t w.toNat
  | 0, _, h => absurd h (by omega)
  | n + 1, hn, h => by
    unfold pick
    by_cases e : w = BitVec.ofNat 32 n
    · have e' : w.toNat = n := by rw [e, BitVec.toNat_ofNat]; omega
      simp [Scalar.select, IntOp.cmpi, ← e, e']
    · have e' : w.toNat ≠ n := fun q => e (BitVec.eq_of_toNat_eq (by rw [BitVec.toNat_ofNat]; omega))
      rw [← pick_eq w t n (by omega) (by omega)]
      have e2 : (w == BitVec.ofNat 32 n) = false := by simpa using e
      simp [Scalar.select, IntOp.cmpi, e2]

section Body
variable (c : Dev nD) (i : grid0.Coords) (a1 : Memref sig .tc .vmem S128x256 .i32) (h1 : a1.IsWhole)
  (a2 : Memref sig .tc .smem S32x64 .f32) (h2 : a2.IsWhole) (a3 : Memref sig .tc .vmem S8x128x256 .f32) (h3 : a3.IsWhole)
  (x0 : Vec Ideal S128x256 .i32) (x1 : Vec Ideal S32x64 .f32)

/-- The column of the table that the body reads for its head `j`. -/
def col (j : ℕ) : ℕ := k0_off32 i (BitVec.ofNat 32 j) 1

theorem col_eq (j : ℕ) (hj : j < 8) : col i j = (i 0).val * 8 + j := by
  have hi : (i 0).val < 8 := (i 0).isLt
  show (Scalar.indexCast (Scalar.addi (Scalar.muli (BitVec.ofNat 32 (i 0).val) 8#32) (BitVec.ofNat 32 j))).toNat = _
  generalize (i 0).val = n at hi
  exact (by decide +kernel : ∀ n : Fin 8, ∀ j : Fin 8,
    (Scalar.indexCast (Scalar.addi (Scalar.muli (BitVec.ofNat 32 n.val) 8#32) (BitVec.ofNat 32 j.val))).toNat = n.val * 8 + j.val) ⟨n, hi⟩ ⟨j, hj⟩

/-- The word stands inside the table. -/
theorem inside (j : ℕ) (hj : j < 8) (n : ℕ) (a : Fin 2) : (![n % 32, col i j] : Fin 2 → ℕ) a + S1x1.size a ≤ S32x64.size a := by
  have hi : (i 0).val < 8 := (i 0).isLt
  have e := col_eq i j hj
  match a with
  | ⟨0, _⟩ => show n % 32 + 1 ≤ 32; omega
  | ⟨1, _⟩ => show col i j + 1 ≤ 64; omega

/-- A word of the table, as the body reads it, -/
def word (j : ℕ) (hj : j < 8) (n : ℕ) : EReal :=
  View.readAt (Elt Ideal) a2.view (Rect.unit (s := S32x64) ![n % 32, col i j] S1x1.size (inside i j hj n)).toLoadRect (h2.unread x1)
    (Shape.Idx.first (s := S1x1) (by decide))

/-- is the table's entry there. -/
theorem word_eq (j : ℕ) (hj : j < 8) (n : ℕ) (hn : n < 32) (hc : (i 0).val * 8 + j < 64) :
    word i a2 h2 x1 j hj n = x1 (ix2 (⟨n, hn⟩ : Fin 32) (⟨(i 0).val * 8 + j, hc⟩ : Fin 64)) := by
  unfold word
  rw [View.readAt_eq_ld, h2.read_unread]
  refine congrArg x1 (funext fun a => Fin.ext ?_)
  match a with
  | ⟨0, _⟩ => show n % 32 + 1 * 0 = n; omega
  | ⟨1, _⟩ => show col i j + 1 * 0 = (i 0).val * 8 + j; rw [col_eq i j hj]; omega

/-- The block that the body leaves: each head's chain of selects at the entry's bucket. -/
def chains (y : S8x128x256.Idx) : EReal :=
  pick (kernelRun0_A.sl.r_5 c a1 h1 x0 (ix2 (⟨(y 1).val, (y 1).isLt⟩ : Fin 128) (⟨(y 2).val, (y 2).isLt⟩ : Fin 256)))
    (word i a2 h2 x1 (y 0).val (y 0).isLt) 32

/-- The chains of one head, -/
theorem chains_head (j : ℕ) (hj : j < 8) (inb : ∀ a : Fin 3, (![j, 0, 0] : Fin 3 → ℕ) a + (![1, 128, 256] : Fin 3 → ℕ) a ≤ S8x128x256.size a)
    (x : S1x128x256.Idx) :
    pick (kernelRun0_A.sl.r_5 c a1 h1 x0 (ix2 (⟨(x 1).val, (x 1).isLt⟩ : Fin 128) (⟨(x 2).val, (x 2).isLt⟩ : Fin 256))) (word i a2 h2 x1 j hj) 32
      = chains c i a1 h1 a2 h2 x0 x1 ((Rect.unit (s := S8x128x256) ![j, 0, 0] ![1, 128, 256] inb).emb x) := by
  have e0 : (x 0).val = 0 := by have : (x 0).val < 1 := (x 0).isLt; omega
  unfold chains
  have e (p q : ℕ) (hp : p < 8) (hq : q < 8) (h : p = q) : word i a2 h2 x1 p hp = word i a2 h2 x1 q hq := by subst h; rfl
  refine congrArg₂ (fun w t => pick w t 32) (congrArg _ (funext fun a => Fin.ext ?_)) (e _ _ _ _ ?_)
  · match a with
    | ⟨0, _⟩ => show (x 1).val = 0 + 1 * (x 1).val; omega
    | ⟨1, _⟩ => show (x 2).val = 0 + 1 * (x 2).val; omega
  · show j = j + 1 * (x 0).val
    omega

/-- which a store lays as one slab. -/
theorem slab (v : FVec Ideal S128x256 .f32) (h : S128x256.ShapeCasts S1x128x256) (x : S1x128x256.Idx) :
    shapeCast S1x128x256 v h x = v (ix2 (⟨(x 1).val, (x 1).isLt⟩ : Fin 128) (⟨(x 2).val, (x 2).isLt⟩ : Fin 256)) :=
  shapeCast_apply _ _ _ _ (by
    have e0 : (x 0).val = 0 := by have : (x 0).val < 1 := (x 0).isLt; omega
    rw [Shape.rowMajor_val_two, Shape.rowMajor_val_three]
    show (x 1).val * 256 + (x 2).val = ((x 0).val * 128 + (x 1).val) * 256 + (x 2).val
    omega)

set_option maxHeartbeats 1000000 in
/-- Every store of the body lays its head's chains. -/
theorem stores : View.PiecesOf (chains c i a1 h1 a2 h2 x0 x1) (kernelRun0_A c i a1 h1 a2 h2 a3 h3 x0 x1).1 := by
  unfold kernelRun0_A
  dsimp only
  refine ⟨fun x => ?_, fun x => ?_, fun x => ?_, fun x => ?_, fun x => ?_, fun x => ?_, fun x => ?_, fun x => ?_, trivial⟩
  · refine Eq.trans ?_ (chains_head c i a1 h1 a2 h2 x0 x1 7 (by decide) inb_S8x128x256_S1x128x256_7_0_0 x)
    dsimp only
    unfold k0_pay1
    refine (slab _ _ x).trans ?_
    rfl
  · refine Eq.trans ?_ (chains_head c i a1 h1 a2 h2 x0 x1 6 (by decide) inb_S8x128x256_S1x128x256_6_0_0 x)
    dsimp only
    unfold k0_pay76
    refine (slab _ _ x).trans ?_
    rfl
  · refine Eq.trans ?_ (chains_head c i a1 h1 a2 h2 x0 x1 5 (by decide) inb_S8x128x256_S1x128x256_5_0_0 x)
    dsimp only
    unfold kernelRun0_A.sl.v1370
    refine (slab _ _ x).trans ?_
    rfl
  · refine Eq.trans ?_ (chains_head c i a1 h1 a2 h2 x0 x1 4 (by decide) inb_S8x128x256_S1x128x256_4_0_0 x)
    dsimp only
    unfold k0_pay54
    refine (slab _ _ x).trans ?_
    rfl
  · refine Eq.trans ?_ (chains_head c i a1 h1 a2 h2 x0 x1 3 (by decide) inb_S8x128x256_S1x128x256_3_0_0 x)
    dsimp only
    unfold k0_pay43
    refine (slab _ _ x).trans ?_
    rfl
  · refine Eq.trans ?_ (chains_head c i a1 h1 a2 h2 x0 x1 2 (by decide) inb_S8x128x256_S1x128x256_2_0_0 x)
    dsimp only
    unfold k0_pay31
    refine (slab _ _ x).trans ?_
    rfl
  · refine Eq.trans ?_ (chains_head c i a1 h1 a2 h2 x0 x1 1 (by decide) inb_S8x128x256_S1x128x256_1_0_0 x)
    dsimp only
    unfold k0_pay20
    refine (slab _ _ x).trans ?_
    rfl
  · refine Eq.trans ?_ (chains_head c i a1 h1 a2 h2 x0 x1 0 (by decide) inb_S8x128x256_S1x128x256_0_0_0 x)
    dsimp only
    unfold k0_pay8
    refine (slab _ _ x).trans ?_
    rfl

/-- The bucket block, as the body reads it. -/
theorem buckets_eq : kernelRun0_A.sl.r_5 c a1 h1 x0 = x0 := by
  unfold kernelRun0_A.sl.r_5 k0_pay2
  rw [View.readAt_eq_ld, h1.read_unread]
  have e : View.ld x0 (Rect.unit ![0, 0] S128x256.size inb_S128x256_S128x256_0_0) = x0 := View.ld_unit_zero (S := S128x256) Cert.origin2 _ _
  rw [e]
  exact funext fun y => shapeCast_apply x0 _ y y rfl

/-- What the body leaves: at each head and place the table's entry of the place's bucket, in the head's column. -/
theorem out_apply (y : S8x128x256.Idx) (hb : (x0 (ix2 (⟨(y 1).val, (y 1).isLt⟩ : Fin 128) (⟨(y 2).val, (y 2).isLt⟩ : Fin 256))).toNat < 32)
    (hc : (i 0).val * 8 + (y 0).val < 64) :
    out0_A_2 c i a1 h1 a2 h2 a3 h3 x0 x1 y = x1 (ix2 (⟨_, hb⟩ : Fin 32) (⟨(i 0).val * 8 + (y 0).val, hc⟩ : Fin 64)) := by
  unfold out0_A_2
  rw [View.read_writes_eq_canon _ _ _ (cover0_A_2 c i a1 h1 a2 h2 a3 h3 x0 x1)]
  have e := View.canon_append_of_piecesOf (chains c i a1 h1 a2 h2 x0 x1) [] _ (stores c i a1 h1 a2 h2 a3 h3 x0 x1) y
    (cover0_A_2 c i a1 h1 a2 h2 a3 h3 x0 x1 y)
  rw [List.append_nil] at e
  refine e.trans ?_
  unfold chains
  rw [buckets_eq, pick_eq _ _ 32 (le_refl _) hb]
  exact word_eq i a2 h2 x1 _ _ _ hb hc

end Body

end Cert.BandIdeal.Product

end
-- ==== Proof.Band.lean ====
/-
  The T5 bias of the band: the kernel's result is the reference's, entry by entry. The host computes the buckets as the reference
  does; a point takes eight heads.
-/
module

public import proofs.«01_k».proof.Defs
public import proofs.«01_k».proof.Proof.Origin
public import proofs.«01_k».proof.Proof.BandRef
public import proofs.«01_k».proof.Proof.BandBody
public import proofs.«01_k».proof.Proof.Gen.BandIdeal.Value
public import Idealize.ShloMosaic.Lib.Pipeline.Value

@[expose] public section

noncomputable section

open Idealize.ShloMosaic Idealize.ShloMosaic.TcCoe Idealize.SL.Sem Idealize.ShloMosaic.ValueIdx
open Idealize.ShloMosaic.Pipeline (Dat)

namespace Cert.BandIdeal.Product

open Cert.BandIdeal Cert.BandIdeal.Gen
open Cert.BandRefIdeal.Read (val_main_v28 val_main_v36)

variable (m : (ℓ : Loc nD τ sig) → Buf (Elt Ideal) ℓ)

/-- The table, as launched. -/
abbrev table (c : Dev nD) : FVec Ideal S32x64 .f32 := m ((c : Thread nD τ).loc main_arg0)

/-- The result array. -/
def G (c : Dev nD) : FVec Ideal S64x128x256 .f32 := val_main_v36 (F := Ideal) (table m c)

/-- Where a point's blocks stand, and its coordinate. -/
theorem at_point : ∀ t : Fin cfg0.N, (win0_0.index t 0 = 0 ∧ win0_0.index t 1 = 0) ∧ (win0_1.index t 0 = 0 ∧ win0_1.index t 1 = 0)
    ∧ (win0_2.index t 0 = t.val ∧ win0_2.index t 1 = 0 ∧ win0_2.index t 2 = 0) ∧ (grid0.coords t 0).val = t.val :=
  (by decide +kernel : ∀ t : Fin grid0.N, _)

/-- The host's buckets are the reference's. -/
theorem buckets (c : Dev nD) : V m c main_v28 = val_main_v28 (F := Ideal) := by
  unfold V hostOps0 hostOps0_1
  simp only [List.flatten_cons, List.flatten_nil, List.append_nil, List.cons_append, List.nil_append]
  after_results
  simp only [StableHlo.TRef.toBuf, StableHlo.TRef.ofBuf, cast_eq]
  open Cert.BandRefIdeal.Read in
  unfold val_main_v28 val_main_v27 val_main_v25 val_main_v23 val_main_v21 val_main_v20 val_main_v18 val_main_v16 val_main_v15 val_main_v13 val_main_v12
    val_main_v10 val_main_v8 val_main_v7 val_main_v6 val_main_v5 val_main_v4 val_main_v3 val_main_v2 val_main_v1 val_main_v0 val_main_v9 val_main_v11
    val_main_v14 val_main_v17 val_main_v19 val_main_v22 val_main_v24 val_main_v26 val_main_c val_main_c_0 val_main_c_1 val_main_c_4 val_main_c_5
    val_main_c_6 val_main_cst val_main_cst_2 val_main_cst_3
  rfl

/-- Every point has them whole, -/
theorem bucket_block (c : Dev nD) (t : Fin cfg0.N) (r : Fin 128) (k : Fin 256) :
    (iblk m c 0 t : Vec Ideal S128x256 .i32) (ix2 r k) = val_main_v28 (F := Ideal) (ix2 r k) := by
  obtain ⟨⟨e0, e1⟩, -⟩ := at_point t
  refine Eq.trans ?_ (congrFun (buckets m c) (ix2 r k))
  unfold iblk
  rw [View.read_apply]
  show V m c main_v28 _ = _
  refine congrArg (V m c main_v28) (funext fun a => Fin.ext ?_)
  match a with
  | ⟨0, _⟩ => show win0_0.index t 0 * 128 + 1 * r.val = r.val; rw [e0]; omega
  | ⟨1, _⟩ => show win0_0.index t 1 * 256 + 1 * k.val = k.val; rw [e1]; omega

/-- and the table too. -/
theorem table_block (c : Dev nD) (t : Fin cfg0.N) (u : Fin 32) (h : Fin 64) :
    (iblk m c 1 t : Vec Ideal S32x64 .f32) (ix2 u h) = table m c (ix2 u h) := by
  obtain ⟨-, ⟨e0, e1⟩, -⟩ := at_point t
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 32 + 1 * u.val = u.val; rw [e0]; omega
  | ⟨1, _⟩ => show win0_1.index t 1 * 64 + 1 * h.val = h.val; rw [e1]; omega

/-- A block of buckets and a table give a point's entries of the result. -/
theorem entry_of (c : Dev nD) (n : ℕ) (i : grid0.Coords) (hi : (i 0).val = n) (a1 : Memref sig .tc .vmem S128x256 .i32) (h1 : a1.IsWhole)
    (a2 : Memref sig .tc .smem S32x64 .f32) (h2 : a2.IsWhole) (a3 : Memref sig .tc .vmem S8x128x256 .f32) (h3 : a3.IsWhole)
    (x0 : Vec Ideal S128x256 .i32) (x1 g : Vec Ideal S32x64 .f32)
    (b : Vec Ideal S128x256 .i32) (e0 : ∀ (r : Fin 128) (k : Fin 256), x0 (ix2 r k) = b (ix2 r k))
    (e1 : ∀ (u : Fin 32) (h : Fin 64), x1 (ix2 u h) = g (ix2 u h)) (j : Fin 8) (r : Fin 128) (k : Fin 256) (hc : n * 8 + j.val < 64)
    (hb : BitVec.toNat (b (ix2 r k)) < 32) :
    out0_A_2 c i a1 h1 a2 h2 a3 h3 x0 x1 (ix3 j r k)
      = g (ix2 (⟨BitVec.toNat (b (ix2 r k)), hb⟩ : Fin 32) (⟨n * 8 + j.val, hc⟩ : Fin 64)) := by
  subst hi
  have hb' : BitVec.toNat (x0 (ix2 r k)) < 32 := by rw [e0]; exact hb
  refine (out_apply c i a1 h1 a2 h2 a3 h3 x0 x1 (ix3 j r k) hb' hc).trans ((e1 _ _).trans ?_)
  exact congrArg g (congrArg₂ ix2 (Fin.ext (congrArg BitVec.toNat (e0 r k))) rfl)

/-- What a point computes, entry by entry. -/
theorem entry (c : Dev nD) (t : Fin cfg0.N) (j : Fin 8) (r : Fin 128) (k : Fin 256) (hc : t.val * 8 + j.val < 64) :
    outsAt0 m c t (ix3 j r k) = G m c (ix3 (⟨t.val * 8 + j.val, hc⟩ : Fin 64) r k) := by
  unfold outsAt0 G
  have hb := Cert.BandRefIdeal.Buckets.bucket_lt (ix2 r k)
  exact (entry_of c t.val _ (at_point t).2.2.2 _ _ _ _ _ _ _ _ (table m c) _ (bucket_block m c t) (table_block m c t) j r k hc hb).trans
    (Cert.BandRefIdeal.Buckets.result (table m c) _ r k hb).symm

/-- A block with the entries of `g` is the window's block of it. -/
theorem read_block (t : Fin cfg0.N) (g : FVec Ideal S64x128x256 .f32) (x : Vec Ideal S8x128x256 .f32)
    (hx : ∀ (j : Fin 8) (r : Fin 128) (k : Fin 256) (h : t.val * 8 + j.val < 64), x (ix3 j r k) = g (ix3 (⟨t.val * 8 + j.val, h⟩ : Fin 64) r k)) :
    (cfg0.win 2).cut (grid0.coords t) x = ((cfg0.win 2).blk t).view.read (Elt Ideal) g := by
  obtain ⟨-, -, ⟨e0, e1, e2⟩, -⟩ := at_point t
  have ht := t.isLt
  have hN : cfg0.N = 8 := N_0
  funext y
  have hy0 : (y 0).val < 8 := (y 0).isLt
  have hx' := hx ⟨(y 0).val, hy0⟩ ⟨(y 1).val, (y 1).isLt⟩ ⟨(y 2).val, (y 2).isLt⟩ (by show t.val * 8 + (y 0).val < 64; omega)
  rw [View.read_apply]
  refine Eq.trans ?_ (hx'.trans (congrArg g (funext fun a => Fin.ext ?_)))
  · exact congrArg x (funext fun a => Fin.ext (by match a with | ⟨0, _⟩ => rfl | ⟨1, _⟩ => rfl | ⟨2, _⟩ => rfl))
  · match a with
    | ⟨0, _⟩ => show t.val * 8 + (y 0).val = win0_2.index t (0 : Fin 3) * 8 + 1 * (y 0).val; rw [e0]; omega
    | ⟨1, _⟩ => show (y 1).val = win0_2.index t (1 : Fin 3) * 128 + 1 * (y 1).val; rw [e1]; omega
    | ⟨2, _⟩ => show (y 2).val = win0_2.index t (2 : Fin 3) * 256 + 1 * (y 2).val; rw [e2]; omega

/-- The entries of the array in a point's block. -/
theorem mem_block (t : Fin cfg0.N) (i : S64x128x256.Idx) :
    i ∈ ((cfg0.win 2).blk t).view.set ↔ ∀ a : Fin 3, win0_2.index t a * S8x128x256.size a ≤ (i a).val
      ∧ (i a).val < win0_2.index t a * S8x128x256.size a + S8x128x256.size a := by
  show i ∈ ((View.whole main_v29).slice (win0_2.rect t)).set ↔ _
  rw [View.set_slice_whole, Rect.mem_set_unit]
  exact Iff.rfl

/-- Every head is in some point's block. -/
theorem covered (i : S64x128x256.Idx) : ∃ t : Fin cfg0.N, (cfg0.win 2).flush t = true ∧ i ∈ ((cfg0.win 2).blk t).view.set := by
  have hN : cfg0.N = 8 := N_0
  have h0 : (i 0).val < 64 := (i 0).isLt
  have h1 : (i 1).val < 128 := (i 1).isLt
  have h2 : (i 2).val < 256 := (i 2).isLt
  refine ⟨⟨(i 0).val / 8, by omega⟩, flush0_2 _, ?_⟩
  obtain ⟨-, -, ⟨e0, e1, e2⟩, -⟩ := at_point ⟨(i 0).val / 8, by omega⟩
  dsimp only at e0 e1 e2
  rw [mem_block]
  intro a
  match a with
  | ⟨0, _⟩ =>
    show win0_2.index _ (0 : Fin 3) * 8 ≤ (i 0).val ∧ (i 0).val < win0_2.index _ (0 : Fin 3) * 8 + 8
    rw [e0]; omega
  | ⟨1, _⟩ =>
    show win0_2.index _ (1 : Fin 3) * 128 ≤ (i 1).val ∧ (i 1).val < win0_2.index _ (1 : Fin 3) * 128 + 128
    rw [e1]; omega
  | ⟨2, _⟩ =>
    show win0_2.index _ (2 : Fin 3) * 256 ≤ (i 2).val ∧ (i 2).val < win0_2.index _ (2 : Fin 3) * 256 + 256
    rw [e2]; omega

/-- The result array after the run. -/
theorem final (c : Dev nD) : (dats m 0 c).arrAt 2 cfg0.N = G m c :=
  (dats m 0 c).arrAt_eq_of_cover 2 (G m c) (fun t _ => by
    rw [Value.flushed2]
    exact read_block t (G m c) _ (entry m c t)) covered

/-- Kernel and reference end with the same array. -/
theorem algebraic : Cert.algebraic_BandIdeal_BandRefIdeal := by
  intro m ρ m' ρ' _ hagree
  refine ⟨fun c => G m c, ?_, ?_⟩
  · exact (θ_run Cert.BandIdeal.defs _ _).mono (fun _ h c => ⟨(h c).1.trans (final m c), (h c).2⟩)
      (Value.run_blocks (F := Ideal) m ρ)
  refine (θ_run Cert.BandRefIdeal.defs _ _).mono (fun _ h c => ⟨(h c).1.trans ?_, (h c).2⟩)
    (Cert.BandRefIdeal.Value.run (F := Ideal) m' ρ')
  refine (Cert.BandRefIdeal.Read.val_main_v36_eq (F := Ideal) m' c).trans ?_
  exact congrArg (val_main_v36 (F := Ideal)) (hagree c)

end Cert.BandIdeal.Product

end
-- ==== Proof.lean ====
/-
  The claims, assembled: the frames are the generated ones, the value claims come from the modules of the calls.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.EvenIn
public import proofs.«01_k».proof.Proof.Gen.OddGate.Frame
public import proofs.«01_k».proof.Proof.Gen.OddGateIdeal.Frame
public import proofs.«01_k».proof.Proof.Gen.OddGateRefIdeal.Run
public import proofs.«01_k».proof.Proof.OddGate
public import proofs.«01_k».proof.Proof.Gen.OddLatent.Frame
public import proofs.«01_k».proof.Proof.Gen.OddLatentIdeal.Frame
public import proofs.«01_k».proof.Proof.Gen.OddLatentRefIdeal.Run
public import proofs.«01_k».proof.Proof.OddLatent
public import proofs.«01_k».proof.Proof.Gen.Ple.Frame
public import proofs.«01_k».proof.Proof.Gen.PleIdeal.Frame
public import proofs.«01_k».proof.Proof.Gen.PleRefIdeal.Run
public import proofs.«01_k».proof.Proof.Ple
public import proofs.«01_k».proof.Proof.Gen.EvenOut.Frame
public import proofs.«01_k».proof.Proof.Gen.EvenOutIdeal.Frame
public import proofs.«01_k».proof.Proof.Gen.EvenOutRefIdeal.Run
public import proofs.«01_k».proof.Proof.EvenOut
public import proofs.«01_k».proof.Proof.Gen.OddOut.Frame
public import proofs.«01_k».proof.Proof.Gen.OddOutIdeal.Frame
public import proofs.«01_k».proof.Proof.Gen.OddOutRefIdeal.Run
public import proofs.«01_k».proof.Proof.OddOut
public import proofs.«01_k».proof.Proof.Gen.Final.Frame
public import proofs.«01_k».proof.Proof.Gen.FinalIdeal.Frame
public import proofs.«01_k».proof.Proof.Gen.FinalRefIdeal.Run
public import proofs.«01_k».proof.Proof.Final
public import proofs.«01_k».proof.Proof.Gen.Swa.Frame
public import proofs.«01_k».proof.Proof.Gen.SwaIdeal.Frame
public import proofs.«01_k».proof.Proof.Gen.SwaRefIdeal.Run
public import proofs.«01_k».proof.Proof.Swa
public import proofs.«01_k».proof.Proof.Gen.EvenGate.Frame
public import proofs.«01_k».proof.Proof.Gen.EvenGateIdeal.Frame
public import proofs.«01_k».proof.Proof.Gen.EvenGateRefIdeal.Run
public import proofs.«01_k».proof.Proof.EvenGate
public import proofs.«01_k».proof.Proof.Gen.OddIndex.Frame
public import proofs.«01_k».proof.Proof.Gen.OddIndexIdeal.Frame
public import proofs.«01_k».proof.Proof.Gen.OddIndexRefIdeal.Run
public import proofs.«01_k».proof.Proof.OddIndex
public import proofs.«01_k».proof.Proof.Gen.QUp.Frame
public import proofs.«01_k».proof.Proof.Gen.QUpIdeal.Frame
public import proofs.«01_k».proof.Proof.Gen.QUpRefIdeal.Run
public import proofs.«01_k».proof.Proof.QUp
public import proofs.«01_k».proof.Proof.Gen.QIdxUp.Frame
public import proofs.«01_k».proof.Proof.Gen.QIdxUpIdeal.Frame
public import proofs.«01_k».proof.Proof.Gen.QIdxUpRefIdeal.Run
public import proofs.«01_k».proof.Proof.QIdxUp
public import proofs.«01_k».proof.Proof.Gen.Norm.Frame
public import proofs.«01_k».proof.Proof.Gen.NormIdeal.Frame
public import proofs.«01_k».proof.Proof.Gen.NormRefIdeal.Run
public import proofs.«01_k».proof.Proof.Norm
public import proofs.«01_k».proof.Proof.Gen.LatentNorms.Frame
public import proofs.«01_k».proof.Proof.Gen.LatentNormsIdeal.Frame
public import proofs.«01_k».proof.Proof.Gen.LatentNormsRefIdeal.Run
public import proofs.«01_k».proof.Proof.LatentNorms
public import proofs.«01_k».proof.Proof.Gen.Band.Frame
public import proofs.«01_k».proof.Proof.Gen.BandIdeal.Frame
public import proofs.«01_k».proof.Proof.Gen.BandRefIdeal.Run
public import proofs.«01_k».proof.Proof.Band
public import Idealize.ShloMosaic.Adequacy
public import Idealize.ShloMosaic.Init

@[expose] public section

noncomputable section

namespace Cert.Proof

open Idealize.ShloMosaic Idealize.SL.Sem

/-- The kernel's two scales are the closed forms that the ideal kernel names. -/
theorem scales : Cert.preserves_Kernel_KernelIdeal :=
  ⟨IdealRules.named_const.statement Cert.KernelIdeal.κ "fox_scale" .f32 0x3E0293EE#32 _ rfl,
    IdealRules.named_const.statement Cert.KernelIdeal.κ "swa_scale" .f32 0x3E38AA3B#32 _ rfl⟩

/-- So is the scale of an odd layer's queries. -/
theorem query_scale : Cert.preserves_QUp_QUpIdeal :=
  IdealRules.named_const.statement Cert.QUpIdeal.κ "dsa_scale" .f32 0x3E0293EE#32 _ rfl

/-- The shapes that the precondition's operations ask for. -/
theorem finite_facts : Cert.Pre_swa_finite.Facts where
  bcast_S256_S1x256_1 := by decide
  bcast_S128_S128x1_0 := by decide
  bcast_S1x256_S128x256_0_1 := by decide
  bcast_S128x1_S128x256_0_1 := by decide
  bcast_S_S128x256 := by decide
  bcast_S128x256_S32x128x256_1_2 := by decide
  bcast_S_S32x128x256 := by decide
  slices_S8192x12800_S8192x2048_0_8192 := by decide
  bitsLt_bf16_f32 := by decide
  slices_S8192x12800_S8192x256_0_12288 := by decide
  bcast_S_S8192x2048 := by decide
  bcast_S_S8192x256 := by decide
  bcast_S_S32 := by decide

theorem claim : Cert.Claim :=
  ⟨Cert.Kernel.Gen.facts,
    Cert.KernelIdeal.Gen.facts,
    Cert.ReferenceIdeal.Gen.facts,
    Cert.OddGate.Gen.facts,
    Cert.OddGateIdeal.Gen.facts,
    Cert.OddGateRefIdeal.Gen.facts,
    Cert.OddLatent.Gen.facts,
    Cert.OddLatentIdeal.Gen.facts,
    Cert.OddLatentRefIdeal.Gen.facts,
    Cert.Ple.Gen.facts,
    Cert.PleIdeal.Gen.facts,
    Cert.PleRefIdeal.Gen.facts,
    Cert.EvenOut.Gen.facts,
    Cert.EvenOutIdeal.Gen.facts,
    Cert.EvenOutRefIdeal.Gen.facts,
    Cert.OddOut.Gen.facts,
    Cert.OddOutIdeal.Gen.facts,
    Cert.OddOutRefIdeal.Gen.facts,
    Cert.Final.Gen.facts,
    Cert.FinalIdeal.Gen.facts,
    Cert.FinalRefIdeal.Gen.facts,
    Cert.Swa.Gen.facts,
    Cert.SwaIdeal.Gen.facts,
    Cert.SwaRefIdeal.Gen.facts,
    Cert.EvenGate.Gen.facts,
    Cert.EvenGateIdeal.Gen.facts,
    Cert.EvenGateRefIdeal.Gen.facts,
    Cert.OddIndex.Gen.facts,
    Cert.OddIndexIdeal.Gen.facts,
    Cert.OddIndexRefIdeal.Gen.facts,
    Cert.QUp.Gen.facts,
    Cert.QUpIdeal.Gen.facts,
    Cert.QUpRefIdeal.Gen.facts,
    Cert.QIdxUp.Gen.facts,
    Cert.QIdxUpIdeal.Gen.facts,
    Cert.QIdxUpRefIdeal.Gen.facts,
    Cert.Norm.Gen.facts,
    Cert.NormIdeal.Gen.facts,
    Cert.NormRefIdeal.Gen.facts,
    Cert.LatentNorms.Gen.facts,
    Cert.LatentNormsIdeal.Gen.facts,
    Cert.LatentNormsRefIdeal.Gen.facts,
    Cert.Band.Gen.facts,
    Cert.BandIdeal.Gen.facts,
    Cert.BandRefIdeal.Gen.facts,
    finite_facts,
    fun m ρ _ => Cert.Kernel.Gen.frame m ρ,
    fun m ρ _ => Cert.KernelIdeal.Gen.frame m ρ,
    fun m ρ _ => (θ_run Cert.ReferenceIdeal.defs _ _).mono (fun r h => ⟨fun c => (h c).2, sem_eq_zero_of_no_sems (by decide) r.2⟩)
      (Cert.ReferenceIdeal.Value.run (F := Ideal) m ρ),
    fun m ρ _ => Cert.OddGate.Gen.frame m ρ,
    fun m ρ _ => Cert.OddGateIdeal.Gen.frame m ρ,
    fun m ρ _ => (θ_run Cert.OddGateRefIdeal.defs _ _).mono (fun r h => ⟨fun c => (h c).2, sem_eq_zero_of_no_sems (by decide) r.2⟩)
      (Cert.OddGateRefIdeal.Value.run (F := Ideal) m ρ),
    fun m ρ _ => Cert.OddLatent.Gen.frame m ρ,
    fun m ρ _ => Cert.OddLatentIdeal.Gen.frame m ρ,
    fun m ρ _ => (θ_run Cert.OddLatentRefIdeal.defs _ _).mono (fun r h => ⟨fun c => (h c).2, sem_eq_zero_of_no_sems (by decide) r.2⟩)
      (Cert.OddLatentRefIdeal.Value.run (F := Ideal) m ρ),
    fun m ρ _ => Cert.Ple.Gen.frame m ρ,
    fun m ρ _ => Cert.PleIdeal.Gen.frame m ρ,
    fun m ρ _ => (θ_run Cert.PleRefIdeal.defs _ _).mono (fun r h => ⟨fun c => (h c).2, sem_eq_zero_of_no_sems (by decide) r.2⟩)
      (Cert.PleRefIdeal.Value.run (F := Ideal) m ρ),
    fun m ρ _ => Cert.EvenOut.Gen.frame m ρ,
    fun m ρ _ => Cert.EvenOutIdeal.Gen.frame m ρ,
    fun m ρ _ => (θ_run Cert.EvenOutRefIdeal.defs _ _).mono (fun r h => ⟨fun c => (h c).2, sem_eq_zero_of_no_sems (by decide) r.2⟩)
      (Cert.EvenOutRefIdeal.Value.run (F := Ideal) m ρ),
    fun m ρ _ => Cert.OddOut.Gen.frame m ρ,
    fun m ρ _ => Cert.OddOutIdeal.Gen.frame m ρ,
    fun m ρ _ => (θ_run Cert.OddOutRefIdeal.defs _ _).mono (fun r h => ⟨fun c => (h c).2, sem_eq_zero_of_no_sems (by decide) r.2⟩)
      (Cert.OddOutRefIdeal.Value.run (F := Ideal) m ρ),
    fun m ρ _ => Cert.Final.Gen.frame m ρ,
    fun m ρ _ => Cert.FinalIdeal.Gen.frame m ρ,
    fun m ρ _ => (θ_run Cert.FinalRefIdeal.defs _ _).mono (fun r h => ⟨fun c => (h c).2, sem_eq_zero_of_no_sems (by decide) r.2⟩)
      (Cert.FinalRefIdeal.Value.run (F := Ideal) m ρ),
    fun m ρ _ => Cert.Swa.Gen.frame m ρ,
    fun m ρ _ => Cert.SwaIdeal.Gen.frame m ρ,
    fun m ρ _ => Cert.SwaIdeal.Gen.frame m ρ,
    fun m ρ _ => (θ_run Cert.SwaRefIdeal.defs _ _).mono (fun r h => ⟨fun c => (h c).2, sem_eq_zero_of_no_sems (by decide) r.2⟩)
      (Cert.SwaRefIdeal.Value.run (F := Ideal) m ρ),
    fun m ρ _ => (θ_run Cert.SwaRefIdeal.defs _ _).mono (fun r h => ⟨fun c => (h c).2, sem_eq_zero_of_no_sems (by decide) r.2⟩)
      (Cert.SwaRefIdeal.Value.run (F := Ideal) m ρ),
    fun m ρ _ => Cert.EvenGate.Gen.frame m ρ,
    fun m ρ _ => Cert.EvenGateIdeal.Gen.frame m ρ,
    fun m ρ _ => (θ_run Cert.EvenGateRefIdeal.defs _ _).mono (fun r h => ⟨fun c => (h c).2, sem_eq_zero_of_no_sems (by decide) r.2⟩)
      (Cert.EvenGateRefIdeal.Value.run (F := Ideal) m ρ),
    fun m ρ _ => Cert.OddIndex.Gen.frame m ρ,
    fun m ρ _ => Cert.OddIndexIdeal.Gen.frame m ρ,
    fun m ρ _ => (θ_run Cert.OddIndexRefIdeal.defs _ _).mono (fun r h => ⟨fun c => (h c).2, sem_eq_zero_of_no_sems (by decide) r.2⟩)
      (Cert.OddIndexRefIdeal.Value.run (F := Ideal) m ρ),
    fun m ρ _ => Cert.QUp.Gen.frame m ρ,
    fun m ρ _ => Cert.QUpIdeal.Gen.frame m ρ,
    fun m ρ _ => (θ_run Cert.QUpRefIdeal.defs _ _).mono (fun r h => ⟨fun c => (h c).2, sem_eq_zero_of_no_sems (by decide) r.2⟩)
      (Cert.QUpRefIdeal.Value.run (F := Ideal) m ρ),
    fun m ρ _ => Cert.QIdxUp.Gen.frame m ρ,
    fun m ρ _ => Cert.QIdxUpIdeal.Gen.frame m ρ,
    fun m ρ _ => (θ_run Cert.QIdxUpRefIdeal.defs _ _).mono (fun r h => ⟨fun c => (h c).2, sem_eq_zero_of_no_sems (by decide) r.2⟩)
      (Cert.QIdxUpRefIdeal.Value.run (F := Ideal) m ρ),
    fun m ρ _ => Cert.Norm.Gen.frame m ρ,
    fun m ρ _ => Cert.NormIdeal.Gen.frame m ρ,
    fun m ρ _ => (θ_run Cert.NormRefIdeal.defs _ _).mono (fun r h => ⟨fun c => (h c).2, sem_eq_zero_of_no_sems (by decide) r.2⟩)
      (Cert.NormRefIdeal.Value.run (F := Ideal) m ρ),
    fun m ρ _ => Cert.LatentNorms.Gen.frame m ρ,
    fun m ρ _ => Cert.LatentNormsIdeal.Gen.frame m ρ,
    fun m ρ _ => (θ_run Cert.LatentNormsRefIdeal.defs _ _).mono (fun r h => ⟨fun c => (h c).2.2.2.2, sem_eq_zero_of_no_sems (by decide) r.2⟩)
      (Cert.LatentNormsRefIdeal.Value.run (F := Ideal) m ρ),
    fun m ρ _ => Cert.Band.Gen.frame m ρ,
    fun m ρ _ => Cert.BandIdeal.Gen.frame m ρ,
    fun m ρ _ => (θ_run Cert.BandRefIdeal.defs _ _).mono (fun r h => ⟨fun c => (h c).2, sem_eq_zero_of_no_sems (by decide) r.2⟩)
      (Cert.BandRefIdeal.Value.run (F := Ideal) m ρ),
    scales, Cert.KernelIdeal.Product.algebraic,
    trivial, Cert.OddGateIdeal.Product.algebraic,
    trivial, Cert.OddLatentIdeal.Product.algebraic,
    trivial, Cert.PleIdeal.Product.algebraic,
    trivial, Cert.EvenOutIdeal.Product.algebraic,
    trivial, Cert.OddOutIdeal.Product.algebraic,
    trivial, Cert.FinalIdeal.Product.algebraic,
    trivial, @Cert.SwaIdeal.Product.algebraic finite_facts,
    trivial, Cert.EvenGateIdeal.Product.algebraic,
    trivial, Cert.OddIndexIdeal.Product.algebraic,
    query_scale, Cert.QUpIdeal.Product.algebraic,
    trivial, Cert.QIdxUpIdeal.Product.algebraic,
    trivial, Cert.NormIdeal.Product.algebraic,
    trivial, Cert.LatentNormsIdeal.Norms.algebraic,
    trivial, Cert.BandIdeal.Product.algebraic⟩

end Cert.Proof

end
